-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_values_and_lambda [hPre_finite_values_and_lambda : Cert.Pre_finite_values_and_lambda.Facts] (m : (ℓ : Loc Cert.DiffIdeal.nD Cert.DiffIdeal.τ Cert.DiffIdeal.sig) → Buf (Elt Ideal) ℓ) : Prop :=
  ∀ c : Dev Cert.DiffIdeal.nD,
    (Cert.Pre_finite_values_and_lambda.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))).1 = (fun _ => 1#1)
    ∧ (Cert.Pre_finite_values_and_lambda.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))).2 = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_finite_values_and_lambda [hPre_finite_values_and_lambda : Cert.Pre_finite_values_and_lambda.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_finite_values_and_lambda.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4)) (m ((c.tc : Thread Cert.DiffReferenceIdeal.nD Cert.DiffReferenceIdeal.τ).loc Cert.DiffReferenceIdeal.main_arg5))).1 = (fun _ => 1#1)
    ∧ (Cert.Pre_finite_values_and_lambda.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4)) (m ((c.tc : Thread Cert.DiffReferenceIdeal.nD Cert.DiffReferenceIdeal.τ).loc Cert.DiffReferenceIdeal.main_arg5))).2 = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_finite_values_and_lambda [hDiffIdeal : Cert.DiffIdeal.Facts] [hPre_finite_values_and_lambda : Cert.Pre_finite_values_and_lambda.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_values_and_lambda m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5))
      ∧ r.2.sem = fun _ => 0)

def quiescent_DiffReferenceIdeal_pre_finite_values_and_lambda [hDiffReferenceIdeal : Cert.DiffReferenceIdeal.Facts] [hPre_finite_values_and_lambda : Cert.Pre_finite_values_and_lambda.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_finite_values_and_lambda m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3)
      ∧ r.2.mem ((c.tc : Thread Cert.Modulation.nD Cert.Modulation.τ).loc Cert.Modulation.main_arg4) = m ((c.tc : Thread Cert.Modulation.nD Cert.Modulation.τ).loc Cert.Modulation.main_arg4)
      ∧ r.2.mem ((c.tc : Thread Cert.Modulation.nD Cert.Modulation.τ).loc Cert.Modulation.main_arg5) = m ((c.tc : Thread Cert.Modulation.nD Cert.Modulation.τ).loc Cert.Modulation.main_arg5)
      ∧ r.2.mem ((c.tc : Thread Cert.Modulation.nD Cert.Modulation.τ).loc Cert.Modulation.main_arg6) = m ((c.tc : Thread Cert.Modulation.nD Cert.Modulation.τ).loc Cert.Modulation.main_arg6))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3)
      ∧ r.2.mem ((c.tc : Thread Cert.ModulationIdeal.nD Cert.ModulationIdeal.τ).loc Cert.ModulationIdeal.main_arg4) = m ((c.tc : Thread Cert.ModulationIdeal.nD Cert.ModulationIdeal.τ).loc Cert.ModulationIdeal.main_arg4)
      ∧ r.2.mem ((c.tc : Thread Cert.ModulationIdeal.nD Cert.ModulationIdeal.τ).loc Cert.ModulationIdeal.main_arg5) = m ((c.tc : Thread Cert.ModulationIdeal.nD Cert.ModulationIdeal.τ).loc Cert.ModulationIdeal.main_arg5)
      ∧ r.2.mem ((c.tc : Thread Cert.ModulationIdeal.nD Cert.ModulationIdeal.τ).loc Cert.ModulationIdeal.main_arg6) = m ((c.tc : Thread Cert.ModulationIdeal.nD Cert.ModulationIdeal.τ).loc Cert.ModulationIdeal.main_arg6))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3)
      ∧ r.2.mem ((c.tc : Thread Cert.ModulationReferenceIdeal.nD Cert.ModulationReferenceIdeal.τ).loc Cert.ModulationReferenceIdeal.main_arg4) = m ((c.tc : Thread Cert.ModulationReferenceIdeal.nD Cert.ModulationReferenceIdeal.τ).loc Cert.ModulationReferenceIdeal.main_arg4)
      ∧ r.2.mem ((c.tc : Thread Cert.ModulationReferenceIdeal.nD Cert.ModulationReferenceIdeal.τ).loc Cert.ModulationReferenceIdeal.main_arg5) = m ((c.tc : Thread Cert.ModulationReferenceIdeal.nD Cert.ModulationReferenceIdeal.τ).loc Cert.ModulationReferenceIdeal.main_arg5)
      ∧ r.2.mem ((c.tc : Thread Cert.ModulationReferenceIdeal.nD Cert.ModulationReferenceIdeal.τ).loc Cert.ModulationReferenceIdeal.main_arg6) = m ((c.tc : Thread Cert.ModulationReferenceIdeal.nD Cert.ModulationReferenceIdeal.τ).loc Cert.ModulationReferenceIdeal.main_arg6))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v18_0)) (v1 : (c : Dev Cert.ProjectIdeal.nD) → Buf (Elt Ideal) ((c.tc : Thread Cert.ProjectIdeal.nD Cert.ProjectIdeal.τ).loc Cert.ProjectIdeal.main_v18_1)) (v2 : (c : Dev Cert.ProjectIdeal.nD) → Buf (Elt Ideal) ((c.tc : Thread Cert.ProjectIdeal.nD Cert.ProjectIdeal.τ).loc Cert.ProjectIdeal.main_v18_2)) (v3 : (c : Dev Cert.ProjectIdeal.nD) → Buf (Elt Ideal) ((c.tc : Thread Cert.ProjectIdeal.nD Cert.ProjectIdeal.τ).loc Cert.ProjectIdeal.main_v18_3)) (v4 : (c : Dev Cert.ProjectIdeal.nD) → Buf (Elt Ideal) ((c.tc : Thread Cert.ProjectIdeal.nD Cert.ProjectIdeal.τ).loc Cert.ProjectIdeal.main_v18_4)) (v5 : (c : Dev Cert.ProjectIdeal.nD) → Buf (Elt Ideal) ((c.tc : Thread Cert.ProjectIdeal.nD Cert.ProjectIdeal.τ).loc Cert.ProjectIdeal.main_v18_5)) (v6 : (c : Dev Cert.ProjectIdeal.nD) → Buf (Elt Ideal) ((c.tc : Thread Cert.ProjectIdeal.nD Cert.ProjectIdeal.τ).loc Cert.ProjectIdeal.main_v18_6)) (v7 : (c : Dev Cert.ProjectIdeal.nD) → Buf (Elt Ideal) ((c.tc : Thread Cert.ProjectIdeal.nD Cert.ProjectIdeal.τ).loc Cert.ProjectIdeal.main_v18_7)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v18_0) = v0 c
          ∧ r.2.mem ((c.tc : Thread Cert.ProjectIdeal.nD Cert.ProjectIdeal.τ).loc Cert.ProjectIdeal.main_v18_1) = v1 c
          ∧ r.2.mem ((c.tc : Thread Cert.ProjectIdeal.nD Cert.ProjectIdeal.τ).loc Cert.ProjectIdeal.main_v18_2) = v2 c
          ∧ r.2.mem ((c.tc : Thread Cert.ProjectIdeal.nD Cert.ProjectIdeal.τ).loc Cert.ProjectIdeal.main_v18_3) = v3 c
          ∧ r.2.mem ((c.tc : Thread Cert.ProjectIdeal.nD Cert.ProjectIdeal.τ).loc Cert.ProjectIdeal.main_v18_4) = v4 c
          ∧ r.2.mem ((c.tc : Thread Cert.ProjectIdeal.nD Cert.ProjectIdeal.τ).loc Cert.ProjectIdeal.main_v18_5) = v5 c
          ∧ r.2.mem ((c.tc : Thread Cert.ProjectIdeal.nD Cert.ProjectIdeal.τ).loc Cert.ProjectIdeal.main_v18_6) = v6 c
          ∧ r.2.mem ((c.tc : Thread Cert.ProjectIdeal.nD Cert.ProjectIdeal.τ).loc Cert.ProjectIdeal.main_v18_7) = v7 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v28) = v0 c
          ∧ r.2.mem ((c.tc : Thread Cert.ProjectReferenceIdeal.nD Cert.ProjectReferenceIdeal.τ).loc Cert.ProjectReferenceIdeal.main_v29) = v1 c
          ∧ r.2.mem ((c.tc : Thread Cert.ProjectReferenceIdeal.nD Cert.ProjectReferenceIdeal.τ).loc Cert.ProjectReferenceIdeal.main_v30) = v2 c
          ∧ r.2.mem ((c.tc : Thread Cert.ProjectReferenceIdeal.nD Cert.ProjectReferenceIdeal.τ).loc Cert.ProjectReferenceIdeal.main_v31) = v3 c
          ∧ r.2.mem ((c.tc : Thread Cert.ProjectReferenceIdeal.nD Cert.ProjectReferenceIdeal.τ).loc Cert.ProjectReferenceIdeal.main_v36) = v4 c
          ∧ r.2.mem ((c.tc : Thread Cert.ProjectReferenceIdeal.nD Cert.ProjectReferenceIdeal.τ).loc Cert.ProjectReferenceIdeal.main_v39) = v5 c
          ∧ r.2.mem ((c.tc : Thread Cert.ProjectReferenceIdeal.nD Cert.ProjectReferenceIdeal.τ).loc Cert.ProjectReferenceIdeal.main_v44) = v6 c
          ∧ r.2.mem ((c.tc : Thread Cert.ProjectReferenceIdeal.nD Cert.ProjectReferenceIdeal.τ).loc Cert.ProjectReferenceIdeal.main_v47) = v7 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v25) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def preserves_Diff_DiffIdeal : Prop :=
  IdealRules.named_const.Statement Cert.DiffIdeal.κ "mask" .f32 0xF149F2CA#32 ⊥

def algebraic_DiffIdeal_DiffReferenceIdeal_pre_finite_values_and_lambda [hDiffIdeal : Cert.DiffIdeal.Facts] [hDiffReferenceIdeal : Cert.DiffReferenceIdeal.Facts] [hPre_finite_values_and_lambda : Cert.Pre_finite_values_and_lambda.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_finite_values_and_lambda m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)
      ∧ m' ((c.tc : Thread Cert.DiffReferenceIdeal.nD Cert.DiffReferenceIdeal.τ).loc Cert.DiffReferenceIdeal.main_arg3) = m ((c.tc : Thread Cert.DiffIdeal.nD Cert.DiffIdeal.τ).loc Cert.DiffIdeal.main_arg3)
      ∧ m' ((c.tc : Thread Cert.DiffReferenceIdeal.nD Cert.DiffReferenceIdeal.τ).loc Cert.DiffReferenceIdeal.main_arg4) = m ((c.tc : Thread Cert.DiffIdeal.nD Cert.DiffIdeal.τ).loc Cert.DiffIdeal.main_arg4)
      ∧ m' ((c.tc : Thread Cert.DiffReferenceIdeal.nD Cert.DiffReferenceIdeal.τ).loc Cert.DiffReferenceIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v1)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v1) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v105) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4)
          ∧ r.2.mem ((c.tc : Thread Cert.DiffReferenceIdeal.nD Cert.DiffReferenceIdeal.τ).loc Cert.DiffReferenceIdeal.main_arg5) = m' ((c.tc : Thread Cert.DiffReferenceIdeal.nD Cert.DiffReferenceIdeal.τ).loc Cert.DiffReferenceIdeal.main_arg5))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)
      ∧ m' ((c.tc : Thread Cert.ModulationReferenceIdeal.nD Cert.ModulationReferenceIdeal.τ).loc Cert.ModulationReferenceIdeal.main_arg4) = m ((c.tc : Thread Cert.ModulationIdeal.nD Cert.ModulationIdeal.τ).loc Cert.ModulationIdeal.main_arg4)
      ∧ m' ((c.tc : Thread Cert.ModulationReferenceIdeal.nD Cert.ModulationReferenceIdeal.τ).loc Cert.ModulationReferenceIdeal.main_arg5) = m ((c.tc : Thread Cert.ModulationIdeal.nD Cert.ModulationIdeal.τ).loc Cert.ModulationIdeal.main_arg5)
      ∧ m' ((c.tc : Thread Cert.ModulationReferenceIdeal.nD Cert.ModulationReferenceIdeal.τ).loc Cert.ModulationReferenceIdeal.main_arg6) = m ((c.tc : Thread Cert.ModulationIdeal.nD Cert.ModulationIdeal.τ).loc Cert.ModulationIdeal.main_arg6)) →
    ∃ (v0 : (c : Dev Cert.ModulationIdeal.nD) → Buf (Elt Ideal) ((c.tc : Thread Cert.ModulationIdeal.nD Cert.ModulationIdeal.τ).loc Cert.ModulationIdeal.main_v5_0)) (v1 : (c : Dev Cert.ModulationIdeal.nD) → Buf (Elt Ideal) ((c.tc : Thread Cert.ModulationIdeal.nD Cert.ModulationIdeal.τ).loc Cert.ModulationIdeal.main_v5_1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v5_0) = v0 c
          ∧ r.2.mem ((c.tc : Thread Cert.ModulationIdeal.nD Cert.ModulationIdeal.τ).loc Cert.ModulationIdeal.main_v5_1) = v1 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3)
          ∧ r.2.mem ((c.tc : Thread Cert.ModulationIdeal.nD Cert.ModulationIdeal.τ).loc Cert.ModulationIdeal.main_arg4) = m ((c.tc : Thread Cert.ModulationIdeal.nD Cert.ModulationIdeal.τ).loc Cert.ModulationIdeal.main_arg4)
          ∧ r.2.mem ((c.tc : Thread Cert.ModulationIdeal.nD Cert.ModulationIdeal.τ).loc Cert.ModulationIdeal.main_arg5) = m ((c.tc : Thread Cert.ModulationIdeal.nD Cert.ModulationIdeal.τ).loc Cert.ModulationIdeal.main_arg5)
          ∧ r.2.mem ((c.tc : Thread Cert.ModulationIdeal.nD Cert.ModulationIdeal.τ).loc Cert.ModulationIdeal.main_arg6) = m ((c.tc : Thread Cert.ModulationIdeal.nD Cert.ModulationIdeal.τ).loc Cert.ModulationIdeal.main_arg6))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v4) = v0 c
          ∧ r.2.mem ((c.tc : Thread Cert.ModulationReferenceIdeal.nD Cert.ModulationReferenceIdeal.τ).loc Cert.ModulationReferenceIdeal.main_v13) = v1 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3)
          ∧ r.2.mem ((c.tc : Thread Cert.ModulationReferenceIdeal.nD Cert.ModulationReferenceIdeal.τ).loc Cert.ModulationReferenceIdeal.main_arg4) = m' ((c.tc : Thread Cert.ModulationReferenceIdeal.nD Cert.ModulationReferenceIdeal.τ).loc Cert.ModulationReferenceIdeal.main_arg4)
          ∧ r.2.mem ((c.tc : Thread Cert.ModulationReferenceIdeal.nD Cert.ModulationReferenceIdeal.τ).loc Cert.ModulationReferenceIdeal.main_arg5) = m' ((c.tc : Thread Cert.ModulationReferenceIdeal.nD Cert.ModulationReferenceIdeal.τ).loc Cert.ModulationReferenceIdeal.main_arg5)
          ∧ r.2.mem ((c.tc : Thread Cert.ModulationReferenceIdeal.nD Cert.ModulationReferenceIdeal.τ).loc Cert.ModulationReferenceIdeal.main_arg6) = m' ((c.tc : Thread Cert.ModulationReferenceIdeal.nD Cert.ModulationReferenceIdeal.τ).loc Cert.ModulationReferenceIdeal.main_arg6))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hOut : Cert.Out.Facts) (hOutIdeal : Cert.OutIdeal.Facts) (hOutReferenceIdeal : Cert.OutReferenceIdeal.Facts) (hDiff : Cert.Diff.Facts) (hDiffIdeal : Cert.DiffIdeal.Facts) (hDiffReferenceIdeal : Cert.DiffReferenceIdeal.Facts) (hModulation : Cert.Modulation.Facts) (hModulationIdeal : Cert.ModulationIdeal.Facts) (hModulationReferenceIdeal : Cert.ModulationReferenceIdeal.Facts) (hPre_finite_queries_and_keys : Cert.Pre_finite_queries_and_keys.Facts) (hPre_finite_values_and_lambda : Cert.Pre_finite_values_and_lambda.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Project (hProject := hProject)
    ∧ quiescent_ProjectIdeal (hProjectIdeal := hProjectIdeal)
    ∧ quiescent_ProjectReferenceIdeal (hProjectReferenceIdeal := hProjectReferenceIdeal)
    ∧ quiescent_Out (hOut := hOut)
    ∧ quiescent_OutIdeal (hOutIdeal := hOutIdeal)
    ∧ quiescent_OutReferenceIdeal (hOutReferenceIdeal := hOutReferenceIdeal)
    ∧ quiescent_Diff (hDiff := hDiff)
    ∧ quiescent_DiffIdeal (hDiffIdeal := hDiffIdeal)
    ∧ quiescent_DiffIdeal_pre_finite_values_and_lambda (hDiffIdeal := hDiffIdeal) (hPre_finite_values_and_lambda := hPre_finite_values_and_lambda)
    ∧ quiescent_DiffReferenceIdeal (hDiffReferenceIdeal := hDiffReferenceIdeal)
    ∧ quiescent_DiffReferenceIdeal_pre_finite_values_and_lambda (hDiffReferenceIdeal := hDiffReferenceIdeal) (hPre_finite_values_and_lambda := hPre_finite_values_and_lambda)
    ∧ quiescent_Modulation (hModulation := hModulation)
    ∧ quiescent_ModulationIdeal (hModulationIdeal := hModulationIdeal)
    ∧ quiescent_ModulationReferenceIdeal (hModulationReferenceIdeal := hModulationReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Project_ProjectIdeal
    ∧ algebraic_ProjectIdeal_ProjectReferenceIdeal (hProjectIdeal := hProjectIdeal) (hProjectReferenceIdeal := hProjectReferenceIdeal)
    ∧ preserves_Out_OutIdeal
    ∧ algebraic_OutIdeal_OutReferenceIdeal (hOutIdeal := hOutIdeal) (hOutReferenceIdeal := hOutReferenceIdeal)
    ∧ preserves_Diff_DiffIdeal
    ∧ algebraic_DiffIdeal_DiffReferenceIdeal_pre_finite_values_and_lambda (hDiffIdeal := hDiffIdeal) (hDiffReferenceIdeal := hDiffReferenceIdeal) (hPre_finite_values_and_lambda := hPre_finite_values_and_lambda)
    ∧ preserves_Modulation_ModulationIdeal
    ∧ algebraic_ModulationIdeal_ModulationReferenceIdeal (hModulationIdeal := hModulationIdeal) (hModulationReferenceIdeal := hModulationReferenceIdeal)
-- ==== Pre_finite_queries_and_keys.lean ====
abbrev S8x16x512x256 : Shape := ⟨4, ![8, 16, 512, 256]⟩
abbrev S8x4096x512 : Shape := ⟨3, ![8, 4096, 512]⟩
abbrev S_ : Shape := ⟨0, ![]⟩

class Facts : Prop where
  bitsLt_bf16_f32 : FTy.bits .bf16 < FTy.bits .f32
  bcast_S_S8x16x512x256 : S_.BroadcastsInDim S8x16x512x256 (![] : Fin 0 → Fin S8x16x512x256.rank)
  bcast_S_S8x4096x512 : S_.BroadcastsInDim S8x4096x512 (![] : Fin 0 → Fin S8x4096x512.rank)

variable [Facts]

def fn {F : FTy → Type} [FloatOps F] (main_arg0 : FVec F S8x16x512x256 .bf16) (main_arg1 : FVec F S8x4096x512 .bf16) (main_arg2 : FVec F S8x16x512x256 .bf16) : IVec S8x16x512x256 1 × IVec S8x4096x512 1 :=
  let main_v0 : FVec F S8x16x512x256 .f32 := (extf .f32 · bitsLt_bf16_f32) main_arg0
  let main_v1 : FVec F S8x16x512x256 .f32 := Host.absf main_v0
  let main_cst : FVec F S_ .f32 := constant S_ .f32 0x7F800000#32
  let main_v2 : FVec F S8x16x512x256 .f32 := broadcastInDim S8x16x512x256 ![] bcast_S_S8x16x512x256 main_cst
  let main_v3 : IVec S8x16x512x256 1 := cmpf .olt main_v1 main_v2
  let main_v4 : FVec F S8x4096x512 .f32 := (extf .f32 · bitsLt_bf16_f32) main_arg1
  let main_v5 : FVec F S8x4096x512 .f32 := Host.absf main_v4
  let main_cst_0 : FVec F S_ .f32 := constant S_ .f32 0x7F800000#32
  let main_v6 : FVec F S8x4096x512 .f32 := broadcastInDim S8x4096x512 ![] bcast_S_S8x4096x512 main_cst_0
  let main_v7 : IVec S8x4096x512 1 := cmpf .olt main_v5 main_v6
  (main_v3, main_v7)
-- ==== Pre_finite_values_and_lambda.lean ====
abbrev S8x16x512x256 : Shape := ⟨4, ![8, 16, 512, 256]⟩
abbrev S8x4096x512 : Shape := ⟨3, ![8, 4096, 512]⟩
abbrev S4x2x256x256 : Shape := ⟨4, ![4, 2, 256, 256]⟩
abbrev S1x1 : Shape := ⟨2, ![1, 1]⟩
abbrev S128 : Shape := ⟨1, ![128]⟩
abbrev S_ : Shape := ⟨0, ![]⟩

class Facts : Prop where
  bitsLt_bf16_f32 : FTy.bits .bf16 < FTy.bits .f32
  bcast_S_S8x16x512x256 : S_.BroadcastsInDim S8x16x512x256 (![] : Fin 0 → Fin S8x16x512x256.rank)
  bcast_S_S1x1 : S_.BroadcastsInDim S1x1 (![] : Fin 0 → Fin S1x1.rank)

variable [Facts]

def fn {F : FTy → Type} [FloatOps F] (main_arg0 : FVec F S8x16x512x256 .bf16) (main_arg1 : FVec F S8x4096x512 .bf16) (main_arg2 : FVec F S8x16x512x256 .bf16) (main_arg3 : FVec F S4x2x256x256 .f32) (main_arg4 : FVec F S1x1 .f32) (main_arg5 : FVec F S128 .f32) : IVec S8x16x512x256 1 × IVec S1x1 1 :=
  let main_v0 : FVec F S8x16x512x256 .f32 := (extf .f32 · bitsLt_bf16_f32) main_arg2
  let main_v1 : FVec F S8x16x512x256 .f32 := Host.absf main_v0
  let main_cst : FVec F S_ .f32 := constant S_ .f32 0x7F800000#32
  let main_v2 : FVec F S8x16x512x256 .f32 := broadcastInDim S8x16x512x256 ![] bcast_S_S8x16x512x256 main_cst
  let main_v3 : IVec S8x16x512x256 1 := cmpf .olt main_v1 main_v2
  let main_v4 : FVec F S1x1 .f32 := Host.absf main_arg4
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  (main_v3, main_v6)
-- ==== Kernel.lean ====
abbrev S8x16x512x256 : Shape := ⟨4, ![8, 16, 512, 256]⟩
abbrev S8x4096x512 : Shape := ⟨3, ![8, 4096, 512]⟩
abbrev S1x1x128x256 : Shape := ⟨4, ![1, 1, 128, 256]⟩
abbrev S1x4096x128 : Shape := ⟨3, ![1, 4096, 128]⟩
abbrev S1x16x128x256 : Shape := ⟨4, ![1, 16, 128, 256]⟩
abbrev S1x256x128 : Shape := ⟨3, ![1, 256, 128]⟩
abbrev S2x64x256 : Shape := ⟨3, ![2, 64, 256]⟩
abbrev S2x8x256 : Shape := ⟨3, ![2, 8, 256]⟩
abbrev S128x256 : Shape := ⟨2, ![128, 256]⟩
abbrev S8x256 : Shape := ⟨2, ![8, 256]⟩
abbrev S256x256 : Shape := ⟨2, ![256, 256]⟩
abbrev S256x128 : Shape := ⟨2, ![256, 128]⟩
abbrev S1x8x256 : Shape := ⟨3, ![1, 8, 256]⟩
abbrev S1x256 : Shape := ⟨2, ![1, 256]⟩
abbrev S64x256 : Shape := ⟨2, ![64, 256]⟩
abbrev S1x64x256 : Shape := ⟨3, ![1, 64, 256]⟩

abbrev nBuf : Space → Nat
  | .hbm => 4
  | .vmem => 10
  | .smem => 0
  | _ => 0

abbrev bufTy : (tb : Table) → Fin (tcTables nBuf tb) → BufTy
  | .hbm, ⟨0, _⟩ => ⟨S8x16x512x256, .bf16⟩
  | .hbm, ⟨1, _⟩ => ⟨S8x4096x512, .bf16⟩
  | .hbm, ⟨2, _⟩ => ⟨S8x16x512x256, .bf16⟩
  | .hbm, ⟨3, _⟩ => ⟨S8x4096x512, .bf16⟩
  | .local _ .vmem, ⟨0, _⟩ => ⟨S1x1x128x256, .bf16⟩
  | .local _ .vmem, ⟨1, _⟩ => ⟨S1x1x128x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x256x128, .bf16⟩
  | .local _ .vmem, ⟨7, _⟩ => ⟨S1x256x128, .bf16⟩
  | .local _ .vmem, ⟨8, _⟩ => ⟨S2x64x256, .f32⟩
  | .local _ .vmem, ⟨9, _⟩ => ⟨S2x8x256, .f32⟩
  | _, _ => ⟨S8x16x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg2 : BitVec 32 := BitVec.ofNat 32 (i 2).val
  let c256_i32 : BitVec 32 := 256#32
  let v108 : BitVec 32 := Scalar.muli arg2 c256_i32
  v108
def k0_off1 (i : grid0.Coords) : Fin 3 → Nat :=
  let c0_36 : Index := 0#32
  let arg2 : BitVec 32 := BitVec.ofNat 32 (i 2).val
  let c256_i32 : BitVec 32 := 256#32
  let v108 : BitVec 32 := Scalar.muli arg2 c256_i32
  let v109 : BitVec 32 := v108
  let v110 : Index := Scalar.indexCast v109
  let c0_37 : Index := 0#32
  ![0, v110.toNat, 0]
def k0_off2 (i : grid0.Coords) : Fin 4 → Nat :=
  let c0_38 : Index := 0#32
  let arg2 : BitVec 32 := BitVec.ofNat 32 (i 2).val
  let v113 : Index := Scalar.indexCast arg2
  let c0_39 : Index := 0#32
  let c0_40 : Index := 0#32
  ![0, v113.toNat, 0, 0]
@[reducible] def k0_t1_loop (i : grid0.Coords) : Scf.Loop 32 :=
  let c0_i32_105 : BitVec 32 := 0#32
  let arg2 : BitVec 32 := BitVec.ofNat 32 (i 2).val
  let v570 : BitVec 32 := Scalar.subi arg2 c0_i32_105
  let c1_i32_106 : BitVec 32 := 1#32
  let v572 : BitVec 32 := Scalar.divsi v570 c1_i32_106
  let v573 : BitVec 32 := Scalar.muli v572 c1_i32_106
  let v574 : BitVec 32 := Scalar.addi c0_i32_105 v573
  let c1_i32_107 : BitVec 32 := 1#32
  ⟨c0_i32_105, v574, c1_i32_107⟩
def k0_mult2 (i : grid0.Coords) (k0_t1 : Fin (k0_t1_loop i).trips) : BitVec 32 :=
  let arg2 : BitVec 32 := BitVec.ofNat 32 (i 2).val
  let c1_i32_118 : BitVec 32 := 1#32
  let v585 : BitVec 32 := Scalar.subi arg2 c1_i32_118
  let c0_i32_105 : BitVec 32 := 0#32
  let c1_i32_107 : BitVec 32 := 1#32
  let arg9 : BitVec 32 := Scf.iv c0_i32_105 c1_i32_107 k0_t1
  let v586 : BitVec 32 := Scalar.subi v585 arg9
  let c256_i32_119 : BitVec 32 := 256#32
  let v587 : BitVec 32 := Scalar.muli v586 c256_i32_119
  v587
def k0_off3 (i : grid0.Coords) (k0_t1 : Fin (k0_t1_loop i).trips) : Fin 3 → Nat :=
  let c0_120 : Index := 0#32
  let arg2 : BitVec 32 := BitVec.ofNat 32 (i 2).val
  let c1_i32_118 : BitVec 32 := 1#32
  let v585 : BitVec 32 := Scalar.subi arg2 c1_i32_118
  let c0_i32_105 : BitVec 32 := 0#32
  let c1_i32_107 : BitVec 32 := 1#32
  let arg9 : BitVec 32 := Scf.iv c0_i32_105 c1_i32_107 k0_t1
  let v586 : BitVec 32 := Scalar.subi v585 arg9
  let c256_i32_119 : BitVec 32 := 256#32
  let v587 : BitVec 32 := Scalar.muli v586 c256_i32_119
  let v588 : BitVec 32 := v587
  let v589 : Index := Scalar.indexCast v588
  let c0_121 : Index := 0#32
  ![0, v589.toNat, 0]
def k0_off4 (i : grid0.Coords) (k0_t1 : Fin (k0_t1_loop i).trips) : Fin 4 → Nat :=
  let c0_122 : Index := 0#32
  let arg2 : BitVec 32 := BitVec.ofNat 32 (i 2).val
  let c1_i32_118 : BitVec 32 := 1#32
  let v585 : BitVec 32 := Scalar.subi arg2 c1_i32_118
  let c0_i32_105 : BitVec 32 := 0#32
  let c1_i32_107 : BitVec 32 := 1#32
  let arg9 : BitVec 32 := Scf.iv c0_i32_105 c1_i32_107 k0_t1
  let v586 : BitVec 32 := Scalar.subi v585 arg9
  let v592 : Index := Scalar.indexCast v586
  let c0_123 : Index := 0#32
  let c0_124 : Index := 0#32
  ![0, v592.toNat, 0, 0]
@[reducible] def k0_t2_loop (i : grid0.Coords) : Scf.Loop 32 :=
  let c0_i32_105 : BitVec 32 := 0#32
  let arg2 : BitVec 32 := BitVec.ofNat 32 (i 2).val
  let v570 : BitVec 32 := Scalar.subi arg2 c0_i32_105
  let c1_i32_106 : BitVec 32 := 1#32
  let v572 : BitVec 32 := Scalar.divsi v570 c1_i32_106
  let v573 : BitVec 32 := Scalar.muli v572 c1_i32_106
  let v574 : BitVec 32 := Scalar.addi c0_i32_105 v573
  let v571 : BitVec 32 := Scalar.addi c0_i32_105 v570
  let c1_i32_108 : BitVec 32 := 1#32
  ⟨v574, v571, c1_i32_108⟩
def k0_mult3 (i : grid0.Coords) (k0_t2 : Fin (k0_t2_loop i).trips) : BitVec 32 :=
  let arg2 : BitVec 32 := BitVec.ofNat 32 (i 2).val
  let c1_i32_118 : BitVec 32 := 1#32
  let v585 : BitVec 32 := Scalar.subi arg2 c1_i32_118
  let c0_i32_105 : BitVec 32 := 0#32
  let v570 : BitVec 32 := Scalar.subi arg2 c0_i32_105
  let c1_i32_106 : BitVec 32 := 1#32
  let v572 : BitVec 32 := Scalar.divsi v570 c1_i32_106
  let v573 : BitVec 32 := Scalar.muli v572 c1_i32_106
  let v574 : BitVec 32 := Scalar.addi c0_i32_105 v573
  let c1_i32_108 : BitVec 32 := 1#32
  let arg9 : BitVec 32 := Scf.iv v574 c1_i32_108 k0_t2
  let v586 : BitVec 32 := Scalar.subi v585 arg9
  let c256_i32_119 : BitVec 32 := 256#32
  let v587 : BitVec 32 := Scalar.muli v586 c256_i32_119
  v587
def k0_off5 (i : grid0.Coords) (k0_t2 : Fin (k0_t2_loop i).trips) : Fin 3 → Nat :=
  let c0_120 : Index := 0#32
  let arg2 : BitVec 32 := BitVec.ofNat 32 (i 2).val
  let c1_i32_118 : BitVec 32 := 1#32
  let v585 : BitVec 32 := Scalar.subi arg2 c1_i32_118
  let c0_i32_105 : BitVec 32 := 0#32
  let v570 : BitVec 32 := Scalar.subi arg2 c0_i32_105
  let c1_i32_106 : BitVec 32 := 1#32
  let v572 : BitVec 32 := Scalar.divsi v570 c1_i32_106
  let v573 : BitVec 32 := Scalar.muli v572 c1_i32_106
  let v574 : BitVec 32 := Scalar.addi c0_i32_105 v573
  let c1_i32_108 : BitVec 32 := 1#32
  let arg9 : BitVec 32 := Scf.iv v574 c1_i32_108 k0_t2
  let v586 : BitVec 32 := Scalar.subi v585 arg9
  let c256_i32_119 : BitVec 32 := 256#32
  let v587 : BitVec 32 := Scalar.muli v586 c256_i32_119
  let v588 : BitVec 32 := v587
  let v589 : Index := Scalar.indexCast v588
  let c0_121 : Index := 0#32
  ![0, v589.toNat, 0]
def k0_off6 (i : grid0.Coords) (k0_t2 : Fin (k0_t2_loop i).trips) : Fin 4 → Nat :=
  let c0_122 : Index := 0#32
  let arg2 : BitVec 32 := BitVec.ofNat 32 (i 2).val
  let c1_i32_118 : BitVec 32 := 1#32
  let v585 : BitVec 32 := Scalar.subi arg2 c1_i32_118
  let c0_i32_105 : BitVec 32 := 0#32
  let v570 : BitVec 32 := Scalar.subi arg2 c0_i32_105
  let c1_i32_106 : BitVec 32 := 1#32
  let v572 : BitVec 32 := Scalar.divsi v570 c1_i32_106
  let v573 : BitVec 32 := Scalar.muli v572 c1_i32_106
  let v574 : BitVec 32 := Scalar.addi c0_i32_105 v573
  let c1_i32_108 : BitVec 32 := 1#32
  let arg9 : BitVec 32 := Scf.iv v574 c1_i32_108 k0_t2
  let v586 : BitVec 32 := Scalar.subi v585 arg9
  let v592 : Index := Scalar.indexCast v586
  let c0_123 : Index := 0#32
  let c0_124 : Index := 0#32
  ![0, v592.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x16x512x256 : Shape := ⟨4, ![8, 16, 512, 256]⟩
abbrev S8x4096x512 : Shape := ⟨3, ![8, 4096, 512]⟩
abbrev S8x16x256x512 : Shape := ⟨4, ![8, 16, 256, 512]⟩
abbrev S8x16x32x8x8x64 : Shape := ⟨6, ![8, 16, 32, 8, 8, 64]⟩
abbrev S8x8x16x8x32x64 : Shape := ⟨6, ![8, 8, 16, 8, 32, 64]⟩
abbrev S8x8x4096x64 : Shape := ⟨4, ![8, 8, 4096, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096x4096 : Shape := ⟨4, ![8, 8, 4096, 4096]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S8x16x512x256, .bf16⟩
  | .hbm, ⟨1, _⟩ => ⟨S8x4096x512, .bf16⟩
  | .hbm, ⟨2, _⟩ => ⟨S8x16x512x256, .bf16⟩
  | .hbm, ⟨3, _⟩ => ⟨S8x16x512x256, .f32⟩
  | .hbm, ⟨4, _⟩ => ⟨S8x16x256x512, .f32⟩
  | .hbm, ⟨5, _⟩ => ⟨S8x16x32x8x8x64, .f32⟩
  | .hbm, ⟨6, _⟩ => ⟨S8x8x16x8x32x64, .f32⟩
  | .hbm, ⟨7, _⟩ => ⟨S8x8x4096x64, .f32⟩
  | .hbm, ⟨8, _⟩ => ⟨S8x4096x512, .f32⟩
  | .hbm, ⟨9, _⟩ => ⟨S8x16x32x8x8x64, .f32⟩
  | .hbm, ⟨10, _⟩ => ⟨S8x8x16x8x32x64, .f32⟩
  | .hbm, ⟨11, _⟩ => ⟨S8x8x4096x64, .f32⟩
  | .hbm, ⟨12, _⟩ => ⟨S8x16x512x256, .f32⟩
  | .hbm, ⟨13, _⟩ => ⟨S8x16x256x512, .f32⟩
  | .hbm, ⟨14, _⟩ => ⟨S8x16x32x8x8x64, .f32⟩
  | .hbm, ⟨15, _⟩ => ⟨S8x8x16x8x32x64, .f32⟩
  | .hbm, ⟨16, _⟩ => ⟨S8x8x4096x64, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S8x8x4096x4096, .f32⟩
  | .hbm, ⟨24, _⟩ => ⟨S8x8x4096x4096, .f32⟩
  | .hbm, ⟨25, _⟩ => ⟨S_, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .i1⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S8x8x4096x4096, .f32⟩
  | .hbm, ⟨39, _⟩ => ⟨S8x8x4096x4096, .f32⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .i1⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S_, .f32⟩
  | .hbm, ⟨58, _⟩ => ⟨S_, .f32⟩
  | .hbm, ⟨59, _⟩ => ⟨S8x8x4096x4096, .i1⟩
  | .hbm, ⟨60, _⟩ => ⟨S8x8x4096x4096, .f32⟩
  | .hbm, ⟨61, _⟩ => ⟨S8x8x4096x4096, .f32⟩
  | .hbm, ⟨62, _⟩ => ⟨S_, .f32⟩
  | .hbm, ⟨63, _⟩ => ⟨S_, .f32⟩
  | .hbm, ⟨64, _⟩ => ⟨S8x8x4096x4096, .f32⟩
  | .hbm, ⟨65, _⟩ => ⟨S8x8x4096x4096, .f32⟩
  | .hbm, ⟨66, _⟩ => ⟨S8x8x4096x4096, .f32⟩
  | .hbm, ⟨67, _⟩ => ⟨S8x8x4096x4096, .f32⟩
  | .hbm, ⟨68, _⟩ => ⟨S_, .f32⟩
  | .hbm, ⟨69, _⟩ => ⟨S_, .f32⟩
  | .hbm, ⟨70, _⟩ => ⟨S8x8x4096x4096, .i1⟩
  | .hbm, ⟨71, _⟩ => ⟨S8x8x4096x4096, .f32⟩
  | .hbm, ⟨72, _⟩ => ⟨S8x8x4096x4096, .f32⟩
  | .hbm, ⟨73, _⟩ => ⟨S8x8x4096x64, .f32⟩
  | .hbm, ⟨74, _⟩ => ⟨S8x8x16x8x32x64, .f32⟩
  | .hbm, ⟨75, _⟩ => ⟨S8x16x32x8x8x64, .f32⟩
  | .hbm, ⟨76, _⟩ => ⟨S8x4096x512, .f32⟩
  | .hbm, ⟨77, _⟩ => ⟨S8x4096x512, .bf16⟩
  | _, _ => ⟨S8x16x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_v1 : Ref sig .tc := ⟨.hbm, 55, rfl⟩
abbrev main_v23 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v24 : Ref sig .tc := ⟨.hbm, 61, rfl⟩
abbrev main_call3_cst : Ref sig .tc := ⟨.hbm, 62, rfl⟩
abbrev main_call3_v0 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_0 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩

abbrev nD : Nat := 1
abbrev τ : Topo := Topo.v7x

variable {F : FTy → Type} [FloatOps F]
-- ==== Project.lean ====
abbrev S8x4096x1024 : Shape := ⟨3, ![8, 4096, 1024]⟩
abbrev S1024 : Shape := ⟨1, ![1024]⟩
abbrev S8x1x1024 : Shape := ⟨3, ![8, 1, 1024]⟩
abbrev S1024x4096 : Shape := ⟨2, ![1024, 4096]⟩
abbrev S1024x512 : Shape := ⟨2, ![1024, 512]⟩
abbrev S1024x2048 : Shape := ⟨2, ![1024, 2048]⟩
abbrev S_ : Shape := ⟨0, ![]⟩
abbrev S2048x1024 : Shape := ⟨2, ![2048, 1024]⟩
abbrev S1x1024 : Shape := ⟨2, ![1, 1024]⟩
abbrev S8x4096x512 : Shape := ⟨3, ![8, 4096, 512]⟩
abbrev S8x16x512x256 : Shape := ⟨4, ![8, 16, 512, 256]⟩
abbrev S1x512x1024 : Shape := ⟨3, ![1, 512, 1024]⟩
abbrev S1x1x1024 : Shape := ⟨3, ![1, 1, 1024]⟩
abbrev S1x512x512 : Shape := ⟨3, ![1, 512, 512]⟩
abbrev S1x2x512x256 : Shape := ⟨4, ![1, 2, 512, 256]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S1x1x512x256 : Shape := ⟨4, ![1, 1, 512, 256]⟩

abbrev nBuf : Space → Nat
  | .hbm => 33
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4096, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x2048, .f32⟩
  | .hbm, ⟨14, _⟩ => ⟨S1024x2048, .bf16⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x2048, .f32⟩
  | .hbm, ⟨22, _⟩ => ⟨S2048x1024, .f32⟩
  | .hbm, ⟨23, _⟩ => ⟨S2048x1024, .bf16⟩
  | .hbm, ⟨24, _⟩ => ⟨S1x1024, .f32⟩
  | .hbm, ⟨25, _⟩ => ⟨S8x4096x512, .bf16⟩
  | .hbm, ⟨26, _⟩ => ⟨S8x4096x512, .bf16⟩
  | .hbm, ⟨27, _⟩ => ⟨S8x4096x512, .bf16⟩
  | .hbm, ⟨28, _⟩ => ⟨S8x4096x512, .bf16⟩
  | .hbm, ⟨29, _⟩ => ⟨S8x16x512x256, .bf16⟩
  | .hbm, ⟨30, _⟩ => ⟨S8x16x512x256, .bf16⟩
  | .hbm, ⟨31, _⟩ => ⟨S8x16x512x256, .bf16⟩
  | .hbm, ⟨32, _⟩ => ⟨S8x16x512x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S2048x1024, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x2x512x256, .bf16⟩
  | .local _ .vmem, ⟨18, _⟩ => ⟨S1x2x512x256, .bf16⟩
  | .local _ .vmem, ⟨19, _⟩ => ⟨S1x2x512x256, .bf16⟩
  | .local _ .vmem, ⟨20, _⟩ => ⟨S1x2x512x256, .bf16⟩
  | .local _ .vmem, ⟨21, _⟩ => ⟨S1x2x512x256, .bf16⟩
  | .local _ .vmem, ⟨22, _⟩ => ⟨S1x2x512x256, .bf16⟩
  | .local _ .vmem, ⟨23, _⟩ => ⟨S1x2x512x256, .bf16⟩
  | .local _ .vmem, ⟨24, _⟩ => ⟨S1x2x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev main_v18_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjectReferenceIdeal.lean ====
abbrev S8x4096x1024 : Shape := ⟨3, ![8, 4096, 1024]⟩
abbrev S1024 : Shape := ⟨1, ![1024]⟩
abbrev S8x1x1024 : Shape := ⟨3, ![8, 1, 1024]⟩
abbrev S1024x4096 : Shape := ⟨2, ![1024, 4096]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S8x4096x512 : Shape := ⟨3, ![8, 4096, 512]⟩
abbrev S8x16x256x512 : Shape := ⟨4, ![8, 16, 256, 512]⟩
abbrev S8x16x512x256 : Shape := ⟨4, ![8, 16, 512, 256]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4096, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x4096, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S8x4096x512, .f32⟩
  | .hbm, ⟨35, _⟩ => ⟨S8x4096x512, .f32⟩
  | .hbm, ⟨36, _⟩ => ⟨S8x4096x512, .f32⟩
  | .hbm, ⟨37, _⟩ => ⟨S8x4096x512, .bf16⟩
  | .hbm, ⟨38, _⟩ => ⟨S8x4096x512, .bf16⟩
  | .hbm, ⟨39, _⟩ => ⟨S8x4096x512, .bf16⟩
  | .hbm, ⟨40, _⟩ => ⟨S8x4096x512, .bf16⟩
  | .hbm, ⟨41, _⟩ => ⟨S_, .f32⟩
  | .hbm, ⟨42, _⟩ => ⟨S8x4096x512, .f32⟩
  | .hbm, ⟨43, _⟩ => ⟨S8x4096x512, .f32⟩
  | .hbm, ⟨44, _⟩ => ⟨S8x16x256x512, .f32⟩
  | .hbm, ⟨45, _⟩ => ⟨S8x16x512x256, .f32⟩
  | .hbm, ⟨46, _⟩ => ⟨S8x16x512x256, .bf16⟩
  | .hbm, ⟨47, _⟩ => ⟨S8x16x256x512, .f32⟩
  | .hbm, ⟨48, _⟩ => ⟨S8x16x512x256, .f32⟩
  | .hbm, ⟨49, _⟩ => ⟨S8x16x512x256, .bf16⟩
  | .hbm, ⟨50, _⟩ => ⟨S_, .f32⟩
  | .hbm, ⟨51, _⟩ => ⟨S8x4096x512, .f32⟩
  | .hbm, ⟨52, _⟩ => ⟨S8x4096x512, .f32⟩
  | .hbm, ⟨53, _⟩ => ⟨S8x16x256x512, .f32⟩
  | .hbm, ⟨54, _⟩ => ⟨S8x16x512x256, .f32⟩
  | .hbm, ⟨55, _⟩ => ⟨S8x16x512x256, .bf16⟩
  | .hbm, ⟨56, _⟩ => ⟨S8x16x256x512, .f32⟩
  | .hbm, ⟨57, _⟩ => ⟨S8x16x512x256, .f32⟩
  | .hbm, ⟨58, _⟩ => ⟨S8x16x512x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Out.lean ====
abbrev S8x4096x512 : Shape := ⟨3, ![8, 4096, 512]⟩
abbrev S8x4096x1024 : Shape := ⟨3, ![8, 4096, 1024]⟩
abbrev S8x1x1024 : Shape := ⟨3, ![8, 1, 1024]⟩
abbrev S1024x1024 : Shape := ⟨2, ![1024, 1024]⟩
abbrev S1024 : Shape := ⟨1, ![1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x1024, .f32⟩
  | .hbm, ⟨5, _⟩ => ⟨S8x1x1024, .f32⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S8x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutReferenceIdeal.lean ====
abbrev S8x4096x512 : Shape := ⟨3, ![8, 4096, 512]⟩
abbrev S8x4096x1024 : Shape := ⟨3, ![8, 4096, 1024]⟩
abbrev S8x1x1024 : Shape := ⟨3, ![8, 1, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x1024, .f32⟩
  | .hbm, ⟨5, _⟩ => ⟨S8x1x1024, .f32⟩
  | .hbm, ⟨6, _⟩ => ⟨S1024x1024, .f32⟩
  | .hbm, ⟨7, _⟩ => ⟨S1024, .f32⟩
  | .hbm, ⟨8, _⟩ => ⟨S8x4096x512, .f32⟩
  | .hbm, ⟨9, _⟩ => ⟨S8x4096x512, .f32⟩
  | .hbm, ⟨10, _⟩ => ⟨S8x4096x512, .f32⟩
  | .hbm, ⟨11, _⟩ => ⟨S8x4096x512, .f32⟩
  | .hbm, ⟨12, _⟩ => ⟨S_, .f32⟩
  | .hbm, ⟨13, _⟩ => ⟨S8x4096x512, .f32⟩
  | .hbm, ⟨14, _⟩ => ⟨S8x4096x512, .f32⟩
  | .hbm, ⟨15, _⟩ => ⟨S_, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096x512, .f32⟩
  | .hbm, ⟨26, _⟩ => ⟨S8x4096x512, .f32⟩
  | .hbm, ⟨27, _⟩ => ⟨S_, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x1024, .f32⟩
  | .hbm, ⟨49, _⟩ => ⟨S8x4096x1024, .f32⟩
  | .hbm, ⟨50, _⟩ => ⟨S1x1x1024, .f32⟩
  | .hbm, ⟨51, _⟩ => ⟨S8x4096x1024, .f32⟩
  | .hbm, ⟨52, _⟩ => ⟨S8x4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_cst_0 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== Diff.lean ====
abbrev S8x16x512x256 : Shape := ⟨4, ![8, 16, 512, 256]⟩
abbrev S8x4096x512 : Shape := ⟨3, ![8, 4096, 512]⟩
abbrev S4x2x256x256 : Shape := ⟨4, ![4, 2, 256, 256]⟩
abbrev S1x1 : Shape := ⟨2, ![1, 1]⟩
abbrev S128 : Shape := ⟨1, ![128]⟩
abbrev S1x128 : Shape := ⟨2, ![1, 128]⟩
abbrev S1x1x128x256 : Shape := ⟨4, ![1, 1, 128, 256]⟩
abbrev S1x4096x128 : Shape := ⟨3, ![1, 4096, 128]⟩
abbrev S1x16x128x256 : Shape := ⟨4, ![1, 16, 128, 256]⟩
abbrev S1x2x256x256 : Shape := ⟨4, ![1, 2, 256, 256]⟩
abbrev S1x256x128 : Shape := ⟨3, ![1, 256, 128]⟩
abbrev S2x128x256 : Shape := ⟨3, ![2, 128, 256]⟩
abbrev S2x1x256 : Shape := ⟨3, ![2, 1, 256]⟩
abbrev S128x256 : Shape := ⟨2, ![128, 256]⟩
abbrev S256x128 : Shape := ⟨2, ![256, 128]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S1x1x256x256 : Shape := ⟨4, ![1, 1, 256, 256]⟩
abbrev S256x1 : Shape := ⟨2, ![256, 1]⟩

abbrev nBuf : Space → Nat
  | .hbm => 8
  | .vmem => 14
  | .smem => 1
  | _ => 0

abbrev bufTy : (tb : Table) → Fin (tcTables nBuf tb) → BufTy
  | .hbm, ⟨0, _⟩ => ⟨S8x16x512x256, .bf16⟩
  | .hbm, ⟨1, _⟩ => ⟨S8x4096x512, .bf16⟩
  | .hbm, ⟨2, _⟩ => ⟨S8x16x512x256, .bf16⟩
  | .hbm, ⟨3, _⟩ => ⟨S4x2x256x256, .f32⟩
  | .hbm, ⟨4, _⟩ => ⟨S1x1, .f32⟩
  | .hbm, ⟨5, _⟩ => ⟨S128, .f32⟩
  | .hbm, ⟨6, _⟩ => ⟨S1x128, .f32⟩
  | .hbm, ⟨7, _⟩ => ⟨S8x4096x512, .bf16⟩
  | .local _ .vmem, ⟨0, _⟩ => ⟨S1x1x128x256, .bf16⟩
  | .local _ .vmem, ⟨1, _⟩ => ⟨S1x1x128x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x2x256x256, .f32⟩
  | .local _ .vmem, ⟨7, _⟩ => ⟨S1x2x256x256, .f32⟩
  | .local _ .vmem, ⟨8, _⟩ => ⟨S1x128, .f32⟩
  | .local _ .vmem, ⟨9, _⟩ => ⟨S1x256x128, .bf16⟩
  | .local _ .vmem, ⟨10, _⟩ => ⟨S1x256x128, .bf16⟩
  | .local _ .vmem, ⟨11, _⟩ => ⟨S2x128x256, .f32⟩
  | .local _ .vmem, ⟨12, _⟩ => ⟨S2x1x256, .f32⟩
  | .local _ .vmem, ⟨13, _⟩ => ⟨S2x1x256, .f32⟩
  | .local _ .smem, ⟨0, _⟩ => ⟨S1x1, .f32⟩
  | _, _ => ⟨S8x16x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32_17 : BitVec 32 := 0#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let v24 : BitVec 32 := Scalar.subi v23 c0_i32_17
  let c1_i32_18 : BitVec 32 := 1#32
  let v26 : BitVec 32 := Scalar.divsi v24 c1_i32_18
  let v27 : BitVec 32 := Scalar.muli v26 c1_i32_18
  let v28 : BitVec 32 := Scalar.addi c0_i32_17 v27
  let c1_i32_19 : BitVec 32 := 1#32
  ⟨c0_i32_17, v28, c1_i32_19⟩
def k0_mult1 (i : grid0.Coords) (k0_t1 : Fin (k0_t1_loop i).trips) : BitVec 32 :=
  let c0_i32_17 : BitVec 32 := 0#32
  let c1_i32_19 : BitVec 32 := 1#32
  let arg13 : BitVec 32 := Scf.iv c0_i32_17 c1_i32_19 k0_t1
  let c256_i32_126 : BitVec 32 := 256#32
  let v240 : BitVec 32 := Scalar.muli arg13 c256_i32_126
  v240
def k0_off1 (i : grid0.Coords) (k0_t1 : Fin (k0_t1_loop i).trips) : Fin 3 → Nat :=
  let c0_127 : Index := 0#32
  let c0_i32_17 : BitVec 32 := 0#32
  let c1_i32_19 : BitVec 32 := 1#32
  let arg13 : BitVec 32 := Scf.iv c0_i32_17 c1_i32_19 k0_t1
  let c256_i32_126 : BitVec 32 := 256#32
  let v240 : BitVec 32 := Scalar.muli arg13 c256_i32_126
  let v241 : BitVec 32 := v240
  let v242 : Index := Scalar.indexCast v241
  let c0_128 : Index := 0#32
  ![0, v242.toNat, 0]
def k0_off2 (i : grid0.Coords) (k0_t1 : Fin (k0_t1_loop i).trips) : Fin 4 → Nat :=
  let c0_129 : Index := 0#32
  let c0_i32_17 : BitVec 32 := 0#32
  let c1_i32_19 : BitVec 32 := 1#32
  let arg13 : BitVec 32 := Scf.iv c0_i32_17 c1_i32_19 k0_t1
  let v245 : Index := Scalar.indexCast arg13
  let c0_130 : Index := 0#32
  let c0_131 : Index := 0#32
  ![0, v245.toNat, 0, 0]
@[reducible] def k0_t2_loop (i : grid0.Coords) : Scf.Loop 32 :=
  let c0_i32_17 : BitVec 32 := 0#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let v24 : BitVec 32 := Scalar.subi v23 c0_i32_17
  let c1_i32_18 : BitVec 32 := 1#32
  let v26 : BitVec 32 := Scalar.divsi v24 c1_i32_18
  let v27 : BitVec 32 := Scalar.muli v26 c1_i32_18
  let v28 : BitVec 32 := Scalar.addi c0_i32_17 v27
  let v25 : BitVec 32 := Scalar.addi c0_i32_17 v24
  let c1_i32_20 : BitVec 32 := 1#32
  ⟨v28, v25, c1_i32_20⟩
def k0_mult2 (i : grid0.Coords) (k0_t2 : Fin (k0_t2_loop i).trips) : BitVec 32 :=
  let c0_i32_17 : BitVec 32 := 0#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let v24 : BitVec 32 := Scalar.subi v23 c0_i32_17
  let c1_i32_18 : BitVec 32 := 1#32
  let v26 : BitVec 32 := Scalar.divsi v24 c1_i32_18
  let v27 : BitVec 32 := Scalar.muli v26 c1_i32_18
  let v28 : BitVec 32 := Scalar.addi c0_i32_17 v27
  let c1_i32_20 : BitVec 32 := 1#32
  let arg13 : BitVec 32 := Scf.iv v28 c1_i32_20 k0_t2
  let c256_i32_126 : BitVec 32 := 256#32
  let v240 : BitVec 32 := Scalar.muli arg13 c256_i32_126
  v240
def k0_off3 (i : grid0.Coords) (k0_t2 : Fin (k0_t2_loop i).trips) : Fin 3 → Nat :=
  let c0_127 : Index := 0#32
  let c0_i32_17 : BitVec 32 := 0#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let v24 : BitVec 32 := Scalar.subi v23 c0_i32_17
  let c1_i32_18 : BitVec 32 := 1#32
  let v26 : BitVec 32 := Scalar.divsi v24 c1_i32_18
  let v27 : BitVec 32 := Scalar.muli v26 c1_i32_18
  let v28 : BitVec 32 := Scalar.addi c0_i32_17 v27
  let c1_i32_20 : BitVec 32 := 1#32
  let arg13 : BitVec 32 := Scf.iv v28 c1_i32_20 k0_t2
  let c256_i32_126 : BitVec 32 := 256#32
  let v240 : BitVec 32 := Scalar.muli arg13 c256_i32_126
  let v241 : BitVec 32 := v240
  let v242 : Index := Scalar.indexCast v241
  let c0_128 : Index := 0#32
  ![0, v242.toNat, 0]
def k0_off4 (i : grid0.Coords) (k0_t2 : Fin (k0_t2_loop i).trips) : Fin 4 → Nat :=
  let c0_129 : Index := 0#32
  let c0_i32_17 : BitVec 32 := 0#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let v24 : BitVec 32 := Scalar.subi v23 c0_i32_17
  let c1_i32_18 : BitVec 32 := 1#32
  let v26 : BitVec 32 := Scalar.divsi v24 c1_i32_18
  let v27 : BitVec 32 := Scalar.muli v26 c1_i32_18
  let v28 : BitVec 32 := Scalar.addi c0_i32_17 v27
  let c1_i32_20 : BitVec 32 := 1#32
  let arg13 : BitVec 32 := Scf.iv v28 c1_i32_20 k0_t2
  let v245 : Index := Scalar.indexCast arg13
  let c0_130 : Index := 0#32
  let c0_131 : Index := 0#32
  ![0, v245.toNat, 0, 0]
def k0_cond1 (i : grid0.Coords) : BitVec 1 :=
  let arg2 : BitVec 32 := BitVec.ofNat 32 (i 2).val
  let c1_i32_21 : BitVec 32 := 1#32
  let v29 : BitVec 1 := Scalar.cmpi .sge arg2 c1_i32_21
  let v30 : BitVec 32 := Scalar.extui v29
  let c0_i32_22 : BitVec 32 := 0#32
  let v31 : BitVec 1 := Scalar.cmpi .ne v30 c0_i32_22
  v31

def k0_mult3 (i : grid0.Coords) : BitVec 32 :=
  let arg2 : BitVec 32 := BitVec.ofNat 32 (i 2).val
  let c1_i32_126 : BitVec 32 := 1#32
  let v240 : BitVec 32 := Scalar.subi arg2 c1_i32_126
  let c256_i32_131 : BitVec 32 := 256#32
  let v243 : BitVec 32 := Scalar.muli v240 c256_i32_131
  v243
def k0_off5 (i : grid0.Coords) : Fin 3 → Nat :=
  let c0_132 : Index := 0#32
  let arg2 : BitVec 32 := BitVec.ofNat 32 (i 2).val
  let c1_i32_126 : BitVec 32 := 1#32
  let v240 : BitVec 32 := Scalar.subi arg2 c1_i32_126
  let c256_i32_131 : BitVec 32 := 256#32
  let v243 : BitVec 32 := Scalar.muli v240 c256_i32_131
  let v244 : BitVec 32 := v243
  let v245 : Index := Scalar.indexCast v244
  let c0_133 : Index := 0#32
  ![0, v245.toNat, 0]
def k0_off6 (i : grid0.Coords) : Fin 4 → Nat :=
  let c0_134 : Index := 0#32
  let arg2 : BitVec 32 := BitVec.ofNat 32 (i 2).val
  let c1_i32_126 : BitVec 32 := 1#32
  let v240 : BitVec 32 := Scalar.subi arg2 c1_i32_126
  let v248 : Index := Scalar.indexCast v240
  let c0_135 : Index := 0#32
  let c0_136 : Index := 0#32
  ![0, v248.toNat, 0, 0]
def k0_mult4 (i : grid0.Coords) : BitVec 32 :=
  let arg2 : BitVec 32 := BitVec.ofNat 32 (i 2).val
  let c256_i32 : BitVec 32 := 256#32
  let v123 : BitVec 32 := Scalar.muli arg2 c256_i32
  v123
def k0_off7 (i : grid0.Coords) : Fin 3 → Nat :=
  let c0_53 : Index := 0#32
  let arg2 : BitVec 32 := BitVec.ofNat 32 (i 2).val
  let c256_i32 : BitVec 32 := 256#32
  let v123 : BitVec 32 := Scalar.muli arg2 c256_i32
  let v124 : BitVec 32 := v123
  let v125 : Index := Scalar.indexCast v124
  let c0_54 : Index := 0#32
  ![0, v125.toNat, 0]
def k0_off8 (i : grid0.Coords) : Fin 4 → Nat :=
  let c0_55 : Index := 0#32
  let arg2 : BitVec 32 := BitVec.ofNat 32 (i 2).val
  let v128 : Index := Scalar.indexCast arg2
  let c0_56 : Index := 0#32
  let c0_57 : Index := 0#32
  ![0, v128.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffIdeal.lean ====
variable {F : FTy → Type} [FloatOps F] [Named F]
def κ : String → Option EReal := fun
  | "mask" => some ⊥
  | _ => none
-- ==== DiffReferenceIdeal.lean ====
abbrev S8x16x512x256 : Shape := ⟨4, ![8, 16, 512, 256]⟩
abbrev S8x4096x512 : Shape := ⟨3, ![8, 4096, 512]⟩
abbrev S4x2x256x256 : Shape := ⟨4, ![4, 2, 256, 256]⟩
abbrev S1x1 : Shape := ⟨2, ![1, 1]⟩
abbrev S128 : Shape := ⟨1, ![128]⟩
abbrev S8x16x256x512 : Shape := ⟨4, ![8, 16, 256, 512]⟩
abbrev S8x16x32x8x512 : Shape := ⟨5, ![8, 16, 32, 8, 512]⟩
abbrev S8x16x8x32x512 : Shape := ⟨5, ![8, 16, 8, 32, 512]⟩
abbrev S8x4096x4x2x64 : Shape := ⟨5, ![8, 4096, 4, 2, 64]⟩
abbrev S8x4x2x4096x64 : Shape := ⟨5, ![8, 4, 2, 4096, 64]⟩
abbrev S8x4096x4x128 : Shape := ⟨4, ![8, 4096, 4, 128]⟩
abbrev S8x4x4096x128 : Shape := ⟨4, ![8, 4, 4096, 128]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x1x16x1 : Shape := ⟨5, ![1, 16, 1, 16, 1]⟩
abbrev S_ : Shape := ⟨0, ![]⟩
abbrev S4x1x256x256 : Shape := ⟨4, ![4, 1, 256, 256]⟩
abbrev S4x256x256 : Shape := ⟨3, ![4, 256, 256]⟩
abbrev S4x32x8x32x8 : Shape := ⟨5, ![4, 32, 8, 32, 8]⟩
abbrev S4x8x32x8x32 : Shape := ⟨5, ![4, 8, 32, 8, 32]⟩
abbrev S4x1x256x1x256 : Shape := ⟨5, ![4, 1, 256, 1, 256]⟩
abbrev S4x16x256x16x256 : Shape := ⟨5, ![4, 16, 256, 16, 256]⟩
abbrev S4x4096x4096 : Shape := ⟨3, ![4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4x2x4096x4096 : Shape := ⟨5, ![8, 4, 2, 4096, 4096]⟩
abbrev S1x4x1x4096x4096 : Shape := ⟨5, ![1, 4, 1, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 132
  | .vmem => 0
  | .smem => 0
  | _ => 0

abbrev hbmTy0_0 (i : Nat) : BufTy := match i % 128 with
  | 0 => ⟨S8x16x512x256, .bf16⟩
  | 1 => ⟨S8x4096x512, .bf16⟩
  | 2 => ⟨S8x16x512x256, .bf16⟩
  | 3 => ⟨S4x2x256x256, .f32⟩
  | 4 => ⟨S1x1, .f32⟩
  | 5 => ⟨S128, .f32⟩
  | 6 => ⟨S8x16x512x256, .f32⟩
  | 7 => ⟨S8x16x256x512, .f32⟩
  | 8 => ⟨S8x4096x512, .f32⟩
  | 9 => ⟨S8x16x32x8x512, .f32⟩
  | 10 => ⟨S8x16x8x32x512, .f32⟩
  | 11 => ⟨S8x4096x512, .f32⟩
  | 12 => ⟨S8x4096x4x2x64, .f32⟩
  | 13 => ⟨S8x4x2x4096x64, .f32⟩
  | 14 => ⟨S8x4096x512, .f32⟩
  | 15 => ⟨S8x16x32x8x512, .f32⟩
  | 16 => ⟨S8x16x8x32x512, .f32⟩
  | 17 => ⟨S8x4096x512, .f32⟩
  | 18 => ⟨S8x4096x4x2x64, .f32⟩
  | 19 => ⟨S8x4x2x4096x64, .f32⟩
  | 20 => ⟨S8x16x512x256, .f32⟩
  | 21 => ⟨S8x16x256x512, .f32⟩
  | 22 => ⟨S8x4096x512, .f32⟩
  | 23 => ⟨S8x16x32x8x512, .f32⟩
  | 24 => ⟨S8x16x8x32x512, .f32⟩
  | 25 => ⟨S8x4096x512, .f32⟩
  | 26 => ⟨S8x4096x4x128, .f32⟩
  | 27 => ⟨S8x4x4096x128, .f32⟩
  | 28 => ⟨S16, .i32⟩
  | 29 => ⟨S16x1, .i32⟩
  | 30 => ⟨S1x16, .i32⟩
  | 31 => ⟨S16x16, .i32⟩
  | 32 => ⟨S16x16, .i32⟩
  | 33 => ⟨S16x16, .i1⟩
  | 34 => ⟨S1x16x1x16x1, .i1⟩
  | 35 => ⟨S16x1, .i32⟩
  | 36 => ⟨S1x16, .i32⟩
  | 37 => ⟨S_, .i32⟩
  | 38 => ⟨S1x16, .i32⟩
  | 39 => ⟨S1x16, .i32⟩
  | 40 => ⟨S16x16, .i32⟩
  | 41 => ⟨S16x16, .i32⟩
  | 42 => ⟨S16x16, .i1⟩
  | 43 => ⟨S1x16x1x16x1, .i1⟩
  | 44 => ⟨S4x1x256x256, .f32⟩
  | 45 => ⟨S4x256x256, .f32⟩
  | 46 => ⟨S4x32x8x32x8, .f32⟩
  | 47 => ⟨S4x8x32x8x32, .f32⟩
  | 48 => ⟨S4x256x256, .f32⟩
  | 49 => ⟨S4x1x256x1x256, .f32⟩
  | 50 => ⟨S4x1x256x256, .f32⟩
  | 51 => ⟨S4x256x256, .f32⟩
  | 52 => ⟨S4x32x8x32x8, .f32⟩
  | 53 => ⟨S4x8x32x8x32, .f32⟩
  | 54 => ⟨S4x256x256, .f32⟩
  | 55 => ⟨S4x1x256x1x256, .f32⟩
  | 56 => ⟨S_, .f32⟩
  | 57 => ⟨S_, .f32⟩
  | 58 => ⟨S4x16x256x16x256, .i1⟩
  | 59 => ⟨S4x16x256x16x256, .f32⟩
  | 60 => ⟨S4x16x256x16x256, .f32⟩
  | 61 => ⟨S4x16x256x16x256, .f32⟩
  | 62 => ⟨S4x16x256x16x256, .i1⟩
  | 63 => ⟨S4x16x256x16x256, .f32⟩
  | 64 => ⟨S4x16x256x16x256, .f32⟩
  | 65 => ⟨S4x4096x4096, .f32⟩
  | 66 => ⟨S4096, .i32⟩
  | 67 => ⟨S4096x1, .i32⟩
  | 68 => ⟨S1x4096, .i32⟩
  | 69 => ⟨S4096x4096, .i32⟩
  | 70 => ⟨S4096x4096, .i32⟩
  | 71 => ⟨S4096x4096, .i32⟩
  | 72 => ⟨S_, .i32⟩
  | 73 => ⟨S4096x4096, .i32⟩
  | 74 => ⟨S4096x4096, .i1⟩
  | 75 => ⟨S8x4x2x4096x4096, .f32⟩
  | 76 => ⟨S1x4x1x4096x4096, .f32⟩
  | 77 => ⟨S8x4x2x4096x4096, .f32⟩
  | 78 => ⟨S8x4x2x4096x4096, .f32⟩
  | 79 => ⟨S_, .f32⟩
  | 80 => ⟨S_, .f32⟩
  | 81 => ⟨S8x4x2x4096x4096, .i1⟩
  | 82 => ⟨S8x4x2x4096x4096, .f32⟩
  | 83 => ⟨S8x4x2x4096x4096, .f32⟩
  | 84 => ⟨S_, .f32⟩
  | 85 => ⟨S8x4x2x4096, .f32⟩
  | 86 => ⟨S_, .f32⟩
  | 87 => ⟨S8x4x2x4096, .f32⟩
  | 88 => ⟨S8x4x2x4096, .f32⟩
  | 89 => ⟨S8x4x2x4096x1, .f32⟩
  | 90 => ⟨S8x4x2x4096x4096, .f32⟩
  | 91 => ⟨S8x4x2x4096x4096, .f32⟩
  | 92 => ⟨S8x4x2x4096x4096, .f32⟩
  | 93 => ⟨S_, .f32⟩
  | 94 => ⟨S8x4x2x4096, .f32⟩
  | 95 => ⟨S8x4x2x4096x1, .f32⟩
  | 96 => ⟨S8x4x2x4096x4096, .f32⟩
  | 97 => ⟨S8x4x2x4096x4096, .f32⟩
  | 98 => ⟨S8x4x1x4096x4096, .f32⟩
  | 99 => ⟨S8x4x4096x4096, .f32⟩
  | 100 => ⟨S_, .f32⟩
  | 101 => ⟨S8x4x1x4096x4096, .f32⟩
  | 102 => ⟨S8x4x4096x4096, .f32⟩
  | 103 => ⟨S8x4x4096x4096, .f32⟩
  | 104 => ⟨S8x4x4096x4096, .f32⟩
  | 105 => ⟨S8x4x4096x4096, .f32⟩
  | 106 => ⟨S8x4x4096x128, .f32⟩
  | 107 => ⟨S8x4096x4x128, .f32⟩
  | 108 => ⟨S8x4096x4x128, .f32⟩
  | 109 => ⟨S_, .f32⟩
  | 110 => ⟨S8x4096x4, .f32⟩
  | 111 => ⟨S8x4096x4x1, .f32⟩
  | 112 => ⟨S_, .f32⟩
  | 113 => ⟨S8x4096x4x1, .f32⟩
  | 114 => ⟨S8x4096x4x1, .f32⟩
  | 115 => ⟨S_, .f32⟩
  | 116 => ⟨S8x4096x4x1, .f32⟩
  | 117 => ⟨S8x4096x4x1, .f32⟩
  | 118 => ⟨S8x4096x4x1, .f32⟩
  | 119 => ⟨S8x4096x4x128, .f32⟩
  | 120 => ⟨S8x4096x4x128, .f32⟩
  | 121 => ⟨S1x1x1x128, .f32⟩
  | 122 => ⟨S8x4096x4x128, .f32⟩
  | 123 => ⟨S8x4096x4x128, .f32⟩
  | 124 => ⟨S_, .f32⟩
  | 125 => ⟨S8x4096x4x128, .f32⟩
  | 126 => ⟨S8x4096x4x128, .f32⟩
  | 127 => ⟨S8x4096x512, .f32⟩
  | _ => ⟨S8x16x512x256, .bf16⟩

abbrev hbmTy0_1 (i : Nat) : BufTy := match i % 128 with
  | 0 => ⟨S8x16x8x32x512, .f32⟩
  | 1 => ⟨S8x16x32x8x512, .f32⟩
  | 2 => ⟨S8x4096x512, .f32⟩
  | 3 => ⟨S8x4096x512, .bf16⟩
  | _ => ⟨S8x16x512x256, .bf16⟩

abbrev hbmTy (i : Nat) : BufTy := match i / 128 with
  | 0 => hbmTy0_0 i
  | 1 => hbmTy0_1 i
  | _ => ⟨S8x16x512x256, .bf16⟩

abbrev bufTy : (tb : Table) → Fin (tcTables nBuf tb) → BufTy
  | .hbm, ⟨i, _⟩ => hbmTy i
  | _, _ => ⟨S8x16x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_v49 : Ref sig .tc := ⟨.hbm, 61, rfl⟩
abbrev main_call1_v0 : Ref sig .tc := ⟨.hbm, 62, rfl⟩
abbrev main_call1_v1 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_0 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_1 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v64 : Ref sig .tc := ⟨.hbm, 83, rfl⟩
abbrev main_cst_2 : Ref sig .tc := ⟨.hbm, 84, rfl⟩
abbrev main_v65 : Ref sig .tc := ⟨.hbm, 85, rfl⟩
abbrev main_cst_3 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_4 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_5 : Ref sig .tc := ⟨.hbm, 109, rfl⟩
abbrev main_v87 : Ref sig .tc := ⟨.hbm, 110, rfl⟩
abbrev main_v88 : Ref sig .tc := ⟨.hbm, 111, rfl⟩
abbrev main_cst_6 : Ref sig .tc := ⟨.hbm, 112, rfl⟩
abbrev main_v89 : Ref sig .tc := ⟨.hbm, 113, rfl⟩
abbrev main_v90 : Ref sig .tc := ⟨.hbm, 114, rfl⟩
abbrev main_cst_7 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_8 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]
-- ==== Modulation.lean ====
abbrev S8x1024 : Shape := ⟨2, ![8, 1024]⟩
abbrev S1024x3072 : Shape := ⟨2, ![1024, 3072]⟩
abbrev S3072 : Shape := ⟨1, ![3072]⟩
abbrev S64 : Shape := ⟨1, ![64]⟩
abbrev S1x3072 : Shape := ⟨2, ![1, 3072]⟩
abbrev S1x64 : Shape := ⟨2, ![1, 64]⟩
abbrev S8x3072 : Shape := ⟨2, ![8, 3072]⟩
abbrev S1x128 : Shape := ⟨2, ![1, 128]⟩
abbrev S1024x512 : Shape := ⟨2, ![1024, 512]⟩
abbrev S1x512 : Shape := ⟨2, ![1, 512]⟩
abbrev S8x512 : Shape := ⟨2, ![8, 512]⟩
abbrev S1 : Shape := ⟨1, ![1]⟩
abbrev S1x1 : Shape := ⟨2, ![1, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S3072, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x3072, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S8x3072, .f32⟩
  | .hbm, ⟨13, _⟩ => ⟨S1x128, .f32⟩
  | .local _ .vmem, ⟨0, _⟩ => ⟨S8x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S8x512, .f32⟩
  | .local _ .vmem, ⟨10, _⟩ => ⟨S8x512, .f32⟩
  | .local _ .vmem, ⟨11, _⟩ => ⟨S1x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ModulationReferenceIdeal.lean ====
abbrev S8x1024 : Shape := ⟨2, ![8, 1024]⟩
abbrev S1024x3072 : Shape := ⟨2, ![1024, 3072]⟩
abbrev S3072 : Shape := ⟨1, ![3072]⟩
abbrev S64 : Shape := ⟨1, ![64]⟩
abbrev S_ : Shape := ⟨0, ![]⟩
abbrev S8x3072 : Shape := ⟨2, ![8, 3072]⟩
abbrev S1x3072 : Shape := ⟨2, ![1, 3072]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S3072, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x3072, .f32⟩
  | .hbm, ⟨17, _⟩ => ⟨S1x3072, .f32⟩
  | .hbm, ⟨18, _⟩ => ⟨S8x3072, .f32⟩
  | .hbm, ⟨19, _⟩ => ⟨S8x3072, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x128, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== Proof.Tile.lean ====
/-
  One tile of the stick-breaking attention kernel, written as functions of whole arrays: the score of every key of a
  block against every query of a block, the two sigmoids, the products of the keys' `keep` factors that lie further to
  the right, the weights, and what a tile does to the carried product and to the accumulator. Everything here holds for
  any float arithmetic; what the functions are at the ideal values is in the modules that import this one.
-/
module

public import proofs.«01_k».proof.Proof.Gen.KernelIdeal.Value

@[expose] public section

set_option maxRecDepth 16384

noncomputable section

namespace Cert.Sb

open Cert.KernelIdeal Cert.KernelIdeal.Gen Idealize.ShloMosaic Idealize.ShloMosaic.TcCoe Idealize.SL.Sem

variable {F : FTy → Type} [FloatOps F]

/-- The constant array at a 32-bit float word. -/
abbrev fill (s : Shape) (w : BitVec 32) : FVec F s .f32 := broadcast s (Scalar.ofBits .f32 w)

/-- The scores of a block of keys against a block of queries. -/
def score (kb : FVec F S256x128 .bf16) (q : FVec F S128x256 .bf16) : FVec F S256x256 .f32 :=
  matmul dot_S256x128_S128x256_S256x256_1_0_0_1_n_n none kb q (constant S256x256 .f32 0x00000000#32)

/-- `exp (-|z|)`. -/
def expNegAbs (z : FVec F S256x256 .f32) : FVec F S256x256 .f32 := exp (subf (fill S256x256 0x00000000#32) (absf z))

/-- `1 / (1 + exp (-|z|))`. -/
def recip (z : FVec F S256x256 .f32) : FVec F S256x256 .f32 :=
  divf (fill S256x256 0x3F800000#32) (addf (fill S256x256 0x3F800000#32) (expNegAbs z))

/-- Where the score is not negative. -/
def nonneg (z : FVec F S256x256 .f32) : IVec S256x256 1 := cmpf .oge z (fill S256x256 0x00000000#32)

/-- The sigmoid of the score, as the kernel computes it. -/
def betaOf (z : FVec F S256x256 .f32) : FVec F S256x256 .f32 := select (nonneg z) (recip z) (mulf (expNegAbs z) (recip z))

/-- The sigmoid of the negated score, as the kernel computes it. -/
def keepOf (z : FVec F S256x256 .f32) : FVec F S256x256 .f32 := select (nonneg z) (mulf (expNegAbs z) (recip z)) (recip z)

/-- Eight rows of a 256×256 array, from row `8 n` on. -/
theorem slices_rows (n : ℕ) (h : n < 32) : S256x256.Slices ![8 * n, 0] S8x256 :=
  ⟨rfl, fun a => match a with
    | ⟨0, _⟩ => by show 8 * n + 8 ≤ 256; omega
    | ⟨1, _⟩ => by show 0 + 256 ≤ 256; omega⟩

/-- Rows `8 n` to `8 n + 7`. -/
def rows (a : FVec F S256x256 .f32) (n : ℕ) (h : n < 32) : FVec F S8x256 .f32 :=
  extractStridedSlice S8x256 ![8 * n, 0] a (slices_rows n h)

/-- The product of the last `n` groups of eight rows, row by row. -/
def later (keep : FVec F S256x256 .f32) : (n : ℕ) → n ≤ 32 → FVec F S8x256 .f32
  | 0, _ => fill S8x256 0x3F800000#32
  | n + 1, h => mulf (later keep n (by omega)) (rows keep (31 - n) (by omega))

/-- One doubling step of the running product over the eight rows: row `s` takes in row `s + d` where there is one. -/
def step (d back : BitVec 32) (sub : IVec S8x256 32) (x : FVec F S8x256 .f32) : FVec F S8x256 .f32 :=
  select (cmpi .slt (addi sub (broadcast S8x256 d)) (broadcast S8x256 8#32))
    (mulf x (dynamicRotate 0 back none x rotates_S8x256_d0)) x

/-- The product over row `s` and all rows below it. -/
def suffix (sub : IVec S8x256 32) (x : FVec F S8x256 .f32) : FVec F S8x256 .f32 :=
  step 4#32 4#32 sub (step 2#32 6#32 sub (step 1#32 7#32 sub x))

/-- The row index of an 8×256 array. -/
abbrev subIota : IVec S8x256 32 := iota .tc S8x256 32 [0] iota_S8x256_d0_w32

/-- The suffix products of a tile's `keep` factors. -/
def suffixOf (keep : FVec F S256x256 .f32) : FVec F S8x256 .f32 := suffix subIota (later keep 32 le_rfl)

/-- The product over all rows strictly below row `s`, times the product carried in from the tiles to the right. -/
def scaleOf (keep : FVec F S256x256 .f32) (carry : FVec F S8x256 .f32) : FVec F S8x256 .f32 :=
  mulf (select (cmpi .slt (addi subIota (broadcast S8x256 1#32)) (broadcast S8x256 8#32))
    (dynamicRotate 0 7#32 none (suffixOf keep) rotates_S8x256_d0) (fill S8x256 0x3F800000#32)) carry

/-- The weights of rows `8 g` to `8 g + 7`. -/
def weightRows (beta keep : FVec F S256x256 .f32) (carry : FVec F S8x256 .f32) (g : Fin 32) : FVec F S8x256 .f32 :=
  mulf (rows beta g.val g.isLt) (mulf (later keep (31 - g.val) (by omega)) (scaleOf keep carry))

/-- Thirty-two groups of eight rows make 256 rows. -/
theorem concatenates_rows : ∀ f : Fin 32 → FVec F S8x256 .f32,
    Shape.Concatenates ((List.ofFn fun g : Fin 32 => (⟨S8x256, f g⟩ : (s : Shape) × (s.Idx → F .f32))).map (·.1)) S256x256 0 := by
  intro f
  have h : (List.ofFn fun g : Fin 32 => (⟨S8x256, f g⟩ : (s : Shape) × (s.Idx → F .f32))).map (·.1) = List.replicate 32 S8x256 := by
    rw [List.map_ofFn]; rfl
  rw [h]; decide

/-- The weights of a tile. -/
def weights (beta keep : FVec F S256x256 .f32) (carry : FVec F S8x256 .f32) : FVec F S256x256 .f32 :=
  concatenate S256x256 0 (List.ofFn fun g : Fin 32 => (⟨S8x256, weightRows beta keep carry g⟩ : (s : Shape) × (s.Idx → F .f32)))
    (concatenates_rows _)

/-- The carried product after a tile. -/
def carryNext (keep : FVec F S256x256 .f32) (carry : FVec F S8x256 .f32) : FVec F S8x256 .f32 :=
  mulf carry (broadcastTo S8x256 (shapeCast S1x256 (extractStridedSlice S1x256 ![0, 0] (suffixOf keep) slices_S8x256_o0_0_S1x256)
    shapeCasts_S1x256_S1x256) broadcasts_S1x256_S8x256)

/-- The accumulator after a tile. -/
def accNext (vh : FVec F S64x256 .bf16) (w : FVec F S256x256 .f32) (acc : FVec F S64x256 .f32) : FVec F S64x256 .f32 :=
  addf acc (matmul dot_S64x256_S256x256_S64x256_1_0_0_1_n_n none vh (truncf .bf16 w bitsLt_bf16_f32) (constant S64x256 .f32 0x00000000#32))

/-- A tile off the diagonal keeps every key. -/
def carryStep (z : FVec F S256x256 .f32) (c : Vec F S1x8x256 .f32) : FVec F S1x8x256 .f32 :=
  shapeCast S1x8x256 (carryNext (keepOf z) (shapeCast S8x256 c shapeCasts_S1x8x256_S8x256)) shapeCasts_S8x256_S1x8x256

/-- What a tile off the diagonal adds to the accumulator, given the carried product it finds. -/
def accStep (z : FVec F S256x256 .f32) (vh : FVec F S64x256 .bf16) (c : Vec F S1x8x256 .f32) (a : Vec F S1x64x256 .f32) : FVec F S1x64x256 .f32 :=
  shapeCast S1x64x256 (accNext vh (weights (betaOf z) (keepOf z) (shapeCast S8x256 c shapeCasts_S1x8x256_S8x256))
    (shapeCast S64x256 a shapeCasts_S1x64x256_S64x256)) shapeCasts_S64x256_S1x64x256

/-- The diagonal tile: keys that are not strictly before the query have weight zero and factor one. -/
def carryDiag (ok : IVec S256x256 1) (z : FVec F S256x256 .f32) (c : Vec F S1x8x256 .f32) : FVec F S1x8x256 .f32 :=
  shapeCast S1x8x256 (carryNext (select ok (keepOf z) (fill S256x256 0x3F800000#32)) (shapeCast S8x256 c shapeCasts_S1x8x256_S8x256))
    shapeCasts_S8x256_S1x8x256

/-- What the diagonal tile adds to the accumulator. -/
def accDiag (ok : IVec S256x256 1) (z : FVec F S256x256 .f32) (vh : FVec F S64x256 .bf16) (c : Vec F S1x8x256 .f32)
    (a : Vec F S1x64x256 .f32) : FVec F S1x64x256 .f32 :=
  shapeCast S1x64x256 (accNext vh (weights (select ok (betaOf z) (fill S256x256 0x00000000#32)) (select ok (keepOf z) (fill S256x256 0x3F800000#32))
    (shapeCast S8x256 c shapeCasts_S1x8x256_S8x256)) (shapeCast S64x256 a shapeCasts_S1x64x256_S64x256)) shapeCasts_S64x256_S1x64x256

/-- The first 64 rows of a block of values, the first head's. -/
def valLo (vb : FVec F S128x256 .bf16) : FVec F S64x256 .bf16 := extractStridedSlice S64x256 ![0, 0] vb slices_S128x256_o0_0_S64x256
/-- The last 64 rows of a block of values, the second head's. -/
def valHi (vb : FVec F S128x256 .bf16) : FVec F S64x256 .bf16 := extractStridedSlice S64x256 ![64, 0] vb slices_S128x256_o64_0_S64x256

end Cert.Sb

end
-- ==== Proof.TileValue.lean ====
/-
  The tile functions of `Tile` at one index, over the extended reals. Row `8 g + s` of a block holds token `32 s + g`;
  read by tokens, the kernel's running products are products over an interval of tokens.
-/
module

public import Idealize.ShloMosaic.Lib.ValueIdx
public import Idealize.ShloMosaic.Lib.MatmulPlain
public import Idealize.ShloMosaic.Lib.KernelVsHost
public import Idealize.ShloMosaic.Lib.IdealHost
public import proofs.«01_k».proof.Proof.Tile

public section

set_option maxRecDepth 16384

noncomputable section

namespace Cert.Sb

open Cert.KernelIdeal Cert.KernelIdeal.Gen Idealize.ShloMosaic Idealize.ShloMosaic.TcCoe Idealize.ShloMosaic.ValueIdx Idealize.SL.Sem
open Finset

/-- The row of a block that holds its token `t`. -/
@[expose] def pos (t : ℕ) : Fin 256 := ⟨t % 32 * 8 + t / 32 % 8, by omega⟩

/-- A column of a 256×256 array, read by tokens. -/
@[expose] def byTok (a : FVec Ideal S256x256 .f32) (col : Fin 256) (t : ℕ) : EReal := a (ix2 (pos t) col)

theorem rows_apply (a : FVec Ideal S256x256 .f32) (n : ℕ) (h : n < 32) (s : Fin 8) (col : Fin 256) :
    rows a n h (ix2 s col) = byTok a col (32 * s.val + n) := by
  have hs := s.isLt
  unfold rows byTok
  refine extractStridedSlice_apply _ _ _ _ _ fun b => ?_
  match b with
  | ⟨0, _⟩ => show (32 * s.val + n) % 32 * 8 + (32 * s.val + n) / 32 % 8 = 8 * n + s.val; omega
  | ⟨1, _⟩ => show col.val = 0 + col.val; omega

/-- The product of the last `n` groups of rows is a product over `n` consecutive tokens. -/
theorem later_apply (keep : FVec Ideal S256x256 .f32) (s : Fin 8) (col : Fin 256) : ∀ (n : ℕ) (h : n ≤ 32),
    later keep n h (ix2 s col) = ∏ t ∈ Ico (32 * s.val + 32 - n) (32 * s.val + 32), byTok keep col t
  | 0, _ => by
    rw [Nat.sub_zero, Ico_self, prod_empty]
    exact Ideal.ofBits_one_f32
  | n + 1, h => by
    have e : 32 * s.val + 32 - (n + 1) < 32 * s.val + 32 := by omega
    rw [prod_eq_prod_Ico_succ_bot e, show 32 * s.val + 32 - (n + 1) + 1 = 32 * s.val + 32 - n by omega, ← later_apply keep s col n (by omega),
      show 32 * s.val + 32 - (n + 1) = 32 * s.val + (31 - n) by omega, ← rows_apply keep (31 - n) (by omega), mul_comm]
    rfl

/-- The comparison `s + d < 8` on the row index. -/
theorem lt_eight : ∀ (d s : Fin 8), Scalar.select (α := Bool) (IntOp.cmpi .slt (IntOp.addi (BitVec.ofNat 32 s.val) (BitVec.ofNat 32 d.val)) 8#32) true false = decide (s.val + d.val < 8) := by
  decide +kernel

theorem cmp_eight (d s : Fin 8) {α : Type} (x y : α) :
    Scalar.select (IntOp.cmpi .slt (IntOp.addi (BitVec.ofNat 32 s.val) (BitVec.ofNat 32 d.val)) 8#32) x y = if s.val + d.val < 8 then x else y := by
  have h := lt_eight d s
  unfold Scalar.select at h ⊢
  by_cases hc : s.val + d.val < 8
  · rw [if_pos hc]
    rw [decide_eq_true hc] at h
    split_ifs at h ⊢ with h1
    · rfl
  · rw [if_neg hc]
    rw [decide_eq_false hc] at h
    split_ifs at h ⊢ with h1
    · rfl

/-- One doubling step at a row. -/
theorem step_apply (d : Fin 8) (x : FVec Ideal S8x256 .f32) (s : Fin 8) (col : Fin 256) :
    step (BitVec.ofNat 32 d.val) (BitVec.ofNat 32 (8 - d.val)) subIota x (ix2 s col)
      = if h : s.val + d.val < 8 then x (ix2 s col) * x (ix2 (⟨s.val + d.val, h⟩ : Fin 8) col) else x (ix2 s col) := by
  have hd := d.isLt
  have hs := s.isLt
  show Scalar.select (IntOp.cmpi .slt (IntOp.addi (BitVec.ofNat 32 (0 * 8 + s.val)) (BitVec.ofNat 32 d.val)) 8#32)
    (x (ix2 s col) * dynamicRotate 0 (BitVec.ofNat 32 (8 - d.val)) none x rotates_S8x256_d0 (ix2 s col)) (x (ix2 s col)) = _
  rw [Nat.zero_mul, Nat.zero_add, cmp_eight]
  by_cases h : s.val + d.val < 8
  · rw [if_pos h, dif_pos h]
    congr 1
    refine dynamicRotate_apply _ _ _ _ _ _ fun b => ?_
    match b with
    | ⟨0, _⟩ =>
      show s.val + d.val = (s.val + 8 - (BitVec.ofNat 32 (8 - d.val)).toNat % 8) % 8
      rw [BitVec.toNat_ofNat, Nat.mod_eq_of_lt (by omega : 8 - d.val < 2 ^ 32)]
      omega
    | ⟨1, _⟩ => rfl
  · rw [if_neg h, dif_neg h]

/-- A doubling step lengthens a product over the rows below by `d` rows. -/
theorem step_prod (κ : ℕ → EReal) (col : Fin 256) (d : Fin 8) (x : FVec Ideal S8x256 .f32)
    (hx : ∀ s : Fin 8, x (ix2 s col) = ∏ t ∈ Ico (32 * s.val) (min (32 * (s.val + d.val)) 256), κ t) (s : Fin 8) :
    step (BitVec.ofNat 32 d.val) (BitVec.ofNat 32 (8 - d.val)) subIota x (ix2 s col)
      = ∏ t ∈ Ico (32 * s.val) (min (32 * (s.val + (d.val + d.val))) 256), κ t := by
  have hs := s.isLt
  rw [step_apply]
  split_ifs with h
  · rw [hx, hx, show min (32 * (s.val + d.val)) 256 = 32 * (s.val + d.val) by omega]
    rw [show 32 * ((⟨s.val + d.val, h⟩ : Fin 8).val) = 32 * (s.val + d.val) from rfl,
      prod_Ico_consecutive κ (by omega) (by show 32 * (s.val + d.val) ≤ min (32 * ((s.val + d.val) + d.val)) 256; omega)]
    congr 2
    show min (32 * (s.val + d.val + d.val)) 256 = _
    rw [Nat.add_assoc]
  · rw [hx]
    congr 2
    omega

/-- The suffix products of a tile: over all tokens from the row's first one on. -/
theorem suffixOf_apply (keep : FVec Ideal S256x256 .f32) (s : Fin 8) (col : Fin 256) :
    suffixOf keep (ix2 s col) = ∏ t ∈ Ico (32 * s.val) 256, byTok keep col t := by
  have h1 : ∀ s : Fin 8, later keep 32 le_rfl (ix2 s col) = ∏ t ∈ Ico (32 * s.val) (min (32 * (s.val + (1 : Fin 8).val)) 256), byTok keep col t := by
    intro s
    have hs := s.isLt
    rw [later_apply]
    congr 2
    · omega
  have h2 := step_prod _ col 1 _ h1
  have h3 := step_prod _ col 2 _ h2
  have h4 := step_prod _ col 4 _ h3 s
  refine h4.trans ?_
  congr 2
  show min (32 * (s.val + (4 + 4))) 256 = 256
  omega

/-- The factor of row `s`: everything strictly below it, and what was carried in. -/
theorem scaleOf_apply (keep : FVec Ideal S256x256 .f32) (carry : FVec Ideal S8x256 .f32) (s : Fin 8) (col : Fin 256) :
    scaleOf keep carry (ix2 s col) = (∏ t ∈ Ico (32 * s.val + 32) 256, byTok keep col t) * carry (ix2 s col) := by
  have hs := s.isLt
  show Scalar.select (IntOp.cmpi .slt (IntOp.addi (BitVec.ofNat 32 (0 * 8 + s.val)) (BitVec.ofNat 32 (1 : Fin 8).val)) 8#32)
    (dynamicRotate 0 7#32 none (suffixOf keep) rotates_S8x256_d0 (ix2 s col)) (Ideal.ofBits .f32 0x3F800000#32) * carry (ix2 s col) = _
  rw [Nat.zero_mul, Nat.zero_add, cmp_eight, Ideal.ofBits_one_f32]
  congr 1
  split_ifs with h
  · have e : dynamicRotate 0 7#32 none (suffixOf keep) rotates_S8x256_d0 (ix2 s col) = suffixOf keep (ix2 (⟨s.val + 1, h⟩ : Fin 8) col) := by
      refine dynamicRotate_apply _ _ _ _ _ _ fun b => ?_
      match b with
      | ⟨0, _⟩ => show s.val + 1 = (s.val + 8 - 7 % 8) % 8; have : s.val + 1 < 8 := h; omega
      | ⟨1, _⟩ => rfl
    rw [e, suffixOf_apply]
    rfl
  · have : s.val + 1 < 8 → False := h
    rw [Ico_eq_empty (by omega), prod_empty]

/-- A tile's weight at a token: its own sigmoid, the `keep` factors of all later tokens of the tile, and the carried product. -/
theorem weights_apply (beta keep : FVec Ideal S256x256 .f32) (carry : FVec Ideal S8x256 .f32) (col : Fin 256) (C : EReal)
    (hC : ∀ s : Fin 8, carry (ix2 s col) = C) (t : ℕ) (ht : t < 256) :
    byTok (weights beta keep carry) col t = byTok beta col t * ((∏ t' ∈ Ico (t + 1) 256, byTok keep col t') * C) := by
  have h1 : byTok (weights beta keep carry) col t = weightRows beta keep carry ⟨t % 32, by omega⟩ (ix2 (⟨t / 32, by omega⟩ : Fin 8) col) := by
    unfold byTok weights
    refine concatenate_ofFn_apply (t := S256x256) (s₁ := S8x256) 0 (fun g => weightRows beta keep carry g) _ rfl 8 rfl _ _ ?_ _ ?_ fun b hb => ?_
    · show (t % 32 * 8 + t / 32 % 8) / 8 = t % 32; omega
    · show t / 32 = (t % 32 * 8 + t / 32 % 8) % 8; omega
    · match b with
      | ⟨0, _⟩ => exact absurd rfl hb
      | ⟨1, _⟩ => rfl
  rw [h1]
  show rows beta (t % 32) _ (ix2 (⟨t / 32, _⟩ : Fin 8) col) * (later keep (31 - t % 32) _ (ix2 (⟨t / 32, _⟩ : Fin 8) col) * scaleOf keep carry (ix2 (⟨t / 32, _⟩ : Fin 8) col)) = _
  rw [rows_apply, later_apply, scaleOf_apply, hC, ← mul_assoc (∏ t ∈ _, _)]
  show byTok beta col (32 * (t / 32) + t % 32) * ((∏ x ∈ Ico (32 * (t / 32) + 32 - (31 - t % 32)) (32 * (t / 32) + 32), byTok keep col x) * (∏ x ∈ Ico (32 * (t / 32) + 32) 256, byTok keep col x) * C) = _
  rw [prod_Ico_consecutive _ (by omega) (by omega), show 32 * (t / 32) + t % 32 = t by omega, show 32 * (t / 32) + 32 - (31 - t % 32) = t + 1 by omega]

/-- The carried product after a tile. -/
theorem carryNext_apply (keep : FVec Ideal S256x256 .f32) (carry : FVec Ideal S8x256 .f32) (s : Fin 8) (col : Fin 256) :
    carryNext keep carry (ix2 s col) = carry (ix2 s col) * ∏ t ∈ Ico 0 256, byTok keep col t := by
  unfold carryNext
  show carry (ix2 s col) * broadcastTo S8x256 _ broadcasts_S1x256_S8x256 (ix2 s col) = _
  congr 1
  rw [broadcastTo_apply _ _ _ (ix2 (0 : Fin 1) col) (fun b => by
    match b with
    | ⟨0, _⟩ => rfl
    | ⟨1, _⟩ => rfl)]
  rw [shapeCast_apply _ _ _ (ix2 (0 : Fin 1) col) rfl,
    extractStridedSlice_apply _ _ _ _ (ix2 (0 : Fin 8) col) (fun b => by
    match b with
    | ⟨0, _⟩ => rfl
    | ⟨1, _⟩ => show col.val = 0 + col.val; omega)]
  exact suffixOf_apply keep 0 col

/-- The rows of a block, listed by token, are all its rows. -/
theorem sum_rows (f : Fin 256 → EReal) : ∑ r : Fin 256, f r = ∑ t ∈ range 256, f (pos t) := by
  rw [← Fin.sum_univ_eq_sum_range (fun t => f (pos t)) 256]
  refine (Fintype.sum_bijective (fun t : Fin 256 => pos t.val) ?_ _ _ fun t => rfl).symm
  rw [Fintype.bijective_iff_injective_and_card]
  refine ⟨fun a b h => ?_, rfl⟩
  have h' : a.val % 32 * 8 + a.val / 32 % 8 = b.val % 32 * 8 + b.val / 32 % 8 := congrArg Fin.val h
  have ha := a.isLt
  have hb := b.isLt
  apply Fin.ext
  omega

/-- What a tile adds to the accumulator. -/
theorem accNext_apply (vh : FVec Ideal S64x256 .bf16) (w : FVec Ideal S256x256 .f32) (acc : FVec Ideal S64x256 .f32) (d : Fin 64) (col : Fin 256) :
    accNext vh w acc (ix2 d col) = acc (ix2 d col) + ∑ t ∈ range 256, vh (ix2 d (pos t)) * byTok w col t := by
  show acc (ix2 d col) + matmul dot_S64x256_S256x256_S64x256_1_0_0_1_n_n none vh (truncf .bf16 w bitsLt_bf16_f32) (constant S64x256 .f32 0x00000000#32) (ix2 d col) = _
  congr 1
  have h := Ideal.matmul_plain_apply (M := 64) (K := 256) (N := 256) none vh (truncf .bf16 w bitsLt_bf16_f32) (constant S64x256 .f32 0x00000000#32) d col
  refine h.trans ?_
  show Ideal.ofBits .f32 0x00000000#32 + _ = _
  rw [Ideal.ofBits_zero_f32, zero_add, sum_rows]
  rfl

end Cert.Sb

end
-- ==== Proof.Chain.lean ====
/-
  The run of one grid point of the stick-breaking attention kernel, read as a chain of tiles: the two scratch arrays
  after the diagonal tile and after each trip of the loop over the blocks to the left are the tile functions of
  `Tile`, applied one after another.
-/
module

public import Idealize.ShloMosaic.Lib.WritesUnit
public import Idealize.ShloMosaic.Lib.ValueIdx
public import proofs.«01_k».proof.Proof.Tile

public section

set_option maxRecDepth 65536

noncomputable section

namespace Cert.Sb

open Cert.KernelIdeal Cert.KernelIdeal.Gen Idealize.ShloMosaic Idealize.ShloMosaic.TcCoe Idealize.ShloMosaic.ValueIdx Idealize.SL.Sem

variable {F : FTy → Type} [FloatOps F]

/-! ## Loads from the two scratch arrays after a list of stores -/

/-- The part of the accumulator scratch that belongs to head `0` of the pair. -/
abbrev accR0 : Rect S2x64x256 := Rect.unit ![0, 0, 0] S1x64x256.size inb_S2x64x256_S1x64x256_0_0_0
/-- The part of the accumulator scratch that belongs to head `1` of the pair. -/
abbrev accR1 : Rect S2x64x256 := Rect.unit ![1, 0, 0] S1x64x256.size inb_S2x64x256_S1x64x256_1_0_0
/-- The part of the carry scratch that belongs to head `0` of the pair. -/
abbrev carR0 : Rect S2x8x256 := Rect.unit ![0, 0, 0] S1x8x256.size inb_S2x8x256_S1x8x256_0_0_0
/-- The part of the carry scratch that belongs to head `1` of the pair. -/
abbrev carR1 : Rect S2x8x256 := Rect.unit ![1, 0, 0] S1x8x256.size inb_S2x8x256_S1x8x256_1_0_0

/-- A load just after a store through the same rectangle finds the stored array. -/
theorem load_hit {s : Shape} {e : EltTy} (v : View sig .tc .vmem s e) (f : v.ty.Contents (Elt F)) (off size : Fin s.rank → ℕ)
    (inb : ∀ a, off a + size a ≤ s.size a) (w : (Rect.unit off size inb).shape.Idx → Elt F e) (L : List (View.Piece (Elt F) s e)) :
    v.readAt (Elt F) (Rect.unit off size inb).toLoadRect (v.writes (Elt F) f (⟨Rect.unit off size inb, w⟩ :: L)) = w := by
  funext x
  rw [View.readAt_apply]
  exact View.read_writes_cons_unit_of_mem v f inb w L _ x rfl fun a => by
    show off a + 1 * (x a).val = _; rw [Nat.one_mul]

/-- A load from a rectangle that a store does not meet finds what was there before it. -/
theorem load_miss {s : Shape} {e : EltTy} (v : View sig .tc .vmem s e) (f : v.ty.Contents (Elt F)) (off size off' size' : Fin s.rank → ℕ)
    (inb : ∀ a, off a + size a ≤ s.size a) (inb' : ∀ a, off' a + size' a ≤ s.size a)
    (w : (Rect.unit off' size' inb').shape.Idx → Elt F e) (L : List (View.Piece (Elt F) s e)) (a : Fin s.rank)
    (h : off a + size a ≤ off' a ∨ off' a + size' a ≤ off a) :
    v.readAt (Elt F) (Rect.unit off size inb).toLoadRect (v.writes (Elt F) f (⟨Rect.unit off' size' inb', w⟩ :: L))
      = v.readAt (Elt F) (Rect.unit off size inb).toLoadRect (v.writes (Elt F) f L) := by
  funext x
  rw [View.readAt_apply, View.readAt_apply]
  refine View.read_writes_cons_unit_of_not_mem v f inb' w L _ rfl a ?_
  have hx : (x a).val < size a := (x a).isLt
  show off a + 1 * (x a).val < off' a ∨ off' a + size' a ≤ off a + 1 * (x a).val
  omega

/-! ## One trip of the loop -/

section Trip

variable (c : Dev nD) (i : grid0.Coords) (arg3 : Memref sig .tc .vmem S1x1x128x256 .bf16) (harg3 : arg3.IsWhole) (arg4 : Memref sig .tc .vmem S1x4096x128 .bf16) (harg4 : arg4.IsWhole)
  (arg5 : Memref sig .tc .vmem S1x16x128x256 .bf16) (harg5 : arg5.IsWhole) (arg6 : Memref sig .tc .vmem S1x256x128 .bf16) (harg6 : arg6.IsWhole)
  (arg7 : Memref sig .tc .vmem S2x64x256 .f32) (harg7 : arg7.IsWhole) (arg8 : Memref sig .tc .vmem S2x8x256 .f32) (harg8 : arg8.IsWhole)
  (arg2 : BitVec 32) (v6 v9 : FVec F S128x256 .bf16) (v115 : FVec F S128x256 .bf16) (v358 : FVec F S256x256 .f32)
  (v361 v363 v446 v455 v456 v459 v462 v465 v468 v471 v474 v477 v480 v483 v486 v489 v492 v495 v498 v501 v504 v507 v510 v513 v516 v519 v522 v525 v528 v531 v534 v537 v540 v543 v544 v545 : FVec F S8x256 .f32)
  (X4 : BufTy.Contents (Elt F) arg4.view.ty) (X5 : BufTy.Contents (Elt F) arg5.view.ty)
  (k : Fin (k0_t1_loop i).trips) (f7 : BufTy.Contents (Elt F) arg7.view.ty) (f8 : BufTy.Contents (Elt F) arg8.view.ty)

/-- The block of keys a trip loads. -/
abbrev tripKeys : FVec F S256x128 .bf16 :=
  k0_pay333 (arg4.view.readAt (Elt F) (Rect.unit (s := S1x4096x128) (k0_off3 i k) S1x256x128.size (k0_off3_inb i k)).toLoadRect X4)

/-- The block of values a trip loads. -/
abbrev tripVals : FVec F S128x256 .bf16 :=
  k0_pay334 (arg5.view.readAt (Elt F) (Rect.unit (s := S1x16x128x256) (k0_off4 i k) S1x1x128x256.size (k0_off4_inb i k)).toLoadRect X5)

/-- A trip stores, for each head of the pair, the accumulator one tile further. -/
theorem trip_acc :
    (trip_k0_t1 (F := F) Variants.none c none i arg3 harg3 arg4 harg4 arg5 harg5 arg6 harg6 arg7 harg7 arg8 harg8 arg2 v6 v9 kernelRun0_A.sl.v18 v115 v358 v361 v363 v446 v455 v456 v459 v462 v465 v468 v471 v474 v477 v480 v483 v486 v489 v492 v495 v498 v501 v504 v507 v510 v513 v516 v519 v522 v525 v528 v531 v534 v537 v540 v543 v544 v545 X4 X5 k).1 f7 f8
      = [⟨accR1, accStep (score (tripKeys i arg4 X4 k) v9) (valHi (tripVals i arg5 X5 k)) (arg8.view.readAt (Elt F) carR1.toLoadRect f8) (arg7.view.readAt (Elt F) accR1.toLoadRect f7)⟩,
         ⟨accR0, accStep (score (tripKeys i arg4 X4 k) v6) (valLo (tripVals i arg5 X5 k)) (arg8.view.readAt (Elt F) carR0.toLoadRect f8) (arg7.view.readAt (Elt F) accR0.toLoadRect f7)⟩] := by
  unfold trip_k0_t1
  with_unfolding_all rfl

/-- A trip stores, for each head of the pair, the carried product one tile further. -/
theorem trip_carry :
    (trip_k0_t1 (F := F) Variants.none c none i arg3 harg3 arg4 harg4 arg5 harg5 arg6 harg6 arg7 harg7 arg8 harg8 arg2 v6 v9 kernelRun0_A.sl.v18 v115 v358 v361 v363 v446 v455 v456 v459 v462 v465 v468 v471 v474 v477 v480 v483 v486 v489 v492 v495 v498 v501 v504 v507 v510 v513 v516 v519 v522 v525 v528 v531 v534 v537 v540 v543 v544 v545 X4 X5 k).2.1 f7 f8
      = [⟨carR1, carryStep (score (tripKeys i arg4 X4 k) v9) (arg8.view.readAt (Elt F) carR1.toLoadRect f8)⟩,
         ⟨carR0, carryStep (score (tripKeys i arg4 X4 k) v6) (arg8.view.readAt (Elt F) carR0.toLoadRect f8)⟩] := by
  unfold trip_k0_t1
  with_unfolding_all rfl

end Trip

/-! ## The chain of tiles -/

/-- The carried product after `k` tiles with the scores `z`. -/
@[expose] def chainC (z : ℕ → FVec F S256x256 .f32) (c : Vec F S1x8x256 .f32) : ℕ → Vec F S1x8x256 .f32
  | 0 => c
  | k + 1 => carryStep (z k) (chainC z c k)

/-- The accumulator after `k` tiles with the scores `z` and the values `vh`. -/
@[expose] def chainA (z : ℕ → FVec F S256x256 .f32) (vh : ℕ → FVec F S64x256 .bf16) (c : Vec F S1x8x256 .f32) (a : Vec F S1x64x256 .f32) : ℕ → Vec F S1x64x256 .f32
  | 0 => a
  | k + 1 => accStep (z k) (vh k) (chainC z c k) (chainA z vh c a k)

/-- A list of stores built trip by trip, each trip moving both heads one tile further, leaves the chain. -/
theorem chain_of_trips (n : ℕ) (arg7 : Memref sig .tc .vmem S2x64x256 .f32) (arg8 : Memref sig .tc .vmem S2x8x256 .f32)
    (G7 : BufTy.Contents (Elt F) arg7.view.ty) (G8 : BufTy.Contents (Elt F) arg8.view.ty)
    (pb : ℕ → List (View.Piece (Elt F) S2x64x256 .f32) × List (View.Piece (Elt F) S2x8x256 .f32))
    (z0 z1 : ℕ → FVec F S256x256 .f32) (v0 v1 : ℕ → FVec F S64x256 .bf16)
    (h0 : pb 0 = ([], []))
    (h7 : ∀ k < n, (pb (k + 1)).1 =
      [⟨accR1, accStep (z1 k) (v1 k) (arg8.view.readAt (Elt F) carR1.toLoadRect (arg8.view.writes (Elt F) G8 (pb k).2)) (arg7.view.readAt (Elt F) accR1.toLoadRect (arg7.view.writes (Elt F) G7 (pb k).1))⟩,
       ⟨accR0, accStep (z0 k) (v0 k) (arg8.view.readAt (Elt F) carR0.toLoadRect (arg8.view.writes (Elt F) G8 (pb k).2)) (arg7.view.readAt (Elt F) accR0.toLoadRect (arg7.view.writes (Elt F) G7 (pb k).1))⟩] ++ (pb k).1)
    (h8 : ∀ k < n, (pb (k + 1)).2 =
      [⟨carR1, carryStep (z1 k) (arg8.view.readAt (Elt F) carR1.toLoadRect (arg8.view.writes (Elt F) G8 (pb k).2))⟩,
       ⟨carR0, carryStep (z0 k) (arg8.view.readAt (Elt F) carR0.toLoadRect (arg8.view.writes (Elt F) G8 (pb k).2))⟩] ++ (pb k).2) :
    ∀ k ≤ n,
      arg8.view.readAt (Elt F) carR0.toLoadRect (arg8.view.writes (Elt F) G8 (pb k).2) = chainC z0 (arg8.view.readAt (Elt F) carR0.toLoadRect G8) k
      ∧ arg8.view.readAt (Elt F) carR1.toLoadRect (arg8.view.writes (Elt F) G8 (pb k).2) = chainC z1 (arg8.view.readAt (Elt F) carR1.toLoadRect G8) k
      ∧ arg7.view.readAt (Elt F) accR0.toLoadRect (arg7.view.writes (Elt F) G7 (pb k).1) = chainA z0 v0 (arg8.view.readAt (Elt F) carR0.toLoadRect G8) (arg7.view.readAt (Elt F) accR0.toLoadRect G7) k
      ∧ arg7.view.readAt (Elt F) accR1.toLoadRect (arg7.view.writes (Elt F) G7 (pb k).1) = chainA z1 v1 (arg8.view.readAt (Elt F) carR1.toLoadRect G8) (arg7.view.readAt (Elt F) accR1.toLoadRect G7) k := by
  intro k
  induction k with
  | zero => intro _; rw [h0]; exact ⟨rfl, rfl, rfl, rfl⟩
  | succ k ih =>
    intro hk
    obtain ⟨i1, i2, i3, i4⟩ := ih (by omega)
    rw [h7 k (by omega), h8 k (by omega)]
    simp only [List.cons_append, List.nil_append]
    refine ⟨?_, ?_, ?_, ?_⟩
    · rw [load_miss arg8.view _ _ _ _ _ _ _ _ _ 0 (Or.inl (by decide)), load_hit, i1]; rfl
    · rw [load_hit, i2]; rfl
    · rw [load_miss arg7.view _ _ _ _ _ _ _ _ _ 0 (Or.inl (by decide)), load_hit, i1, i3]; rfl
    · rw [load_hit, i2, i4]; rfl

/-! ## The whole run of a grid point -/

section Run

variable (c : Dev nD) (i : grid0.Coords) (arg3 : Memref sig .tc .vmem S1x1x128x256 .bf16) (harg3 : arg3.IsWhole) (arg4 : Memref sig .tc .vmem S1x4096x128 .bf16) (harg4 : arg4.IsWhole)
  (arg5 : Memref sig .tc .vmem S1x16x128x256 .bf16) (harg5 : arg5.IsWhole) (arg6 : Memref sig .tc .vmem S1x256x128 .bf16) (harg6 : arg6.IsWhole)
  (arg7 : Memref sig .tc .vmem S2x64x256 .f32) (harg7 : arg7.IsWhole) (arg8 : Memref sig .tc .vmem S2x8x256 .f32) (harg8 : arg8.IsWhole)
  (x0 : Vec F S1x1x128x256 .bf16) (x1 : Vec F S1x4096x128 .bf16) (x2 : Vec F S1x16x128x256 .bf16)

/-- Which keys of the diagonal block lie strictly before which queries. -/
abbrev okDiag : IVec S256x256 1 := k0_pay332 kernelRun0_A.sl.v20 kernelRun0_A.sl.r_2 (k0_pay331 kernelRun0_A.sl.v20)

/-- The block of keys of the diagonal tile. -/
abbrev diagKeys : FVec F S256x128 .bf16 :=
  k0_pay333 (arg4.view.readAt (Elt F) (Rect.unit (s := S1x4096x128) (k0_off1 i) S1x256x128.size (k0_off1_inb i)).toLoadRect (harg4.unread x1))
/-- The block of values of the diagonal tile. -/
abbrev diagVals : FVec F S128x256 .bf16 :=
  k0_pay334 (arg5.view.readAt (Elt F) (Rect.unit (s := S1x16x128x256) (k0_off2 i) S1x1x128x256.size (k0_off2_inb i)).toLoadRect (harg5.unread x2))
/-- The queries, with the rows of the second head set to zero. -/
abbrev query0 : FVec F S128x256 .bf16 := kernelRun0_A.sl.r c arg3 harg3 x0
/-- The queries, with the rows of the first head set to zero. -/
abbrev query1 : FVec F S128x256 .bf16 := kernelRun0_A.sl.r_1 c arg3 harg3 x0

theorem diag_carry0 : k0_pay400 (kernelRun0_A.sl.r_42 c i arg3 harg3 arg4 harg4 x0 x1) (kernelRun0_A.sl.r_44 (F := F) c arg8)
    = carryDiag okDiag (score (diagKeys i arg4 harg4 x1) (query0 c arg3 harg3 x0)) (kernelRun0_A.sl.v227 c arg8) := by
  with_unfolding_all rfl

theorem diag_acc0 : k0_pay402 (kernelRun0_A.sl.r_64 c i arg3 harg3 arg4 harg4 arg8 x0 x1) (kernelRun0_A.sl.r_65 c i arg5 harg5 x2) (kernelRun0_A.sl.v335 (F := F) c arg7)
    = accDiag okDiag (score (diagKeys i arg4 harg4 x1) (query0 c arg3 harg3 x0)) (valLo (diagVals i arg5 harg5 x2)) (kernelRun0_A.sl.v227 c arg8) (kernelRun0_A.sl.v335 c arg7) := by
  with_unfolding_all rfl

/-- The stores into the carry scratch before the loop. -/
theorem stores8 : kernelRun0_A.sl.HS1_3 c i arg3 harg3 arg4 harg4 arg8 x0 x1
    = [⟨carR1, carryDiag okDiag (score (diagKeys i arg4 harg4 x1) (query1 c arg3 harg3 x0)) (kernelRun0_A.sl.v454 c i arg3 harg3 arg4 harg4 arg8 x0 x1)⟩,
       ⟨carR0, carryDiag okDiag (score (diagKeys i arg4 harg4 x1) (query0 c arg3 harg3 x0)) (kernelRun0_A.sl.v227 c arg8)⟩] ++ kernelRun0_A.sl.HS1_1 := by
  with_unfolding_all rfl

/-- The stores into the accumulator scratch before the loop. -/
theorem stores7 : kernelRun0_A.sl.HS0_3 c i arg3 harg3 arg4 harg4 arg5 harg5 arg7 arg8 x0 x1 x2
    = [⟨accR1, accDiag okDiag (score (diagKeys i arg4 harg4 x1) (query1 c arg3 harg3 x0)) (valHi (diagVals i arg5 harg5 x2)) (kernelRun0_A.sl.v454 c i arg3 harg3 arg4 harg4 arg8 x0 x1)
         (kernelRun0_A.sl.v562 c i arg3 harg3 arg4 harg4 arg5 harg5 arg7 arg8 x0 x1 x2)⟩,
       ⟨accR0, accDiag okDiag (score (diagKeys i arg4 harg4 x1) (query0 c arg3 harg3 x0)) (valLo (diagVals i arg5 harg5 x2)) (kernelRun0_A.sl.v227 c arg8) (kernelRun0_A.sl.v335 c arg7)⟩] ++ kernelRun0_A.sl.HS0_1 := by
  with_unfolding_all rfl

/-! ### The blocks a grid point loads, by their number -/

/-- Block `n` of the keys. -/
@[expose] def keyBlk (x1 : Vec F S1x4096x128 .bf16) (n : ℕ) : FVec F S256x128 .bf16 :=
  k0_pay333 fun j : S1x256x128.Idx => x1 (ix3 (0 : Fin 1) ⟨(256 * n + (j 1).val) % 4096, Nat.mod_lt _ (by decide)⟩ (⟨(j 2).val, (j 2).isLt⟩ : Fin 128))

/-- Block `n` of the values. -/
@[expose] def valBlk (x2 : Vec F S1x16x128x256 .bf16) (n : ℕ) : FVec F S128x256 .bf16 :=
  k0_pay334 fun j : S1x1x128x256.Idx => x2 (ix4 (0 : Fin 1) ⟨n % 16, Nat.mod_lt _ (by decide)⟩ (⟨(j 2).val, (j 2).isLt⟩ : Fin 128) (⟨(j 3).val, (j 3).isLt⟩ : Fin 256))

theorem word_keys : ∀ a : Fin 16, (Scalar.indexCast (Scalar.muli (BitVec.ofNat 32 a.val) 256#32)).toNat = 256 * a.val := by
  decide +kernel
theorem word_vals : ∀ a : Fin 16, (Scalar.indexCast (BitVec.ofNat 32 a.val)).toNat = a.val := by
  decide +kernel
theorem word_trip_keys : ∀ a k : Fin 16, k.val < a.val →
    (Scalar.indexCast (Scalar.muli (Scalar.subi (Scalar.subi (BitVec.ofNat 32 a.val) 1#32) (Scf.iv 0#32 1#32 k.val)) 256#32)).toNat = 256 * (a.val - 1 - k.val) := by
  decide +kernel
theorem word_trip_vals : ∀ a k : Fin 16, k.val < a.val →
    (Scalar.indexCast (Scalar.subi (Scalar.subi (BitVec.ofNat 32 a.val) 1#32) (Scf.iv 0#32 1#32 k.val))).toNat = a.val - 1 - k.val := by
  decide +kernel
theorem word_trips : ∀ a : Fin 16, Scf.trips (0#32) (Scalar.addi 0#32 (Scalar.muli (Scalar.divsi (Scalar.subi (BitVec.ofNat 32 a.val) 0#32) 1#32) 1#32)) 1#32 = a.val := by
  decide +kernel
theorem word_rest : ∀ a : Fin 16, Scf.trips (Scalar.addi 0#32 (Scalar.muli (Scalar.divsi (Scalar.subi (BitVec.ofNat 32 a.val) 0#32) 1#32) 1#32))
    (Scalar.addi 0#32 (Scalar.subi (BitVec.ofNat 32 a.val) 0#32)) 1#32 = 0 := by
  decide +kernel

/-- The number of a grid point's query block. -/
abbrev qblk (i : grid0.Coords) : Fin 16 := i 2

/-- The loop makes as many trips as there are blocks to the left. -/
theorem trips_eq (i : grid0.Coords) : Scf.trips (k0_t1_loop i).lb (k0_t1_loop i).ub (k0_t1_loop i).st = (qblk i).val := word_trips (qblk i)
/-- The remainder loop makes no trip. -/
theorem rest_eq (i : grid0.Coords) : Scf.trips (k0_t2_loop i).lb (k0_t2_loop i).ub (k0_t2_loop i).st = 0 := word_rest (qblk i)

theorem diagKeys_eq : diagKeys i arg4 harg4 x1 = keyBlk x1 (qblk i).val := by
  unfold diagKeys keyBlk
  congr 1
  funext j
  rw [View.readAt_apply, harg4.read_unread]
  congr 1
  have h := word_keys (qblk i)
  have hj : (j 1).val < 256 := (j 1).isLt
  funext a
  apply Fin.ext
  match a with
  | ⟨0, _⟩ => show 0 + 1 * (j 0).val = 0; have : (j 0).val < 1 := (j 0).isLt; omega
  | ⟨1, _⟩ =>
    show (Scalar.indexCast (Scalar.muli (BitVec.ofNat 32 (qblk i).val) 256#32)).toNat + 1 * (j 1).val = (256 * (qblk i).val + (j 1).val) % 4096
    rw [h]; omega
  | ⟨2, _⟩ => show 0 + 1 * (j 2).val = (j 2).val; omega

theorem diagVals_eq : diagVals i arg5 harg5 x2 = valBlk x2 (qblk i).val := by
  unfold diagVals valBlk
  congr 1
  funext j
  rw [View.readAt_apply, harg5.read_unread]
  congr 1
  have h := word_vals (qblk i)
  have hj : (j 1).val < 1 := (j 1).isLt
  funext a
  apply Fin.ext
  match a with
  | ⟨0, _⟩ => show 0 + 1 * (j 0).val = 0; have : (j 0).val < 1 := (j 0).isLt; omega
  | ⟨1, _⟩ =>
    show (Scalar.indexCast (BitVec.ofNat 32 (qblk i).val)).toNat + 1 * (j 1).val = (qblk i).val % 16
    rw [h]; omega
  | ⟨2, _⟩ => show 0 + 1 * (j 2).val = (j 2).val; omega
  | ⟨3, _⟩ => show 0 + 1 * (j 3).val = (j 3).val; omega

theorem tripKeys_eq (k : Fin (k0_t1_loop i).trips) : tripKeys i arg4 (harg4.unread x1) k = keyBlk x1 ((qblk i).val - 1 - k.val) := by
  have hk : k.val < (qblk i).val := lt_of_lt_of_eq k.isLt (trips_eq i)
  unfold tripKeys keyBlk
  congr 1
  funext j
  rw [View.readAt_apply, harg4.read_unread]
  congr 1
  have h := word_trip_keys (qblk i) ⟨k.val, by omega⟩ hk
  have hj : (j 1).val < 256 := (j 1).isLt
  funext a
  apply Fin.ext
  match a with
  | ⟨0, _⟩ => show 0 + 1 * (j 0).val = 0; have : (j 0).val < 1 := (j 0).isLt; omega
  | ⟨1, _⟩ =>
    show (Scalar.indexCast (Scalar.muli (Scalar.subi (Scalar.subi (BitVec.ofNat 32 (qblk i).val) 1#32) (Scf.iv 0#32 1#32 k.val)) 256#32)).toNat + 1 * (j 1).val = (256 * ((qblk i).val - 1 - k.val) + (j 1).val) % 4096
    rw [h]; show 256 * ((qblk i).val - 1 - k.val) + _ = _; omega
  | ⟨2, _⟩ => show 0 + 1 * (j 2).val = (j 2).val; omega

theorem tripVals_eq (k : Fin (k0_t1_loop i).trips) : tripVals i arg5 (harg5.unread x2) k = valBlk x2 ((qblk i).val - 1 - k.val) := by
  have hk : k.val < (qblk i).val := lt_of_lt_of_eq k.isLt (trips_eq i)
  unfold tripVals valBlk
  congr 1
  funext j
  rw [View.readAt_apply, harg5.read_unread]
  congr 1
  have h := word_trip_vals (qblk i) ⟨k.val, by omega⟩ hk
  have hj : (j 1).val < 1 := (j 1).isLt
  funext a
  apply Fin.ext
  match a with
  | ⟨0, _⟩ => show 0 + 1 * (j 0).val = 0; have : (j 0).val < 1 := (j 0).isLt; omega
  | ⟨1, _⟩ =>
    show (Scalar.indexCast (Scalar.subi (Scalar.subi (BitVec.ofNat 32 (qblk i).val) 1#32) (Scf.iv 0#32 1#32 k.val))).toNat + 1 * (j 1).val = ((qblk i).val - 1 - k.val) % 16
    rw [h]; show (qblk i).val - 1 - k.val + _ = _; omega
  | ⟨2, _⟩ => show 0 + 1 * (j 2).val = (j 2).val; omega
  | ⟨3, _⟩ => show 0 + 1 * (j 3).val = (j 3).val; omega

/-! ### The first tile's accumulator and carried product -/

/-- A load after one store of the whole array reads that array. -/
theorem load_whole {s : Shape} {e : EltTy} (v : View sig .tc .vmem s e) (f : v.ty.Contents (Elt F)) (off : Fin s.rank → ℕ)
    (inb : ∀ a, off a + s.size a ≤ s.size a) (w : s.Idx → Elt F e) (r : LoadRect s) :
    v.readAt (Elt F) r (v.writes (Elt F) f [⟨Rect.unit off s.size inb, w⟩]) = fun x => w (r.idx x) := by
  funext x
  rw [View.readAt_apply]
  exact View.read_writes_cons_unit_of_mem v f inb w [] _ (r.idx x) rfl fun a => by have := inb a; omega

theorem zero0 : kernelRun0_A.sl.v335 (F := F) c arg7 = fill S1x64x256 0x00000000#32 := load_whole arg7.view arg7.view.junk ![0, 0, 0] inb_S2x64x256_S2x64x256_0_0_0 k0_pay326 accR0.toLoadRect

theorem one0 : kernelRun0_A.sl.v227 (F := F) c arg8 = fill S1x8x256 0x3F800000#32 := load_whole arg8.view arg8.view.junk ![0, 0, 0] inb_S2x8x256_S2x8x256_0_0_0 k0_pay327 carR0.toLoadRect

theorem one1 : kernelRun0_A.sl.v454 c i arg3 harg3 arg4 harg4 arg8 x0 x1 = fill S1x8x256 0x3F800000#32 := by
  refine (load_miss (F := F) arg8.view arg8.view.junk ![1, 0, 0] S1x8x256.size ![0, 0, 0] S1x8x256.size inb_S2x8x256_S1x8x256_1_0_0 inb_S2x8x256_S1x8x256_0_0_0 _ kernelRun0_A.sl.HS1_1 0 (Or.inr (by decide))).trans ?_
  exact load_whole arg8.view arg8.view.junk ![0, 0, 0] inb_S2x8x256_S2x8x256_0_0_0 k0_pay327 carR1.toLoadRect

theorem zero1 : kernelRun0_A.sl.v562 c i arg3 harg3 arg4 harg4 arg5 harg5 arg7 arg8 x0 x1 x2 = fill S1x64x256 0x00000000#32 := by
  refine (load_miss (F := F) arg7.view arg7.view.junk ![1, 0, 0] S1x64x256.size ![0, 0, 0] S1x64x256.size inb_S2x64x256_S1x64x256_1_0_0 inb_S2x64x256_S1x64x256_0_0_0 _ kernelRun0_A.sl.HS0_1 0 (Or.inr (by decide))).trans ?_
  exact load_whole arg7.view arg7.view.junk ![0, 0, 0] inb_S2x64x256_S2x64x256_0_0_0 k0_pay326 accR1.toLoadRect

/-- The carried product the diagonal tile of query block `n` leaves. -/
@[expose] def carryOf (x1 : Vec F S1x4096x128 .bf16) (n : ℕ) (q : FVec F S128x256 .bf16) : Vec F S1x8x256 .f32 :=
  carryDiag okDiag (score (keyBlk x1 n) q) (fill S1x8x256 0x3F800000#32)

/-- The accumulator the diagonal tile of query block `n` leaves. -/
@[expose] def accOf (x1 : Vec F S1x4096x128 .bf16) (x2 : Vec F S1x16x128x256 .bf16) (half : FVec F S128x256 .bf16 → FVec F S64x256 .bf16) (n : ℕ) (q : FVec F S128x256 .bf16) :
    Vec F S1x64x256 .f32 :=
  accDiag okDiag (score (keyBlk x1 n) q) (half (valBlk x2 n)) (fill S1x8x256 0x3F800000#32) (fill S1x64x256 0x00000000#32)

/-- One head's accumulator after all tiles of query block `n`. -/
@[expose] def headOut (x1 : Vec F S1x4096x128 .bf16) (x2 : Vec F S1x16x128x256 .bf16) (half : FVec F S128x256 .bf16 → FVec F S64x256 .bf16) (n : ℕ) (q : FVec F S128x256 .bf16) :
    Vec F S1x64x256 .f32 :=
  chainA (fun k => score (keyBlk x1 (n - 1 - k)) q) (fun k => half (valBlk x2 (n - 1 - k))) (carryOf x1 n q) (accOf x1 x2 half n q) n

/-- Head `0`'s accumulator before the loop. -/
theorem base_acc0 : arg7.view.readAt (Elt F) accR0.toLoadRect (arg7.view.writes (Elt F) arg7.view.junk (kernelRun0_A.sl.HS0_3 c i arg3 harg3 arg4 harg4 arg5 harg5 arg7 arg8 x0 x1 x2))
    = accOf x1 x2 valLo (qblk i).val (query0 c arg3 harg3 x0) := by
  rw [stores7, one0, zero0, one1, zero1, diagKeys_eq, diagVals_eq]
  simp only [List.cons_append, List.nil_append]
  rw [load_miss arg7.view _ _ _ _ _ _ _ _ _ 0 (Or.inl (by decide)), load_hit]
  rfl

/-- Head `0`'s carried product before the loop. -/
theorem base_carry0 : arg8.view.readAt (Elt F) carR0.toLoadRect (arg8.view.writes (Elt F) arg8.view.junk (kernelRun0_A.sl.HS1_3 c i arg3 harg3 arg4 harg4 arg8 x0 x1))
    = carryOf x1 (qblk i).val (query0 c arg3 harg3 x0) := by
  rw [stores8, one0, one1, diagKeys_eq]
  simp only [List.cons_append, List.nil_append]
  rw [load_miss arg8.view _ _ _ _ _ _ _ _ _ 0 (Or.inl (by decide)), load_hit]
  rfl

/-- Head `1`'s accumulator before the loop. -/
theorem base_acc1 : arg7.view.readAt (Elt F) accR1.toLoadRect (arg7.view.writes (Elt F) arg7.view.junk (kernelRun0_A.sl.HS0_3 c i arg3 harg3 arg4 harg4 arg5 harg5 arg7 arg8 x0 x1 x2))
    = accOf x1 x2 valHi (qblk i).val (query1 c arg3 harg3 x0) := by
  rw [stores7, one0, zero0, one1, zero1, diagKeys_eq, diagVals_eq]
  simp only [List.cons_append, List.nil_append]
  rw [load_hit]
  rfl

/-- Head `1`'s carried product before the loop. -/
theorem base_carry1 : arg8.view.readAt (Elt F) carR1.toLoadRect (arg8.view.writes (Elt F) arg8.view.junk (kernelRun0_A.sl.HS1_3 c i arg3 harg3 arg4 harg4 arg8 x0 x1))
    = carryOf x1 (qblk i).val (query1 c arg3 harg3 x0) := by
  rw [stores8, one0, one1, diagKeys_eq]
  simp only [List.cons_append, List.nil_append]
  rw [load_hit]
  rfl

/-- The two heads' accumulators at the end of a grid point. -/
theorem run_acc :
    kernelRun0_A.sl.v575 c i arg3 harg3 arg4 harg4 arg5 harg5 arg6 harg6 arg7 harg7 arg8 harg8 x0 x1 x2 = headOut x1 x2 valLo (qblk i).val (query0 c arg3 harg3 x0)
    ∧ kernelRun0_A.sl.v577 c i arg3 harg3 arg4 harg4 arg5 harg5 arg6 harg6 arg7 harg7 arg8 harg8 x0 x1 x2 = headOut x1 x2 valHi (qblk i).val (query1 c arg3 harg3 x0) := by
  unfold kernelRun0_A.sl.v575 kernelRun0_A.sl.v577
  rw [rest_eq, trips_eq]
  have key := chain_of_trips (F := F) (qblk i).val arg7 arg8 _ _ _
    (fun k => score (keyBlk x1 ((qblk i).val - 1 - k)) (query0 c arg3 harg3 x0)) (fun k => score (keyBlk x1 ((qblk i).val - 1 - k)) (query1 c arg3 harg3 x0))
    (fun k => valLo (valBlk x2 ((qblk i).val - 1 - k))) (fun k => valHi (valBlk x2 ((qblk i).val - 1 - k)))
    (pb_k0_t1.eq_1 (F := F) Variants.none c none i arg3 harg3 arg4 harg4 arg5 harg5 arg6 harg6 arg7 harg7 arg8 harg8 (BitVec.ofNat 32 ↑(i 2)) (query0 c arg3 harg3 x0) (query1 c arg3 harg3 x0) kernelRun0_A.sl.v18
      (kernelRun0_A.sl.r_4 c i arg5 harg5 x2) (kernelRun0_A.sl.r_66 c i arg3 harg3 arg4 harg4 x0 x1) k0_pay410 (kernelRun0_A.sl.r_68 c i arg3 harg3 arg4 harg4 x0 x1) (kernelRun0_A.sl.r_101 c i arg3 harg3 arg4 harg4 x0 x1) (kernelRun0_A.sl.r_102 c i arg3 harg3 arg4 harg4 arg8 x0 x1) (kernelRun0_A.sl.r_103 c i arg3 harg3 arg4 harg4 arg8 x0 x1) (kernelRun0_A.sl.r_104 c i arg3 harg3 arg4 harg4 arg8 x0 x1) (kernelRun0_A.sl.r_105 c i arg3 harg3 arg4 harg4 arg8 x0 x1) (kernelRun0_A.sl.r_106 c i arg3 harg3 arg4 harg4 arg8 x0 x1) (kernelRun0_A.sl.r_107 c i arg3 harg3 arg4 harg4 arg8 x0 x1) (kernelRun0_A.sl.r_108 c i arg3 harg3 arg4 harg4 arg8 x0 x1) (kernelRun0_A.sl.r_109 c i arg3 harg3 arg4 harg4 arg8 x0 x1) (kernelRun0_A.sl.r_110 c i arg3 harg3 arg4 harg4 arg8 x0 x1) (kernelRun0_A.sl.r_111 c i arg3 harg3 arg4 harg4 arg8 x0 x1) (kernelRun0_A.sl.r_112 c i arg3 harg3 arg4 harg4 arg8 x0 x1) (kernelRun0_A.sl.r_115 c i arg3 harg3 arg4 harg4 arg8 x0 x1) (kernelRun0_A.sl.r_116 c i arg3 harg3 arg4 harg4 arg8 x0 x1) (kernelRun0_A.sl.r_117 c i arg3 harg3 arg4 harg4 arg8 x0 x1) (kernelRun0_A.sl.r_118 c i arg3 harg3 arg4 harg4 arg8 x0 x1) (kernelRun0_A.sl.r_119 c i arg3 harg3 arg4 harg4 arg8 x0 x1) (kernelRun0_A.sl.r_120 c i arg3 harg3 arg4 harg4 arg8 x0 x1) (kernelRun0_A.sl.r_121 c i arg3 harg3 arg4 harg4 arg8 x0 x1) (kernelRun0_A.sl.r_122 c i arg3 harg3 arg4 harg4 arg8 x0 x1) (kernelRun0_A.sl.r_123 c i arg3 harg3 arg4 harg4 arg8 x0 x1) (kernelRun0_A.sl.r_124 c i arg3 harg3 arg4 harg4 arg8 x0 x1) (kernelRun0_A.sl.r_125 c i arg3 harg3 arg4 harg4 arg8 x0 x1) (kernelRun0_A.sl.r_126 c i arg3 harg3 arg4 harg4 arg8 x0 x1) (kernelRun0_A.sl.r_127 c i arg3 harg3 arg4 harg4 arg8 x0 x1) (kernelRun0_A.sl.r_128 c i arg3 harg3 arg4 harg4 arg8 x0 x1) (kernelRun0_A.sl.r_129 c i arg3 harg3 arg4 harg4 arg8 x0 x1) (kernelRun0_A.sl.r_130 c i arg3 harg3 arg4 harg4 arg8 x0 x1) (kernelRun0_A.sl.r_131 c i arg3 harg3 arg4 harg4 arg8 x0 x1) (kernelRun0_A.sl.r_132 c i arg3 harg3 arg4 harg4 arg8 x0 x1) (kernelRun0_A.sl.r_133 c i arg3 harg3 arg4 harg4 arg8 x0 x1) (kernelRun0_A.sl.r_134 c i arg3 harg3 arg4 harg4 arg8 x0 x1) (kernelRun0_A.sl.r_135 c i arg3 harg3 arg4 harg4 x0 x1) (kernelRun0_A.sl.r_136 c i arg3 harg3 arg4 harg4 arg8 x0 x1) (harg4.unread x1) (harg5.unread x2) (arg7.view.writes (Elt F) arg7.view.junk (kernelRun0_A.sl.HS0_3 c i arg3 harg3 arg4 harg4 arg5 harg5 arg7 arg8 x0 x1 x2)) (arg8.view.writes (Elt F) arg8.view.junk (kernelRun0_A.sl.HS1_3 c i arg3 harg3 arg4 harg4 arg8 x0 x1)))
    (fun k hk => by
      have hk' : k < (k0_t1_loop i).trips := lt_of_lt_of_eq hk (trips_eq i).symm
      have e := congrArg Prod.fst (pb_k0_t1_succ (F := F) Variants.none c none i arg3 harg3 arg4 harg4 arg5 harg5 arg6 harg6 arg7 harg7 arg8 harg8 (BitVec.ofNat 32 ↑(i 2)) (query0 c arg3 harg3 x0) (query1 c arg3 harg3 x0) kernelRun0_A.sl.v18
        (kernelRun0_A.sl.r_4 c i arg5 harg5 x2) (kernelRun0_A.sl.r_66 c i arg3 harg3 arg4 harg4 x0 x1) k0_pay410 (kernelRun0_A.sl.r_68 c i arg3 harg3 arg4 harg4 x0 x1) (kernelRun0_A.sl.r_101 c i arg3 harg3 arg4 harg4 x0 x1) (kernelRun0_A.sl.r_102 c i arg3 harg3 arg4 harg4 arg8 x0 x1) (kernelRun0_A.sl.r_103 c i arg3 harg3 arg4 harg4 arg8 x0 x1) (kernelRun0_A.sl.r_104 c i arg3 harg3 arg4 harg4 arg8 x0 x1) (kernelRun0_A.sl.r_105 c i arg3 harg3 arg4 harg4 arg8 x0 x1) (kernelRun0_A.sl.r_106 c i arg3 harg3 arg4 harg4 arg8 x0 x1) (kernelRun0_A.sl.r_107 c i arg3 harg3 arg4 harg4 arg8 x0 x1) (kernelRun0_A.sl.r_108 c i arg3 harg3 arg4 harg4 arg8 x0 x1) (kernelRun0_A.sl.r_109 c i arg3 harg3 arg4 harg4 arg8 x0 x1) (kernelRun0_A.sl.r_110 c i arg3 harg3 arg4 harg4 arg8 x0 x1) (kernelRun0_A.sl.r_111 c i arg3 harg3 arg4 harg4 arg8 x0 x1) (kernelRun0_A.sl.r_112 c i arg3 harg3 arg4 harg4 arg8 x0 x1) (kernelRun0_A.sl.r_115 c i arg3 harg3 arg4 harg4 arg8 x0 x1) (kernelRun0_A.sl.r_116 c i arg3 harg3 arg4 harg4 arg8 x0 x1) (kernelRun0_A.sl.r_117 c i arg3 harg3 arg4 harg4 arg8 x0 x1) (kernelRun0_A.sl.r_118 c i arg3 harg3 arg4 harg4 arg8 x0 x1) (kernelRun0_A.sl.r_119 c i arg3 harg3 arg4 harg4 arg8 x0 x1) (kernelRun0_A.sl.r_120 c i arg3 harg3 arg4 harg4 arg8 x0 x1) (kernelRun0_A.sl.r_121 c i arg3 harg3 arg4 harg4 arg8 x0 x1) (kernelRun0_A.sl.r_122 c i arg3 harg3 arg4 harg4 arg8 x0 x1) (kernelRun0_A.sl.r_123 c i arg3 harg3 arg4 harg4 arg8 x0 x1) (kernelRun0_A.sl.r_124 c i arg3 harg3 arg4 harg4 arg8 x0 x1) (kernelRun0_A.sl.r_125 c i arg3 harg3 arg4 harg4 arg8 x0 x1) (kernelRun0_A.sl.r_126 c i arg3 harg3 arg4 harg4 arg8 x0 x1) (kernelRun0_A.sl.r_127 c i arg3 harg3 arg4 harg4 arg8 x0 x1) (kernelRun0_A.sl.r_128 c i arg3 harg3 arg4 harg4 arg8 x0 x1) (kernelRun0_A.sl.r_129 c i arg3 harg3 arg4 harg4 arg8 x0 x1) (kernelRun0_A.sl.r_130 c i arg3 harg3 arg4 harg4 arg8 x0 x1) (kernelRun0_A.sl.r_131 c i arg3 harg3 arg4 harg4 arg8 x0 x1) (kernelRun0_A.sl.r_132 c i arg3 harg3 arg4 harg4 arg8 x0 x1) (kernelRun0_A.sl.r_133 c i arg3 harg3 arg4 harg4 arg8 x0 x1) (kernelRun0_A.sl.r_134 c i arg3 harg3 arg4 harg4 arg8 x0 x1) (kernelRun0_A.sl.r_135 c i arg3 harg3 arg4 harg4 x0 x1) (kernelRun0_A.sl.r_136 c i arg3 harg3 arg4 harg4 arg8 x0 x1) (harg4.unread x1) (harg5.unread x2) (arg7.view.writes (Elt F) arg7.view.junk (kernelRun0_A.sl.HS0_3 c i arg3 harg3 arg4 harg4 arg5 harg5 arg7 arg8 x0 x1 x2)) (arg8.view.writes (Elt F) arg8.view.junk (kernelRun0_A.sl.HS1_3 c i arg3 harg3 arg4 harg4 arg8 x0 x1)) ⟨k, hk'⟩)
      refine e.trans ?_
      dsimp only
      rw [trip_acc, tripKeys_eq, tripVals_eq])
    (fun k hk => by
      have hk' : k < (k0_t1_loop i).trips := lt_of_lt_of_eq hk (trips_eq i).symm
      have e := congrArg Prod.snd (pb_k0_t1_succ (F := F) Variants.none c none i arg3 harg3 arg4 harg4 arg5 harg5 arg6 harg6 arg7 harg7 arg8 harg8 (BitVec.ofNat 32 ↑(i 2)) (query0 c arg3 harg3 x0) (query1 c arg3 harg3 x0) kernelRun0_A.sl.v18
        (kernelRun0_A.sl.r_4 c i arg5 harg5 x2) (kernelRun0_A.sl.r_66 c i arg3 harg3 arg4 harg4 x0 x1) k0_pay410 (kernelRun0_A.sl.r_68 c i arg3 harg3 arg4 harg4 x0 x1) (kernelRun0_A.sl.r_101 c i arg3 harg3 arg4 harg4 x0 x1) (kernelRun0_A.sl.r_102 c i arg3 harg3 arg4 harg4 arg8 x0 x1) (kernelRun0_A.sl.r_103 c i arg3 harg3 arg4 harg4 arg8 x0 x1) (kernelRun0_A.sl.r_104 c i arg3 harg3 arg4 harg4 arg8 x0 x1) (kernelRun0_A.sl.r_105 c i arg3 harg3 arg4 harg4 arg8 x0 x1) (kernelRun0_A.sl.r_106 c i arg3 harg3 arg4 harg4 arg8 x0 x1) (kernelRun0_A.sl.r_107 c i arg3 harg3 arg4 harg4 arg8 x0 x1) (kernelRun0_A.sl.r_108 c i arg3 harg3 arg4 harg4 arg8 x0 x1) (kernelRun0_A.sl.r_109 c i arg3 harg3 arg4 harg4 arg8 x0 x1) (kernelRun0_A.sl.r_110 c i arg3 harg3 arg4 harg4 arg8 x0 x1) (kernelRun0_A.sl.r_111 c i arg3 harg3 arg4 harg4 arg8 x0 x1) (kernelRun0_A.sl.r_112 c i arg3 harg3 arg4 harg4 arg8 x0 x1) (kernelRun0_A.sl.r_115 c i arg3 harg3 arg4 harg4 arg8 x0 x1) (kernelRun0_A.sl.r_116 c i arg3 harg3 arg4 harg4 arg8 x0 x1) (kernelRun0_A.sl.r_117 c i arg3 harg3 arg4 harg4 arg8 x0 x1) (kernelRun0_A.sl.r_118 c i arg3 harg3 arg4 harg4 arg8 x0 x1) (kernelRun0_A.sl.r_119 c i arg3 harg3 arg4 harg4 arg8 x0 x1) (kernelRun0_A.sl.r_120 c i arg3 harg3 arg4 harg4 arg8 x0 x1) (kernelRun0_A.sl.r_121 c i arg3 harg3 arg4 harg4 arg8 x0 x1) (kernelRun0_A.sl.r_122 c i arg3 harg3 arg4 harg4 arg8 x0 x1) (kernelRun0_A.sl.r_123 c i arg3 harg3 arg4 harg4 arg8 x0 x1) (kernelRun0_A.sl.r_124 c i arg3 harg3 arg4 harg4 arg8 x0 x1) (kernelRun0_A.sl.r_125 c i arg3 harg3 arg4 harg4 arg8 x0 x1) (kernelRun0_A.sl.r_126 c i arg3 harg3 arg4 harg4 arg8 x0 x1) (kernelRun0_A.sl.r_127 c i arg3 harg3 arg4 harg4 arg8 x0 x1) (kernelRun0_A.sl.r_128 c i arg3 harg3 arg4 harg4 arg8 x0 x1) (kernelRun0_A.sl.r_129 c i arg3 harg3 arg4 harg4 arg8 x0 x1) (kernelRun0_A.sl.r_130 c i arg3 harg3 arg4 harg4 arg8 x0 x1) (kernelRun0_A.sl.r_131 c i arg3 harg3 arg4 harg4 arg8 x0 x1) (kernelRun0_A.sl.r_132 c i arg3 harg3 arg4 harg4 arg8 x0 x1) (kernelRun0_A.sl.r_133 c i arg3 harg3 arg4 harg4 arg8 x0 x1) (kernelRun0_A.sl.r_134 c i arg3 harg3 arg4 harg4 arg8 x0 x1) (kernelRun0_A.sl.r_135 c i arg3 harg3 arg4 harg4 x0 x1) (kernelRun0_A.sl.r_136 c i arg3 harg3 arg4 harg4 arg8 x0 x1) (harg4.unread x1) (harg5.unread x2) (arg7.view.writes (Elt F) arg7.view.junk (kernelRun0_A.sl.HS0_3 c i arg3 harg3 arg4 harg4 arg5 harg5 arg7 arg8 x0 x1 x2)) (arg8.view.writes (Elt F) arg8.view.junk (kernelRun0_A.sl.HS1_3 c i arg3 harg3 arg4 harg4 arg8 x0 x1)) ⟨k, hk'⟩)
      refine e.trans ?_
      dsimp only
      rw [trip_carry, tripKeys_eq])
    (qblk i).val le_rfl
  obtain ⟨-, -, k3, k4⟩ := key
  rw [base_acc0, base_carry0] at k3
  rw [base_acc1, base_carry1] at k4
  refine ⟨Eq.trans ?_ k3, Eq.trans ?_ k4⟩
  · rw [pb_k0_t2.eq_1, List.nil_append]
    exact congrArg (arg7.view.readAt (Elt F) accR0.toLoadRect) (View.writes_append arg7.view arg7.view.junk _ _)
  · rw [pb_k0_t2.eq_1, List.nil_append]
    exact congrArg (arg7.view.readAt (Elt F) accR1.toLoadRect) (View.writes_append arg7.view arg7.view.junk _ _)

end Run

end Cert.Sb

end
-- ==== Proof.HeadValue.lean ====
/-
  One head of the stick-breaking attention kernel at one element of its accumulator: a sum over all tokens up to the
  end of the query's block, each with its own sigmoid, the `keep` factors of all later tokens, and its value.
-/
module

public import proofs.«01_k».proof.Proof.TileValue
public import proofs.«01_k».proof.Proof.Chain

public section

set_option maxRecDepth 16384

noncomputable section

namespace Cert.Sb

open Cert.KernelIdeal Cert.KernelIdeal.Gen Idealize.ShloMosaic Idealize.ShloMosaic.TcCoe Idealize.ShloMosaic.ValueIdx Idealize.SL.Sem
open Finset

/-- The kernel's sigmoid of a score. -/
@[expose] def betaF (x : EReal) : EReal :=
  if 0 ≤ x then Ideal.div 1 (1 + Ideal.exp (0 - max x (-x))) else Ideal.exp (0 - max x (-x)) * Ideal.div 1 (1 + Ideal.exp (0 - max x (-x)))

/-- The kernel's sigmoid of a negated score. -/
@[expose] def keepF (x : EReal) : EReal :=
  if 0 ≤ x then Ideal.exp (0 - max x (-x)) * Ideal.div 1 (1 + Ideal.exp (0 - max x (-x))) else Ideal.div 1 (1 + Ideal.exp (0 - max x (-x)))

theorem select_ofBool {α : Type} (b : Bool) (x y : α) : Scalar.select (BitVec.ofBool b) x y = if b = true then x else y := by
  cases b <;> rfl

theorem betaOf_apply (z : FVec Ideal S256x256 .f32) (j : S256x256.Idx) : betaOf z j = betaF (z j) := by
  show Scalar.select (BitVec.ofBool (decide (Ideal.ofBits .f32 0x00000000#32 ≤ z j)))
    (Ideal.div (Ideal.ofBits .f32 0x3F800000#32) (Ideal.ofBits .f32 0x3F800000#32 + Ideal.exp (Ideal.ofBits .f32 0x00000000#32 - max (z j) (-(z j)))))
    (Ideal.exp (Ideal.ofBits .f32 0x00000000#32 - max (z j) (-(z j))) * Ideal.div (Ideal.ofBits .f32 0x3F800000#32) (Ideal.ofBits .f32 0x3F800000#32 + Ideal.exp (Ideal.ofBits .f32 0x00000000#32 - max (z j) (-(z j))))) = _
  rw [select_ofBool, Ideal.ofBits_zero_f32, Ideal.ofBits_one_f32]
  simp only [decide_eq_true_eq]
  rfl

theorem keepOf_apply (z : FVec Ideal S256x256 .f32) (j : S256x256.Idx) : keepOf z j = keepF (z j) := by
  show Scalar.select (BitVec.ofBool (decide (Ideal.ofBits .f32 0x00000000#32 ≤ z j)))
    (Ideal.exp (Ideal.ofBits .f32 0x00000000#32 - max (z j) (-(z j))) * Ideal.div (Ideal.ofBits .f32 0x3F800000#32) (Ideal.ofBits .f32 0x3F800000#32 + Ideal.exp (Ideal.ofBits .f32 0x00000000#32 - max (z j) (-(z j)))))
    (Ideal.div (Ideal.ofBits .f32 0x3F800000#32) (Ideal.ofBits .f32 0x3F800000#32 + Ideal.exp (Ideal.ofBits .f32 0x00000000#32 - max (z j) (-(z j))))) = _
  rw [select_ofBool, Ideal.ofBits_zero_f32, Ideal.ofBits_one_f32]
  simp only [decide_eq_true_eq]
  rfl

/-! ## The diagonal mask -/

/-- The token that a row (or a column) of a block holds. -/
@[expose] def tok (r : ℕ) : ℕ := r % 8 * 32 + r / 8

/-- The row's token, as the kernel computes it from an index word. -/
@[expose] def tokWord (v : BitVec 32) : BitVec 32 :=
  IntOp.addi (IntOp.muli (Scalar.select (IntOp.andi (IntOp.xori (IntOp.cmpi .slt (IntOp.remsi .vector v 8#32) 0#32) (IntOp.cmpi .slt 8#32 0#32)) (IntOp.cmpi .ne (IntOp.remsi .vector v 8#32) 0#32))
    (IntOp.addi (IntOp.remsi .vector v 8#32) 8#32) (IntOp.remsi .vector v 8#32)) 32#32)
   (Scalar.select (IntOp.andi (IntOp.cmpi .ne (IntOp.subi ((IntOp.cmpi .sgt v 0#32).setWidth 32) ((IntOp.cmpi .slt v 0#32).setWidth 32)) 1#32) (IntOp.cmpi .ne (IntOp.remsi .vector v 8#32) 0#32))
    (IntOp.subi (IntOp.divsi .vector v 8#32) 1#32) (IntOp.divsi .vector v 8#32))

theorem tokWord_eq : ∀ r : Fin 256, tokWord (BitVec.ofNat 32 r.val) = BitVec.ofNat 32 (tok r.val) := by
  decide +kernel

theorem tok_lt (r : Fin 256) : tok r.val < 256 := by
  have := r.isLt
  unfold tok; omega

theorem tok_pos (t : ℕ) (ht : t < 256) : tok (pos t).val = t := by
  have h : ∀ t : Fin 256, (t.val % 32 * 8 + t.val / 32 % 8) % 8 * 32 + (t.val % 32 * 8 + t.val / 32 % 8) / 8 = t.val := by decide +kernel
  exact h ⟨t, ht⟩

theorem slt_small (a b : ℕ) (ha : a < 256) (hb : b < 256) : IntOp.cmpi .slt (BitVec.ofNat 32 a) (BitVec.ofNat 32 b) = BitVec.ofBool (decide (a < b)) := by
  show BitVec.ofBool (BitVec.slt _ _) = _
  congr 1
  unfold BitVec.slt
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- The diagonal mask compares tokens. -/
theorem okDiag_apply (r c : Fin 256) : okDiag (ix2 r c) = BitVec.ofBool (decide (tok r.val < tok c.val)) := by
  have h : okDiag (ix2 r c) = IntOp.cmpi .slt (tokWord (BitVec.ofNat 32 (0 * 256 + r.val))) (tokWord (BitVec.ofNat 32 (0 * 256 + c.val))) := by
    with_unfolding_all rfl
  rw [h, Nat.zero_mul, Nat.zero_add, Nat.zero_add, tokWord_eq, tokWord_eq, slt_small _ _ (tok_lt r) (tok_lt c)]

/-! ## The chain, by tokens -/

section Head

variable (x1 : Vec Ideal S1x4096x128 .bf16) (x2 : Vec Ideal S1x16x128x256 .bf16) (half : FVec Ideal S128x256 .bf16 → FVec Ideal S64x256 .bf16)
  (q : FVec Ideal S128x256 .bf16) (n : ℕ) (col : Fin 256) (d : Fin 64)

/-- The score of token `T` against the query in column `col`. -/
@[expose] def scoreT (T : ℕ) : EReal := byTok (score (keyBlk x1 (T / 256)) q) col (T % 256)

/-- The value of token `T` in feature `d`. -/
@[expose] def valT (T : ℕ) : EReal := half (valBlk x2 (T / 256)) (ix2 d (pos (T % 256)))

/-- The sigmoid of token `T`, zero from the query on. -/
@[expose] def betaT (T : ℕ) : EReal := if T < 256 * n + tok col.val then betaF (scoreT x1 q col T) else 0

/-- The `keep` factor of token `T`, one from the query on. -/
@[expose] def keepT (T : ℕ) : EReal := if T < 256 * n + tok col.val then keepF (scoreT x1 q col T) else 1

theorem scoreT_add (m t : ℕ) (ht : t < 256) : scoreT x1 q col (256 * m + t) = byTok (score (keyBlk x1 m) q) col t := by
  unfold scoreT
  rw [show (256 * m + t) / 256 = m by omega, show (256 * m + t) % 256 = t by omega]

theorem valT_add (m t : ℕ) (ht : t < 256) : valT x2 half d (256 * m + t) = half (valBlk x2 m) (ix2 d (pos t)) := by
  unfold valT
  rw [show (256 * m + t) / 256 = m by omega, show (256 * m + t) % 256 = t by omega]

/-- Off the diagonal, the tile's sigmoids and `keep` factors are those of its tokens. -/
theorem beta_off (m t : ℕ) (hm : m < n) (ht : t < 256) : byTok (betaOf (score (keyBlk x1 m) q)) col t = betaT x1 q n col (256 * m + t) := by
  unfold betaT
  rw [if_pos (by omega), scoreT_add x1 q col m t ht]
  exact betaOf_apply _ _
theorem keep_off (m t : ℕ) (hm : m < n) (ht : t < 256) : byTok (keepOf (score (keyBlk x1 m) q)) col t = keepT x1 q n col (256 * m + t) := by
  unfold keepT
  rw [if_pos (by omega), scoreT_add x1 q col m t ht]
  exact keepOf_apply _ _

/-- On the diagonal, so are the masked ones. -/
theorem beta_on (t : ℕ) (ht : t < 256) :
    byTok (select okDiag (betaOf (score (keyBlk x1 n) q)) (fill S256x256 0x00000000#32)) col t = betaT x1 q n col (256 * n + t) := by
  unfold betaT byTok
  rw [select_apply, okDiag_apply, select_ofBool, tok_pos t ht, scoreT_add x1 q col n t ht, betaOf_apply]
  simp only [decide_eq_true_eq, Nat.add_lt_add_iff_left]
  show (if _ then _ else Ideal.ofBits .f32 0x00000000#32) = _
  rw [Ideal.ofBits_zero_f32]
  rfl
theorem keep_on (t : ℕ) (ht : t < 256) :
    byTok (select okDiag (keepOf (score (keyBlk x1 n) q)) (fill S256x256 0x3F800000#32)) col t = keepT x1 q n col (256 * n + t) := by
  unfold keepT byTok
  rw [select_apply, okDiag_apply, select_ofBool, tok_pos t ht, scoreT_add x1 q col n t ht, keepOf_apply]
  simp only [decide_eq_true_eq, Nat.add_lt_add_iff_left]
  show (if _ then _ else Ideal.ofBits .f32 0x3F800000#32) = _
  rw [Ideal.ofBits_one_f32]
  rfl

/-- The product of the `keep` factors of tokens `a` to `b - 1`. -/
abbrev keepProd (a b : ℕ) : EReal := ∏ T ∈ Ico a b, keepT x1 q n col T

/-- A product over a tile's tokens is a product over an interval of all tokens. -/
theorem prod_tile (f g : ℕ → EReal) (m a : ℕ) (h : ∀ t < 256, f t = g (256 * m + t)) :
    ∏ t ∈ Ico a 256, f t = ∏ T ∈ Ico (256 * m + a) (256 * m + 256), g T := by
  rw [Nat.add_comm _ a, Nat.add_comm _ 256, ← Finset.prod_Ico_add g a 256 (256 * m)]
  refine Finset.prod_congr rfl fun t ht => ?_
  rw [h t (Finset.mem_Ico.mp ht).2]

/-- One tile's share of the accumulator. -/
theorem tile_sum (beta keep : FVec Ideal S256x256 .f32) (carry : FVec Ideal S8x256 .f32) (m : ℕ) (C : EReal) (hC : ∀ s : Fin 8, carry (ix2 s col) = C)
    (hb : ∀ t < 256, byTok beta col t = betaT x1 q n col (256 * m + t)) (hk : ∀ t < 256, byTok keep col t = keepT x1 q n col (256 * m + t)) :
    ∑ t ∈ range 256, half (valBlk x2 m) (ix2 d (pos t)) * byTok (weights beta keep carry) col t
      = ∑ T ∈ Ico (256 * m) (256 * m + 256), valT x2 half d T * (betaT x1 q n col T * (keepProd x1 q n col (T + 1) (256 * m + 256) * C)) := by
  have hI : Ico (256 * m) (256 * m + 256) = Ico (0 + 256 * m) (256 + 256 * m) := by rw [Nat.zero_add, Nat.add_comm]
  rw [hI, ← Finset.sum_Ico_add (fun T => valT x2 half d T * (betaT x1 q n col T * (keepProd x1 q n col (T + 1) (256 * m + 256) * C))) 0 256 (256 * m), ← range_eq_Ico]
  refine Finset.sum_congr rfl fun t ht => ?_
  have ht' : t < 256 := Finset.mem_range.mp ht
  rw [weights_apply beta keep carry col C hC t ht', hb t ht', prod_tile _ _ m (t + 1) hk, valT_add x2 half d m t ht', Nat.add_assoc]

theorem cast8 (c : Vec Ideal S1x8x256 .f32) (s : Fin 8) : shapeCast S8x256 c shapeCasts_S1x8x256_S8x256 (ix2 s col) = c (ix3 (0 : Fin 1) s col) :=
  (shapeCast_dropUnit_apply ![8, 256] c _ _).trans (congrArg c (funext fun a => by match a with | ⟨0, _⟩ => rfl | ⟨1, _⟩ => rfl | ⟨2, _⟩ => rfl))
theorem uncast8 (c : FVec Ideal S8x256 .f32) (s : Fin 8) : shapeCast S1x8x256 c shapeCasts_S8x256_S1x8x256 (ix3 (0 : Fin 1) s col) = c (ix2 s col) :=
  (shapeCast_addUnit_apply ![8, 256] c _ _).trans (congrArg c (funext fun a => by match a with | ⟨0, _⟩ => rfl | ⟨1, _⟩ => rfl))
theorem cast64 (c : Vec Ideal S1x64x256 .f32) : shapeCast S64x256 c shapeCasts_S1x64x256_S64x256 (ix2 d col) = c (ix3 (0 : Fin 1) d col) :=
  (shapeCast_dropUnit_apply ![64, 256] c _ _).trans (congrArg c (funext fun a => by match a with | ⟨0, _⟩ => rfl | ⟨1, _⟩ => rfl | ⟨2, _⟩ => rfl))
theorem uncast64 (c : FVec Ideal S64x256 .f32) : shapeCast S1x64x256 c shapeCasts_S64x256_S1x64x256 (ix3 (0 : Fin 1) d col) = c (ix2 d col) :=
  (shapeCast_addUnit_apply ![64, 256] c _ _).trans (congrArg c (funext fun a => by match a with | ⟨0, _⟩ => rfl | ⟨1, _⟩ => rfl))

/-- The diagonal tile's carried product. -/
theorem carryOf_apply (s : Fin 8) : carryOf x1 n q (ix3 (0 : Fin 1) s col) = keepProd x1 q n col (256 * n) (256 * n + 256) := by
  unfold carryOf carryDiag
  rw [uncast8, carryNext_apply, cast8, prod_tile _ _ n 0 (keep_on x1 q n col)]
  show Ideal.ofBits .f32 0x3F800000#32 * _ = _
  rw [Ideal.ofBits_one_f32, one_mul]
  rfl

/-- The carried product after `k` more tiles. -/
theorem chainC_apply : ∀ k ≤ n, ∀ s : Fin 8,
    chainC (fun k => score (keyBlk x1 (n - 1 - k)) q) (carryOf x1 n q) k (ix3 (0 : Fin 1) s col) = keepProd x1 q n col (256 * (n - k)) (256 * n + 256)
  | 0, _, s => carryOf_apply x1 q n col s
  | k + 1, hk, s => by
    show carryStep (score (keyBlk x1 (n - 1 - k)) q) (chainC _ _ k) _ = _
    unfold carryStep
    rw [uncast8, carryNext_apply, cast8, chainC_apply k (by omega) s, prod_tile _ _ (n - 1 - k) 0 (fun t ht => keep_off x1 q n col (n - 1 - k) t (by omega) ht), mul_comm,
      show 256 * (n - 1 - k) + 256 = 256 * (n - k) by omega, prod_Ico_consecutive _ (by omega) (by omega)]
    congr 2
    omega

/-- The accumulator after `k` more tiles. -/
theorem chainA_apply : ∀ k ≤ n,
    chainA (fun k => score (keyBlk x1 (n - 1 - k)) q) (fun k => half (valBlk x2 (n - 1 - k))) (carryOf x1 n q) (accOf x1 x2 half n q) k (ix3 (0 : Fin 1) d col)
      = ∑ T ∈ Ico (256 * (n - k)) (256 * n + 256), valT x2 half d T * (betaT x1 q n col T * keepProd x1 q n col (T + 1) (256 * n + 256))
  | 0, _ => by
    show accOf x1 x2 half n q _ = _
    unfold accOf accDiag
    rw [uncast64, accNext_apply, cast64, tile_sum x1 x2 half q n col d _ _ _ n 1 (fun s => (cast8 col _ s).trans Ideal.ofBits_one_f32) (beta_on x1 q n col) (keep_on x1 q n col)]
    show Ideal.ofBits .f32 0x00000000#32 + _ = _
    rw [Ideal.ofBits_zero_f32, zero_add]
    refine Finset.sum_congr rfl fun T _ => ?_
    rw [mul_one]
  | k + 1, hk => by
    show accStep (score (keyBlk x1 (n - 1 - k)) q) (half (valBlk x2 (n - 1 - k))) (chainC _ _ k) (chainA _ _ _ _ k) _ = _
    unfold accStep
    rw [uncast64, accNext_apply, cast64, chainA_apply k (by omega),
      tile_sum x1 x2 half q n col d _ _ _ (n - 1 - k) _ (fun s => (cast8 col _ s).trans (chainC_apply x1 q n col k (by omega) s))
        (fun t ht => beta_off x1 q n col (n - 1 - k) t (by omega) ht) (fun t ht => keep_off x1 q n col (n - 1 - k) t (by omega) ht)]
    rw [show 256 * (n - 1 - k) + 256 = 256 * (n - k) by omega, show 256 * (n - 1 - k) = 256 * (n - (k + 1)) by omega,
      ← sum_Ico_consecutive _ (show 256 * (n - (k + 1)) ≤ 256 * (n - k) by omega) (show 256 * (n - k) ≤ 256 * n + 256 by omega), add_comm]
    congr 1
    refine Finset.sum_congr rfl fun T hT => ?_
    rw [prod_Ico_consecutive _ (by have := (Finset.mem_Ico.mp hT).2; omega) (by omega)]

/-- One head's output element: the sum over all tokens to the end of the query's block. -/
theorem headOut_apply : headOut x1 x2 half n q (ix3 (0 : Fin 1) d col)
    = ∑ T ∈ range (256 * n + 256), valT x2 half d T * (betaT x1 q n col T * keepProd x1 q n col (T + 1) (256 * n + 256)) := by
  unfold headOut
  rw [chainA_apply x1 x2 half q n col d n le_rfl, Nat.sub_self, range_eq_Ico]

end Head

end Cert.Sb

end
-- ==== Proof.BlockValue.lean ====
/-
  The block that one grid point of the stick-breaking attention writes, at one element, from the blocks it reads: the
  specification of one query row of one head, with the scores and the values of that head.
-/
module

public import proofs.«01_k».proof.Proof.HeadValue
public import proofs.«01_k».proof.Proof.Gen.KernelIdeal.Value

public section

set_option maxRecDepth 16384

noncomputable section

namespace Cert.Sb

open Cert.KernelIdeal Cert.KernelIdeal.Gen Idealize.ShloMosaic Idealize.ShloMosaic.TcCoe Idealize.ShloMosaic.ValueIdx Idealize.SL.Sem
open Finset

/-- One query's output in one feature: over the first `E` tokens, the value of each earlier token times its sigmoid times
    the product of the `keep` factors of the tokens between it and the query. -/
@[expose] def stick (z v : ℕ → EReal) (qt E : ℕ) : EReal :=
  ∑ T ∈ range E, v T * ((if T < qt then betaF (z T) else 0) * ∏ T' ∈ Ico (T + 1) E, if T' < qt then keepF (z T') else 1)

/-- Only the scores and the values of the summed tokens matter. -/
theorem stick_congr (z z' v v' : ℕ → EReal) (qt E : ℕ) (hz : ∀ T < E, z T = z' T) (hv : ∀ T < E, v T = v' T) : stick z v qt E = stick z' v' qt E := by
  unfold stick
  refine Finset.sum_congr rfl fun T hT => ?_
  rw [hv T (Finset.mem_range.mp hT), hz T (Finset.mem_range.mp hT)]
  congr 2
  refine Finset.prod_congr rfl fun T' hT' => ?_
  rw [hz T' (Finset.mem_Ico.mp hT').2]

/-- Tokens from the query on add nothing. -/
theorem stick_extend (z v : ℕ → EReal) (qt E E' : ℕ) (h : qt ≤ E) (h' : E ≤ E') : stick z v qt E = stick z v qt E' := by
  unfold stick
  symm
  rw [range_eq_Ico, ← sum_Ico_consecutive _ (Nat.zero_le E) h', Finset.sum_eq_zero (s := Ico E E'), add_zero, range_eq_Ico]
  · refine Finset.sum_congr rfl fun T hT => ?_
    have hT' := (Finset.mem_Ico.mp hT).2
    rw [← prod_Ico_consecutive _ (show T + 1 ≤ E by omega) h', Finset.prod_eq_one (s := Ico E E'), mul_one]
    intro x hx
    rw [if_neg (by have := (Finset.mem_Ico.mp hx).1; omega)]
  · intro x hx
    rw [if_neg (by have := (Finset.mem_Ico.mp hx).1; omega), zero_mul, mul_zero]

/-- Feature `e` of head `h` of a pair. -/
@[expose] def feat (h : Fin 2) (e : Fin 64) : Fin 128 := ⟨64 * h.val + e.val, by have := h.isLt; have := e.isLt; omega⟩

/-- A product of a key block with a query block, at an element. -/
theorem score_apply (kb : FVec Ideal S256x128 .bf16) (q : FVec Ideal S128x256 .bf16) (r col : Fin 256) :
    score kb q (ix2 r col) = ∑ f : Fin 128, kb (ix2 r f) * q (ix2 f col) := by
  unfold score
  refine (Ideal.matmul_plain_apply (M := 256) (K := 128) (N := 256) none kb q (constant S256x256 .f32 0x00000000#32) r col).trans ?_
  show Ideal.ofBits .f32 0x00000000#32 + _ = _
  rw [Ideal.ofBits_zero_f32, zero_add]

theorem keyBlk_apply (x1 : Vec Ideal S1x4096x128 .bf16) (n : ℕ) (r : Fin 256) (f : Fin 128) :
    keyBlk x1 n (ix2 r f) = x1 (ix3 (0 : Fin 1) ⟨(256 * n + r.val) % 4096, Nat.mod_lt _ (by decide)⟩ f) := by
  unfold keyBlk k0_pay333
  exact (shapeCast_dropUnit_apply ![256, 128] _ shapeCasts_S1x256x128_S256x128 (ix2 r f)).trans rfl

/-- The reading of a `[1, 1, 128, 256]` block as a matrix. -/
theorem cast128 {α : Type} (x : S1x1x128x256.Idx → α) (f : Fin 128) (col : Fin 256) :
    shapeCast S128x256 x shapeCasts_S1x1x128x256_S128x256 (ix2 f col) = x (ix4 (0 : Fin 1) (0 : Fin 1) f col) := by
  refine shapeCast_apply x _ _ _ ?_
  refine (Shape.rowMajor_val_four _).trans (Eq.trans ?_ (Shape.rowMajor_val_two _).symm)
  show (((0 * 1 + 0) * 128 + f.val) * 256 + col.val) = f.val * 256 + col.val
  omega

theorem valBlk_apply (x2 : Vec Ideal S1x16x128x256 .bf16) (n : ℕ) (f : Fin 128) (col : Fin 256) :
    valBlk x2 n (ix2 f col) = x2 (ix4 (0 : Fin 1) ⟨n % 16, Nat.mod_lt _ (by decide)⟩ f col) := by
  unfold valBlk k0_pay334
  exact (cast128 _ f col).trans rfl

theorem valLo_apply (vb : FVec Ideal S128x256 .bf16) (e : Fin 64) (col : Fin 256) : valLo vb (ix2 e col) = vb (ix2 (feat 0 e) col) := by
  unfold valLo
  refine extractStridedSlice_apply _ _ _ _ _ fun a => ?_
  match a with
  | ⟨0, _⟩ => show 64 * 0 + e.val = 0 + e.val; omega
  | ⟨1, _⟩ => show col.val = 0 + col.val; omega
theorem valHi_apply (vb : FVec Ideal S128x256 .bf16) (e : Fin 64) (col : Fin 256) : valHi vb (ix2 e col) = vb (ix2 (feat 1 e) col) := by
  unfold valHi
  refine extractStridedSlice_apply _ _ _ _ _ fun a => ?_
  match a with
  | ⟨0, _⟩ => show 64 * 1 + e.val = 64 + e.val; omega
  | ⟨1, _⟩ => show col.val = 0 + col.val; omega

theorem word_lt : ∀ f : Fin 128, IntOp.cmpi .slt (BitVec.ofNat 32 (0 * 128 + f.val)) 64#32 = BitVec.ofBool (decide (f.val < 64)) := by decide +kernel
theorem word_ge : ∀ f : Fin 128, IntOp.cmpi .sge (BitVec.ofNat 32 (0 * 128 + f.val)) 64#32 = BitVec.ofBool (decide (64 ≤ f.val)) := by decide +kernel

theorem bf16_zero : Ideal.ofBits .bf16 0x0000#16 = 0 := by simp [Ideal.ofBits, Ideal.ieee]

section Query

variable (c : Dev nD) (arg3 : Memref sig .tc .vmem S1x1x128x256 .bf16) (harg3 : arg3.IsWhole) (x0 : Vec Ideal S1x1x128x256 .bf16)

/-- The query block a grid point loads is the one it is given. -/
theorem load_queries (f : Fin 128) (col : Fin 256) :
    arg3.view.readAt (Elt Ideal) (Rect.unit (s := S1x1x128x256) ![0, 0, 0, 0] S1x1x128x256.size inb_S1x1x128x256_S1x1x128x256_0_0_0_0).toLoadRect (harg3.unread x0) (ix4 (0 : Fin 1) (0 : Fin 1) f col)
      = x0 (ix4 (0 : Fin 1) (0 : Fin 1) f col) := by
  rw [View.readAt_apply, harg3.read_unread]
  congr 1
  funext a
  apply Fin.ext
  match a with
  | ⟨0, _⟩ => rfl
  | ⟨1, _⟩ => rfl
  | ⟨2, _⟩ => show 0 + 1 * f.val = f.val; omega
  | ⟨3, _⟩ => show 0 + 1 * col.val = col.val; omega

theorem query0_apply (f : Fin 128) (col : Fin 256) : query0 c arg3 harg3 x0 (ix2 f col) = if f.val < 64 then x0 (ix4 (0 : Fin 1) (0 : Fin 1) f col) else 0 := by
  have h : query0 c arg3 harg3 x0 (ix2 f col) = Scalar.select (IntOp.cmpi .slt (BitVec.ofNat 32 (0 * 128 + f.val)) 64#32)
      (shapeCast S128x256 (arg3.view.readAt (Elt Ideal) (Rect.unit (s := S1x1x128x256) ![0, 0, 0, 0] S1x1x128x256.size inb_S1x1x128x256_S1x1x128x256_0_0_0_0).toLoadRect (harg3.unread x0))
        shapeCasts_S1x1x128x256_S128x256 (ix2 f col)) (Ideal.ofBits .bf16 0x0000#16) := by with_unfolding_all rfl
  rw [h, word_lt, select_ofBool, bf16_zero, cast128, load_queries]
  simp only [decide_eq_true_eq]
theorem query1_apply (f : Fin 128) (col : Fin 256) : query1 c arg3 harg3 x0 (ix2 f col) = if 64 ≤ f.val then x0 (ix4 (0 : Fin 1) (0 : Fin 1) f col) else 0 := by
  have h : query1 c arg3 harg3 x0 (ix2 f col) = Scalar.select (IntOp.cmpi .sge (BitVec.ofNat 32 (0 * 128 + f.val)) 64#32)
      (shapeCast S128x256 (arg3.view.readAt (Elt Ideal) (Rect.unit (s := S1x1x128x256) ![0, 0, 0, 0] S1x1x128x256.size inb_S1x1x128x256_S1x1x128x256_0_0_0_0).toLoadRect (harg3.unread x0))
        shapeCasts_S1x1x128x256_S128x256 (ix2 f col)) (Ideal.ofBits .bf16 0x0000#16) := by with_unfolding_all rfl
  rw [h, word_ge, select_ofBool, bf16_zero, cast128, load_queries]
  simp only [decide_eq_true_eq]

/-- A sum over the features of both heads, one of them masked, is a sum over the other's. -/
theorem sum_lo (g : Fin 128 → EReal) (h : ∀ f : Fin 128, 64 ≤ f.val → g f = 0) : ∑ f, g f = ∑ e : Fin 64, g (feat 0 e) := by
  rw [show (∑ f : Fin 128, g f) = ∑ f : Fin (64 + 64), g f from rfl, Fin.sum_univ_add, Finset.sum_eq_zero (f := fun e : Fin 64 => g (Fin.natAdd 64 e)), add_zero]
  · exact Finset.sum_congr rfl fun e _ => congrArg g (Fin.ext (by show e.val = 64 * 0 + e.val; omega))
  · exact fun e _ => h _ (by show 64 ≤ 64 + e.val; omega)
theorem sum_hi (g : Fin 128 → EReal) (h : ∀ f : Fin 128, f.val < 64 → g f = 0) : ∑ f, g f = ∑ e : Fin 64, g (feat 1 e) := by
  rw [show (∑ f : Fin 128, g f) = ∑ f : Fin (64 + 64), g f from rfl, Fin.sum_univ_add, Finset.sum_eq_zero (f := fun e : Fin 64 => g (Fin.castAdd 64 e)), zero_add]
  · exact Finset.sum_congr rfl fun e _ => congrArg g (Fin.ext (by show 64 + e.val = 64 * 1 + e.val; omega))
  · exact fun e _ => h _ (by show e.val < 64; exact e.isLt)

/-- The row of the key array that holds token `T`. -/
@[expose] def keyRow (T : ℕ) : Fin 4096 := ⟨(256 * (T / 256) + (pos (T % 256)).val) % 4096, Nat.mod_lt _ (by decide)⟩

/-- The block that holds token `T`. -/
@[expose] def tokBlk (T : ℕ) : Fin 16 := ⟨T / 256 % 16, Nat.mod_lt _ (by decide)⟩

/-- The score of token `T` in head `h` of the pair. -/
@[expose] def blkScore (x0 : Vec Ideal S1x1x128x256 .bf16) (x1 : Vec Ideal S1x4096x128 .bf16) (h : Fin 2) (col : Fin 256) (T : ℕ) : EReal :=
  ∑ e : Fin 64, x1 (ix3 (0 : Fin 1) (keyRow T) (feat h e)) * x0 (ix4 (0 : Fin 1) (0 : Fin 1) (feat h e) col)

/-- The value of token `T` in head `h` of the pair. -/
@[expose] def blkVal (x2 : Vec Ideal S1x16x128x256 .bf16) (h : Fin 2) (e : Fin 64) (T : ℕ) : EReal :=
  x2 (ix4 (0 : Fin 1) (tokBlk T) (feat h e) (pos (T % 256)))

theorem scoreT_lo (x1 : Vec Ideal S1x4096x128 .bf16) (col : Fin 256) (T : ℕ) : scoreT x1 (query0 c arg3 harg3 x0) col T = blkScore x0 x1 0 col T := by
  unfold scoreT byTok blkScore
  rw [score_apply, sum_lo]
  · refine Finset.sum_congr rfl fun e _ => ?_
    have he : (feat 0 e).val < 64 := by show 64 * 0 + e.val < 64; have := e.isLt; omega
    rw [keyBlk_apply, query0_apply, if_pos he]
    rfl
  · intro f hf
    rw [query0_apply, if_neg (by omega), mul_zero]
theorem scoreT_hi (x1 : Vec Ideal S1x4096x128 .bf16) (col : Fin 256) (T : ℕ) : scoreT x1 (query1 c arg3 harg3 x0) col T = blkScore x0 x1 1 col T := by
  unfold scoreT byTok blkScore
  rw [score_apply, sum_hi]
  · refine Finset.sum_congr rfl fun e _ => ?_
    have he : 64 ≤ (feat 1 e).val := by show 64 ≤ 64 * 1 + e.val; omega
    rw [keyBlk_apply, query1_apply, if_pos he]
    rfl
  · intro f hf
    rw [query1_apply, if_neg (by omega), mul_zero]
theorem valT_lo (x2 : Vec Ideal S1x16x128x256 .bf16) (e : Fin 64) (T : ℕ) : valT x2 valLo e T = blkVal x2 0 e T := by
  unfold valT blkVal
  rw [valLo_apply, valBlk_apply]
  rfl
theorem valT_hi (x2 : Vec Ideal S1x16x128x256 .bf16) (e : Fin 64) (T : ℕ) : valT x2 valHi e T = blkVal x2 1 e T := by
  unfold valT blkVal
  rw [valHi_apply, valBlk_apply]
  rfl

variable (i : grid0.Coords) (arg4 : Memref sig .tc .vmem S1x4096x128 .bf16) (harg4 : arg4.IsWhole)
  (arg5 : Memref sig .tc .vmem S1x16x128x256 .bf16) (harg5 : arg5.IsWhole) (arg6 : Memref sig .tc .vmem S1x256x128 .bf16) (harg6 : arg6.IsWhole)
  (arg7 : Memref sig .tc .vmem S2x64x256 .f32) (harg7 : arg7.IsWhole) (arg8 : Memref sig .tc .vmem S2x8x256 .f32) (harg8 : arg8.IsWhole)
  (x1 : Vec Ideal S1x4096x128 .bf16) (x2 : Vec Ideal S1x16x128x256 .bf16)

/-- The accumulators a grid point leaves. -/
theorem run_lo (e : Fin 64) (col : Fin 256) :
    kernelRun0_A.sl.v575 (F := Ideal) c i arg3 harg3 arg4 harg4 arg5 harg5 arg6 harg6 arg7 harg7 arg8 harg8 x0 x1 x2 (ix3 (0 : Fin 1) e col)
      = stick (blkScore x0 x1 0 col) (blkVal x2 0 e) (256 * (qblk i).val + tok col.val) (256 * (qblk i).val + 256) := by
  rw [(run_acc c i arg3 harg3 arg4 harg4 arg5 harg5 arg6 harg6 arg7 harg7 arg8 harg8 x0 x1 x2).1, headOut_apply]
  exact stick_congr _ _ _ _ _ _ (fun T _ => scoreT_lo c arg3 harg3 x0 x1 col T) (fun T _ => valT_lo x2 e T)
theorem run_hi (e : Fin 64) (col : Fin 256) :
    kernelRun0_A.sl.v577 (F := Ideal) c i arg3 harg3 arg4 harg4 arg5 harg5 arg6 harg6 arg7 harg7 arg8 harg8 x0 x1 x2 (ix3 (0 : Fin 1) e col)
      = stick (blkScore x0 x1 1 col) (blkVal x2 1 e) (256 * (qblk i).val + tok col.val) (256 * (qblk i).val + 256) := by
  rw [(run_acc c i arg3 harg3 arg4 harg4 arg5 harg5 arg6 harg6 arg7 harg7 arg8 harg8 x0 x1 x2).2, headOut_apply]
  exact stick_congr _ _ _ _ _ _ (fun T _ => scoreT_hi c arg3 harg3 x0 x1 col T) (fun T _ => valT_hi x2 e T)

end Query

/-- The two heads' accumulators, side by side and transposed, read at an element of either. -/
theorem both_apply (v575 v577 : Vec Ideal S1x64x256 .f32) (r : Fin 256) (f : Fin 128) : k0_pay1 (k0_pay483 v575 v577) (ix3 (0 : Fin 1) r f)
    = concatenate S128x256 0 [⟨S64x256, shapeCast S64x256 v575 shapeCasts_S1x64x256_S64x256⟩, ⟨S64x256, shapeCast S64x256 v577 shapeCasts_S1x64x256_S64x256⟩]
        concatenates_S64x256_S64x256_S128x256_d0 (ix2 f r) := by
  unfold k0_pay1 k0_pay483
  refine (shapeCast_addUnit_apply ![256, 128] _ shapeCasts_S256x128_S1x256x128 _).trans ?_
  have hi : (fun a : Fin 2 => ix3 (0 : Fin 1) r f a.succ) = ix2 r f := by
    funext a
    match a with
    | ⟨0, _⟩ => rfl
    | ⟨1, _⟩ => rfl
  refine (congrArg (transpose S256x128 [1, 0]
    (concatenate S128x256 0 [⟨S64x256, shapeCast S64x256 v575 shapeCasts_S1x64x256_S64x256⟩, ⟨S64x256, shapeCast S64x256 v577 shapeCasts_S1x64x256_S64x256⟩]
      concatenates_S64x256_S64x256_S128x256_d0) transposes_S128x256_p1_0_S256x128) hi).trans ?_
  refine transpose_apply _ _ _ (ix2 r f) (ix2 f r) (fun a => ?_)
  match a with
  | ⟨0, _⟩ => rfl
  | ⟨1, _⟩ => rfl
theorem both_lo (v575 v577 : Vec Ideal S1x64x256 .f32) (r : Fin 256) (e : Fin 64) : k0_pay1 (k0_pay483 v575 v577) (ix3 (0 : Fin 1) r (feat 0 e)) = v575 (ix3 (0 : Fin 1) e r) := by
  rw [both_apply]
  refine (concatenate_pair_apply_left (s₁ := S64x256) (s₂ := S64x256) (t := S128x256) 0 _ _ concatenates_S64x256_S64x256_S128x256_d0 (ix2 (feat 0 e) r) rfl (ix2 e r) fun a => ?_).trans (cast64 r e v575)
  match a with
  | ⟨0, _⟩ => show e.val = 64 * 0 + e.val; omega
  | ⟨1, _⟩ => rfl
theorem both_hi (v575 v577 : Vec Ideal S1x64x256 .f32) (r : Fin 256) (e : Fin 64) : k0_pay1 (k0_pay483 v575 v577) (ix3 (0 : Fin 1) r (feat 1 e)) = v577 (ix3 (0 : Fin 1) e r) := by
  rw [both_apply]
  refine (concatenate_pair_apply_right (s₁ := S64x256) (s₂ := S64x256) (t := S128x256) 0 _ _ concatenates_S64x256_S64x256_S128x256_d0 (ix2 (feat 1 e) r) rfl rfl (ix2 e r) (fun a ha => ?_) ?_).trans (cast64 r e v577)
  · match a with
    | ⟨0, _⟩ => exact absurd rfl ha
    | ⟨1, _⟩ => rfl
  · show e.val + 64 = 64 * 1 + e.val; omega

/-- The specification of an element of the block a grid point writes. -/
@[expose] def blkSpec (x0 : Vec Ideal S1x1x128x256 .bf16) (x1 : Vec Ideal S1x4096x128 .bf16) (x2 : Vec Ideal S1x16x128x256 .bf16) (n : ℕ) (r : Fin 256) (h : Fin 2) (e : Fin 64) : EReal :=
  stick (blkScore x0 x1 h r) (blkVal x2 h e) (256 * n + tok r.val) (256 * n + 256)

/-- The block a grid point of the launch writes, at an element. -/
theorem outsAt_apply (m : (ℓ : Loc nD τ sig) → Buf (Elt Ideal) ℓ) (c : Dev nD) (t : Fin cfg0.N) (r : Fin 256) (h : Fin 2) (e : Fin 64) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _)
        (iblk m c 0 t) (iblk m c 1 t) (iblk m c 2 t) (ix3 (0 : Fin 1) r (feat h e))
      = blkSpec (iblk m c 0 t) (iblk m c 1 t) (iblk m c 2 t) (qblk (grid0.coords t)).val r h e := by
  unfold out0_A_3
  rw [View.read_writes_eq_canon _ _ _ (cover0_A_3 c _ _ _ _ _ _ _ _ _ _ _ _ _ _ _ _)]
  unfold kernelRun0_A
  dsimp only
  refine (congrFun (View.canon_unit_zero (S := S1x256x128) (funext fun a => by match a with | ⟨0, _⟩ => rfl | ⟨1, _⟩ => rfl | ⟨2, _⟩ => rfl) inb_S1x256x128_S1x256x128_0_0_0 _) _).trans ?_
  unfold kernelRun0_A.sl.r_137
  match h with
  | ⟨0, _⟩ => exact (both_lo _ _ r e).trans (run_lo c _ _ _ _ _ _ _ _ _ _ _ _ _ _ _ _ e r)
  | ⟨1, _⟩ => exact (both_hi _ _ r e).trans (run_hi c _ _ _ _ _ _ _ _ _ _ _ _ _ _ _ _ e r)

end Cert.Sb

end
-- ==== Proof.ArrayValue.lean ====
/-
  The array that the stick-breaking attention kernel leaves, as one function of its three arguments.
-/
module

public import proofs.«01_k».proof.Proof.BlockValue

public section

set_option maxRecDepth 16384

noncomputable section

namespace Cert.Sb

open Cert.KernelIdeal Cert.KernelIdeal.Gen Idealize.ShloMosaic Idealize.ShloMosaic.TcCoe Idealize.ShloMosaic.ValueIdx Idealize.SL.Sem
open Finset

/-- Feature `e` of head `g`. -/
@[expose] def headFeat (g : Fin 8) (e : Fin 64) : Fin 512 := ⟨64 * g.val + e.val, by have := g.isLt; have := e.isLt; omega⟩

/-- The score of token `T` for the query token `qt`, in head `g` of batch element `b`. -/
@[expose] def scoreG (a0 : S8x16x512x256.Idx → EReal) (a1 : S8x4096x512.Idx → EReal) (b : Fin 8) (g : Fin 8) (qt T : ℕ) : EReal :=
  ∑ e : Fin 64, a1 (ix3 b (keyRow T) (headFeat g e)) * a0 (ix4 b (tokBlk qt) (headFeat g e) (pos (qt % 256)))

/-- Feature `e` of the value of token `T`, in head `g` of batch element `b`. -/
@[expose] def valG (a2 : S8x16x512x256.Idx → EReal) (b : Fin 8) (g : Fin 8) (e : Fin 64) (T : ℕ) : EReal :=
  a2 (ix4 b (tokBlk T) (headFeat g e) (pos (T % 256)))

/-- The query token in row `i`. -/
@[expose] def rowTok (i : ℕ) : ℕ := 256 * (i / 256) + tok (i % 256)

/-- The kernel's result: stick-breaking attention of every head, its rows in the order of the token blocks. -/
@[expose] def outG (a0 : S8x16x512x256.Idx → EReal) (a1 : S8x4096x512.Idx → EReal) (a2 : S8x16x512x256.Idx → EReal) (b : Fin 8) (i : Fin 4096) (f : Fin 512) : EReal :=
  stick (scoreG a0 a1 b ⟨f.val / 64, by have := f.isLt; omega⟩ (rowTok i.val)) (valG a2 b ⟨f.val / 64, by have := f.isLt; omega⟩ ⟨f.val % 64, Nat.mod_lt _ (by decide)⟩) (rowTok i.val) 4096

theorem pos_tok : ∀ r : Fin 256, pos (tok r.val) = r := by decide +kernel

/-- The blocks of the four windows at a grid point. -/
theorem origin0 : ∀ t : Fin grid0.N, win0_0.index t 0 * win0_0.size 0 = t.val / 64 ∧ win0_0.index t 1 * win0_0.size 1 = t.val % 16 ∧ win0_0.index t 2 * win0_0.size 2 = 128 * (t.val / 16 % 4) ∧ win0_0.index t 3 * win0_0.size 3 = 0 := by decide +kernel
theorem origin1 : ∀ t : Fin grid0.N, win0_1.index t 0 * win0_1.size 0 = t.val / 64 ∧ win0_1.index t 1 * win0_1.size 1 = 0 ∧ win0_1.index t 2 * win0_1.size 2 = 128 * (t.val / 16 % 4) := by decide +kernel
theorem origin2 : ∀ t : Fin grid0.N, win0_2.index t 0 * win0_2.size 0 = t.val / 64 ∧ win0_2.index t 1 * win0_2.size 1 = 0 ∧ win0_2.index t 2 * win0_2.size 2 = 128 * (t.val / 16 % 4) ∧ win0_2.index t 3 * win0_2.size 3 = 0 := by decide +kernel
theorem origin3 : ∀ t : Fin grid0.N, win0_3.index t 0 * win0_3.size 0 = t.val / 64 ∧ win0_3.index t 1 * win0_3.size 1 = 256 * (t.val % 16) ∧ win0_3.index t 2 * win0_3.size 2 = 128 * (t.val / 16 % 4) := by decide +kernel
theorem extent3 : ∀ t : Fin grid0.N, win0_3.xsize (grid0.coords t) 0 = 1 ∧ win0_3.xsize (grid0.coords t) 1 = 256 ∧ win0_3.xsize (grid0.coords t) 2 = 128 := by decide +kernel
theorem coord2 : ∀ t : Fin grid0.N, (qblk (grid0.coords t)).val = t.val % 16 := by decide +kernel

section Point

variable (m : (ℓ : Loc nD τ sig) → Buf (Elt Ideal) ℓ) (c : Dev nD) (t : Fin cfg0.N)

theorem t_lt : t.val < 512 := lt_of_lt_of_eq t.isLt N_0

/-- The batch element, the query block and the head pair of a grid point. -/
@[expose] def ptB : Fin 8 := ⟨t.val / 64, by have := t_lt t; omega⟩
@[expose] def ptQ : Fin 16 := ⟨t.val % 16, Nat.mod_lt _ (by decide)⟩
@[expose] def ptF (f : Fin 128) : Fin 512 := ⟨128 * (t.val / 16 % 4) + f.val, by have := f.isLt; omega⟩

theorem iblk0_apply (f : Fin 128) (col : Fin 256) : iblk m c 0 t (ix4 (0 : Fin 1) (0 : Fin 1) f col) = m ((c : Thread nD τ).loc main_arg0) (ix4 (ptB t) (ptQ t) (ptF t f) col) := by
  unfold iblk
  show V m c (Pipeline.arrRef spec0 0) _ = _
  refine congrArg (m ((c : Thread nD τ).loc main_arg0)) (funext fun a => Fin.ext ?_)
  obtain ⟨h0, h1, h2, h3⟩ := origin0 t
  match a with
  | ⟨0, _⟩ => show win0_0.index t 0 * win0_0.size 0 + 1 * 0 = t.val / 64; rw [h0, mul_zero, add_zero]
  | ⟨1, _⟩ => show win0_0.index t 1 * win0_0.size 1 + 1 * 0 = t.val % 16; rw [h1, mul_zero, add_zero]
  | ⟨2, _⟩ => show win0_0.index t 2 * win0_0.size 2 + 1 * f.val = 128 * (t.val / 16 % 4) + f.val; rw [h2, one_mul]
  | ⟨3, _⟩ => show win0_0.index t 3 * win0_0.size 3 + 1 * col.val = col.val; rw [h3, one_mul, zero_add]
theorem iblk1_apply (row : Fin 4096) (f : Fin 128) : iblk m c 1 t (ix3 (0 : Fin 1) row f) = m ((c : Thread nD τ).loc main_arg1) (ix3 (ptB t) row (ptF t f)) := by
  unfold iblk
  show V m c (Pipeline.arrRef spec0 1) _ = _
  refine congrArg (m ((c : Thread nD τ).loc main_arg1)) (funext fun a => Fin.ext ?_)
  obtain ⟨h0, h1, h2⟩ := origin1 t
  match a with
  | ⟨0, _⟩ => show win0_1.index t 0 * win0_1.size 0 + 1 * 0 = t.val / 64; rw [h0, mul_zero, add_zero]
  | ⟨1, _⟩ => show win0_1.index t 1 * win0_1.size 1 + 1 * row.val = row.val; rw [h1, one_mul, zero_add]
  | ⟨2, _⟩ => show win0_1.index t 2 * win0_1.size 2 + 1 * f.val = 128 * (t.val / 16 % 4) + f.val; rw [h2, one_mul]
theorem iblk2_apply (n : Fin 16) (f : Fin 128) (col : Fin 256) : iblk m c 2 t (ix4 (0 : Fin 1) n f col) = m ((c : Thread nD τ).loc main_arg2) (ix4 (ptB t) n (ptF t f) col) := by
  unfold iblk
  show V m c (Pipeline.arrRef spec0 2) _ = _
  refine congrArg (m ((c : Thread nD τ).loc main_arg2)) (funext fun a => Fin.ext ?_)
  obtain ⟨h0, h1, h2, h3⟩ := origin2 t
  match a with
  | ⟨0, _⟩ => show win0_2.index t 0 * win0_2.size 0 + 1 * 0 = t.val / 64; rw [h0, mul_zero, add_zero]
  | ⟨1, _⟩ => show win0_2.index t 1 * win0_2.size 1 + 1 * n.val = n.val; rw [h1, one_mul, zero_add]
  | ⟨2, _⟩ => show win0_2.index t 2 * win0_2.size 2 + 1 * f.val = 128 * (t.val / 16 % 4) + f.val; rw [h2, one_mul]
  | ⟨3, _⟩ => show win0_2.index t 3 * win0_2.size 3 + 1 * col.val = col.val; rw [h3, one_mul, zero_add]

/-- The three argument arrays. -/
abbrev arg0 : S8x16x512x256.Idx → EReal := m ((c : Thread nD τ).loc main_arg0)
abbrev arg1 : S8x4096x512.Idx → EReal := m ((c : Thread nD τ).loc main_arg1)
abbrev arg2 : S8x16x512x256.Idx → EReal := m ((c : Thread nD τ).loc main_arg2)

/-- The head of a pair's half at a grid point. -/
@[expose] def ptG (h : Fin 2) : Fin 8 := ⟨2 * (t.val / 16 % 4) + h.val, by have := h.isLt; omega⟩
theorem ptF_feat (h : Fin 2) (e : Fin 64) : ptF t (feat h e) = headFeat (ptG t h) e :=
  Fin.ext (by show 128 * (t.val / 16 % 4) + (64 * h.val + e.val) = 64 * (2 * (t.val / 16 % 4) + h.val) + e.val; omega)

/-- The result as a buffer's contents. -/
@[expose] def outBuf : Buf (Elt Ideal) ((c : Thread nD τ).loc main_v0) :=
  fun i : S8x4096x512.Idx => outG (arg0 m c) (arg1 m c) (arg2 m c) ⟨(i 0).val, (i 0).isLt⟩ ⟨(i 1).val, (i 1).isLt⟩ ⟨(i 2).val, (i 2).isLt⟩

/-- The block's specification is the array's. -/
theorem blkSpec_eq (r : Fin 256) (h : Fin 2) (e : Fin 64) :
    blkSpec (iblk m c 0 t) (iblk m c 1 t) (iblk m c 2 t) (t.val % 16) r h e
      = outG (arg0 m c) (arg1 m c) (arg2 m c) (ptB t) ⟨256 * (t.val % 16) + r.val, by have := r.isLt; omega⟩ (ptF t (feat h e)) := by
  have hr := r.isLt
  have hT := tok_lt r
  have hrow : rowTok (256 * (t.val % 16) + r.val) = 256 * (t.val % 16) + tok r.val := by
    unfold rowTok
    rw [show (256 * (t.val % 16) + r.val) / 256 = t.val % 16 by omega, show (256 * (t.val % 16) + r.val) % 256 = r.val by omega]
  have hg : (ptF t (feat h e)).val = 64 * (ptG t h).val + e.val := congrArg Fin.val (ptF_feat t h e)
  have hg' : (⟨(ptF t (feat h e)).val / 64, by have := (ptF t (feat h e)).isLt; omega⟩ : Fin 8) = ptG t h := Fin.ext (by show _ / 64 = _; have := e.isLt; omega)
  have he' : (⟨(ptF t (feat h e)).val % 64, Nat.mod_lt _ (by decide)⟩ : Fin 64) = e := Fin.ext (by show _ % 64 = _; have := e.isLt; omega)
  unfold blkSpec outG
  rw [hg', he', hrow, stick_extend _ _ _ _ 4096 (by omega) (by omega)]
  refine stick_congr _ _ _ _ _ _ (fun T _ => ?_) (fun T _ => ?_)
  · unfold blkScore scoreG
    refine Finset.sum_congr rfl fun e' _ => ?_
    rw [iblk1_apply, iblk0_apply, ptF_feat]
    have hq : tokBlk (256 * (t.val % 16) + tok r.val) = ptQ t := Fin.ext (by show (256 * (t.val % 16) + tok r.val) / 256 % 16 = t.val % 16; omega)
    rw [hq, show (256 * (t.val % 16) + tok r.val) % 256 = tok r.val by omega, pos_tok]
  · unfold blkVal valG
    rw [iblk2_apply, ptF_feat]

/-- What a grid point writes back is the result, read through its block. -/
theorem flushed_eq : (dats m 0 c).flushed 3 t = ((cfg0.win 3).blk t).view.read (Elt Ideal) (outBuf m c) := by
  rw [Cert.KernelIdeal.Value.flushed3_A]
  funext j
  obtain ⟨h0, h1, h2⟩ := origin3 t
  obtain ⟨x0, x1, x2⟩ := extent3 t
  have j0 : (j 0).val < 1 := lt_of_lt_of_eq (j 0).isLt x0
  have j1 : (j 1).val < 256 := lt_of_lt_of_eq (j 1).isLt x1
  have j2 : (j 2).val < 128 := lt_of_lt_of_eq (j 2).isLt x2
  have hcut : ∀ X : Vec Ideal S1x256x128 .bf16, (cfg0.win 3).cut (grid0.coords t) X j
      = X (ix3 (0 : Fin 1) ⟨(j 1).val, j1⟩ (feat ⟨(j 2).val / 64, by omega⟩ ⟨(j 2).val % 64, Nat.mod_lt _ (by decide)⟩)) := by
    intro X
    refine congrArg X (funext fun a => Fin.ext ?_)
    match a with
    | ⟨0, _⟩ => show (j 0).val = 0; omega
    | ⟨1, _⟩ => rfl
    | ⟨2, _⟩ => show (j 2).val = 64 * ((j 2).val / 64) + (j 2).val % 64; omega
  rw [hcut, outsAt_apply, coord2, blkSpec_eq]
  show _ = outG (arg0 m c) (arg1 m c) (arg2 m c) _ _ _
  have hf : ptF t (feat ⟨(j 2).val / 64, by omega⟩ ⟨(j 2).val % 64, Nat.mod_lt _ (by decide)⟩) = ptF t ⟨(j 2).val, j2⟩ :=
    Fin.ext (by show 128 * (t.val / 16 % 4) + (64 * ((j 2).val / 64) + (j 2).val % 64) = 128 * (t.val / 16 % 4) + (j 2).val; omega)
  rw [hf]
  congr 1
  · exact Fin.ext (by show t.val / 64 = win0_3.index t 0 * win0_3.size 0 + 1 * (j 0).val; rw [h0]; omega)
  · exact Fin.ext (by show 256 * (t.val % 16) + (j 1).val = win0_3.index t 1 * win0_3.size 1 + 1 * (j 1).val; rw [h1, one_mul])
  · exact Fin.ext (by show 128 * (t.val / 16 % 4) + (j 2).val = win0_3.index t 2 * win0_3.size 2 + 1 * (j 2).val; rw [h2, one_mul])

/-- Which elements of the result a grid point writes. -/
theorem mem_blk (i : S8x4096x512.Idx) : i ∈ ((cfg0.win 3).blk t).view.set
    ↔ (i 0).val = t.val / 64 ∧ (256 * (t.val % 16) ≤ (i 1).val ∧ (i 1).val < 256 * (t.val % 16) + 256) ∧ 128 * (t.val / 16 % 4) ≤ (i 2).val ∧ (i 2).val < 128 * (t.val / 16 % 4) + 128 := by
  show i ∈ ((View.whole main_v0).slice (win0_3.rect t)).set ↔ _
  rw [View.set_slice_whole, Rect.mem_set_unit]
  obtain ⟨h0, h1, h2⟩ := origin3 t
  obtain ⟨x0, x1, x2⟩ := extent3 t
  refine ⟨fun h => ?_, fun h a => ?_⟩
  · have e0 : win0_3.index t 0 * win0_3.size 0 ≤ (i 0 : Nat) ∧ (i 0 : Nat) < win0_3.index t 0 * win0_3.size 0 + win0_3.xsize (grid0.coords t) 0 := h 0
    have e1 : win0_3.index t 1 * win0_3.size 1 ≤ (i 1 : Nat) ∧ (i 1 : Nat) < win0_3.index t 1 * win0_3.size 1 + win0_3.xsize (grid0.coords t) 1 := h 1
    have e2 : win0_3.index t 2 * win0_3.size 2 ≤ (i 2 : Nat) ∧ (i 2 : Nat) < win0_3.index t 2 * win0_3.size 2 + win0_3.xsize (grid0.coords t) 2 := h 2
    rw [h0, x0] at e0
    rw [h1, x1] at e1
    rw [h2, x2] at e2
    exact ⟨by omega, e1, e2⟩
  · match a with
    | ⟨0, _⟩ =>
      show win0_3.index t 0 * win0_3.size 0 ≤ (i 0 : Nat) ∧ (i 0 : Nat) < win0_3.index t 0 * win0_3.size 0 + win0_3.xsize (grid0.coords t) 0
      rw [h0, x0]; have := h.1; omega
    | ⟨1, _⟩ =>
      show win0_3.index t 1 * win0_3.size 1 ≤ (i 1 : Nat) ∧ (i 1 : Nat) < win0_3.index t 1 * win0_3.size 1 + win0_3.xsize (grid0.coords t) 1
      rw [h1, x1]; exact h.2.1
    | ⟨2, _⟩ =>
      show win0_3.index t 2 * win0_3.size 2 ≤ (i 2 : Nat) ∧ (i 2 : Nat) < win0_3.index t 2 * win0_3.size 2 + win0_3.xsize (grid0.coords t) 2
      rw [h2, x2]; exact h.2.2

/-- Every element of the result is written. -/
theorem cover (i : S8x4096x512.Idx) : ∃ t : Fin cfg0.N, (cfg0.win 3).flush t = true ∧ i ∈ ((cfg0.win 3).blk t).view.set := by
  have i0 : (i 0).val < 8 := (i 0).isLt
  have i1 : (i 1).val < 4096 := (i 1).isLt
  have i2 : (i 2).val < 512 := (i 2).isLt
  refine ⟨⟨64 * (i 0).val + 16 * ((i 2).val / 128) + (i 1).val / 256, lt_of_lt_of_eq (by omega) N_0.symm⟩, flush0_3 _, ?_⟩
  rw [mem_blk]
  show (i 0).val = (64 * (i 0).val + 16 * ((i 2).val / 128) + (i 1).val / 256) / 64 ∧ _
  dsimp only
  omega

/-- The kernel's result array. -/
theorem final_out : (dats m 0 c).arrAt 3 cfg0.N = outBuf m c := (dats m 0 c).arrAt_eq_of_cover 3 (outBuf m c) (fun t _ => flushed_eq m c t) cover

end Point

end Cert.Sb

end
-- ==== Proof.RefLayout.lean ====
/-
  The reference's layout operations read at an index: heads split off, token blocks put in the order of the tokens,
  and the running sum over the later tokens.
-/
module

public import proofs.«01_k».proof.Proof.ArrayValue
public import proofs.«01_k».proof.Proof.Gen.ReferenceIdeal.Read
public import Idealize.ShloMosaic.Lib.ValueIdxRank6

public section

set_option maxRecDepth 16384

noncomputable section

namespace Cert.Sb

open Cert.ReferenceIdeal Cert.ReferenceIdeal.Gen Cert.ReferenceIdeal.Read Idealize.ShloMosaic Idealize.ShloMosaic.TcCoe Idealize.ShloMosaic.ValueIdx Idealize.SL.Sem
open Finset

/-- The row of a block at group `g`, place `s`. -/
@[expose] def rowOf (g : Fin 32) (s : Fin 8) : Fin 256 := ⟨8 * g.val + s.val, by have := g.isLt; have := s.isLt; omega⟩

/-- The row of the whole array in block `n`, group `g`, place `s`. -/
@[expose] def rowAll (n : Fin 16) (g : Fin 32) (s : Fin 8) : Fin 4096 :=
  ⟨256 * n.val + (8 * g.val + s.val), by have := n.isLt; have := g.isLt; have := s.isLt; omega⟩

/-- The token in block `n`, place `s`, group `g`. -/
@[expose] def tokAll (n : Fin 16) (s : Fin 8) (g : Fin 32) : Fin 4096 :=
  ⟨256 * n.val + (32 * s.val + g.val), by have := n.isLt; have := g.isLt; have := s.isLt; omega⟩

/-- Rows and features of a block taken apart. -/
theorem split_block (x : S8x16x256x512.Idx → EReal) (hc : S8x16x256x512.ShapeCasts S8x16x32x8x8x64) (b : Fin 8) (n : Fin 16) (g : Fin 32) (s : Fin 8) (h : Fin 8) (d : Fin 64) :
    shapeCast S8x16x32x8x8x64 x hc (ix6 b n g s h d) = x (ix4 b n (rowOf g s) (headFeat h d)) := by
  refine shapeCast_apply x hc _ _ ?_
  refine (Shape.rowMajor_val_four _).trans (Eq.trans ?_ (Shape.rowMajor_val_six _).symm)
  show ((b.val * 16 + n.val) * 256 + (8 * g.val + s.val)) * 512 + (64 * h.val + d.val)
    = ((((b.val * 16 + n.val) * 32 + g.val) * 8 + s.val) * 8 + h.val) * 64 + d.val
  omega

/-- Rows and features of the keys taken apart. -/
theorem split_rows (x : S8x4096x512.Idx → EReal) (hc : S8x4096x512.ShapeCasts S8x16x32x8x8x64) (b : Fin 8) (n : Fin 16) (g : Fin 32) (s : Fin 8) (h : Fin 8) (d : Fin 64) :
    shapeCast S8x16x32x8x8x64 x hc (ix6 b n g s h d) = x (ix3 b (rowAll n g s) (headFeat h d)) := by
  refine shapeCast_apply x hc _ _ ?_
  refine (Shape.rowMajor_val_three _).trans (Eq.trans ?_ (Shape.rowMajor_val_six _).symm)
  show (b.val * 4096 + (256 * n.val + (8 * g.val + s.val))) * 512 + (64 * h.val + d.val)
    = ((((b.val * 16 + n.val) * 32 + g.val) * 8 + s.val) * 8 + h.val) * 64 + d.val
  omega

/-- Blocks, places and groups put together to tokens. -/
theorem merge_tokens (x : S8x8x16x8x32x64.Idx → EReal) (hc : S8x8x16x8x32x64.ShapeCasts S8x8x4096x64) (b h : Fin 8) (n : Fin 16) (s : Fin 8) (g : Fin 32) (d : Fin 64) :
    shapeCast S8x8x4096x64 x hc (ix4 b h (tokAll n s g) d) = x (ix6 b h n s g d) := by
  refine shapeCast_apply x hc _ _ ?_
  refine (Shape.rowMajor_val_six _).trans (Eq.trans ?_ (Shape.rowMajor_val_four _).symm)
  show ((((b.val * 8 + h.val) * 16 + n.val) * 8 + s.val) * 32 + g.val) * 64 + d.val
    = ((b.val * 8 + h.val) * 4096 + (256 * n.val + (32 * s.val + g.val))) * 64 + d.val
  omega

/-- Tokens taken apart to blocks, places and groups. -/
theorem split_tokens (x : S8x8x4096x64.Idx → EReal) (hc : S8x8x4096x64.ShapeCasts S8x8x16x8x32x64) (b h : Fin 8) (n : Fin 16) (s : Fin 8) (g : Fin 32) (d : Fin 64) :
    shapeCast S8x8x16x8x32x64 x hc (ix6 b h n s g d) = x (ix4 b h (tokAll n s g) d) := by
  refine shapeCast_apply x hc _ _ ?_
  refine (Shape.rowMajor_val_four _).trans (Eq.trans ?_ (Shape.rowMajor_val_six _).symm)
  show ((b.val * 8 + h.val) * 4096 + (256 * n.val + (32 * s.val + g.val))) * 64 + d.val
    = ((((b.val * 8 + h.val) * 16 + n.val) * 8 + s.val) * 32 + g.val) * 64 + d.val
  omega

/-- Rows and features of the result put together. -/
theorem merge_rows (x : S8x16x32x8x8x64.Idx → EReal) (hc : S8x16x32x8x8x64.ShapeCasts S8x4096x512) (b : Fin 8) (n : Fin 16) (g : Fin 32) (s : Fin 8) (h : Fin 8) (d : Fin 64) :
    shapeCast S8x4096x512 x hc (ix3 b (rowAll n g s) (headFeat h d)) = x (ix6 b n g s h d) := by
  refine shapeCast_apply x hc _ _ ?_
  refine (Shape.rowMajor_val_six _).trans (Eq.trans ?_ (Shape.rowMajor_val_three _).symm)
  show ((((b.val * 16 + n.val) * 32 + g.val) * 8 + s.val) * 8 + h.val) * 64 + d.val
    = (b.val * 4096 + (256 * n.val + (8 * g.val + s.val))) * 512 + (64 * h.val + d.val)
  omega

theorem v4_apply (x0 : (⟨S8x16x512x256, .bf16⟩ : BufTy).Contents (Elt Ideal)) (b h : Fin 8) (n : Fin 16) (s : Fin 8) (g : Fin 32) (d : Fin 64) :
    val_main_v4 (F := Ideal) x0 (ix4 b h (tokAll n s g) d) = x0 (ix4 b n (headFeat h d) (rowOf g s)) := by
  unfold val_main_v4
  refine (merge_tokens _ _ b h n s g d).trans ?_
  rw [val_main_v3_apply]
  have e : idx_main_v3 (ix6 b h n s g d) = ix6 b n g s h d := by
    funext a; match a with | ⟨0, _⟩ => rfl | ⟨1, _⟩ => rfl | ⟨2, _⟩ => rfl | ⟨3, _⟩ => rfl | ⟨4, _⟩ => rfl | ⟨5, _⟩ => rfl
  rw [e]
  unfold val_main_v2
  refine (split_block _ _ b n g s h d).trans ?_
  rw [val_main_v1_apply]
  have e' : idx_main_v1 (ix4 b n (rowOf g s) (headFeat h d)) = ix4 b n (headFeat h d) (rowOf g s) := by
    funext a; match a with | ⟨0, _⟩ => rfl | ⟨1, _⟩ => rfl | ⟨2, _⟩ => rfl | ⟨3, _⟩ => rfl
  rw [e']
  rfl

theorem v13_apply (x2 : (⟨S8x16x512x256, .bf16⟩ : BufTy).Contents (Elt Ideal)) (b h : Fin 8) (n : Fin 16) (s : Fin 8) (g : Fin 32) (d : Fin 64) :
    val_main_v13 (F := Ideal) x2 (ix4 b h (tokAll n s g) d) = x2 (ix4 b n (headFeat h d) (rowOf g s)) := by
  unfold val_main_v13
  refine (merge_tokens _ _ b h n s g d).trans ?_
  rw [val_main_v12_apply]
  have e : idx_main_v12 (ix6 b h n s g d) = ix6 b n g s h d := by
    funext a; match a with | ⟨0, _⟩ => rfl | ⟨1, _⟩ => rfl | ⟨2, _⟩ => rfl | ⟨3, _⟩ => rfl | ⟨4, _⟩ => rfl | ⟨5, _⟩ => rfl
  rw [e]
  unfold val_main_v11
  refine (split_block _ _ b n g s h d).trans ?_
  rw [val_main_v10_apply]
  have e' : idx_main_v10 (ix4 b n (rowOf g s) (headFeat h d)) = ix4 b n (headFeat h d) (rowOf g s) := by
    funext a; match a with | ⟨0, _⟩ => rfl | ⟨1, _⟩ => rfl | ⟨2, _⟩ => rfl | ⟨3, _⟩ => rfl
  rw [e']
  rfl

theorem v8_apply (x1 : (⟨S8x4096x512, .bf16⟩ : BufTy).Contents (Elt Ideal)) (b h : Fin 8) (n : Fin 16) (s : Fin 8) (g : Fin 32) (d : Fin 64) :
    val_main_v8 (F := Ideal) x1 (ix4 b h (tokAll n s g) d) = x1 (ix3 b (rowAll n g s) (headFeat h d)) := by
  unfold val_main_v8
  refine (merge_tokens _ _ b h n s g d).trans ?_
  rw [val_main_v7_apply]
  have e : idx_main_v7 (ix6 b h n s g d) = ix6 b n g s h d := by
    funext a; match a with | ⟨0, _⟩ => rfl | ⟨1, _⟩ => rfl | ⟨2, _⟩ => rfl | ⟨3, _⟩ => rfl | ⟨4, _⟩ => rfl | ⟨5, _⟩ => rfl
  rw [e]
  unfold val_main_v6
  refine (split_rows _ _ b n g s h d).trans ?_
  rfl

/-- The result's element at a row is the attention's element at the row's token. -/
theorem v34_apply (x0 : (⟨S8x16x512x256, .bf16⟩ : BufTy).Contents (Elt Ideal)) (x1 : (⟨S8x4096x512, .bf16⟩ : BufTy).Contents (Elt Ideal)) (x2 : (⟨S8x16x512x256, .bf16⟩ : BufTy).Contents (Elt Ideal))
    (b h : Fin 8) (n : Fin 16) (s : Fin 8) (g : Fin 32) (d : Fin 64) :
    val_main_v34 (F := Ideal) x0 x1 x2 (ix3 b (rowAll n g s) (headFeat h d)) = val_main_v30 (F := Ideal) x0 x1 x2 (ix4 b h (tokAll n s g) d) := by
  rw [val_main_v34_apply]
  show val_main_v33 (F := Ideal) x0 x1 x2 (ix3 b (rowAll n g s) (headFeat h d)) = _
  unfold val_main_v33
  refine (merge_rows _ _ b n g s h d).trans ?_
  rw [val_main_v32_apply]
  have e : idx_main_v32 (ix6 b n g s h d) = ix6 b h n s g d := by
    funext a; match a with | ⟨0, _⟩ => rfl | ⟨1, _⟩ => rfl | ⟨2, _⟩ => rfl | ⟨3, _⟩ => rfl | ⟨4, _⟩ => rfl | ⟨5, _⟩ => rfl
  rw [e]
  unfold val_main_v31
  exact split_tokens _ _ b h n s g d

/-- A left fold of additions is the start plus the sum. -/
theorem foldl_add_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- The sum of a window of 4096 tokens from token `k` on, the tokens past the last one counting nothing. -/
theorem sum_window (f : ℕ → EReal) (k : ℕ) (hk : k < 4096) :
    ∑ i : Fin 4096, (if k + i.val < 4096 then f (k + i.val) else 0) = ∑ t ∈ Ico k 4096, f t := by
  rw [Fin.sum_univ_eq_sum_range (fun i => if k + i < 4096 then f (k + i) else 0) 4096, sum_Ico_eq_sum_range, ← sum_filter]
  refine sum_congr ?_ fun _ _ => rfl
  ext i
  rw [mem_filter, mem_range, mem_range]
  omega

/-- The reversed running sum along the last axis, read at an index: the sum over the tokens from `k` on. -/
theorem suffix_sum (x : S8x8x4096x4096.Idx → EReal) (init : S_.Idx → EReal) (hi : ∀ i, init i = 0)
    (hw : S8x8x4096x4096.ReduceWindows ![1, 1, 1, 4096] ![1, 1, 1, 1] ![0, 0, 0, 0] ![0, 0, 0, 4095] S8x8x4096x4096) (hu : 0 < S_.numel)
    (b h : Fin 8) (q k : Fin 4096) (f : ℕ → EReal) (hf : ∀ t : Fin 4096, x (ix4 b h q t) = f t.val) :
    Host.reduceWindowAdd (F := Ideal) (φ := .f32) (t := S8x8x4096x4096) ![1, 1, 1, 4096] ![1, 1, 1, 1] ![0, 0, 0, 0] ![0, 0, 0, 4095] x init hw hu (ix4 b h q k)
      = ∑ t ∈ Ico k.val 4096, f t := by
  have hk := k.isLt
  unfold Host.reduceWindowAdd
  rw [Idealize.ShloMosaic.Ideal.hostReduceWindowAdd_def, hi]
  unfold Ideal.hostReduceWindowAdd Host.reduceWindow
  refine (foldl_add_sum _ _ _).trans ?_
  rw [zero_add, ← sum_window f k.val hk]
  set W : Shape := ⟨S8x8x4096x4096.rank, ![1, 1, 1, 4096]⟩ with hW
  have key : ∀ (w : W.Idx) (inst : Decidable (∀ a : Fin 4, (![0, 0, 0, 0] : Fin 4 → ℕ) a ≤ (ix4 b h q k a).val * (![1, 1, 1, 1] : Fin 4 → ℕ) a + (w a).val
        ∧ (ix4 b h q k a).val * (![1, 1, 1, 1] : Fin 4 → ℕ) a + (w a).val - (![0, 0, 0, 0] : Fin 4 → ℕ) a < S8x8x4096x4096.size a)), (@dite EReal (∀ a : Fin 4, (![0, 0, 0, 0] : Fin 4 → ℕ) a ≤ (ix4 b h q k a).val * (![1, 1, 1, 1] : Fin 4 → ℕ) a + (w a).val
        ∧ (ix4 b h q k a).val * (![1, 1, 1, 1] : Fin 4 → ℕ) a + (w a).val - (![0, 0, 0, 0] : Fin 4 → ℕ) a < S8x8x4096x4096.size a) inst
      (fun hin => x (fun a => ⟨(ix4 b h q k a).val * (![1, 1, 1, 1] : Fin 4 → ℕ) a + (w a).val - (![0, 0, 0, 0] : Fin 4 → ℕ) a, (hin a).2⟩)) fun _ => (0 : EReal))
      = if k.val + (w 3).val < 4096 then f (k.val + (w 3).val) else 0 := by
    intro w inst
    have h0 : (w 0).val < 1 := (w 0).isLt
    have h1 : (w 1).val < 1 := (w 1).isLt
    have h2 : (w 2).val < 1 := (w 2).isLt
    by_cases hlt : k.val + (w 3).val < 4096
    · rw [if_pos hlt, dif_pos]
      · rw [← hf ⟨k.val + (w 3).val, hlt⟩]
        congr 1
        funext a
        apply Fin.ext
        match a with
        | ⟨0, _⟩ => show b.val * 1 + (w 0).val - 0 = b.val; omega
        | ⟨1, _⟩ => show h.val * 1 + (w 1).val - 0 = h.val; omega
        | ⟨2, _⟩ => show q.val * 1 + (w 2).val - 0 = q.val; omega
        | ⟨3, _⟩ => show k.val * 1 + (w 3).val - 0 = k.val + (w 3).val; omega
      · intro a
        match a with
        | ⟨0, _⟩ => show 0 ≤ b.val * 1 + (w 0).val ∧ b.val * 1 + (w 0).val - 0 < 8; have := b.isLt; omega
        | ⟨1, _⟩ => show 0 ≤ h.val * 1 + (w 1).val ∧ h.val * 1 + (w 1).val - 0 < 8; have := h.isLt; omega
        | ⟨2, _⟩ => show 0 ≤ q.val * 1 + (w 2).val ∧ q.val * 1 + (w 2).val - 0 < 4096; have := q.isLt; omega
        | ⟨3, _⟩ => show 0 ≤ k.val * 1 + (w 3).val ∧ k.val * 1 + (w 3).val - 0 < 4096; omega
    · rw [if_neg hlt, dif_neg]
      intro hin
      have h3 : 0 ≤ k.val * 1 + (w 3).val ∧ k.val * 1 + (w 3).val - 0 < 4096 := hin 3
      omega
  refine (congrArg List.sum (List.map_congr_left (g := fun n => if k.val + (W.rowMajor.symm n 3).val < 4096 then f (k.val + (W.rowMajor.symm n 3).val) else 0)
    fun n _ => key (W.rowMajor.symm n) _)).trans ?_
  rw [← Fin.sum_univ_def]
  rw [Equiv.sum_comp W.rowMajor.symm (fun w : W.Idx => if k.val + (w 3).val < 4096 then f (k.val + (w 3).val) else 0)]
  refine sum_bij' (fun w _ => (⟨(w 3).val, (w 3).isLt⟩ : Fin 4096)) (fun i _ => (ix4 (0 : Fin 1) (0 : Fin 1) (0 : Fin 1) i : W.Idx)) ?_ ?_ ?_ ?_ ?_
  · intro w _; exact mem_univ _
  · intro i _; exact mem_univ _
  · intro w _
    funext a
    apply Fin.ext
    have h0 : (w 0).val < 1 := (w 0).isLt
    have h1 : (w 1).val < 1 := (w 1).isLt
    have h2 : (w 2).val < 1 := (w 2).isLt
    match a with
    | ⟨0, _⟩ => show 0 = (w 0).val; omega
    | ⟨1, _⟩ => show 0 = (w 1).val; omega
    | ⟨2, _⟩ => show 0 = (w 2).val; omega
    | ⟨3, _⟩ => rfl
  · intro i _; rfl
  · intro w _; rfl

end Cert.Sb
-- ==== Proof.RealSide.lean ====
/-
  The stick-breaking weights over the real numbers: the product of the factors that the kernel keeps equals the
  exponential of the sum of log-sigmoids that the reference takes.
-/
module

public import proofs.«01_k».proof.Proof.BlockValue

public section

set_option maxRecDepth 16384

noncomputable section

namespace Cert.Sb

open Idealize.ShloMosaic
open Finset

/-- The logistic function of a real number. -/
@[expose] def sg (x : ℝ) : ℝ := (1 + Real.exp (-x))⁻¹

theorem sg_pos (x : ℝ) : 0 < sg x := by
  unfold sg
  have := Real.exp_pos (-x)
  positivity

/-- The exponential that both factors share, at a real score. -/
theorem expNegAbs_coe (x : ℝ) : Ideal.exp (0 - max (x : EReal) (-(x : EReal))) = ((Real.exp (-|x|) : ℝ) : EReal) := by
  have h : (0 : EReal) - max (x : EReal) (-(x : EReal)) = ((-|x| : ℝ) : EReal) := by
    rw [← EReal.coe_neg, ← EReal.coe_strictMono.monotone.map_max, ← EReal.coe_zero, ← EReal.coe_sub, zero_sub]
    rfl
  rw [h]; rfl

/-- One over a positive real. -/
theorem div_one_coe (y : ℝ) (hy : 0 < y) : Ideal.div 1 (y : EReal) = ((y⁻¹ : ℝ) : EReal) := by
  unfold Ideal.div
  rw [if_neg (by exact_mod_cast hy.ne'), one_mul, EReal.coe_inv]

theorem betaF_coe (x : ℝ) : betaF (x : EReal) = ((sg x : ℝ) : EReal) := by
  have he := Real.exp_pos (-|x|)
  unfold betaF
  rw [expNegAbs_coe, ← EReal.coe_one, ← EReal.coe_add, EReal.coe_one, div_one_coe _ (by positivity)]
  rcases le_total 0 x with h | h
  · rw [if_pos (by exact_mod_cast h), abs_of_nonneg h]; rfl
  · by_cases h0 : 0 ≤ x
    · rw [if_pos (by exact_mod_cast h0), abs_of_nonneg h0]; rfl
    · rw [if_neg (by exact_mod_cast h0), abs_of_nonpos h, ← EReal.coe_mul, neg_neg]
      congr 1
      unfold sg
      have h1 := Real.exp_pos x
      rw [Real.exp_neg]
      field_simp
      try ring

theorem keepF_coe (x : ℝ) : keepF (x : EReal) = ((sg (-x) : ℝ) : EReal) := by
  have he := Real.exp_pos (-|x|)
  unfold keepF
  rw [expNegAbs_coe, ← EReal.coe_one, ← EReal.coe_add, EReal.coe_one, div_one_coe _ (by positivity)]
  by_cases h : 0 ≤ x
  · rw [if_pos (by exact_mod_cast h), abs_of_nonneg h, ← EReal.coe_mul]
    congr 1
    unfold sg
    have h1 := Real.exp_pos x
    rw [neg_neg, Real.exp_neg]
    field_simp
    try ring
  · rw [if_neg (by exact_mod_cast h), abs_of_nonpos (le_of_not_ge h)]
    unfold sg; rfl

/-- The reference's log-sigmoid, in its own operations. -/
@[expose] def logSig (z : EReal) : EReal :=
  -(Scalar.select (Ideal.cmp .une (-z - 0) (-z - 0)) (-z + 0) (max (-z) 0 + Ideal.log1p (Ideal.exp (-(max (-z - 0) (-(-z - 0)))))))

theorem logSig_coe (x : ℝ) : logSig (x : EReal) = ((Real.log (sg x) : ℝ) : EReal) := by
  have he := Real.exp_pos (-|x|)
  have hs : Ideal.cmp .une (-(x : EReal) - 0) (-(x : EReal) - 0) = 0#1 := by
    unfold Ideal.cmp; simp
  have ha : -(max (-(x : EReal) - 0) (-(-(x : EReal) - 0))) = ((-|x| : ℝ) : EReal) := by
    rw [← EReal.coe_zero, ← EReal.coe_neg, ← EReal.coe_sub, ← EReal.coe_neg, ← EReal.coe_strictMono.monotone.map_max, ← EReal.coe_neg, sub_zero,
      ← abs_neg x]
    rfl
  have hl : Ideal.log1p ((Real.exp (-|x|) : ℝ) : EReal) = ((Real.log (1 + Real.exp (-|x|)) : ℝ) : EReal) := by
    unfold Ideal.log1p
    rw [← EReal.coe_one, ← EReal.coe_add]
    show (if (1 + Real.exp (-|x|)) ≤ 0 then (⊥ : EReal) else ((Real.log (1 + Real.exp (-|x|)) : ℝ) : EReal)) = _
    rw [if_neg (by linarith)]
  have hm : max (-(x : EReal)) 0 = ((max (-x) 0 : ℝ) : EReal) := by
    rw [← EReal.coe_zero, ← EReal.coe_neg, ← EReal.coe_strictMono.monotone.map_max]
  have hx : Ideal.exp ((-|x| : ℝ) : EReal) = ((Real.exp (-|x|) : ℝ) : EReal) := rfl
  unfold logSig
  rw [hs, ha, hx, hl, hm]
  show -(((max (-x) 0 : ℝ) : EReal) + ((Real.log (1 + Real.exp (-|x|)) : ℝ) : EReal)) = _
  rw [← EReal.coe_add, ← EReal.coe_neg]
  congr 1
  unfold sg
  rw [Real.log_inv]
  congr 1
  rcases le_total 0 x with h | h
  · rw [abs_of_nonneg h, max_eq_right (by linarith), zero_add]
  · rw [abs_of_nonpos h, max_eq_left (by linarith), neg_neg]
    have h1 := Real.exp_pos x
    have : 1 + Real.exp (-x) = Real.exp (-x) * (1 + Real.exp x) := by
      rw [mul_add, ← Real.exp_add]; simp [add_comm]
    rw [this, Real.log_mul (Real.exp_pos _).ne' (by positivity), Real.log_exp]

theorem coe_sum (s : Finset ℕ) (f : ℕ → ℝ) : ∑ i ∈ s, ((f i : ℝ) : EReal) = ((∑ i ∈ s, f i : ℝ) : EReal) := by
  induction s using Finset.induction_on with
  | empty => simp
  | insert a s ha ih => rw [sum_insert ha, sum_insert ha, ih, EReal.coe_add]

theorem coe_prod (s : Finset ℕ) (f : ℕ → ℝ) : ∏ i ∈ s, ((f i : ℝ) : EReal) = ((∏ i ∈ s, f i : ℝ) : EReal) := by
  induction s using Finset.induction_on with
  | empty => simp
  | insert a s ha ih => rw [prod_insert ha, prod_insert ha, ih, EReal.coe_mul]

/-- The masked logarithm of what token `T` leaves of the stick, for query token `q`. -/
@[expose] def logKeep (z : ℕ → EReal) (q T : ℕ) : EReal := if T < q then logSig (-z T) else 0

/-- The reference's weight of token `T` for query token `q`: the exponential of the log-sigmoid plus what the later tokens leave. -/
@[expose] def refW (z : ℕ → EReal) (q E T : ℕ) : EReal :=
  if T < q then Ideal.exp (logSig (z T) + ((∑ T' ∈ Ico T E, logKeep z q T') - logKeep z q T)) else 0

/-- Over real scores the reference's weight is the kernel's product. -/
theorem refW_eq (x : ℕ → ℝ) (q E T : ℕ) (hT : T < E) :
    refW (fun t => (x t : EReal)) q E T
      = (if T < q then betaF (x T : EReal) else 0) * ∏ T' ∈ Ico (T + 1) E, if T' < q then keepF (x T' : EReal) else 1 := by
  have hk : ∀ t, logKeep (fun t => (x t : EReal)) q t = ((if t < q then Real.log (sg (-x t)) else 0 : ℝ) : EReal) := by
    intro t
    unfold logKeep
    split
    · rw [← EReal.coe_neg, logSig_coe]
    · rfl
  have hp : ∀ t, (if t < q then keepF (x t : EReal) else 1) = ((if t < q then sg (-x t) else 1 : ℝ) : EReal) := by
    intro t
    split
    · exact keepF_coe _
    · rfl
  unfold refW
  by_cases h : T < q
  · rw [if_pos h, if_pos h, betaF_coe, logSig_coe, prod_congr rfl fun t _ => hp t, coe_prod, sum_congr rfl fun t _ => hk t, coe_sum, hk T,
      ← EReal.coe_sub, ← EReal.coe_add, sum_eq_sum_Ico_succ_bot hT, add_sub_cancel_left, ← EReal.coe_mul]
    show ((Real.exp _ : ℝ) : EReal) = _
    congr 1
    rw [Real.exp_add, Real.exp_log (sg_pos _), Real.exp_sum]
    congr 1
    refine prod_congr rfl fun t _ => ?_
    split
    · rw [Real.exp_log (sg_pos _)]
    · exact Real.exp_zero
  · rw [if_neg h, if_neg h, zero_mul]

end Cert.Sb
-- ==== Proof.RefValue.lean ====
/-
  The reference's stick-breaking attention, read at an index: over real queries and keys it is the array that the
  kernel leaves.
-/
module

public import proofs.«01_k».proof.Proof.RefLayout
public import proofs.«01_k».proof.Proof.RealSide

public section

set_option maxRecDepth 16384

noncomputable section

namespace Cert.Sb

open Cert.ReferenceIdeal Cert.ReferenceIdeal.Gen Cert.ReferenceIdeal.Read Idealize.ShloMosaic Idealize.ShloMosaic.TcCoe Idealize.ShloMosaic.ValueIdx Idealize.SL.Sem
open Finset

/-- The block of token `T`. -/
@[expose] def tBlk (T : Fin 4096) : Fin 16 := ⟨T.val / 256, by have := T.isLt; omega⟩
/-- The place of token `T` in its group. -/
@[expose] def tPlace (T : Fin 4096) : Fin 8 := ⟨T.val % 256 / 32, by omega⟩
/-- The group of token `T`. -/
@[expose] def tGroup (T : Fin 4096) : Fin 32 := ⟨T.val % 256 % 32, by omega⟩

theorem tokAll_split (T : Fin 4096) : tokAll (tBlk T) (tPlace T) (tGroup T) = T := by
  apply Fin.ext
  show 256 * (T.val / 256) + (32 * (T.val % 256 / 32) + T.val % 256 % 32) = T.val
  omega

theorem rowOf_split (T : Fin 4096) : rowOf (tGroup T) (tPlace T) = pos (T.val % 256) := by
  apply Fin.ext
  show 8 * (T.val % 256 % 32) + T.val % 256 / 32 = T.val % 256 % 32 * 8 + T.val % 256 / 32 % 8
  omega

theorem tBlk_eq (T : Fin 4096) : tBlk T = tokBlk T.val := by
  apply Fin.ext
  show T.val / 256 = T.val / 256 % 16
  have := T.isLt
  omega

theorem rowAll_split (T : Fin 4096) : rowAll (tBlk T) (tGroup T) (tPlace T) = keyRow T.val := by
  apply Fin.ext
  have hp : (pos (T.val % 256)).val = 8 * (T.val % 256 % 32) + T.val % 256 / 32 := congrArg Fin.val (rowOf_split T).symm
  show 256 * (T.val / 256) + (8 * (T.val % 256 % 32) + T.val % 256 / 32) = (256 * (T.val / 256) + (pos (T.val % 256)).val) % 4096
  rw [hp]
  have := T.isLt
  omega

/-- The reference's score is the kernel's. -/
theorem v20_eq (x0 : (⟨S8x16x512x256, .bf16⟩ : BufTy).Contents (Elt Ideal)) (x1 : (⟨S8x4096x512, .bf16⟩ : BufTy).Contents (Elt Ideal)) (b h : Fin 8) (q T : Fin 4096) :
    val_main_v20 (F := Ideal) x0 x1 (ix4 b h q T) = scoreG x0 x1 b h q.val T.val := by
  rw [val_main_v20_apply]
  unfold scoreG
  refine sum_congr rfl fun d _ => ?_
  have el : lidx_main_v20 (ix4 b h q T) d = ix4 b h q d := by
    funext a; match a with | ⟨0, _⟩ => rfl | ⟨1, _⟩ => rfl | ⟨2, _⟩ => rfl | ⟨3, _⟩ => rfl
  have er : ridx_main_v20 (ix4 b h q T) d = ix4 b h T d := by
    funext a; match a with | ⟨0, _⟩ => rfl | ⟨1, _⟩ => rfl | ⟨2, _⟩ => rfl | ⟨3, _⟩ => rfl
  have h4 : val_main_v4 (F := Ideal) x0 (ix4 b h q d) = x0 (ix4 b (tokBlk q.val) (headFeat h d) (pos (q.val % 256))) := by
    have e := v4_apply x0 b h (tBlk q) (tPlace q) (tGroup q) d
    rw [tokAll_split, rowOf_split, tBlk_eq] at e
    exact e
  have h8 : val_main_v8 (F := Ideal) x1 (ix4 b h T d) = x1 (ix3 b (keyRow T.val) (headFeat h d)) := by
    have e := v8_apply x1 b h (tBlk T) (tPlace T) (tGroup T) d
    rw [tokAll_split, rowAll_split] at e
    exact e
  rw [el, er, h4, h8]
  exact mul_comm _ _

/-- The reference's value is the kernel's. -/
theorem v13_eq (x2 : (⟨S8x16x512x256, .bf16⟩ : BufTy).Contents (Elt Ideal)) (b h : Fin 8) (T : Fin 4096) (d : Fin 64) :
    val_main_v13 (F := Ideal) x2 (ix4 b h T d) = valG x2 b h d T.val := by
  have e := v13_apply x2 b h (tBlk T) (tPlace T) (tGroup T) d
  rw [tokAll_split, rowOf_split, tBlk_eq] at e
  exact e

/-- The reference's log-sigmoid of the score. -/
theorem v21_eq (x0 : (⟨S8x16x512x256, .bf16⟩ : BufTy).Contents (Elt Ideal)) (x1 : (⟨S8x4096x512, .bf16⟩ : BufTy).Contents (Elt Ideal)) (i : S8x8x4096x4096.Idx) :
    val_main_v21 (F := Ideal) x0 x1 i = logSig (val_main_v20 (F := Ideal) x0 x1 i) := by
  rw [val_main_v21_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply, val_main_call0_call0_v7_apply,
    val_main_call0_call0_v3_apply, val_main_call0_call0_v0_apply, val_main_call0_call0_v2_apply, val_main_call0_call0_v5_apply, val_main_call0_v0_apply,
    val_main_call0_call0_cst_apply]
  generalize val_main_v20 (F := Ideal) x0 x1 i = z
  have hz : (FloatOps.ofBits .f32 0x00000000#32 : Ideal .f32) = (0 : EReal) := Ideal.ofBits_zero_f32
  rw [hz]
  rfl

/-- The reference's log-sigmoid of the negated score. -/
theorem v23_eq (x0 : (⟨S8x16x512x256, .bf16⟩ : BufTy).Contents (Elt Ideal)) (x1 : (⟨S8x4096x512, .bf16⟩ : BufTy).Contents (Elt Ideal)) (i : S8x8x4096x4096.Idx) :
    val_main_v23 (F := Ideal) x0 x1 i = logSig (-(show EReal from val_main_v20 (F := Ideal) x0 x1 i)) := by
  rw [val_main_v23_apply, val_main_call1_v1_apply, val_main_call1_call0_v4_apply, val_main_call1_call0_v6_apply, val_main_call1_call0_v11_apply,
    val_main_call1_call0_v1_apply, val_main_call1_call0_v10_apply, val_main_call1_call0_v9_apply, val_main_call1_call0_v8_apply, val_main_call1_call0_v7_apply,
    val_main_call1_call0_v3_apply, val_main_call1_call0_v0_apply, val_main_call1_call0_v2_apply, val_main_call1_call0_v5_apply, val_main_call1_v0_apply,
    val_main_call1_call0_cst_apply, val_main_v22_apply]
  generalize val_main_v20 (F := Ideal) x0 x1 i = z
  have hz : (FloatOps.ofBits .f32 0x00000000#32 : Ideal .f32) = (0 : EReal) := Ideal.ofBits_zero_f32
  rw [hz]
  rfl

theorem slt_word (a b : ℕ) (ha : a < 4096) (hb : b < 4096) : IntOp.cmpi .slt (BitVec.ofNat 32 a) (BitVec.ofNat 32 b) = BitVec.ofBool (decide (a < b)) := by
  show BitVec.ofBool (BitVec.slt _ _) = _
  congr 1
  unfold BitVec.slt
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- The mask: token `T` comes before the query token `q`. -/
theorem v19_eq (q T : Fin 4096) : val_main_v19 (F := Ideal) (ix2 q T) = BitVec.ofBool (decide (T.val < q.val)) := by
  rw [val_main_v19_apply, val_main_v17_apply, val_main_v18_apply, val_main_v15_apply, val_main_v16_apply, val_main_v14_apply, val_main_v14_apply]
  exact slt_word T.val q.val T.isLt q.isLt

/-- A choice by the mask. -/
theorem select_mask {α : Type} (q T : ℕ) (x y : α) : Scalar.select (BitVec.ofBool (decide (T < q))) x y = if T < q then x else y := by
  by_cases h : T < q
  · rw [if_pos h, decide_eq_true h]; rfl
  · rw [if_neg h, decide_eq_false h]; rfl

theorem v24_eq (x0 : (⟨S8x16x512x256, .bf16⟩ : BufTy).Contents (Elt Ideal)) (x1 : (⟨S8x4096x512, .bf16⟩ : BufTy).Contents (Elt Ideal)) (b h : Fin 8) (q T : Fin 4096) :
    val_main_v24 (F := Ideal) x0 x1 (ix4 b h q T) = logKeep (scoreG x0 x1 b h q.val) q.val T.val := by
  have em : idx_main_call2_v1 (ix4 b h q T) = ix2 q T := by
    funext a; match a with | ⟨0, _⟩ => rfl | ⟨1, _⟩ => rfl
  have hz : (FloatOps.ofBits .f32 0x00000000#32 : Ideal .f32) = (0 : EReal) := Ideal.ofBits_zero_f32
  rw [val_main_v24_apply, val_main_call2_v1_apply, em, v19_eq, val_main_call2_v2_apply, val_main_call2_v0_apply, val_main_cst_apply, v23_eq, v20_eq, select_mask, hz]
  rfl

/-- The reference's weight of a token. -/
theorem v29_eq (x0 : (⟨S8x16x512x256, .bf16⟩ : BufTy).Contents (Elt Ideal)) (x1 : (⟨S8x4096x512, .bf16⟩ : BufTy).Contents (Elt Ideal)) (b h : Fin 8) (q T : Fin 4096) :
    val_main_v29 (F := Ideal) x0 x1 (ix4 b h q T) = refW (scoreG x0 x1 b h q.val) q.val 4096 T.val := by
  have em : idx_main_call4_v1 (ix4 b h q T) = ix2 q T := by
    funext a; match a with | ⟨0, _⟩ => rfl | ⟨1, _⟩ => rfl
  have hz : (FloatOps.ofBits .f32 0x00000000#32 : Ideal .f32) = (0 : EReal) := Ideal.ofBits_zero_f32
  have h25 : val_main_v25 (F := Ideal) x0 x1 (ix4 b h q T) = ∑ t ∈ Ico T.val 4096, logKeep (scoreG x0 x1 b h q.val) q.val t := by
    unfold val_main_v25
    exact suffix_sum _ _ (fun i => by rw [val_main_call3_v0_apply, val_main_call3_cst_apply]; exact hz) _ _ b h q T _ (fun t => v24_eq x0 x1 b h q t)
  rw [val_main_v29_apply, val_main_call4_v1_apply, em, v19_eq, val_main_call4_v2_apply, val_main_call4_v0_apply, val_main_cst_0_apply, select_mask, hz,
    val_main_v28_apply, val_main_v27_apply, val_main_v26_apply, h25, v24_eq, v21_eq, v20_eq]
  rfl

/-- The score over real queries and keys is a real. -/
theorem scoreG_real (a0 : S8x16x512x256.Idx → EReal) (a1 : S8x4096x512.Idx → EReal) (h0 : ∀ i, ∃ r : ℝ, a0 i = r) (h1 : ∀ i, ∃ r : ℝ, a1 i = r)
    (b h : Fin 8) (q T : ℕ) : ∃ r : ℝ, scoreG a0 a1 b h q T = r := by
  choose f0 hf0 using h0
  choose f1 hf1 using h1
  refine ⟨∑ e : Fin 64, f1 (ix3 b (keyRow T) (headFeat h e)) * f0 (ix4 b (tokBlk q) (headFeat h e) (pos (q % 256))), ?_⟩
  unfold scoreG
  have hs : ∀ (s : Finset (Fin 64)) (f : Fin 64 → ℝ), ∑ i ∈ s, ((f i : ℝ) : EReal) = ((∑ i ∈ s, f i : ℝ) : EReal) := by
    intro s f
    induction s using Finset.induction_on with
    | empty => simp
    | insert a s ha ih => rw [sum_insert ha, sum_insert ha, ih, EReal.coe_add]
  rw [← hs]
  refine sum_congr rfl fun e _ => ?_
  rw [hf0, hf1, EReal.coe_mul]

/-- The attention of one head at one query token, over real queries and keys: the kernel's sum of products. -/
theorem v30_eq (x0 : (⟨S8x16x512x256, .bf16⟩ : BufTy).Contents (Elt Ideal)) (x1 : (⟨S8x4096x512, .bf16⟩ : BufTy).Contents (Elt Ideal)) (x2 : (⟨S8x16x512x256, .bf16⟩ : BufTy).Contents (Elt Ideal))
    (h0 : ∀ i, ∃ r : ℝ, x0 i = (r : EReal)) (h1 : ∀ i, ∃ r : ℝ, x1 i = (r : EReal)) (b h : Fin 8) (q : Fin 4096) (d : Fin 64) :
    val_main_v30 (F := Ideal) x0 x1 x2 (ix4 b h q d) = stick (scoreG x0 x1 b h q.val) (valG x2 b h d) q.val 4096 := by
  choose x hx using fun T => scoreG_real x0 x1 h0 h1 b h q.val T
  have hz : scoreG x0 x1 b h q.val = fun T => (x T : EReal) := funext hx
  rw [val_main_v30_apply]
  unfold stick
  rw [← Fin.sum_univ_eq_sum_range (fun T => valG x2 b h d T * ((if T < q.val then betaF (scoreG x0 x1 b h q.val T) else 0)
    * ∏ T' ∈ Ico (T + 1) 4096, if T' < q.val then keepF (scoreG x0 x1 b h q.val T') else 1)) 4096]
  refine sum_congr rfl fun T _ => ?_
  have el : lidx_main_v30 (ix4 b h q d) T = ix4 b h q T := by
    funext a; match a with | ⟨0, _⟩ => rfl | ⟨1, _⟩ => rfl | ⟨2, _⟩ => rfl | ⟨3, _⟩ => rfl
  have er : ridx_main_v30 (ix4 b h q d) T = ix4 b h T d := by
    funext a; match a with | ⟨0, _⟩ => rfl | ⟨1, _⟩ => rfl | ⟨2, _⟩ => rfl | ⟨3, _⟩ => rfl
  rw [el, er, v29_eq, v13_eq, hz, refW_eq x q.val 4096 T.val T.isLt]
  exact mul_comm _ _

/-- The reference's result at an index, over real queries and keys, is the kernel's. -/
theorem ref_out (x0 : (⟨S8x16x512x256, .bf16⟩ : BufTy).Contents (Elt Ideal)) (x1 : (⟨S8x4096x512, .bf16⟩ : BufTy).Contents (Elt Ideal)) (x2 : (⟨S8x16x512x256, .bf16⟩ : BufTy).Contents (Elt Ideal))
    (h0 : ∀ i, ∃ r : ℝ, x0 i = (r : EReal)) (h1 : ∀ i, ∃ r : ℝ, x1 i = (r : EReal)) (b : Fin 8) (i : Fin 4096) (f : Fin 512) :
    val_main_v34 (F := Ideal) x0 x1 x2 (ix3 b i f) = outG x0 x1 x2 b i f := by
  have hf := f.isLt
  have hi := i.isLt
  have e := v34_apply x0 x1 x2 b ⟨f.val / 64, by omega⟩ ⟨i.val / 256, by omega⟩ ⟨i.val % 256 % 8, by omega⟩ ⟨i.val % 256 / 8, by omega⟩ ⟨f.val % 64, by omega⟩
  have er : rowAll ⟨i.val / 256, by omega⟩ ⟨i.val % 256 / 8, by omega⟩ ⟨i.val % 256 % 8, by omega⟩ = i := by
    apply Fin.ext
    show 256 * (i.val / 256) + (8 * (i.val % 256 / 8) + i.val % 256 % 8) = i.val
    omega
  have ef : headFeat ⟨f.val / 64, by omega⟩ ⟨f.val % 64, by omega⟩ = f := by
    apply Fin.ext
    show 64 * (f.val / 64) + f.val % 64 = f.val
    omega
  have et : (tokAll ⟨i.val / 256, by omega⟩ ⟨i.val % 256 % 8, by omega⟩ ⟨i.val % 256 / 8, by omega⟩).val = rowTok i.val := by
    show 256 * (i.val / 256) + (32 * (i.val % 256 % 8) + i.val % 256 / 8) = 256 * (i.val / 256) + (i.val % 256 % 8 * 32 + i.val % 256 / 8)
    omega
  rw [er, ef] at e
  rw [e, v30_eq x0 x1 x2 h0 h1, et]
  rfl

end Cert.Sb
-- ==== Proof.Finite.lean ====
/-
  What the precondition says over the extended reals: every query and every key is a real number.
-/
module

public import proofs.«01_k».proof.Defs
public import proofs.«01_k».proof.Proof.RefValue

public section

noncomputable section

namespace Cert.Sb

open Idealize.ShloMosaic Idealize.ShloMosaic.TcCoe Idealize.SL.Sem

/-- The side conditions that the precondition's operations take. -/
theorem pre_facts : Cert.Pre_finite_queries_and_keys.Facts where
  bitsLt_bf16_f32 := by decide
  bcast_S_S8x16x512x256 := by decide
  bcast_S_S8x4096x512 := by decide

/-- An extended real whose absolute value is below something is a real. -/
theorem real_of_abs_lt (x y : EReal) (h : Ideal.cmp .olt (max x (-x)) y = 1#1) : ∃ r : ℝ, x = r := by
  have hlt : max x (-x) < y := by
    by_contra hn
    have h' : BitVec.ofBool (decide (max x (-x) < y)) = 1#1 := h
    rw [decide_eq_false hn] at h'
    exact absurd h' (by decide)
  have ht : max x (-x) < ⊤ := lt_of_lt_of_le hlt le_top
  induction x with
  | bot => simp at ht
  | top => simp at ht
  | coe r => exact ⟨r, rfl⟩

/-- Under the precondition every query is a real. -/
theorem queries_real [hP : Cert.Pre_finite_queries_and_keys.Facts] (m : (ℓ : Loc Cert.KernelIdeal.nD Cert.KernelIdeal.τ Cert.KernelIdeal.sig) → Buf (Elt Ideal) ℓ)
    (h : Cert.Pre_KernelIdeal_finite_queries_and_keys m) (c : Dev Cert.KernelIdeal.nD) (i : Cert.KernelIdeal.S8x16x512x256.Idx) : ∃ r : ℝ, arg0 m c i = (r : EReal) :=
  real_of_abs_lt _ _ (congrFun (h c).1 i)

/-- Under the precondition every key is a real. -/
theorem keys_real [hP : Cert.Pre_finite_queries_and_keys.Facts] (m : (ℓ : Loc Cert.KernelIdeal.nD Cert.KernelIdeal.τ Cert.KernelIdeal.sig) → Buf (Elt Ideal) ℓ)
    (h : Cert.Pre_KernelIdeal_finite_queries_and_keys m) (c : Dev Cert.KernelIdeal.nD) (i : Cert.KernelIdeal.S8x4096x512.Idx) : ∃ r : ℝ, arg1 m c i = (r : EReal) :=
  real_of_abs_lt _ _ (congrFun (h c).2 i)

end Cert.Sb
-- ==== Proof.Rms.lean ====
/-
  The root-mean-square normalization that the projection and the output of a layer both use, as the kernel computes it on
  a block of 512 rows.
-/
module

public import Idealize.ShloMosaic.Lib.Pipeline.Value
public import Idealize.ShloMosaic.Lib.ValueIdx
public import Idealize.ShloMosaic.Lib.MatmulPlain
public import Idealize.ShloMosaic.Lib.IdealHost

public section

set_option maxRecDepth 16384

noncomputable section

namespace Cert.Rms

open Idealize.ShloMosaic Idealize.ShloMosaic.TcCoe Idealize.ShloMosaic.ValueIdx Idealize.SL.Sem
open Finset

/-- The factor of a row whose squares sum to `s`: one over the root of their mean plus a small constant. -/
@[expose] def factor (s : EReal) : EReal :=
  Ideal.rsqrt (Ideal.div s (Ideal.ofBits .f32 0x44800000#32) + Ideal.ofBits .f32 0x358637BD#32)

/-- The normalization of a row `x`, with the gain `g`, at one feature. -/
@[expose] def norm (x g : Fin 1024 → EReal) (d : Fin 1024) : EReal := x d * factor (∑ j : Fin 1024, x j * x j) * g d

/-- The sum of a row's elements. -/
theorem rowSum_apply (x : FVec Ideal ⟨2, ![512, 1024]⟩ .f32) (h : Shape.Reduces ⟨2, ![512, 1024]⟩ [1] ⟨1, ![512]⟩) (hφ : FKind.Formats .f32)
    (hacc : 0x00000000#32 = FKind.add.neutral .f32 hφ) (r : Fin 512) :
    multiReduction .add [1] ⟨1, ![512]⟩ x 0x00000000#32 h hφ hacc (ix1 r) = ∑ j : Fin 1024, x (ix2 r j) := by
  refine (Ideal.multiReduction_add_single x _ h hφ hacc (ix1 r)).trans ?_
  refine Finset.sum_congr rfl fun j _ => congrArg x (funext fun a => Fin.ext ?_)
  match a with
  | ⟨0, _⟩ => rfl
  | ⟨1, _⟩ => rfl

/-- A column of 512 read across 1024 columns. -/
theorem column_apply {α : Type} (x : (⟨2, ![512, 1]⟩ : Shape).Idx → α) (h : Shape.Broadcasts ⟨2, ![512, 1]⟩ ⟨2, ![512, 1024]⟩) (r : Fin 512) (d : Fin 1024) :
    broadcastTo ⟨2, ![512, 1024]⟩ x h (ix2 r d) = x (ix2 r (0 : Fin 1)) := by
  refine broadcastTo_apply x h _ _ fun a => ?_
  match a with
  | ⟨0, _⟩ => rfl
  | ⟨1, _⟩ => rfl

/-- A row of 1024 read down 512 rows. -/
theorem row_apply {α : Type} (x : (⟨2, ![1, 1024]⟩ : Shape).Idx → α) (h : Shape.Broadcasts ⟨2, ![1, 1024]⟩ ⟨2, ![512, 1024]⟩) (r : Fin 512) (d : Fin 1024) :
    broadcastTo ⟨2, ![512, 1024]⟩ x h (ix2 r d) = x (ix2 (0 : Fin 1) d) := by
  refine broadcastTo_apply x h _ _ fun a => ?_
  match a with
  | ⟨0, _⟩ => rfl
  | ⟨1, _⟩ => rfl

theorem toColumn_apply {α : Type} (x : (⟨1, ![512]⟩ : Shape).Idx → α) (h : Shape.ShapeCasts ⟨1, ![512]⟩ ⟨2, ![512, 1]⟩) (r : Fin 512) :
    shapeCast ⟨2, ![512, 1]⟩ x h (ix2 r (0 : Fin 1)) = x (ix1 r) := by
  refine shapeCast_apply x h _ _ ?_
  refine (Shape.rowMajor_val_one _).trans (Eq.trans ?_ (Shape.rowMajor_val_two _).symm)
  show r.val = r.val * 1 + 0
  omega

theorem dropRow_apply {α : Type} (x : (⟨3, ![1, 1, 1024]⟩ : Shape).Idx → α) (h : Shape.ShapeCasts ⟨3, ![1, 1, 1024]⟩ ⟨2, ![1, 1024]⟩) (d : Fin 1024) :
    shapeCast ⟨2, ![1, 1024]⟩ x h (ix2 (0 : Fin 1) d) = x (ix3 (0 : Fin 1) (0 : Fin 1) d) := by
  refine shapeCast_apply x h _ _ ?_
  refine (Shape.rowMajor_val_three _).trans (Eq.trans ?_ (Shape.rowMajor_val_two _).symm)
  show (0 * 1 + 0) * 1024 + d.val = 0 * 1024 + d.val
  omega

theorem dropBlock_apply {α : Type} {n k : ℕ} (x : (⟨3, ![1, n, k]⟩ : Shape).Idx → α) (h : Shape.ShapeCasts ⟨3, ![1, n, k]⟩ ⟨2, ![n, k]⟩) (r : Fin n) (d : Fin k) :
    shapeCast ⟨2, ![n, k]⟩ x h (ix2 r d) = x (ix3 (0 : Fin 1) r d) := by
  refine shapeCast_apply x h _ _ ?_
  refine (Shape.rowMajor_val_three _).trans (Eq.trans ?_ (Shape.rowMajor_val_two _).symm)
  show (0 * n + r.val) * k + d.val = r.val * k + d.val
  rw [zero_mul, zero_add]

theorem addBlock_apply {α : Type} {n k : ℕ} (x : (⟨2, ![n, k]⟩ : Shape).Idx → α) (h : Shape.ShapeCasts ⟨2, ![n, k]⟩ ⟨3, ![1, n, k]⟩) (r : Fin n) (d : Fin k) :
    shapeCast ⟨3, ![1, n, k]⟩ x h (ix3 (0 : Fin 1) r d) = x (ix2 r d) := by
  refine shapeCast_apply x h _ _ ?_
  refine (Shape.rowMajor_val_two _).trans (Eq.trans ?_ (Shape.rowMajor_val_three _).symm)
  show r.val * k + d.val = (0 * n + r.val) * k + d.val
  rw [zero_mul, zero_add]

theorem castSame_apply {α : Type} {s : Shape} (x : s.Idx → α) (h : s.ShapeCasts s) (i : s.Idx) : shapeCast s x h i = x i :=
  shapeCast_apply x h _ _ rfl

/-- The kernel's factor of a row, read across the row. -/
theorem factor_apply (x : FVec Ideal ⟨2, ![512, 1024]⟩ .f32) (hr : Shape.Reduces ⟨2, ![512, 1024]⟩ [1] ⟨1, ![512]⟩) (hφ : FKind.Formats .f32)
    (hacc : 0x00000000#32 = FKind.add.neutral .f32 hφ) (hc : Shape.ShapeCasts ⟨1, ![512]⟩ ⟨2, ![512, 1]⟩) (hb : Shape.Broadcasts ⟨2, ![512, 1]⟩ ⟨2, ![512, 1024]⟩)
    (r : Fin 512) (d : Fin 1024) :
    broadcastTo ⟨2, ![512, 1024]⟩ (rsqrt (addf (divf (shapeCast ⟨2, ![512, 1]⟩ (multiReduction .add [1] ⟨1, ![512]⟩ (mulf x x) 0x00000000#32 hr hφ hacc) hc)
        (broadcast ⟨2, ![512, 1]⟩ (Scalar.ofBits (F := Ideal) .f32 0x44800000#32))) (broadcast ⟨2, ![512, 1]⟩ (Scalar.ofBits (F := Ideal) .f32 0x358637BD#32)))) hb (ix2 r d)
      = factor (∑ j : Fin 1024, x (ix2 r j) * x (ix2 r j)) := by
  rw [column_apply]
  show Ideal.rsqrt (Ideal.div (shapeCast ⟨2, ![512, 1]⟩ (multiReduction .add [1] ⟨1, ![512]⟩ (mulf x x) 0x00000000#32 hr hφ hacc) hc (ix2 r (0 : Fin 1))) (Ideal.ofBits .f32 0x44800000#32) + Ideal.ofBits .f32 0x358637BD#32) = _
  rw [toColumn_apply, rowSum_apply]
  rfl

end Cert.Rms

end
-- ==== Proof.ProjectBlock.lean ====
/-
  What one grid point of the projection writes, from the blocks it reads: products of the normalized and modulated rows
  with the columns of the weights.
-/
module

public import proofs.«01_k».proof.Proof.Rms
public import proofs.«01_k».proof.Proof.Gen.ProjectIdeal.Value

public section

set_option maxRecDepth 16384

noncomputable section

namespace Cert.Pj

open Cert.Rms Cert.ProjectIdeal Cert.ProjectIdeal.Gen Idealize.ShloMosaic Idealize.ShloMosaic.TcCoe Idealize.ShloMosaic.ValueIdx Idealize.SL.Sem
open Finset

/-- A normalized row, scaled and shifted, at one feature. -/
@[expose] def modF (x g s h : Fin 1024 → EReal) (d : Fin 1024) : EReal :=
  norm x g d * (Ideal.ofBits .f32 0x3F800000#32 + s d) + h d

/-- The rows that the products take. -/
@[expose] def rowOf (x0 : Vec Ideal S1x512x1024 .f32) (x1 : Vec Ideal S1x1024 .f32) (x2 x3 : Vec Ideal S1x1x1024 .f32) (r : Fin 512) (d : Fin 1024) : EReal :=
  modF (fun j => x0 (ix3 (0 : Fin 1) r j)) (fun j => x1 (ix2 (0 : Fin 1) j)) (fun j => x2 (ix3 (0 : Fin 1) (0 : Fin 1) j)) (fun j => x3 (ix3 (0 : Fin 1) (0 : Fin 1) j)) d

theorem pay4_apply (x0 : Vec Ideal S1x512x1024 .f32) (x1 : Vec Ideal S1x1024 .f32) (x2 x3 : Vec Ideal S1x1x1024 .f32) (r : Fin 512) (d : Fin 1024) :
    k0_pay4 x0 x1 x2 x3 (ix2 r d) = rowOf x0 x1 x2 x3 r d := by
  have hx : ∀ j : Fin 1024, shapeCast S512x1024 x0 shapeCasts_S1x512x1024_S512x1024 (ix2 r j) = x0 (ix3 (0 : Fin 1) r j) :=
    fun j => dropBlock_apply x0 shapeCasts_S1x512x1024_S512x1024 r j
  have e1 := factor_apply (shapeCast S512x1024 x0 shapeCasts_S1x512x1024_S512x1024) reduces_S512x1024_S512 (.inl rfl) rfl shapeCasts_S512_S512x1 broadcasts_S512x1_S512x1024 r d
  have e2 := (row_apply (shapeCast S1x1024 x1 shapeCasts_S1x1024_S1x1024) broadcasts_S1x1024_S512x1024 r d).trans (castSame_apply x1 shapeCasts_S1x1024_S1x1024 _)
  have e3 := row_apply (addf (broadcast S1x1024 (Scalar.ofBits (F := Ideal) .f32 0x3F800000#32)) (shapeCast S1x1024 x2 shapeCasts_S1x1x1024_S1x1024)) broadcasts_S1x1024_S512x1024 r d
  have e4 := (row_apply (shapeCast S1x1024 x3 shapeCasts_S1x1x1024_S1x1024) broadcasts_S1x1024_S512x1024 r d).trans (dropRow_apply x3 shapeCasts_S1x1x1024_S1x1024 d)
  have e5 := dropRow_apply x2 shapeCasts_S1x1x1024_S1x1024 d
  unfold k0_pay4
  refine (show _ = shapeCast S512x1024 x0 shapeCasts_S1x512x1024_S512x1024 (ix2 r d) * _ * _ * _ + _ from rfl).trans ?_
  rw [e1, e2, e3, e4, hx]
  simp only [hx]
  show _ * (Ideal.ofBits .f32 0x3F800000#32 + shapeCast S1x1024 x2 shapeCasts_S1x1x1024_S1x1024 (ix2 (0 : Fin 1) d)) + _ = _
  rw [e5]
  rfl

/-- A row's product with a column of the weights. -/
theorem dot_apply (h : FVec Ideal S512x1024 .bf16) (w : FVec Ideal S1024x512 .bf16) (r e : Fin 512) :
    matmul dot_S512x1024_S1024x512_S512x512_1_0_0_1_n_n none h w (constant S512x512 .f32 0x00000000#32) (ix2 r e) = ∑ d : Fin 1024, h (ix2 r d) * w (ix2 d e) := by
  refine (Ideal.matmul_plain_apply (M := 512) (K := 1024) (N := 512) none h w (constant S512x512 .f32 0x00000000#32) r e).trans ?_
  show Ideal.ofBits .f32 0x00000000#32 + _ = _
  rw [Ideal.ofBits_zero_f32, zero_add]
theorem dotT_apply (w : FVec Ideal S512x1024 .bf16) (h : FVec Ideal S512x1024 .bf16) (e r : Fin 512) :
    matmul dot_S512x1024_S512x1024_S512x512_1_1_0_0_n_n none w h (constant S512x512 .f32 0x00000000#32) (ix2 e r) = ∑ d : Fin 1024, w (ix2 e d) * h (ix2 r d) := by
  refine (Ideal.matmul_transposedRhs_apply (M := 512) (K := 1024) (N := 512) none w h (constant S512x512 .f32 0x00000000#32) e r).trans ?_
  show Ideal.ofBits .f32 0x00000000#32 + _ = _
  rw [Ideal.ofBits_zero_f32, zero_add]

/-- A token-major block of results. -/
theorem pay6_apply (h : FVec Ideal S512x1024 .bf16) (w : Vec Ideal S1024x512 .bf16) (r e : Fin 512) :
    k0_pay6 h w (ix3 (0 : Fin 1) r e) = ∑ d : Fin 1024, h (ix2 r d) * w (ix2 d e) := by
  unfold k0_pay6
  refine (addBlock_apply _ shapeCasts_S512x512_S1x512x512 r e).trans ?_
  refine (dot_apply h (shapeCast S1024x512 w shapeCasts_S1024x512_S1024x512) r e).trans ?_
  exact Finset.sum_congr rfl fun d _ => congrArg (h (ix2 r d) * ·) (castSame_apply w _ _)

/-- A feature-major product, before it is cut in blocks of tokens. -/
theorem pay9_apply (h : FVec Ideal S512x1024 .bf16) (w : Vec Ideal S512x1024 .bf16) (e r : Fin 512) :
    k0_pay9 h w (ix2 e r) = ∑ d : Fin 1024, w (ix2 e d) * h (ix2 r d) := by
  unfold k0_pay9
  refine (dotT_apply (shapeCast S512x1024 w shapeCasts_S512x1024_S512x1024) h e r).trans ?_
  exact Finset.sum_congr rfl fun d _ => congrArg (· * h (ix2 r d)) (castSame_apply w _ _)

theorem addBlocks_apply {α : Type} (x : S512x256.Idx → α) (h : S512x256.ShapeCasts S1x1x512x256) (e : Fin 512) (q : Fin 256) :
    shapeCast S1x1x512x256 x h (ix4 (0 : Fin 1) (0 : Fin 1) e q) = x (ix2 e q) := by
  refine shapeCast_apply x h _ _ ?_
  refine (Shape.rowMajor_val_two _).trans (Eq.trans ?_ (Shape.rowMajor_val_four _).symm)
  show e.val * 256 + q.val = ((0 * 1 + 0) * 512 + e.val) * 256 + q.val
  omega

/-- The row of a block that holds token `q` of its token block `k`. -/
@[expose] def rowAt (k : Fin 2) (q : Fin 256) : Fin 512 := ⟨256 * k.val + q.val, by have := k.isLt; have := q.isLt; omega⟩

theorem pay10_apply (h : FVec Ideal S512x1024 .bf16) (w : Vec Ideal S512x1024 .bf16) (e : Fin 512) (q : Fin 256) :
    k0_pay10 h w (ix4 (0 : Fin 1) (0 : Fin 1) e q) = ∑ d : Fin 1024, w (ix2 e d) * h (ix2 (rowAt 0 q) d) := by
  unfold k0_pay10
  refine (addBlocks_apply _ _ e q).trans ?_
  refine (extractStridedSlice_apply _ _ _ _ (ix2 e (rowAt 0 q)) fun a => ?_).trans (pay9_apply h w e _)
  match a with
  | ⟨0, _⟩ => show e.val = 0 + e.val; omega
  | ⟨1, _⟩ => show 256 * 0 + q.val = 0 + q.val; omega
theorem pay12_apply (h : FVec Ideal S512x1024 .bf16) (w : Vec Ideal S512x1024 .bf16) (e : Fin 512) (q : Fin 256) :
    k0_pay12 (k0_pay11 h w) (ix4 (0 : Fin 1) (0 : Fin 1) e q) = ∑ d : Fin 1024, w (ix2 e d) * h (ix2 (rowAt 1 q) d) := by
  unfold k0_pay12 k0_pay11
  refine (addBlocks_apply _ _ e q).trans ?_
  refine (extractStridedSlice_apply _ _ _ _ (ix2 e (rowAt 1 q)) fun a => ?_).trans (pay9_apply h w e _)
  match a with
  | ⟨0, _⟩ => show e.val = 0 + e.val; omega
  | ⟨1, _⟩ => show 256 * 1 + q.val = 256 + q.val; omega

/-- A token-major result block, at the blocks it is computed from: column `o + e` of the weights. -/
@[expose] def tokBlk (o : Fin 4) (x0 : Vec Ideal S1x512x1024 .f32) (x1 : Vec Ideal S1x1024 .f32) (x2 x3 : Vec Ideal S1x1x1024 .f32) (x4 : Vec Ideal S1024x2048 .bf16) (r e : Fin 512) : EReal :=
  ∑ d : Fin 1024, rowOf x0 x1 x2 x3 r d * x4 (ix2 d ⟨512 * o.val + e.val, by have := o.isLt; have := e.isLt; omega⟩)

/-- A feature-major result block, at the blocks it is computed from. -/
@[expose] def featBlk (o : Fin 4) (x0 : Vec Ideal S1x512x1024 .f32) (x1 : Vec Ideal S1x1024 .f32) (x2 x3 : Vec Ideal S1x1x1024 .f32) (x5 : Vec Ideal S2048x1024 .bf16) (k : Fin 2) (e : Fin 512) (q : Fin 256) : EReal :=
  ∑ d : Fin 1024, x5 (ix2 ⟨512 * o.val + e.val, by have := o.isLt; have := e.isLt; omega⟩ d) * rowOf x0 x1 x2 x3 (rowAt k q) d

section Out

variable (x0 : Vec Ideal S1x512x1024 .f32) (x1 : Vec Ideal S1x1024 .f32) (x2 x3 : Vec Ideal S1x1x1024 .f32) (x4 : Vec Ideal S1024x2048 .bf16) (x5 : Vec Ideal S2048x1024 .bf16)

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

theorem pay20_apply (r : Fin 512) (d : Fin 1024) : k0_pay20 x0 x1 x2 x3 x4 x5 (ix2 r d) = rowOf x0 x1 x2 x3 r d := by
  unfold k0_pay20
  rw [View.ld_unit_zero zero3, View.ld_unit_zero zero2, View.ld_unit_zero zero3, View.ld_unit_zero zero3, pay4_apply]

theorem ld4_apply (o : Fin 4) (inb) (d : Fin 1024) (e : Fin 512) :
    View.ld x4 (Rect.unit (s := S1024x2048) ![0, 512 * o.val] S1024x512.size inb) (ix2 d e) = x4 (ix2 d ⟨512 * o.val + e.val, by have := o.isLt; have := e.isLt; omega⟩) := by
  refine congrArg x4 (funext fun a => Fin.ext ?_)
  match a with
  | ⟨0, _⟩ => show 0 + 1 * d.val = d.val; omega
  | ⟨1, _⟩ => show 512 * o.val + 1 * e.val = 512 * o.val + e.val; omega
theorem ld5_apply (o : Fin 4) (inb) (e : Fin 512) (d : Fin 1024) :
    View.ld x5 (Rect.unit (s := S2048x1024) ![512 * o.val, 0] S512x1024.size inb) (ix2 e d) = x5 (ix2 ⟨512 * o.val + e.val, by have := o.isLt; have := e.isLt; omega⟩ d) := by
  refine congrArg x5 (funext fun a => Fin.ext ?_)
  match a with
  | ⟨0, _⟩ => show 512 * o.val + 1 * e.val = 512 * o.val + e.val; omega
  | ⟨1, _⟩ => show 0 + 1 * d.val = d.val; omega

theorem tok_apply (o : Fin 4) (inb) (r e : Fin 512) :
    k0_pay6 (k0_pay20 x0 x1 x2 x3 x4 x5) (View.ld x4 (Rect.unit (s := S1024x2048) ![0, 512 * o.val] S1024x512.size inb)) (ix3 (0 : Fin 1) r e) = tokBlk o x0 x1 x2 x3 x4 r e := by
  rw [pay6_apply]
  unfold tokBlk
  refine Finset.sum_congr rfl fun d _ => ?_
  rw [pay20_apply, ld4_apply]

theorem out6_apply (r e : Fin 512) : out0_6 x0 x1 x2 x3 x4 x5 (ix3 (0 : Fin 1) r e) = tokBlk 0 x0 x1 x2 x3 x4 r e := by
  unfold out0_6
  rw [View.canon_unit_zero zero3]
  exact tok_apply x0 x1 x2 x3 x4 x5 0 inb_S1024x2048_S1024x512_0_0 r e
theorem out7_apply (r e : Fin 512) : out0_7 x0 x1 x2 x3 x4 x5 (ix3 (0 : Fin 1) r e) = tokBlk 1 x0 x1 x2 x3 x4 r e := by
  unfold out0_7
  rw [View.canon_unit_zero zero3]
  exact tok_apply x0 x1 x2 x3 x4 x5 1 inb_S1024x2048_S1024x512_0_512 r e
theorem out8_apply (r e : Fin 512) : out0_8 x0 x1 x2 x3 x4 x5 (ix3 (0 : Fin 1) r e) = tokBlk 2 x0 x1 x2 x3 x4 r e := by
  unfold out0_8
  rw [View.canon_unit_zero zero3]
  exact tok_apply x0 x1 x2 x3 x4 x5 2 inb_S1024x2048_S1024x512_0_1024 r e
theorem out9_apply (r e : Fin 512) : out0_9 x0 x1 x2 x3 x4 x5 (ix3 (0 : Fin 1) r e) = tokBlk 3 x0 x1 x2 x3 x4 r e := by
  unfold out0_9
  rw [View.canon_unit_zero zero3]
  exact tok_apply x0 x1 x2 x3 x4 x5 3 inb_S1024x2048_S1024x512_0_1536 r e

theorem feat_apply (o : Fin 4) (inb) (k : Fin 2) (e : Fin 512) (q : Fin 256) :
    (∑ d : Fin 1024, View.ld x5 (Rect.unit (s := S2048x1024) ![512 * o.val, 0] S512x1024.size inb) (ix2 e d) * k0_pay20 x0 x1 x2 x3 x4 x5 (ix2 (rowAt k q) d)) = featBlk o x0 x1 x2 x3 x5 k e q := by
  unfold featBlk
  refine Finset.sum_congr rfl fun d _ => ?_
  rw [pay20_apply, ld5_apply]

/-- Two pieces, one for each token block, that hold the two halves of a block. -/
theorem halves_apply (p0 p1 : Vec Ideal S1x1x512x256 .bf16) (G : Fin 2 → Fin 512 → Fin 256 → EReal)
    (h0 : ∀ e q, p0 (ix4 (0 : Fin 1) (0 : Fin 1) e q) = G 0 e q) (h1 : ∀ e q, p1 (ix4 (0 : Fin 1) (0 : Fin 1) e q) = G 1 e q)
    (k : Fin 2) (e : Fin 512) (q : Fin 256) : View.canon (Val := Elt Ideal) [⟨r0_10, p1⟩, ⟨r0_9, p0⟩] (ix4 (0 : Fin 1) k e q) = G k e q := by
  have hx : ∀ (x : S1x1x512x256.Idx), ∃ e q, x = ix4 (0 : Fin 1) (0 : Fin 1) e q := fun x => ⟨⟨(x 2).val, (x 2).isLt⟩, ⟨(x 3).val, (x 3).isLt⟩, by
    have a0 : (x 0).val < 1 := (x 0).isLt
    have a1 : (x 1).val < 1 := (x 1).isLt
    funext a; apply Fin.ext
    match a with
    | ⟨0, _⟩ => show (x 0).val = 0; omega
    | ⟨1, _⟩ => show (x 1).val = 0; omega
    | ⟨2, _⟩ => rfl
    | ⟨3, _⟩ => rfl⟩
  let GG : S1x2x512x256.Idx → EReal := fun y => G ⟨(y 1).val, (y 1).isLt⟩ ⟨(y 2).val, (y 2).isLt⟩ ⟨(y 3).val, (y 3).isLt⟩
  refine (View.canon_apply_of_pieces (Val := Elt Ideal) (e := .bf16) GG [⟨r0_10, p1⟩, ⟨r0_9, p0⟩] ?_ (ix4 (0 : Fin 1) k e q) (cover0_10 (F := Ideal) p1 p0 _)).trans rfl
  intro pc hpc
  rcases List.mem_cons.mp hpc with rfl | hpc
  · intro x
    obtain ⟨e', q', rfl⟩ := hx x
    refine (h1 e' q').trans ?_
    show _ = G _ _ _
    congr 1
    · exact Fin.ext (by show e'.val = 0 + 1 * e'.val; omega)
    · exact Fin.ext (by show q'.val = 0 + 1 * q'.val; omega)
  rcases List.mem_cons.mp hpc with rfl | hpc
  · intro x
    obtain ⟨e', q', rfl⟩ := hx x
    refine (h0 e' q').trans ?_
    show _ = G _ _ _
    congr 1
    · exact Fin.ext (by show e'.val = 0 + 1 * e'.val; omega)
    · exact Fin.ext (by show q'.val = 0 + 1 * q'.val; omega)
  nomatch hpc

theorem out10_apply (k : Fin 2) (e : Fin 512) (q : Fin 256) : out0_10 x0 x1 x2 x3 x4 x5 (ix4 (0 : Fin 1) k e q) = featBlk 0 x0 x1 x2 x3 x5 k e q := by
  unfold out0_10
  exact halves_apply _ _ (fun k e q => featBlk 0 x0 x1 x2 x3 x5 k e q)
    (fun e q => (pay10_apply _ _ e q).trans (feat_apply x0 x1 x2 x3 x4 x5 0 inb_S2048x1024_S512x1024_0_0 0 e q))
    (fun e q => (pay12_apply _ _ e q).trans (feat_apply x0 x1 x2 x3 x4 x5 0 inb_S2048x1024_S512x1024_0_0 1 e q)) k e q
theorem out11_apply (k : Fin 2) (e : Fin 512) (q : Fin 256) : out0_11 x0 x1 x2 x3 x4 x5 (ix4 (0 : Fin 1) k e q) = featBlk 1 x0 x1 x2 x3 x5 k e q := by
  unfold out0_11
  exact halves_apply _ _ (fun k e q => featBlk 1 x0 x1 x2 x3 x5 k e q)
    (fun e q => (pay10_apply _ _ e q).trans (feat_apply x0 x1 x2 x3 x4 x5 1 inb_S2048x1024_S512x1024_512_0 0 e q))
    (fun e q => (pay12_apply _ _ e q).trans (feat_apply x0 x1 x2 x3 x4 x5 1 inb_S2048x1024_S512x1024_512_0 1 e q)) k e q
theorem out12_apply (k : Fin 2) (e : Fin 512) (q : Fin 256) : out0_12 x0 x1 x2 x3 x4 x5 (ix4 (0 : Fin 1) k e q) = featBlk 2 x0 x1 x2 x3 x5 k e q := by
  unfold out0_12
  exact halves_apply _ _ (fun k e q => featBlk 2 x0 x1 x2 x3 x5 k e q)
    (fun e q => (pay10_apply _ _ e q).trans (feat_apply x0 x1 x2 x3 x4 x5 2 inb_S2048x1024_S512x1024_1024_0 0 e q))
    (fun e q => (pay12_apply _ _ e q).trans (feat_apply x0 x1 x2 x3 x4 x5 2 inb_S2048x1024_S512x1024_1024_0 1 e q)) k e q
theorem out13_apply (k : Fin 2) (e : Fin 512) (q : Fin 256) : out0_13 x0 x1 x2 x3 x4 x5 (ix4 (0 : Fin 1) k e q) = featBlk 3 x0 x1 x2 x3 x5 k e q := by
  unfold out0_13
  exact halves_apply _ _ (fun k e q => featBlk 3 x0 x1 x2 x3 x5 k e q)
    (fun e q => (pay10_apply _ _ e q).trans (feat_apply x0 x1 x2 x3 x4 x5 3 inb_S2048x1024_S512x1024_1536_0 0 e q))
    (fun e q => (pay12_apply _ _ e q).trans (feat_apply x0 x1 x2 x3 x4 x5 3 inb_S2048x1024_S512x1024_1536_0 1 e q)) k e q

end Out

end Cert.Pj

end
-- ==== Proof.ProjectHost.lean ====
/-
  The weights that the projection kernel is given, from the one matrix of the layer: its columns gathered by kind, the
  query columns scaled, and the second half turned.
-/
module

public import proofs.«01_k».proof.Proof.ProjectBlock
public import Idealize.ShloMosaic.Lib.StableHlo.RunRead

public section

set_option maxRecDepth 16384

noncomputable section

namespace Cert.Pj

open Cert.Rms Cert.ProjectIdeal Cert.ProjectIdeal.Gen Idealize.ShloMosaic Idealize.ShloMosaic.TcCoe Idealize.ShloMosaic.ValueIdx Idealize.SL.Sem
open Finset

variable (m : (ℓ : Loc nD τ sig) → Buf (Elt Ideal) ℓ) (c : Dev nD)

/-- The layer's matrix. -/
abbrev mat : S1024x4096.Idx → EReal := m ((c : Thread nD τ).loc main_arg4)

/-- Column `e` of the `k`th of the eight groups of columns. -/
@[expose] def grp (k : Fin 8) (e : Fin 512) : Fin 4096 := ⟨512 * k.val + e.val, by have := k.isLt; have := e.isLt; omega⟩

/-- Column `e` of the `o`th of the four groups of a gathered matrix. -/
@[expose] def grp4 (o : Fin 4) (e : Fin 512) : Fin 2048 := ⟨512 * o.val + e.val, by have := o.isLt; have := e.isLt; omega⟩

/-- A group of columns, as a slice. -/
theorem slice_apply (w : S1024x4096.Idx → EReal) (k : Fin 8) (off : Fin 2 → ℕ) (h : S1024x4096.Slices off S1024x512) (h0 : off 0 = 0) (h1 : off 1 = 512 * k.val) (d : Fin 1024) (e : Fin 512) :
    extractStridedSlice S1024x512 off w h (ix2 d e) = w (ix2 d (grp k e)) := by
  refine extractStridedSlice_apply _ _ _ _ (ix2 d (grp k e)) fun a => ?_
  match a with
  | ⟨0, _⟩ => show d.val = off 0 + d.val; omega
  | ⟨1, _⟩ => show 512 * k.val + e.val = off 1 + e.val; omega

/-- Four matrices side by side. -/
theorem concat_apply (x0 x1 x2 x3 : S1024x512.Idx → EReal) (h) (o : Fin 4) (d : Fin 1024) (e : Fin 512) :
    concatenate S1024x2048 1 [⟨S1024x512, x0⟩, ⟨S1024x512, x1⟩, ⟨S1024x512, x2⟩, ⟨S1024x512, x3⟩] h (ix2 d (grp4 o e)) = (![x0, x1, x2, x3] o) (ix2 d e) := by
  have side : ∀ b : Fin S1024x512.rank, b.cast (rfl : S1024x512.rank = S1024x2048.rank) ≠ (1 : Fin 2) → ((ix2 d e : S1024x512.Idx) b).val = ((ix2 d (grp4 o e) : S1024x2048.Idx) (b.cast rfl)).val := by
    intro b hb
    match b with
    | ⟨0, _⟩ => rfl
    | ⟨1, _⟩ => exact absurd rfl hb
  match o with
  | ⟨0, _⟩ => exact concatenate_apply_piece 1 _ h _ 0 (by simp) S1024x512 x0 rfl rfl 0 rfl (ix2 d e) side (by show 0 + e.val = 512 * 0 + e.val; omega)
  | ⟨1, _⟩ => exact concatenate_apply_piece 1 _ h _ 1 (by simp) S1024x512 x1 rfl rfl 512 rfl (ix2 d e) side (by show 512 + e.val = 512 * 1 + e.val; omega)
  | ⟨2, _⟩ => exact concatenate_apply_piece 1 _ h _ 2 (by simp) S1024x512 x2 rfl rfl 1024 rfl (ix2 d e) side (by show 1024 + e.val = 512 * 2 + e.val; omega)
  | ⟨3, _⟩ => exact concatenate_apply_piece 1 _ h _ 3 (by simp) S1024x512 x3 rfl rfl 1536 rfl (ix2 d e) side (by show 1536 + e.val = 512 * 3 + e.val; omega)

theorem V_v17 : V m c main_v17 = shapeCast S1x1024 (m ((c : Thread nD τ).loc main_arg1) : S1024.Idx → EReal) shapeCasts_S1024_S1x1024 := by
  unfold V hostOps0
  after_results_simp
  rfl

theorem V_v9 : V m c main_v9 = concatenate S1024x2048 1 [⟨S1024x512, extractStridedSlice S1024x512 ![0, 512] (mat m c) slices_S1024x4096_S1024x512_0_512⟩,
    ⟨S1024x512, extractStridedSlice S1024x512 ![0, 2560] (mat m c) slices_S1024x4096_S1024x512_0_2560⟩,
    ⟨S1024x512, extractStridedSlice S1024x512 ![0, 1536] (mat m c) slices_S1024x4096_S1024x512_0_1536⟩,
    ⟨S1024x512, extractStridedSlice S1024x512 ![0, 3584] (mat m c) slices_S1024x4096_S1024x512_0_3584⟩] concatenates_S1024x512_S1024x512_S1024x512_S1024x512_S1024x2048_d1 := by
  unfold V hostOps0
  after_results_simp
  rfl

/-- Which group of the layer's columns is in each group of the token-major weights. -/
@[expose] def tokGrp : Fin 4 → Fin 8 := ![1, 5, 3, 7]

theorem wTok_apply (o : Fin 4) (d : Fin 1024) (e : Fin 512) : (V m c main_v9 : S1024x2048.Idx → EReal) (ix2 d (grp4 o e)) = mat m c (ix2 d (grp (tokGrp o) e)) := by
  rw [V_v9]
  refine (concat_apply _ _ _ _ _ o d e).trans ?_
  match o with
  | ⟨0, _⟩ => exact slice_apply (mat m c) 1 _ slices_S1024x4096_S1024x512_0_512 rfl rfl d e
  | ⟨1, _⟩ => exact slice_apply (mat m c) 5 _ slices_S1024x4096_S1024x512_0_2560 rfl rfl d e
  | ⟨2, _⟩ => exact slice_apply (mat m c) 3 _ slices_S1024x4096_S1024x512_0_1536 rfl rfl d e
  | ⟨3, _⟩ => exact slice_apply (mat m c) 7 _ slices_S1024x4096_S1024x512_0_3584 rfl rfl d e

/-- A group of columns times the query scale. -/
@[expose] def scaled (x : S1024x512.Idx → EReal) : S1024x512.Idx → EReal :=
  mulf (F := Ideal) (φ := .f32) x (broadcastInDim S1024x512 ![] bcast_S_S1024x512 (constant (F := Ideal) S_ .f32 0x3E000000#32))

theorem V_v16 : V m c main_v16 = transpose S2048x1024 [1, 0] (concatenate S1024x2048 1 [⟨S1024x512, scaled (extractStridedSlice S1024x512 ![0, 0] (mat m c) slices_S1024x4096_S1024x512_0_0)⟩,
    ⟨S1024x512, extractStridedSlice S1024x512 ![0, 1024] (mat m c) slices_S1024x4096_S1024x512_0_1024⟩,
    ⟨S1024x512, scaled (extractStridedSlice S1024x512 ![0, 2048] (mat m c) slices_S1024x4096_S1024x512_0_2048)⟩,
    ⟨S1024x512, extractStridedSlice S1024x512 ![0, 3072] (mat m c) slices_S1024x4096_S1024x512_0_3072⟩] concatenates_S1024x512_S1024x512_S1024x512_S1024x512_S1024x2048_d1) transposes_S1024x2048_S2048x1024_1_0 := by
  unfold V hostOps0
  after_results_simp
  rfl

/-- Which group of the layer's columns is in each group of the feature-major weights, and the factor on it. -/
@[expose] def featGrp : Fin 4 → Fin 8 := ![0, 2, 4, 6]
@[expose] def featMul : Fin 4 → EReal := ![Ideal.ofBits .f32 0x3E000000#32, 1, Ideal.ofBits .f32 0x3E000000#32, 1]

theorem scaled_apply (x : S1024x512.Idx → EReal) (i : S1024x512.Idx) : scaled x i = x i * Ideal.ofBits .f32 0x3E000000#32 := rfl

theorem wFeat_apply (o : Fin 4) (d : Fin 1024) (e : Fin 512) :
    (V m c main_v16 : S2048x1024.Idx → EReal) (ix2 (grp4 o e) d) = mat m c (ix2 d (grp (featGrp o) e)) * featMul o := by
  rw [V_v16]
  refine (transpose_apply [1, 0] _ _ _ (ix2 d (grp4 o e)) fun b => ?_).trans ?_
  · match b with
    | ⟨0, _⟩ => rfl
    | ⟨1, _⟩ => rfl
  refine (concat_apply _ _ _ _ _ o d e).trans ?_
  match o with
  | ⟨0, _⟩ => exact (scaled_apply _ _).trans (congrArg (· * Ideal.ofBits .f32 0x3E000000#32) (slice_apply (mat m c) 0 _ slices_S1024x4096_S1024x512_0_0 rfl rfl d e))
  | ⟨1, _⟩ => exact (slice_apply (mat m c) 2 _ slices_S1024x4096_S1024x512_0_1024 rfl rfl d e).trans (mul_one _).symm
  | ⟨2, _⟩ => exact (scaled_apply _ _).trans (congrArg (· * Ideal.ofBits .f32 0x3E000000#32) (slice_apply (mat m c) 4 _ slices_S1024x4096_S1024x512_0_2048 rfl rfl d e))
  | ⟨3, _⟩ => exact (slice_apply (mat m c) 6 _ slices_S1024x4096_S1024x512_0_3072 rfl rfl d e).trans (mul_one _).symm

theorem gain_apply (d : Fin 1024) : (V m c main_v17 : S1x1024.Idx → EReal) (ix2 (0 : Fin 1) d) = m ((c : Thread nD τ).loc main_arg1) (ix1 d) := by
  rw [V_v17]
  refine shapeCast_apply _ _ _ _ ?_
  refine (Shape.rowMajor_val_one _).trans (Eq.trans ?_ (Shape.rowMajor_val_two _).symm)
  show d.val = 0 * 1024 + d.val
  omega

end Cert.Pj

end
-- ==== Proof.ProjectArray.lean ====
/-
  The eight arrays that the projection kernel leaves, as functions of its arguments.
-/
module

public import proofs.«01_k».proof.Proof.ProjectHost

public section

set_option maxRecDepth 16384

noncomputable section

namespace Cert.Pj

open Cert.Rms Cert.ProjectIdeal Cert.ProjectIdeal.Gen Idealize.ShloMosaic Idealize.ShloMosaic.TcCoe Idealize.ShloMosaic.ValueIdx Idealize.SL.Sem
open Finset

/-- A token's row after normalization, scale and shift. -/
@[expose] def modG (a0 : S8x4096x1024.Idx → EReal) (a1 : S1024.Idx → EReal) (a2 a3 : S8x1x1024.Idx → EReal) (b : Fin 8) (i : Fin 4096) (d : Fin 1024) : EReal :=
  modF (fun j => a0 (ix3 b i j)) (fun j => a1 (ix1 j)) (fun j => a2 (ix3 b (0 : Fin 1) j)) (fun j => a3 (ix3 b (0 : Fin 1) j)) d

/-- A token's product with column `e` of the `k`th group of columns. -/
@[expose] def tokG (k : Fin 8) (a0 : S8x4096x1024.Idx → EReal) (a1 : S1024.Idx → EReal) (a2 a3 : S8x1x1024.Idx → EReal) (a4 : S1024x4096.Idx → EReal) (b : Fin 8) (i : Fin 4096) (e : Fin 512) : EReal :=
  ∑ d : Fin 1024, modG a0 a1 a2 a3 b i d * a4 (ix2 d (grp k e))

/-- Token `q` of token block `T`. -/
@[expose] def tokenAt (T : Fin 16) (q : Fin 256) : Fin 4096 := ⟨256 * T.val + q.val, by have := T.isLt; have := q.isLt; omega⟩

/-- The same product for token `q` of token block `T`, times the factor `s`. -/
@[expose] def featG (k : Fin 8) (s : EReal) (a0 : S8x4096x1024.Idx → EReal) (a1 : S1024.Idx → EReal) (a2 a3 : S8x1x1024.Idx → EReal) (a4 : S1024x4096.Idx → EReal) (b : Fin 8) (T : Fin 16) (e : Fin 512) (q : Fin 256) : EReal :=
  tokG k a0 a1 a2 a3 a4 b (tokenAt T q) e * s

/-- A finite nonnegative factor goes through a sum. -/
theorem sum_mul_factor {n : ℕ} (f : Fin n → EReal) (s : EReal) (h0 : 0 ≤ s) (h1 : s ≠ ⊤) : (∑ d, f d * s) = (∑ d, f d) * s := by
  have : ∀ S : Finset (Fin n), (∑ d ∈ S, f d * s) = (∑ d ∈ S, f d) * s := by
    intro S
    induction S using Finset.induction_on with
    | empty => simp
    | insert a S ha ih => rw [Finset.sum_insert ha, Finset.sum_insert ha, ih, EReal.right_distrib_of_nonneg_of_ne_top h0 h1]
  exact this Finset.univ

theorem eighth : Ideal.ofBits .f32 0x3E000000#32 = ((1 / 8 : ℝ) : EReal) := by
  simp [Ideal.ofBits, Ideal.ieee, -EReal.coe_mul]; norm_num

theorem featMul_fin (o : Fin 4) : 0 ≤ featMul o ∧ featMul o ≠ ⊤ := by
  have e0 : (0 : EReal) ≤ Ideal.ofBits .f32 0x3E000000#32 ∧ Ideal.ofBits .f32 0x3E000000#32 ≠ ⊤ := by
    rw [eighth]
    exact ⟨EReal.coe_nonneg.2 (by norm_num), EReal.coe_ne_top _⟩
  have e1 : (0 : EReal) ≤ 1 ∧ (1 : EReal) ≠ ⊤ := ⟨zero_le_one, by exact_mod_cast EReal.coe_ne_top 1⟩
  match o with
  | ⟨0, _⟩ => exact e0
  | ⟨1, _⟩ => exact e1
  | ⟨2, _⟩ => exact e0
  | ⟨3, _⟩ => exact e1

/-- The blocks of the windows at a grid point. -/
theorem origin0 : ∀ t : Fin grid0.N, win0_0.index t 0 * win0_0.size 0 = t.val / 8 ∧ win0_0.index t 1 * win0_0.size 1 = 512 * (t.val % 8) ∧ win0_0.index t 2 * win0_0.size 2 = 0 := by decide +kernel
theorem origin1 : ∀ t : Fin grid0.N, win0_1.index t 0 * win0_1.size 0 = 0 ∧ win0_1.index t 1 * win0_1.size 1 = 0 := by decide +kernel
theorem origin2 : ∀ t : Fin grid0.N, win0_2.index t 0 * win0_2.size 0 = t.val / 8 ∧ win0_2.index t 1 * win0_2.size 1 = 0 ∧ win0_2.index t 2 * win0_2.size 2 = 0 := by decide +kernel
theorem origin3 : ∀ t : Fin grid0.N, win0_3.index t 0 * win0_3.size 0 = t.val / 8 ∧ win0_3.index t 1 * win0_3.size 1 = 0 ∧ win0_3.index t 2 * win0_3.size 2 = 0 := by decide +kernel
theorem origin4 : ∀ t : Fin grid0.N, win0_4.index t 0 * win0_4.size 0 = 0 ∧ win0_4.index t 1 * win0_4.size 1 = 0 := by decide +kernel
theorem origin5 : ∀ t : Fin grid0.N, win0_5.index t 0 * win0_5.size 0 = 0 ∧ win0_5.index t 1 * win0_5.size 1 = 0 := by decide +kernel
theorem origin6 : ∀ t : Fin grid0.N, win0_6.index t 0 * win0_6.size 0 = t.val / 8 ∧ win0_6.index t 1 * win0_6.size 1 = 512 * (t.val % 8) ∧ win0_6.index t 2 * win0_6.size 2 = 0 := by decide +kernel
theorem extent6 : ∀ t : Fin grid0.N, win0_6.xsize (grid0.coords t) 0 = 1 ∧ win0_6.xsize (grid0.coords t) 1 = 512 ∧ win0_6.xsize (grid0.coords t) 2 = 512 := by decide +kernel
theorem origin7 : ∀ t : Fin grid0.N, win0_7.index t 0 * win0_7.size 0 = t.val / 8 ∧ win0_7.index t 1 * win0_7.size 1 = 512 * (t.val % 8) ∧ win0_7.index t 2 * win0_7.size 2 = 0 := by decide +kernel
theorem extent7 : ∀ t : Fin grid0.N, win0_7.xsize (grid0.coords t) 0 = 1 ∧ win0_7.xsize (grid0.coords t) 1 = 512 ∧ win0_7.xsize (grid0.coords t) 2 = 512 := by decide +kernel
theorem origin8 : ∀ t : Fin grid0.N, win0_8.index t 0 * win0_8.size 0 = t.val / 8 ∧ win0_8.index t 1 * win0_8.size 1 = 512 * (t.val % 8) ∧ win0_8.index t 2 * win0_8.size 2 = 0 := by decide +kernel
theorem extent8 : ∀ t : Fin grid0.N, win0_8.xsize (grid0.coords t) 0 = 1 ∧ win0_8.xsize (grid0.coords t) 1 = 512 ∧ win0_8.xsize (grid0.coords t) 2 = 512 := by decide +kernel
theorem origin9 : ∀ t : Fin grid0.N, win0_9.index t 0 * win0_9.size 0 = t.val / 8 ∧ win0_9.index t 1 * win0_9.size 1 = 512 * (t.val % 8) ∧ win0_9.index t 2 * win0_9.size 2 = 0 := by decide +kernel
theorem extent9 : ∀ t : Fin grid0.N, win0_9.xsize (grid0.coords t) 0 = 1 ∧ win0_9.xsize (grid0.coords t) 1 = 512 ∧ win0_9.xsize (grid0.coords t) 2 = 512 := by decide +kernel
theorem origin10 : ∀ t : Fin grid0.N, win0_10.index t 0 * win0_10.size 0 = t.val / 8 ∧ win0_10.index t 1 * win0_10.size 1 = 2 * (t.val % 8) ∧ win0_10.index t 2 * win0_10.size 2 = 0 ∧ win0_10.index t 3 * win0_10.size 3 = 0 := by decide +kernel
theorem extent10 : ∀ t : Fin grid0.N, win0_10.xsize (grid0.coords t) 0 = 1 ∧ win0_10.xsize (grid0.coords t) 1 = 2 ∧ win0_10.xsize (grid0.coords t) 2 = 512 ∧ win0_10.xsize (grid0.coords t) 3 = 256 := by decide +kernel
theorem origin11 : ∀ t : Fin grid0.N, win0_11.index t 0 * win0_11.size 0 = t.val / 8 ∧ win0_11.index t 1 * win0_11.size 1 = 2 * (t.val % 8) ∧ win0_11.index t 2 * win0_11.size 2 = 0 ∧ win0_11.index t 3 * win0_11.size 3 = 0 := by decide +kernel
theorem extent11 : ∀ t : Fin grid0.N, win0_11.xsize (grid0.coords t) 0 = 1 ∧ win0_11.xsize (grid0.coords t) 1 = 2 ∧ win0_11.xsize (grid0.coords t) 2 = 512 ∧ win0_11.xsize (grid0.coords t) 3 = 256 := by decide +kernel
theorem origin12 : ∀ t : Fin grid0.N, win0_12.index t 0 * win0_12.size 0 = t.val / 8 ∧ win0_12.index t 1 * win0_12.size 1 = 2 * (t.val % 8) ∧ win0_12.index t 2 * win0_12.size 2 = 0 ∧ win0_12.index t 3 * win0_12.size 3 = 0 := by decide +kernel
theorem extent12 : ∀ t : Fin grid0.N, win0_12.xsize (grid0.coords t) 0 = 1 ∧ win0_12.xsize (grid0.coords t) 1 = 2 ∧ win0_12.xsize (grid0.coords t) 2 = 512 ∧ win0_12.xsize (grid0.coords t) 3 = 256 := by decide +kernel
theorem origin13 : ∀ t : Fin grid0.N, win0_13.index t 0 * win0_13.size 0 = t.val / 8 ∧ win0_13.index t 1 * win0_13.size 1 = 2 * (t.val % 8) ∧ win0_13.index t 2 * win0_13.size 2 = 0 ∧ win0_13.index t 3 * win0_13.size 3 = 0 := by decide +kernel
theorem extent13 : ∀ t : Fin grid0.N, win0_13.xsize (grid0.coords t) 0 = 1 ∧ win0_13.xsize (grid0.coords t) 1 = 2 ∧ win0_13.xsize (grid0.coords t) 2 = 512 ∧ win0_13.xsize (grid0.coords t) 3 = 256 := by decide +kernel

section Point

variable (m : (ℓ : Loc nD τ sig) → Buf (Elt Ideal) ℓ) (c : Dev nD) (t : Fin cfg0.N)

theorem t_lt : t.val < 64 := lt_of_lt_of_eq t.isLt N_0

/-- The batch element of a grid point, and the tokens of its rows. -/
@[expose] def ptB : Fin 8 := ⟨t.val / 8, by have := t_lt t; omega⟩
@[expose] def ptRow (r : Fin 512) : Fin 4096 := ⟨512 * (t.val % 8) + r.val, by have := r.isLt; omega⟩
@[expose] def ptBlk (k : Fin 2) : Fin 16 := ⟨2 * (t.val % 8) + k.val, by have := k.isLt; omega⟩

abbrev arg0 : S8x4096x1024.Idx → EReal := m ((c : Thread nD τ).loc main_arg0)
abbrev arg1 : S1024.Idx → EReal := m ((c : Thread nD τ).loc main_arg1)
abbrev arg2 : S8x1x1024.Idx → EReal := m ((c : Thread nD τ).loc main_arg2)
abbrev arg3 : S8x1x1024.Idx → EReal := m ((c : Thread nD τ).loc main_arg3)

theorem iblk0_apply (r : Fin 512) (d : Fin 1024) : iblk m c 0 t (ix3 (0 : Fin 1) r d) = arg0 m c (ix3 (ptB t) (ptRow t r) d) := by
  unfold iblk
  show V m c main_arg0 _ = _
  rw [V_main_arg0]
  refine congrArg (m ((c : Thread nD τ).loc main_arg0)) (funext fun a => Fin.ext ?_)
  obtain ⟨h0, h1, h2⟩ := origin0 t
  match a with
  | ⟨0, _⟩ => show win0_0.index t 0 * win0_0.size 0 + 1 * 0 = t.val / 8; rw [h0, mul_zero, add_zero]
  | ⟨1, _⟩ => show win0_0.index t 1 * win0_0.size 1 + 1 * r.val = 512 * (t.val % 8) + r.val; rw [h1, one_mul]
  | ⟨2, _⟩ => show win0_0.index t 2 * win0_0.size 2 + 1 * d.val = d.val; rw [h2, one_mul, zero_add]
theorem iblk1_apply (d : Fin 1024) : iblk m c 1 t (ix2 (0 : Fin 1) d) = arg1 m c (ix1 d) := by
  unfold iblk
  refine Eq.trans ?_ (gain_apply m c d)
  show V m c main_v17 _ = _
  refine congrArg (V m c main_v17) (funext fun a => Fin.ext ?_)
  obtain ⟨h0, h1⟩ := origin1 t
  match a with
  | ⟨0, _⟩ => show win0_1.index t 0 * win0_1.size 0 + 1 * 0 = 0; rw [h0]
  | ⟨1, _⟩ => show win0_1.index t 1 * win0_1.size 1 + 1 * d.val = d.val; rw [h1, one_mul, zero_add]
theorem iblk2_apply (d : Fin 1024) : iblk m c 2 t (ix3 (0 : Fin 1) (0 : Fin 1) d) = arg2 m c (ix3 (ptB t) (0 : Fin 1) d) := by
  unfold iblk
  show V m c main_arg2 _ = _
  rw [V_main_arg2]
  refine congrArg (m ((c : Thread nD τ).loc main_arg2)) (funext fun a => Fin.ext ?_)
  obtain ⟨h0, h1, h2⟩ := origin2 t
  match a with
  | ⟨0, _⟩ => show win0_2.index t 0 * win0_2.size 0 + 1 * 0 = t.val / 8; rw [h0, mul_zero, add_zero]
  | ⟨1, _⟩ => show win0_2.index t 1 * win0_2.size 1 + 1 * 0 = 0; rw [h1]
  | ⟨2, _⟩ => show win0_2.index t 2 * win0_2.size 2 + 1 * d.val = d.val; rw [h2, one_mul, zero_add]
theorem iblk3_apply (d : Fin 1024) : iblk m c 3 t (ix3 (0 : Fin 1) (0 : Fin 1) d) = arg3 m c (ix3 (ptB t) (0 : Fin 1) d) := by
  unfold iblk
  show V m c main_arg3 _ = _
  rw [V_main_arg3]
  refine congrArg (m ((c : Thread nD τ).loc main_arg3)) (funext fun a => Fin.ext ?_)
  obtain ⟨h0, h1, h2⟩ := origin3 t
  match a with
  | ⟨0, _⟩ => show win0_3.index t 0 * win0_3.size 0 + 1 * 0 = t.val / 8; rw [h0, mul_zero, add_zero]
  | ⟨1, _⟩ => show win0_3.index t 1 * win0_3.size 1 + 1 * 0 = 0; rw [h1]
  | ⟨2, _⟩ => show win0_3.index t 2 * win0_3.size 2 + 1 * d.val = d.val; rw [h2, one_mul, zero_add]
theorem iblk4_apply (o : Fin 4) (d : Fin 1024) (e : Fin 512) : iblk m c 4 t (ix2 d (grp4 o e)) = mat m c (ix2 d (grp (tokGrp o) e)) := by
  unfold iblk
  refine Eq.trans ?_ (wTok_apply m c o d e)
  show V m c main_v9 _ = _
  refine congrArg (V m c main_v9) (funext fun a => Fin.ext ?_)
  obtain ⟨h0, h1⟩ := origin4 t
  match a with
  | ⟨0, _⟩ => show win0_4.index t 0 * win0_4.size 0 + 1 * d.val = d.val; rw [h0, one_mul, zero_add]
  | ⟨1, _⟩ => show win0_4.index t 1 * win0_4.size 1 + 1 * (grp4 o e).val = (grp4 o e).val; rw [h1, one_mul, zero_add]
theorem iblk5_apply (o : Fin 4) (d : Fin 1024) (e : Fin 512) : iblk m c 5 t (ix2 (grp4 o e) d) = mat m c (ix2 d (grp (featGrp o) e)) * featMul o := by
  unfold iblk
  refine Eq.trans ?_ (wFeat_apply m c o d e)
  show V m c main_v16 _ = _
  refine congrArg (V m c main_v16) (funext fun a => Fin.ext ?_)
  obtain ⟨h0, h1⟩ := origin5 t
  match a with
  | ⟨0, _⟩ => show win0_5.index t 0 * win0_5.size 0 + 1 * (grp4 o e).val = (grp4 o e).val; rw [h0, one_mul, zero_add]
  | ⟨1, _⟩ => show win0_5.index t 1 * win0_5.size 1 + 1 * d.val = d.val; rw [h1, one_mul, zero_add]

/-- The rows of a grid point are the tokens' rows. -/
theorem row_eq (r : Fin 512) (d : Fin 1024) : rowOf (iblk m c 0 t) (iblk m c 1 t) (iblk m c 2 t) (iblk m c 3 t) r d = modG (arg0 m c) (arg1 m c) (arg2 m c) (arg3 m c) (ptB t) (ptRow t r) d := by
  unfold rowOf modG
  congr 1
  · exact funext fun j => iblk0_apply m c t r j
  · exact funext fun j => iblk1_apply m c t j
  · exact funext fun j => iblk2_apply m c t j
  · exact funext fun j => iblk3_apply m c t j

theorem tokBlk_eq (o : Fin 4) (r e : Fin 512) : tokBlk o (iblk m c 0 t) (iblk m c 1 t) (iblk m c 2 t) (iblk m c 3 t) (iblk m c 4 t) r e
    = tokG (tokGrp o) (arg0 m c) (arg1 m c) (arg2 m c) (arg3 m c) (mat m c) (ptB t) (ptRow t r) e := by
  unfold tokBlk tokG
  refine Finset.sum_congr rfl fun d _ => ?_
  rw [row_eq]
  exact congrArg (_ * ·) (iblk4_apply m c t o d e)

theorem featBlk_eq (o : Fin 4) (k : Fin 2) (e : Fin 512) (q : Fin 256) : featBlk o (iblk m c 0 t) (iblk m c 1 t) (iblk m c 2 t) (iblk m c 3 t) (iblk m c 5 t) k e q
    = featG (featGrp o) (featMul o) (arg0 m c) (arg1 m c) (arg2 m c) (arg3 m c) (mat m c) (ptB t) (ptBlk t k) e q := by
  unfold featBlk featG tokG
  rw [← sum_mul_factor _ _ (featMul_fin o).1 (featMul_fin o).2]
  refine Finset.sum_congr rfl fun d _ => ?_
  have hr : ptRow t (rowAt k q) = tokenAt (ptBlk t k) q := Fin.ext (by show 512 * (t.val % 8) + (256 * k.val + q.val) = 256 * (2 * (t.val % 8) + k.val) + q.val; omega)
  rw [row_eq, hr]
  refine (congrArg (fun z : EReal => z * modG (arg0 m c) (arg1 m c) (arg2 m c) (arg3 m c) (ptB t) (tokenAt (ptBlk t k) q) d) (iblk5_apply m c t o d e)).trans ?_
  exact (mul_right_comm _ _ _).trans (congrArg (· * featMul o) (mul_comm _ _))

/-- The arrays: token-major, and feature-major by token blocks. -/
@[expose] def tokBuf (k : Fin 8) : S8x4096x512.Idx → EReal := fun i =>
  tokG k (arg0 m c) (arg1 m c) (arg2 m c) (arg3 m c) (mat m c) ⟨(i 0).val, (i 0).isLt⟩ ⟨(i 1).val, (i 1).isLt⟩ ⟨(i 2).val, (i 2).isLt⟩
@[expose] def featBuf (k : Fin 8) (s : EReal) : S8x16x512x256.Idx → EReal := fun i =>
  featG k s (arg0 m c) (arg1 m c) (arg2 m c) (arg3 m c) (mat m c) ⟨(i 0).val, (i 0).isLt⟩ ⟨(i 1).val, (i 1).isLt⟩ ⟨(i 2).val, (i 2).isLt⟩ ⟨(i 3).val, (i 3).isLt⟩

/-- Window 6: what a grid point writes back, which elements it writes, and the array. -/
theorem flushed6_eq : (dats m 0 c).flushed 6 t = ((cfg0.win 6).blk t).view.read (Elt Ideal) (tokBuf m c (tokGrp 0)) := by
  rw [Cert.ProjectIdeal.Value.flushed6]
  funext j
  obtain ⟨h0, h1, h2⟩ := origin6 t
  obtain ⟨x0, x1, x2⟩ := extent6 t
  have j0 : (j 0).val < 1 := lt_of_lt_of_eq (j 0).isLt x0
  have j1 : (j 1).val < 512 := lt_of_lt_of_eq (j 1).isLt x1
  have j2 : (j 2).val < 512 := lt_of_lt_of_eq (j 2).isLt x2
  have hcut : ∀ X : Vec Ideal S1x512x512 .bf16, (cfg0.win 6).cut (grid0.coords t) X j = X (ix3 (0 : Fin 1) ⟨(j 1).val, j1⟩ ⟨(j 2).val, j2⟩) := by
    intro X
    refine congrArg X (funext fun a => Fin.ext ?_)
    match a with
    | ⟨0, _⟩ => show (j 0).val = 0; omega
    | ⟨1, _⟩ => rfl
    | ⟨2, _⟩ => rfl
  rw [hcut, out6_apply, tokBlk_eq]
  show _ = tokG (tokGrp 0) (arg0 m c) (arg1 m c) (arg2 m c) (arg3 m c) (mat m c) _ _ _
  congr 1
  · exact Fin.ext (by show t.val / 8 = win0_6.index t 0 * win0_6.size 0 + 1 * (j 0).val; rw [h0]; omega)
  · exact Fin.ext (by show 512 * (t.val % 8) + (j 1).val = win0_6.index t 1 * win0_6.size 1 + 1 * (j 1).val; rw [h1, one_mul])
  · exact Fin.ext (by show (j 2).val = win0_6.index t 2 * win0_6.size 2 + 1 * (j 2).val; rw [h2, one_mul, zero_add])
theorem mem_blk6 (i : S8x4096x512.Idx) : i ∈ ((cfg0.win 6).blk t).view.set
    ↔ (i 0).val = t.val / 8 ∧ 512 * (t.val % 8) ≤ (i 1).val ∧ (i 1).val < 512 * (t.val % 8) + 512 := by
  show i ∈ ((View.whole main_v18_0).slice (win0_6.rect t)).set ↔ _
  rw [View.set_slice_whole, Rect.mem_set_unit]
  obtain ⟨h0, h1, h2⟩ := origin6 t
  obtain ⟨x0, x1, x2⟩ := extent6 t
  have i2 : (i 2).val < 512 := (i 2).isLt
  refine ⟨fun h => ?_, fun h a => ?_⟩
  · have e0 : win0_6.index t 0 * win0_6.size 0 ≤ (i 0 : Nat) ∧ (i 0 : Nat) < win0_6.index t 0 * win0_6.size 0 + win0_6.xsize (grid0.coords t) 0 := h 0
    have e1 : win0_6.index t 1 * win0_6.size 1 ≤ (i 1 : Nat) ∧ (i 1 : Nat) < win0_6.index t 1 * win0_6.size 1 + win0_6.xsize (grid0.coords t) 1 := h 1
    rw [h0, x0] at e0
    rw [h1, x1] at e1
    exact ⟨by omega, e1⟩
  · match a with
    | ⟨0, _⟩ =>
      show win0_6.index t 0 * win0_6.size 0 ≤ (i 0 : Nat) ∧ (i 0 : Nat) < win0_6.index t 0 * win0_6.size 0 + win0_6.xsize (grid0.coords t) 0
      rw [h0, x0]; have := h.1; omega
    | ⟨1, _⟩ =>
      show win0_6.index t 1 * win0_6.size 1 ≤ (i 1 : Nat) ∧ (i 1 : Nat) < win0_6.index t 1 * win0_6.size 1 + win0_6.xsize (grid0.coords t) 1
      rw [h1, x1]; exact h.2
    | ⟨2, _⟩ =>
      show win0_6.index t 2 * win0_6.size 2 ≤ (i 2 : Nat) ∧ (i 2 : Nat) < win0_6.index t 2 * win0_6.size 2 + win0_6.xsize (grid0.coords t) 2
      rw [h2, x2]; omega
theorem cover6 (i : S8x4096x512.Idx) : ∃ t : Fin cfg0.N, (cfg0.win 6).flush t = true ∧ i ∈ ((cfg0.win 6).blk t).view.set := by
  have i0 : (i 0).val < 8 := (i 0).isLt
  have i1 : (i 1).val < 4096 := (i 1).isLt
  refine ⟨⟨8 * (i 0).val + (i 1).val / 512, lt_of_lt_of_eq (by omega) N_0.symm⟩, flush0_6 _, ?_⟩
  rw [mem_blk6]
  dsimp only
  omega
theorem final6 : (dats m 0 c).arrAt 6 cfg0.N = tokBuf m c (tokGrp 0) := (dats m 0 c).arrAt_eq_of_cover 6 (tokBuf m c (tokGrp 0)) (fun t _ => flushed6_eq m c t) cover6

/-- Window 7: what a grid point writes back, which elements it writes, and the array. -/
theorem flushed7_eq : (dats m 0 c).flushed 7 t = ((cfg0.win 7).blk t).view.read (Elt Ideal) (tokBuf m c (tokGrp 1)) := by
  rw [Cert.ProjectIdeal.Value.flushed7]
  funext j
  obtain ⟨h0, h1, h2⟩ := origin7 t
  obtain ⟨x0, x1, x2⟩ := extent7 t
  have j0 : (j 0).val < 1 := lt_of_lt_of_eq (j 0).isLt x0
  have j1 : (j 1).val < 512 := lt_of_lt_of_eq (j 1).isLt x1
  have j2 : (j 2).val < 512 := lt_of_lt_of_eq (j 2).isLt x2
  have hcut : ∀ X : Vec Ideal S1x512x512 .bf16, (cfg0.win 7).cut (grid0.coords t) X j = X (ix3 (0 : Fin 1) ⟨(j 1).val, j1⟩ ⟨(j 2).val, j2⟩) := by
    intro X
    refine congrArg X (funext fun a => Fin.ext ?_)
    match a with
    | ⟨0, _⟩ => show (j 0).val = 0; omega
    | ⟨1, _⟩ => rfl
    | ⟨2, _⟩ => rfl
  rw [hcut, out7_apply, tokBlk_eq]
  show _ = tokG (tokGrp 1) (arg0 m c) (arg1 m c) (arg2 m c) (arg3 m c) (mat m c) _ _ _
  congr 1
  · exact Fin.ext (by show t.val / 8 = win0_7.index t 0 * win0_7.size 0 + 1 * (j 0).val; rw [h0]; omega)
  · exact Fin.ext (by show 512 * (t.val % 8) + (j 1).val = win0_7.index t 1 * win0_7.size 1 + 1 * (j 1).val; rw [h1, one_mul])
  · exact Fin.ext (by show (j 2).val = win0_7.index t 2 * win0_7.size 2 + 1 * (j 2).val; rw [h2, one_mul, zero_add])
theorem mem_blk7 (i : S8x4096x512.Idx) : i ∈ ((cfg0.win 7).blk t).view.set
    ↔ (i 0).val = t.val / 8 ∧ 512 * (t.val % 8) ≤ (i 1).val ∧ (i 1).val < 512 * (t.val % 8) + 512 := by
  show i ∈ ((View.whole main_v18_1).slice (win0_7.rect t)).set ↔ _
  rw [View.set_slice_whole, Rect.mem_set_unit]
  obtain ⟨h0, h1, h2⟩ := origin7 t
  obtain ⟨x0, x1, x2⟩ := extent7 t
  have i2 : (i 2).val < 512 := (i 2).isLt
  refine ⟨fun h => ?_, fun h a => ?_⟩
  · have e0 : win0_7.index t 0 * win0_7.size 0 ≤ (i 0 : Nat) ∧ (i 0 : Nat) < win0_7.index t 0 * win0_7.size 0 + win0_7.xsize (grid0.coords t) 0 := h 0
    have e1 : win0_7.index t 1 * win0_7.size 1 ≤ (i 1 : Nat) ∧ (i 1 : Nat) < win0_7.index t 1 * win0_7.size 1 + win0_7.xsize (grid0.coords t) 1 := h 1
    rw [h0, x0] at e0
    rw [h1, x1] at e1
    exact ⟨by omega, e1⟩
  · match a with
    | ⟨0, _⟩ =>
      show win0_7.index t 0 * win0_7.size 0 ≤ (i 0 : Nat) ∧ (i 0 : Nat) < win0_7.index t 0 * win0_7.size 0 + win0_7.xsize (grid0.coords t) 0
      rw [h0, x0]; have := h.1; omega
    | ⟨1, _⟩ =>
      show win0_7.index t 1 * win0_7.size 1 ≤ (i 1 : Nat) ∧ (i 1 : Nat) < win0_7.index t 1 * win0_7.size 1 + win0_7.xsize (grid0.coords t) 1
      rw [h1, x1]; exact h.2
    | ⟨2, _⟩ =>
      show win0_7.index t 2 * win0_7.size 2 ≤ (i 2 : Nat) ∧ (i 2 : Nat) < win0_7.index t 2 * win0_7.size 2 + win0_7.xsize (grid0.coords t) 2
      rw [h2, x2]; omega
theorem cover7 (i : S8x4096x512.Idx) : ∃ t : Fin cfg0.N, (cfg0.win 7).flush t = true ∧ i ∈ ((cfg0.win 7).blk t).view.set := by
  have i0 : (i 0).val < 8 := (i 0).isLt
  have i1 : (i 1).val < 4096 := (i 1).isLt
  refine ⟨⟨8 * (i 0).val + (i 1).val / 512, lt_of_lt_of_eq (by omega) N_0.symm⟩, flush0_7 _, ?_⟩
  rw [mem_blk7]
  dsimp only
  omega
theorem final7 : (dats m 0 c).arrAt 7 cfg0.N = tokBuf m c (tokGrp 1) := (dats m 0 c).arrAt_eq_of_cover 7 (tokBuf m c (tokGrp 1)) (fun t _ => flushed7_eq m c t) cover7

/-- Window 8: what a grid point writes back, which elements it writes, and the array. -/
theorem flushed8_eq : (dats m 0 c).flushed 8 t = ((cfg0.win 8).blk t).view.read (Elt Ideal) (tokBuf m c (tokGrp 2)) := by
  rw [Cert.ProjectIdeal.Value.flushed8]
  funext j
  obtain ⟨h0, h1, h2⟩ := origin8 t
  obtain ⟨x0, x1, x2⟩ := extent8 t
  have j0 : (j 0).val < 1 := lt_of_lt_of_eq (j 0).isLt x0
  have j1 : (j 1).val < 512 := lt_of_lt_of_eq (j 1).isLt x1
  have j2 : (j 2).val < 512 := lt_of_lt_of_eq (j 2).isLt x2
  have hcut : ∀ X : Vec Ideal S1x512x512 .bf16, (cfg0.win 8).cut (grid0.coords t) X j = X (ix3 (0 : Fin 1) ⟨(j 1).val, j1⟩ ⟨(j 2).val, j2⟩) := by
    intro X
    refine congrArg X (funext fun a => Fin.ext ?_)
    match a with
    | ⟨0, _⟩ => show (j 0).val = 0; omega
    | ⟨1, _⟩ => rfl
    | ⟨2, _⟩ => rfl
  rw [hcut, out8_apply, tokBlk_eq]
  show _ = tokG (tokGrp 2) (arg0 m c) (arg1 m c) (arg2 m c) (arg3 m c) (mat m c) _ _ _
  congr 1
  · exact Fin.ext (by show t.val / 8 = win0_8.index t 0 * win0_8.size 0 + 1 * (j 0).val; rw [h0]; omega)
  · exact Fin.ext (by show 512 * (t.val % 8) + (j 1).val = win0_8.index t 1 * win0_8.size 1 + 1 * (j 1).val; rw [h1, one_mul])
  · exact Fin.ext (by show (j 2).val = win0_8.index t 2 * win0_8.size 2 + 1 * (j 2).val; rw [h2, one_mul, zero_add])
theorem mem_blk8 (i : S8x4096x512.Idx) : i ∈ ((cfg0.win 8).blk t).view.set
    ↔ (i 0).val = t.val / 8 ∧ 512 * (t.val % 8) ≤ (i 1).val ∧ (i 1).val < 512 * (t.val % 8) + 512 := by
  show i ∈ ((View.whole main_v18_2).slice (win0_8.rect t)).set ↔ _
  rw [View.set_slice_whole, Rect.mem_set_unit]
  obtain ⟨h0, h1, h2⟩ := origin8 t
  obtain ⟨x0, x1, x2⟩ := extent8 t
  have i2 : (i 2).val < 512 := (i 2).isLt
  refine ⟨fun h => ?_, fun h a => ?_⟩
  · have e0 : win0_8.index t 0 * win0_8.size 0 ≤ (i 0 : Nat) ∧ (i 0 : Nat) < win0_8.index t 0 * win0_8.size 0 + win0_8.xsize (grid0.coords t) 0 := h 0
    have e1 : win0_8.index t 1 * win0_8.size 1 ≤ (i 1 : Nat) ∧ (i 1 : Nat) < win0_8.index t 1 * win0_8.size 1 + win0_8.xsize (grid0.coords t) 1 := h 1
    rw [h0, x0] at e0
    rw [h1, x1] at e1
    exact ⟨by omega, e1⟩
  · match a with
    | ⟨0, _⟩ =>
      show win0_8.index t 0 * win0_8.size 0 ≤ (i 0 : Nat) ∧ (i 0 : Nat) < win0_8.index t 0 * win0_8.size 0 + win0_8.xsize (grid0.coords t) 0
      rw [h0, x0]; have := h.1; omega
    | ⟨1, _⟩ =>
      show win0_8.index t 1 * win0_8.size 1 ≤ (i 1 : Nat) ∧ (i 1 : Nat) < win0_8.index t 1 * win0_8.size 1 + win0_8.xsize (grid0.coords t) 1
      rw [h1, x1]; exact h.2
    | ⟨2, _⟩ =>
      show win0_8.index t 2 * win0_8.size 2 ≤ (i 2 : Nat) ∧ (i 2 : Nat) < win0_8.index t 2 * win0_8.size 2 + win0_8.xsize (grid0.coords t) 2
      rw [h2, x2]; omega
theorem cover8 (i : S8x4096x512.Idx) : ∃ t : Fin cfg0.N, (cfg0.win 8).flush t = true ∧ i ∈ ((cfg0.win 8).blk t).view.set := by
  have i0 : (i 0).val < 8 := (i 0).isLt
  have i1 : (i 1).val < 4096 := (i 1).isLt
  refine ⟨⟨8 * (i 0).val + (i 1).val / 512, lt_of_lt_of_eq (by omega) N_0.symm⟩, flush0_8 _, ?_⟩
  rw [mem_blk8]
  dsimp only
  omega
theorem final8 : (dats m 0 c).arrAt 8 cfg0.N = tokBuf m c (tokGrp 2) := (dats m 0 c).arrAt_eq_of_cover 8 (tokBuf m c (tokGrp 2)) (fun t _ => flushed8_eq m c t) cover8

/-- Window 9: what a grid point writes back, which elements it writes, and the array. -/
theorem flushed9_eq : (dats m 0 c).flushed 9 t = ((cfg0.win 9).blk t).view.read (Elt Ideal) (tokBuf m c (tokGrp 3)) := by
  rw [Cert.ProjectIdeal.Value.flushed9]
  funext j
  obtain ⟨h0, h1, h2⟩ := origin9 t
  obtain ⟨x0, x1, x2⟩ := extent9 t
  have j0 : (j 0).val < 1 := lt_of_lt_of_eq (j 0).isLt x0
  have j1 : (j 1).val < 512 := lt_of_lt_of_eq (j 1).isLt x1
  have j2 : (j 2).val < 512 := lt_of_lt_of_eq (j 2).isLt x2
  have hcut : ∀ X : Vec Ideal S1x512x512 .bf16, (cfg0.win 9).cut (grid0.coords t) X j = X (ix3 (0 : Fin 1) ⟨(j 1).val, j1⟩ ⟨(j 2).val, j2⟩) := by
    intro X
    refine congrArg X (funext fun a => Fin.ext ?_)
    match a with
    | ⟨0, _⟩ => show (j 0).val = 0; omega
    | ⟨1, _⟩ => rfl
    | ⟨2, _⟩ => rfl
  rw [hcut, out9_apply, tokBlk_eq]
  show _ = tokG (tokGrp 3) (arg0 m c) (arg1 m c) (arg2 m c) (arg3 m c) (mat m c) _ _ _
  congr 1
  · exact Fin.ext (by show t.val / 8 = win0_9.index t 0 * win0_9.size 0 + 1 * (j 0).val; rw [h0]; omega)
  · exact Fin.ext (by show 512 * (t.val % 8) + (j 1).val = win0_9.index t 1 * win0_9.size 1 + 1 * (j 1).val; rw [h1, one_mul])
  · exact Fin.ext (by show (j 2).val = win0_9.index t 2 * win0_9.size 2 + 1 * (j 2).val; rw [h2, one_mul, zero_add])
theorem mem_blk9 (i : S8x4096x512.Idx) : i ∈ ((cfg0.win 9).blk t).view.set
    ↔ (i 0).val = t.val / 8 ∧ 512 * (t.val % 8) ≤ (i 1).val ∧ (i 1).val < 512 * (t.val % 8) + 512 := by
  show i ∈ ((View.whole main_v18_3).slice (win0_9.rect t)).set ↔ _
  rw [View.set_slice_whole, Rect.mem_set_unit]
  obtain ⟨h0, h1, h2⟩ := origin9 t
  obtain ⟨x0, x1, x2⟩ := extent9 t
  have i2 : (i 2).val < 512 := (i 2).isLt
  refine ⟨fun h => ?_, fun h a => ?_⟩
  · have e0 : win0_9.index t 0 * win0_9.size 0 ≤ (i 0 : Nat) ∧ (i 0 : Nat) < win0_9.index t 0 * win0_9.size 0 + win0_9.xsize (grid0.coords t) 0 := h 0
    have e1 : win0_9.index t 1 * win0_9.size 1 ≤ (i 1 : Nat) ∧ (i 1 : Nat) < win0_9.index t 1 * win0_9.size 1 + win0_9.xsize (grid0.coords t) 1 := h 1
    rw [h0, x0] at e0
    rw [h1, x1] at e1
    exact ⟨by omega, e1⟩
  · match a with
    | ⟨0, _⟩ =>
      show win0_9.index t 0 * win0_9.size 0 ≤ (i 0 : Nat) ∧ (i 0 : Nat) < win0_9.index t 0 * win0_9.size 0 + win0_9.xsize (grid0.coords t) 0
      rw [h0, x0]; have := h.1; omega
    | ⟨1, _⟩ =>
      show win0_9.index t 1 * win0_9.size 1 ≤ (i 1 : Nat) ∧ (i 1 : Nat) < win0_9.index t 1 * win0_9.size 1 + win0_9.xsize (grid0.coords t) 1
      rw [h1, x1]; exact h.2
    | ⟨2, _⟩ =>
      show win0_9.index t 2 * win0_9.size 2 ≤ (i 2 : Nat) ∧ (i 2 : Nat) < win0_9.index t 2 * win0_9.size 2 + win0_9.xsize (grid0.coords t) 2
      rw [h2, x2]; omega
theorem cover9 (i : S8x4096x512.Idx) : ∃ t : Fin cfg0.N, (cfg0.win 9).flush t = true ∧ i ∈ ((cfg0.win 9).blk t).view.set := by
  have i0 : (i 0).val < 8 := (i 0).isLt
  have i1 : (i 1).val < 4096 := (i 1).isLt
  refine ⟨⟨8 * (i 0).val + (i 1).val / 512, lt_of_lt_of_eq (by omega) N_0.symm⟩, flush0_9 _, ?_⟩
  rw [mem_blk9]
  dsimp only
  omega
theorem final9 : (dats m 0 c).arrAt 9 cfg0.N = tokBuf m c (tokGrp 3) := (dats m 0 c).arrAt_eq_of_cover 9 (tokBuf m c (tokGrp 3)) (fun t _ => flushed9_eq m c t) cover9

/-- Window 10: what a grid point writes back, which elements it writes, and the array. -/
theorem flushed10_eq : (dats m 0 c).flushed 10 t = ((cfg0.win 10).blk t).view.read (Elt Ideal) (featBuf m c (featGrp 0) (featMul 0)) := by
  rw [Cert.ProjectIdeal.Value.flushed10]
  funext j
  obtain ⟨h0, h1, h2, h3⟩ := origin10 t
  obtain ⟨x0, x1, x2, x3⟩ := extent10 t
  have j0 : (j 0).val < 1 := lt_of_lt_of_eq (j 0).isLt x0
  have j1 : (j 1).val < 2 := lt_of_lt_of_eq (j 1).isLt x1
  have j2 : (j 2).val < 512 := lt_of_lt_of_eq (j 2).isLt x2
  have j3 : (j 3).val < 256 := lt_of_lt_of_eq (j 3).isLt x3
  have hcut : ∀ X : Vec Ideal S1x2x512x256 .bf16, (cfg0.win 10).cut (grid0.coords t) X j = X (ix4 (0 : Fin 1) ⟨(j 1).val, j1⟩ ⟨(j 2).val, j2⟩ ⟨(j 3).val, j3⟩) := by
    intro X
    refine congrArg X (funext fun a => Fin.ext ?_)
    match a with
    | ⟨0, _⟩ => show (j 0).val = 0; omega
    | ⟨1, _⟩ => rfl
    | ⟨2, _⟩ => rfl
    | ⟨3, _⟩ => rfl
  rw [hcut, out10_apply, featBlk_eq]
  show _ = featG (featGrp 0) (featMul 0) (arg0 m c) (arg1 m c) (arg2 m c) (arg3 m c) (mat m c) _ _ _ _
  congr 1
  · exact Fin.ext (by show t.val / 8 = win0_10.index t 0 * win0_10.size 0 + 1 * (j 0).val; rw [h0]; omega)
  · exact Fin.ext (by show 2 * (t.val % 8) + (j 1).val = win0_10.index t 1 * win0_10.size 1 + 1 * (j 1).val; rw [h1, one_mul])
  · exact Fin.ext (by show (j 2).val = win0_10.index t 2 * win0_10.size 2 + 1 * (j 2).val; rw [h2, one_mul, zero_add])
  · exact Fin.ext (by show (j 3).val = win0_10.index t 3 * win0_10.size 3 + 1 * (j 3).val; rw [h3, one_mul, zero_add])
theorem mem_blk10 (i : S8x16x512x256.Idx) : i ∈ ((cfg0.win 10).blk t).view.set
    ↔ (i 0).val = t.val / 8 ∧ 2 * (t.val % 8) ≤ (i 1).val ∧ (i 1).val < 2 * (t.val % 8) + 2 := by
  show i ∈ ((View.whole main_v18_4).slice (win0_10.rect t)).set ↔ _
  rw [View.set_slice_whole, Rect.mem_set_unit]
  obtain ⟨h0, h1, h2, h3⟩ := origin10 t
  obtain ⟨x0, x1, x2, x3⟩ := extent10 t
  have i2 : (i 2).val < 512 := (i 2).isLt
  have i3 : (i 3).val < 256 := (i 3).isLt
  refine ⟨fun h => ?_, fun h a => ?_⟩
  · have e0 : win0_10.index t 0 * win0_10.size 0 ≤ (i 0 : Nat) ∧ (i 0 : Nat) < win0_10.index t 0 * win0_10.size 0 + win0_10.xsize (grid0.coords t) 0 := h 0
    have e1 : win0_10.index t 1 * win0_10.size 1 ≤ (i 1 : Nat) ∧ (i 1 : Nat) < win0_10.index t 1 * win0_10.size 1 + win0_10.xsize (grid0.coords t) 1 := h 1
    rw [h0, x0] at e0
    rw [h1, x1] at e1
    exact ⟨by omega, e1⟩
  · match a with
    | ⟨0, _⟩ =>
      show win0_10.index t 0 * win0_10.size 0 ≤ (i 0 : Nat) ∧ (i 0 : Nat) < win0_10.index t 0 * win0_10.size 0 + win0_10.xsize (grid0.coords t) 0
      rw [h0, x0]; have := h.1; omega
    | ⟨1, _⟩ =>
      show win0_10.index t 1 * win0_10.size 1 ≤ (i 1 : Nat) ∧ (i 1 : Nat) < win0_10.index t 1 * win0_10.size 1 + win0_10.xsize (grid0.coords t) 1
      rw [h1, x1]; exact h.2
    | ⟨2, _⟩ =>
      show win0_10.index t 2 * win0_10.size 2 ≤ (i 2 : Nat) ∧ (i 2 : Nat) < win0_10.index t 2 * win0_10.size 2 + win0_10.xsize (grid0.coords t) 2
      rw [h2, x2]; omega
    | ⟨3, _⟩ =>
      show win0_10.index t 3 * win0_10.size 3 ≤ (i 3 : Nat) ∧ (i 3 : Nat) < win0_10.index t 3 * win0_10.size 3 + win0_10.xsize (grid0.coords t) 3
      rw [h3, x3]; omega
theorem cover10 (i : S8x16x512x256.Idx) : ∃ t : Fin cfg0.N, (cfg0.win 10).flush t = true ∧ i ∈ ((cfg0.win 10).blk t).view.set := by
  have i0 : (i 0).val < 8 := (i 0).isLt
  have i1 : (i 1).val < 16 := (i 1).isLt
  refine ⟨⟨8 * (i 0).val + (i 1).val / 2, lt_of_lt_of_eq (by omega) N_0.symm⟩, flush0_10 _, ?_⟩
  rw [mem_blk10]
  dsimp only
  omega
theorem final10 : (dats m 0 c).arrAt 10 cfg0.N = featBuf m c (featGrp 0) (featMul 0) := (dats m 0 c).arrAt_eq_of_cover 10 (featBuf m c (featGrp 0) (featMul 0)) (fun t _ => flushed10_eq m c t) cover10

/-- Window 11: what a grid point writes back, which elements it writes, and the array. -/
theorem flushed11_eq : (dats m 0 c).flushed 11 t = ((cfg0.win 11).blk t).view.read (Elt Ideal) (featBuf m c (featGrp 1) (featMul 1)) := by
  rw [Cert.ProjectIdeal.Value.flushed11]
  funext j
  obtain ⟨h0, h1, h2, h3⟩ := origin11 t
  obtain ⟨x0, x1, x2, x3⟩ := extent11 t
  have j0 : (j 0).val < 1 := lt_of_lt_of_eq (j 0).isLt x0
  have j1 : (j 1).val < 2 := lt_of_lt_of_eq (j 1).isLt x1
  have j2 : (j 2).val < 512 := lt_of_lt_of_eq (j 2).isLt x2
  have j3 : (j 3).val < 256 := lt_of_lt_of_eq (j 3).isLt x3
  have hcut : ∀ X : Vec Ideal S1x2x512x256 .bf16, (cfg0.win 11).cut (grid0.coords t) X j = X (ix4 (0 : Fin 1) ⟨(j 1).val, j1⟩ ⟨(j 2).val, j2⟩ ⟨(j 3).val, j3⟩) := by
    intro X
    refine congrArg X (funext fun a => Fin.ext ?_)
    match a with
    | ⟨0, _⟩ => show (j 0).val = 0; omega
    | ⟨1, _⟩ => rfl
    | ⟨2, _⟩ => rfl
    | ⟨3, _⟩ => rfl
  rw [hcut, out11_apply, featBlk_eq]
  show _ = featG (featGrp 1) (featMul 1) (arg0 m c) (arg1 m c) (arg2 m c) (arg3 m c) (mat m c) _ _ _ _
  congr 1
  · exact Fin.ext (by show t.val / 8 = win0_11.index t 0 * win0_11.size 0 + 1 * (j 0).val; rw [h0]; omega)
  · exact Fin.ext (by show 2 * (t.val % 8) + (j 1).val = win0_11.index t 1 * win0_11.size 1 + 1 * (j 1).val; rw [h1, one_mul])
  · exact Fin.ext (by show (j 2).val = win0_11.index t 2 * win0_11.size 2 + 1 * (j 2).val; rw [h2, one_mul, zero_add])
  · exact Fin.ext (by show (j 3).val = win0_11.index t 3 * win0_11.size 3 + 1 * (j 3).val; rw [h3, one_mul, zero_add])
theorem mem_blk11 (i : S8x16x512x256.Idx) : i ∈ ((cfg0.win 11).blk t).view.set
    ↔ (i 0).val = t.val / 8 ∧ 2 * (t.val % 8) ≤ (i 1).val ∧ (i 1).val < 2 * (t.val % 8) + 2 := by
  show i ∈ ((View.whole main_v18_5).slice (win0_11.rect t)).set ↔ _
  rw [View.set_slice_whole, Rect.mem_set_unit]
  obtain ⟨h0, h1, h2, h3⟩ := origin11 t
  obtain ⟨x0, x1, x2, x3⟩ := extent11 t
  have i2 : (i 2).val < 512 := (i 2).isLt
  have i3 : (i 3).val < 256 := (i 3).isLt
  refine ⟨fun h => ?_, fun h a => ?_⟩
  · have e0 : win0_11.index t 0 * win0_11.size 0 ≤ (i 0 : Nat) ∧ (i 0 : Nat) < win0_11.index t 0 * win0_11.size 0 + win0_11.xsize (grid0.coords t) 0 := h 0
    have e1 : win0_11.index t 1 * win0_11.size 1 ≤ (i 1 : Nat) ∧ (i 1 : Nat) < win0_11.index t 1 * win0_11.size 1 + win0_11.xsize (grid0.coords t) 1 := h 1
    rw [h0, x0] at e0
    rw [h1, x1] at e1
    exact ⟨by omega, e1⟩
  · match a with
    | ⟨0, _⟩ =>
      show win0_11.index t 0 * win0_11.size 0 ≤ (i 0 : Nat) ∧ (i 0 : Nat) < win0_11.index t 0 * win0_11.size 0 + win0_11.xsize (grid0.coords t) 0
      rw [h0, x0]; have := h.1; omega
    | ⟨1, _⟩ =>
      show win0_11.index t 1 * win0_11.size 1 ≤ (i 1 : Nat) ∧ (i 1 : Nat) < win0_11.index t 1 * win0_11.size 1 + win0_11.xsize (grid0.coords t) 1
      rw [h1, x1]; exact h.2
    | ⟨2, _⟩ =>
      show win0_11.index t 2 * win0_11.size 2 ≤ (i 2 : Nat) ∧ (i 2 : Nat) < win0_11.index t 2 * win0_11.size 2 + win0_11.xsize (grid0.coords t) 2
      rw [h2, x2]; omega
    | ⟨3, _⟩ =>
      show win0_11.index t 3 * win0_11.size 3 ≤ (i 3 : Nat) ∧ (i 3 : Nat) < win0_11.index t 3 * win0_11.size 3 + win0_11.xsize (grid0.coords t) 3
      rw [h3, x3]; omega
theorem cover11 (i : S8x16x512x256.Idx) : ∃ t : Fin cfg0.N, (cfg0.win 11).flush t = true ∧ i ∈ ((cfg0.win 11).blk t).view.set := by
  have i0 : (i 0).val < 8 := (i 0).isLt
  have i1 : (i 1).val < 16 := (i 1).isLt
  refine ⟨⟨8 * (i 0).val + (i 1).val / 2, lt_of_lt_of_eq (by omega) N_0.symm⟩, flush0_11 _, ?_⟩
  rw [mem_blk11]
  dsimp only
  omega
theorem final11 : (dats m 0 c).arrAt 11 cfg0.N = featBuf m c (featGrp 1) (featMul 1) := (dats m 0 c).arrAt_eq_of_cover 11 (featBuf m c (featGrp 1) (featMul 1)) (fun t _ => flushed11_eq m c t) cover11

/-- Window 12: what a grid point writes back, which elements it writes, and the array. -/
theorem flushed12_eq : (dats m 0 c).flushed 12 t = ((cfg0.win 12).blk t).view.read (Elt Ideal) (featBuf m c (featGrp 2) (featMul 2)) := by
  rw [Cert.ProjectIdeal.Value.flushed12]
  funext j
  obtain ⟨h0, h1, h2, h3⟩ := origin12 t
  obtain ⟨x0, x1, x2, x3⟩ := extent12 t
  have j0 : (j 0).val < 1 := lt_of_lt_of_eq (j 0).isLt x0
  have j1 : (j 1).val < 2 := lt_of_lt_of_eq (j 1).isLt x1
  have j2 : (j 2).val < 512 := lt_of_lt_of_eq (j 2).isLt x2
  have j3 : (j 3).val < 256 := lt_of_lt_of_eq (j 3).isLt x3
  have hcut : ∀ X : Vec Ideal S1x2x512x256 .bf16, (cfg0.win 12).cut (grid0.coords t) X j = X (ix4 (0 : Fin 1) ⟨(j 1).val, j1⟩ ⟨(j 2).val, j2⟩ ⟨(j 3).val, j3⟩) := by
    intro X
    refine congrArg X (funext fun a => Fin.ext ?_)
    match a with
    | ⟨0, _⟩ => show (j 0).val = 0; omega
    | ⟨1, _⟩ => rfl
    | ⟨2, _⟩ => rfl
    | ⟨3, _⟩ => rfl
  rw [hcut, out12_apply, featBlk_eq]
  show _ = featG (featGrp 2) (featMul 2) (arg0 m c) (arg1 m c) (arg2 m c) (arg3 m c) (mat m c) _ _ _ _
  congr 1
  · exact Fin.ext (by show t.val / 8 = win0_12.index t 0 * win0_12.size 0 + 1 * (j 0).val; rw [h0]; omega)
  · exact Fin.ext (by show 2 * (t.val % 8) + (j 1).val = win0_12.index t 1 * win0_12.size 1 + 1 * (j 1).val; rw [h1, one_mul])
  · exact Fin.ext (by show (j 2).val = win0_12.index t 2 * win0_12.size 2 + 1 * (j 2).val; rw [h2, one_mul, zero_add])
  · exact Fin.ext (by show (j 3).val = win0_12.index t 3 * win0_12.size 3 + 1 * (j 3).val; rw [h3, one_mul, zero_add])
theorem mem_blk12 (i : S8x16x512x256.Idx) : i ∈ ((cfg0.win 12).blk t).view.set
    ↔ (i 0).val = t.val / 8 ∧ 2 * (t.val % 8) ≤ (i 1).val ∧ (i 1).val < 2 * (t.val % 8) + 2 := by
  show i ∈ ((View.whole main_v18_6).slice (win0_12.rect t)).set ↔ _
  rw [View.set_slice_whole, Rect.mem_set_unit]
  obtain ⟨h0, h1, h2, h3⟩ := origin12 t
  obtain ⟨x0, x1, x2, x3⟩ := extent12 t
  have i2 : (i 2).val < 512 := (i 2).isLt
  have i3 : (i 3).val < 256 := (i 3).isLt
  refine ⟨fun h => ?_, fun h a => ?_⟩
  · have e0 : win0_12.index t 0 * win0_12.size 0 ≤ (i 0 : Nat) ∧ (i 0 : Nat) < win0_12.index t 0 * win0_12.size 0 + win0_12.xsize (grid0.coords t) 0 := h 0
    have e1 : win0_12.index t 1 * win0_12.size 1 ≤ (i 1 : Nat) ∧ (i 1 : Nat) < win0_12.index t 1 * win0_12.size 1 + win0_12.xsize (grid0.coords t) 1 := h 1
    rw [h0, x0] at e0
    rw [h1, x1] at e1
    exact ⟨by omega, e1⟩
  · match a with
    | ⟨0, _⟩ =>
      show win0_12.index t 0 * win0_12.size 0 ≤ (i 0 : Nat) ∧ (i 0 : Nat) < win0_12.index t 0 * win0_12.size 0 + win0_12.xsize (grid0.coords t) 0
      rw [h0, x0]; have := h.1; omega
    | ⟨1, _⟩ =>
      show win0_12.index t 1 * win0_12.size 1 ≤ (i 1 : Nat) ∧ (i 1 : Nat) < win0_12.index t 1 * win0_12.size 1 + win0_12.xsize (grid0.coords t) 1
      rw [h1, x1]; exact h.2
    | ⟨2, _⟩ =>
      show win0_12.index t 2 * win0_12.size 2 ≤ (i 2 : Nat) ∧ (i 2 : Nat) < win0_12.index t 2 * win0_12.size 2 + win0_12.xsize (grid0.coords t) 2
      rw [h2, x2]; omega
    | ⟨3, _⟩ =>
      show win0_12.index t 3 * win0_12.size 3 ≤ (i 3 : Nat) ∧ (i 3 : Nat) < win0_12.index t 3 * win0_12.size 3 + win0_12.xsize (grid0.coords t) 3
      rw [h3, x3]; omega
theorem cover12 (i : S8x16x512x256.Idx) : ∃ t : Fin cfg0.N, (cfg0.win 12).flush t = true ∧ i ∈ ((cfg0.win 12).blk t).view.set := by
  have i0 : (i 0).val < 8 := (i 0).isLt
  have i1 : (i 1).val < 16 := (i 1).isLt
  refine ⟨⟨8 * (i 0).val + (i 1).val / 2, lt_of_lt_of_eq (by omega) N_0.symm⟩, flush0_12 _, ?_⟩
  rw [mem_blk12]
  dsimp only
  omega
theorem final12 : (dats m 0 c).arrAt 12 cfg0.N = featBuf m c (featGrp 2) (featMul 2) := (dats m 0 c).arrAt_eq_of_cover 12 (featBuf m c (featGrp 2) (featMul 2)) (fun t _ => flushed12_eq m c t) cover12

/-- Window 13: what a grid point writes back, which elements it writes, and the array. -/
theorem flushed13_eq : (dats m 0 c).flushed 13 t = ((cfg0.win 13).blk t).view.read (Elt Ideal) (featBuf m c (featGrp 3) (featMul 3)) := by
  rw [Cert.ProjectIdeal.Value.flushed13]
  funext j
  obtain ⟨h0, h1, h2, h3⟩ := origin13 t
  obtain ⟨x0, x1, x2, x3⟩ := extent13 t
  have j0 : (j 0).val < 1 := lt_of_lt_of_eq (j 0).isLt x0
  have j1 : (j 1).val < 2 := lt_of_lt_of_eq (j 1).isLt x1
  have j2 : (j 2).val < 512 := lt_of_lt_of_eq (j 2).isLt x2
  have j3 : (j 3).val < 256 := lt_of_lt_of_eq (j 3).isLt x3
  have hcut : ∀ X : Vec Ideal S1x2x512x256 .bf16, (cfg0.win 13).cut (grid0.coords t) X j = X (ix4 (0 : Fin 1) ⟨(j 1).val, j1⟩ ⟨(j 2).val, j2⟩ ⟨(j 3).val, j3⟩) := by
    intro X
    refine congrArg X (funext fun a => Fin.ext ?_)
    match a with
    | ⟨0, _⟩ => show (j 0).val = 0; omega
    | ⟨1, _⟩ => rfl
    | ⟨2, _⟩ => rfl
    | ⟨3, _⟩ => rfl
  rw [hcut, out13_apply, featBlk_eq]
  show _ = featG (featGrp 3) (featMul 3) (arg0 m c) (arg1 m c) (arg2 m c) (arg3 m c) (mat m c) _ _ _ _
  congr 1
  · exact Fin.ext (by show t.val / 8 = win0_13.index t 0 * win0_13.size 0 + 1 * (j 0).val; rw [h0]; omega)
  · exact Fin.ext (by show 2 * (t.val % 8) + (j 1).val = win0_13.index t 1 * win0_13.size 1 + 1 * (j 1).val; rw [h1, one_mul])
  · exact Fin.ext (by show (j 2).val = win0_13.index t 2 * win0_13.size 2 + 1 * (j 2).val; rw [h2, one_mul, zero_add])
  · exact Fin.ext (by show (j 3).val = win0_13.index t 3 * win0_13.size 3 + 1 * (j 3).val; rw [h3, one_mul, zero_add])
theorem mem_blk13 (i : S8x16x512x256.Idx) : i ∈ ((cfg0.win 13).blk t).view.set
    ↔ (i 0).val = t.val / 8 ∧ 2 * (t.val % 8) ≤ (i 1).val ∧ (i 1).val < 2 * (t.val % 8) + 2 := by
  show i ∈ ((View.whole main_v18_7).slice (win0_13.rect t)).set ↔ _
  rw [View.set_slice_whole, Rect.mem_set_unit]
  obtain ⟨h0, h1, h2, h3⟩ := origin13 t
  obtain ⟨x0, x1, x2, x3⟩ := extent13 t
  have i2 : (i 2).val < 512 := (i 2).isLt
  have i3 : (i 3).val < 256 := (i 3).isLt
  refine ⟨fun h => ?_, fun h a => ?_⟩
  · have e0 : win0_13.index t 0 * win0_13.size 0 ≤ (i 0 : Nat) ∧ (i 0 : Nat) < win0_13.index t 0 * win0_13.size 0 + win0_13.xsize (grid0.coords t) 0 := h 0
    have e1 : win0_13.index t 1 * win0_13.size 1 ≤ (i 1 : Nat) ∧ (i 1 : Nat) < win0_13.index t 1 * win0_13.size 1 + win0_13.xsize (grid0.coords t) 1 := h 1
    rw [h0, x0] at e0
    rw [h1, x1] at e1
    exact ⟨by omega, e1⟩
  · match a with
    | ⟨0, _⟩ =>
      show win0_13.index t 0 * win0_13.size 0 ≤ (i 0 : Nat) ∧ (i 0 : Nat) < win0_13.index t 0 * win0_13.size 0 + win0_13.xsize (grid0.coords t) 0
      rw [h0, x0]; have := h.1; omega
    | ⟨1, _⟩ =>
      show win0_13.index t 1 * win0_13.size 1 ≤ (i 1 : Nat) ∧ (i 1 : Nat) < win0_13.index t 1 * win0_13.size 1 + win0_13.xsize (grid0.coords t) 1
      rw [h1, x1]; exact h.2
    | ⟨2, _⟩ =>
      show win0_13.index t 2 * win0_13.size 2 ≤ (i 2 : Nat) ∧ (i 2 : Nat) < win0_13.index t 2 * win0_13.size 2 + win0_13.xsize (grid0.coords t) 2
      rw [h2, x2]; omega
    | ⟨3, _⟩ =>
      show win0_13.index t 3 * win0_13.size 3 ≤ (i 3 : Nat) ∧ (i 3 : Nat) < win0_13.index t 3 * win0_13.size 3 + win0_13.xsize (grid0.coords t) 3
      rw [h3, x3]; omega
theorem cover13 (i : S8x16x512x256.Idx) : ∃ t : Fin cfg0.N, (cfg0.win 13).flush t = true ∧ i ∈ ((cfg0.win 13).blk t).view.set := by
  have i0 : (i 0).val < 8 := (i 0).isLt
  have i1 : (i 1).val < 16 := (i 1).isLt
  refine ⟨⟨8 * (i 0).val + (i 1).val / 2, lt_of_lt_of_eq (by omega) N_0.symm⟩, flush0_13 _, ?_⟩
  rw [mem_blk13]
  dsimp only
  omega
theorem final13 : (dats m 0 c).arrAt 13 cfg0.N = featBuf m c (featGrp 3) (featMul 3) := (dats m 0 c).arrAt_eq_of_cover 13 (featBuf m c (featGrp 3) (featMul 3)) (fun t _ => flushed13_eq m c t) cover13

end Point

end Cert.Pj

end
-- ==== Proof.ProjectRef.lean ====
/-
  The projection reference's results, as the same functions of its arguments.
-/
module

public import proofs.«01_k».proof.Proof.ProjectArray
public import proofs.«01_k».proof.Proof.Gen.ProjectReferenceIdeal.Read

public section

set_option maxRecDepth 16384

noncomputable section

namespace Cert.PjRef

open Cert.Rms Cert.Pj Cert.ProjectReferenceIdeal Cert.ProjectReferenceIdeal.Gen Cert.ProjectReferenceIdeal.Read Idealize.ShloMosaic Idealize.ShloMosaic.TcCoe Idealize.ShloMosaic.ValueIdx Idealize.SL.Sem
open Finset

variable (x0 : S8x4096x1024.Idx → EReal) (x1 : S1024.Idx → EReal) (x2 x3 : S8x1x1024.Idx → EReal) (x4 : S1024x4096.Idx → EReal)

theorem mean_apply (b : Fin 8) (i : Fin 4096) (d : Fin 1024) :
    val_main_v8 (F := Ideal) x0 (ix3 b i d) = factor (∑ j : Fin 1024, x0 (ix3 b i j) * x0 (ix3 b i j)) := by
  rw [val_main_v8_apply, val_main_v7_apply, val_main_v6_apply, val_main_v4_apply, val_main_v2_apply, val_main_v3_apply, val_main_v5_apply, val_main_v1_apply]
  show Ideal.rsqrt (Ideal.div (Ideal.ofBits .f32 0x00000000#32 + _) (Ideal.ofBits .f32 0x44800000#32) + Ideal.ofBits .f32 0x358637BD#32) = _
  rw [Ideal.ofBits_zero_f32, zero_add]
  unfold factor
  congr 3
  refine Finset.sum_congr rfl fun j _ => ?_
  have hi : idx_main_v1 (idx_main_v2 (idx_main_v8 (ix3 b i d))) j = ix3 b i j := funext fun a => Fin.ext (by match a with | ⟨0, _⟩ => rfl | ⟨1, _⟩ => rfl | ⟨2, _⟩ => rfl)
  rw [hi]
  rfl

theorem mod_apply (b : Fin 8) (i : Fin 4096) (d : Fin 1024) : val_main_v18 (F := Ideal) x0 x1 x2 x3 (ix3 b i d) = modG x0 x1 x2 x3 b i d := by
  rw [val_main_v18_apply, val_main_v16_apply, val_main_v12_apply, val_main_v9_apply, mean_apply, val_main_v11_apply, val_main_v10_apply, val_main_v15_apply, val_main_v14_apply, val_main_v13_apply, val_main_v17_apply]
  have e1 : idx_main_v10 (idx_main_v11 (ix3 b i d)) = ix1 d := funext fun a => Fin.ext (by match a with | ⟨0, _⟩ => rfl)
  have e2 : idx_main_v15 (ix3 b i d) = ix3 b (0 : Fin 1) d := funext fun a => Fin.ext (by match a with | ⟨0, _⟩ => rfl | ⟨1, _⟩ => rfl | ⟨2, _⟩ => rfl)
  have e3 : idx_main_v17 (ix3 b i d) = ix3 b (0 : Fin 1) d := funext fun a => Fin.ext (by match a with | ⟨0, _⟩ => rfl | ⟨1, _⟩ => rfl | ⟨2, _⟩ => rfl)
  rw [e1, e2, e3]
  rfl

/-- The product, at column `e` of the `k`th group. -/
theorem prod_apply (k : Fin 8) (b : Fin 8) (i : Fin 4096) (e : Fin 512) (idx : S8x4096x4096.Idx)
    (h0 : (idx 0).val = b.val) (h1 : (idx 1).val = i.val) (h2 : (idx 2).val = 512 * k.val + e.val) :
    val_main_v19 (F := Ideal) x0 x1 x2 x3 x4 idx = tokG k x0 x1 x2 x3 x4 b i e := by
  rw [val_main_v19_apply]
  unfold tokG
  refine Finset.sum_congr rfl fun d _ => ?_
  have el : lidx_main_v19 idx d = ix3 b i d := funext fun a => Fin.ext (by match a with | ⟨0, _⟩ => exact h0 | ⟨1, _⟩ => exact h1 | ⟨2, _⟩ => rfl)
  have er : ridx_main_v19 idx d = ix2 d (grp k e) := funext fun a => Fin.ext (by match a with | ⟨0, _⟩ => rfl | ⟨1, _⟩ => exact h2)
  rw [el, er, mod_apply]

theorem v28_apply (i : S8x4096x512.Idx) : val_main_v28 (F := Ideal) x0 x1 x2 x3 x4 i = tokG 1 x0 x1 x2 x3 x4 ⟨(i 0).val, (i 0).isLt⟩ ⟨(i 1).val, (i 1).isLt⟩ ⟨(i 2).val, (i 2).isLt⟩ := by
  rw [val_main_v28_apply]
  show val_main_v21 (F := Ideal) x0 x1 x2 x3 x4 i = _
  rw [val_main_v21_apply]
  exact prod_apply x0 x1 x2 x3 x4 1 _ _ _ _ rfl rfl rfl
theorem v29_apply (i : S8x4096x512.Idx) : val_main_v29 (F := Ideal) x0 x1 x2 x3 x4 i = tokG 5 x0 x1 x2 x3 x4 ⟨(i 0).val, (i 0).isLt⟩ ⟨(i 1).val, (i 1).isLt⟩ ⟨(i 2).val, (i 2).isLt⟩ := by
  rw [val_main_v29_apply]
  show val_main_v25 (F := Ideal) x0 x1 x2 x3 x4 i = _
  rw [val_main_v25_apply]
  exact prod_apply x0 x1 x2 x3 x4 5 _ _ _ _ rfl rfl rfl
theorem v30_apply (i : S8x4096x512.Idx) : val_main_v30 (F := Ideal) x0 x1 x2 x3 x4 i = tokG 3 x0 x1 x2 x3 x4 ⟨(i 0).val, (i 0).isLt⟩ ⟨(i 1).val, (i 1).isLt⟩ ⟨(i 2).val, (i 2).isLt⟩ := by
  rw [val_main_v30_apply]
  show val_main_v23 (F := Ideal) x0 x1 x2 x3 x4 i = _
  rw [val_main_v23_apply]
  exact prod_apply x0 x1 x2 x3 x4 3 _ _ _ _ rfl rfl rfl
theorem v31_apply (i : S8x4096x512.Idx) : val_main_v31 (F := Ideal) x0 x1 x2 x3 x4 i = tokG 7 x0 x1 x2 x3 x4 ⟨(i 0).val, (i 0).isLt⟩ ⟨(i 1).val, (i 1).isLt⟩ ⟨(i 2).val, (i 2).isLt⟩ := by
  rw [val_main_v31_apply]
  show val_main_v27 (F := Ideal) x0 x1 x2 x3 x4 i = _
  rw [val_main_v27_apply]
  exact prod_apply x0 x1 x2 x3 x4 7 _ _ _ _ rfl rfl rfl

/-- An element of a feature-major array, in the token-major array. -/
theorem blocks_apply (i : S8x16x512x256.Idx) (idx : S8x4096x512.Idx) (n : ℕ) (hn : n = (((i 0).val * 16 + (i 1).val) * 256 + (i 3).val) * 512 + (i 2).val)
    (h0 : (idx 0).val = n / 2097152) (h1 : (idx 1).val = n / 512 % 4096) (h2 : (idx 2).val = n % 512) :
    (idx 0).val = (i 0).val ∧ (idx 1).val = 256 * (i 1).val + (i 3).val ∧ (idx 2).val = (i 2).val := by
  have i0 : (i 0).val < 8 := (i 0).isLt
  have i1 : (i 1).val < 16 := (i 1).isLt
  have i2 : (i 2).val < 512 := (i 2).isLt
  have i3 : (i 3).val < 256 := (i 3).isLt
  omega

theorem v36_apply (i : S8x16x512x256.Idx) : val_main_v36 (F := Ideal) x0 x1 x2 x3 x4 i = featG 0 (Ideal.ofBits .f32 0x3E000000#32) x0 x1 x2 x3 x4 ⟨(i 0).val, (i 0).isLt⟩ ⟨(i 1).val, (i 1).isLt⟩ ⟨(i 2).val, (i 2).isLt⟩ ⟨(i 3).val, (i 3).isLt⟩ := by
  rw [val_main_v36_apply]
  show val_main_v35 (F := Ideal) x0 x1 x2 x3 x4 i = _
  rw [val_main_v35_apply, val_main_v34_apply, val_main_v33_apply, val_main_v20_apply, val_main_v32_apply]
  obtain ⟨e0, e1, e2⟩ := blocks_apply i (idx_main_v34 (idx_main_v35 i)) _ rfl rfl rfl rfl
  unfold featG
  refine (show _ = _ * Ideal.ofBits .f32 0x3E000000#32 from rfl).trans (congrArg (· * Ideal.ofBits .f32 0x3E000000#32) ?_)
  exact prod_apply x0 x1 x2 x3 x4 0 _ _ _ _ e0 e1 (e2.trans (zero_add _).symm)
theorem v44_apply (i : S8x16x512x256.Idx) : val_main_v44 (F := Ideal) x0 x1 x2 x3 x4 i = featG 4 (Ideal.ofBits .f32 0x3E000000#32) x0 x1 x2 x3 x4 ⟨(i 0).val, (i 0).isLt⟩ ⟨(i 1).val, (i 1).isLt⟩ ⟨(i 2).val, (i 2).isLt⟩ ⟨(i 3).val, (i 3).isLt⟩ := by
  rw [val_main_v44_apply]
  show val_main_v43 (F := Ideal) x0 x1 x2 x3 x4 i = _
  rw [val_main_v43_apply, val_main_v42_apply, val_main_v41_apply, val_main_v24_apply, val_main_v40_apply]
  obtain ⟨e0, e1, e2⟩ := blocks_apply i (idx_main_v42 (idx_main_v43 i)) _ rfl rfl rfl rfl
  unfold featG
  refine (show _ = _ * Ideal.ofBits .f32 0x3E000000#32 from rfl).trans (congrArg (· * Ideal.ofBits .f32 0x3E000000#32) ?_)
  exact prod_apply x0 x1 x2 x3 x4 4 _ _ _ _ e0 e1 (congrArg (fun n : ℕ => 2048 + n) e2)
theorem v39_apply (i : S8x16x512x256.Idx) : val_main_v39 (F := Ideal) x0 x1 x2 x3 x4 i = featG 2 1 x0 x1 x2 x3 x4 ⟨(i 0).val, (i 0).isLt⟩ ⟨(i 1).val, (i 1).isLt⟩ ⟨(i 2).val, (i 2).isLt⟩ ⟨(i 3).val, (i 3).isLt⟩ := by
  rw [val_main_v39_apply]
  show val_main_v38 (F := Ideal) x0 x1 x2 x3 x4 i = _
  rw [val_main_v38_apply, val_main_v37_apply, val_main_v22_apply]
  obtain ⟨e0, e1, e2⟩ := blocks_apply i (idx_main_v37 (idx_main_v38 i)) _ rfl rfl rfl rfl
  unfold featG
  rw [mul_one]
  exact prod_apply x0 x1 x2 x3 x4 2 _ _ _ _ e0 e1 (congrArg (fun n : ℕ => 1024 + n) e2)
theorem v47_apply (i : S8x16x512x256.Idx) : val_main_v47 (F := Ideal) x0 x1 x2 x3 x4 i = featG 6 1 x0 x1 x2 x3 x4 ⟨(i 0).val, (i 0).isLt⟩ ⟨(i 1).val, (i 1).isLt⟩ ⟨(i 2).val, (i 2).isLt⟩ ⟨(i 3).val, (i 3).isLt⟩ := by
  rw [val_main_v47_apply]
  show val_main_v46 (F := Ideal) x0 x1 x2 x3 x4 i = _
  rw [val_main_v46_apply, val_main_v45_apply, val_main_v26_apply]
  obtain ⟨e0, e1, e2⟩ := blocks_apply i (idx_main_v45 (idx_main_v46 i)) _ rfl rfl rfl rfl
  unfold featG
  rw [mul_one]
  exact prod_apply x0 x1 x2 x3 x4 6 _ _ _ _ e0 e1 (congrArg (fun n : ℕ => 3072 + n) e2)

end Cert.PjRef

end
-- ==== Proof.OutBlock.lean ====
/-
  What one grid point of the gated output projection writes, from the blocks it reads.
-/
module

public import proofs.«01_k».proof.Proof.Rms
public import proofs.«01_k».proof.Proof.Gen.OutIdeal.Value

public section

set_option maxRecDepth 16384

noncomputable section

namespace Cert.Op

open Cert.Rms Cert.OutIdeal Cert.OutIdeal.Gen Idealize.ShloMosaic Idealize.ShloMosaic.TcCoe Idealize.ShloMosaic.ValueIdx Idealize.SL.Sem
open Finset

/-- One plus the exponential of minus the gate. -/
@[expose] def gateDen (g : EReal) : EReal := Ideal.ofBits .f32 0x3F800000#32 + Ideal.exp (-g)

/-- An attention output times its gate's sigmoid-weighted value. -/
@[expose] def gated (o g : EReal) : EReal := o * (g * Ideal.div (Ideal.ofBits .f32 0x3F800000#32) (gateDen g))

theorem exp_nonneg (x : EReal) : 0 ≤ Ideal.exp x := by
  induction x with
  | bot => exact le_refl _
  | coe x => exact EReal.coe_nonneg.2 (Real.exp_pos x).le
  | top => exact le_top

theorem gateDen_ne (g : EReal) : gateDen g ≠ 0 := by
  unfold gateDen
  rw [Ideal.ofBits_one_f32]
  have h1 : (1 : EReal) ≤ 1 + Ideal.exp (-g) := le_add_of_nonneg_right (exp_nonneg _)
  intro e
  rw [e] at h1
  exact absurd h1 (by simp)

/-- The kernel divides the gate itself. -/
theorem gated_eq (o g : EReal) : o * Ideal.div g (Ideal.ofBits .f32 0x3F800000#32 + Ideal.exp (Ideal.ofBits .f32 0x00000000#32 - g)) = gated o g := by
  unfold gated
  have h := Ideal.mul_one_div (x := g) (gateDen_ne g)
  rw [Ideal.ofBits_zero_f32, zero_sub, Ideal.ofBits_one_f32, h]
  unfold gateDen
  rw [Ideal.ofBits_one_f32]

/-- Row `k` of the lower half of the weights. -/
@[expose] def lower (k : Fin 512) : Fin 1024 := ⟨512 + k.val, by have := k.isLt; omega⟩
@[expose] def upper (k : Fin 512) : Fin 1024 := ⟨k.val, by have := k.isLt; omega⟩

/-- The residual row plus the gate times the projection of the two gated outputs. -/
@[expose] def resid (p q : Fin 512 → EReal) (w : Fin 1024 → Fin 1024 → EReal) (x a : Fin 1024 → EReal) (d : Fin 1024) : EReal :=
  x d + a d * ((∑ k : Fin 512, p k * w (upper k) d) + ∑ k : Fin 512, q k * w (lower k) d)

theorem dot_apply (h : FVec Ideal S512x512 .bf16) (w : FVec Ideal S512x1024 .bf16) (r : Fin 512) (d : Fin 1024) :
    matmul dot_S512x512_S512x1024_S512x1024_1_0_0_1_n_n none h w (constant S512x1024 .f32 0x00000000#32) (ix2 r d) = ∑ k : Fin 512, h (ix2 r k) * w (ix2 k d) := by
  refine (Ideal.matmul_plain_apply (M := 512) (K := 512) (N := 1024) none h w (constant S512x1024 .f32 0x00000000#32) r d).trans ?_
  show Ideal.ofBits .f32 0x00000000#32 + _ = _
  rw [Ideal.ofBits_zero_f32, zero_add]

theorem pay2_apply (g o : Vec Ideal S1x512x512 .bf16) (w : Vec Ideal S512x1024 .bf16) (g' o' : Vec Ideal S1x512x512 .bf16) (w' : Vec Ideal S512x1024 .bf16) (r : Fin 512) (d : Fin 1024) :
    k0_pay2 g o w g' o' w' (ix2 r d) = (∑ k : Fin 512, gated (o (ix3 (0 : Fin 1) r k)) (g (ix3 (0 : Fin 1) r k)) * w (ix2 k d))
      + ∑ k : Fin 512, gated (o' (ix3 (0 : Fin 1) r k)) (g' (ix3 (0 : Fin 1) r k)) * w' (ix2 k d) := by
  unfold k0_pay2
  refine congrArg₂ (· + ·) ((dot_apply _ _ r d).trans (Finset.sum_congr rfl fun k _ => ?_)) ((dot_apply _ _ r d).trans (Finset.sum_congr rfl fun k _ => ?_))
  · refine congrArg₂ (· * ·) (Eq.trans ?_ (gated_eq _ _)) (castSame_apply w _ _)
    rw [← dropBlock_apply o shapeCasts_S1x512x512_S512x512 r k, ← dropBlock_apply g shapeCasts_S1x512x512_S512x512 r k]
    rfl
  · refine congrArg₂ (· * ·) (Eq.trans ?_ (gated_eq _ _)) (castSame_apply w' _ _)
    rw [← dropBlock_apply o' shapeCasts_S1x512x512_S512x512 r k, ← dropBlock_apply g' shapeCasts_S1x512x512_S512x512 r k]
    rfl

theorem pay1_apply (y : FVec Ideal S512x1024 .f32) (x : Vec Ideal S1x512x1024 .f32) (a : Vec Ideal S1x1x1024 .f32) (g : Vec Ideal S1x1024 .f32) (r : Fin 512) (d : Fin 1024) :
    k0_pay1 y x a g (ix3 (0 : Fin 1) r d) = norm (fun j => x (ix3 (0 : Fin 1) r j) + a (ix3 (0 : Fin 1) (0 : Fin 1) j) * y (ix2 r j)) (fun j => g (ix2 (0 : Fin 1) j)) d := by
  have hz : ∀ j : Fin 1024, addf (shapeCast S512x1024 x shapeCasts_S1x512x1024_S512x1024) (mulf (broadcastTo S512x1024 (shapeCast S1x1024 a shapeCasts_S1x1x1024_S1x1024) broadcasts_S1x1024_S512x1024) y) (ix2 r j)
      = x (ix3 (0 : Fin 1) r j) + a (ix3 (0 : Fin 1) (0 : Fin 1) j) * y (ix2 r j) := fun j =>
    congrArg₂ (· + ·) (dropBlock_apply x shapeCasts_S1x512x1024_S512x1024 r j)
      (congrArg (· * y (ix2 r j)) ((row_apply (shapeCast S1x1024 a shapeCasts_S1x1x1024_S1x1024) broadcasts_S1x1024_S512x1024 r j).trans (dropRow_apply a shapeCasts_S1x1x1024_S1x1024 j)))
  have e1 := factor_apply (addf (shapeCast S512x1024 x shapeCasts_S1x512x1024_S512x1024) (mulf (broadcastTo S512x1024 (shapeCast S1x1024 a shapeCasts_S1x1x1024_S1x1024) broadcasts_S1x1024_S512x1024) y))
    reduces_S512x1024_S512 (.inl rfl) rfl shapeCasts_S512_S512x1 broadcasts_S512x1_S512x1024 r d
  have e2 := (row_apply (shapeCast S1x1024 g shapeCasts_S1x1024_S1x1024) broadcasts_S1x1024_S512x1024 r d).trans (castSame_apply g shapeCasts_S1x1024_S1x1024 _)
  unfold k0_pay1
  refine (addBlock_apply _ shapeCasts_S512x1024_S1x512x1024 r d).trans ?_
  refine (show _ = addf (shapeCast S512x1024 x shapeCasts_S1x512x1024_S512x1024) (mulf (broadcastTo S512x1024 (shapeCast S1x1024 a shapeCasts_S1x1x1024_S1x1024) broadcasts_S1x1024_S512x1024) y) (ix2 r d) * _ * _ from rfl).trans ?_
  rw [e1, e2]
  simp only [hz]
  rfl

section Out

variable (x0 x1 x2 x3 : Vec Ideal S1x512x512 .bf16) (x4 : Vec Ideal S1x512x1024 .f32) (x5 : Vec Ideal S1x1x1024 .f32) (x6 : Vec Ideal S1024x1024 .bf16) (x7 : Vec Ideal S1x1024 .f32)

/-- The block that a grid point writes. -/
@[expose] def outBlk (r : Fin 512) (d : Fin 1024) : EReal :=
  norm (resid (fun k => gated (x0 (ix3 (0 : Fin 1) r k)) (x2 (ix3 (0 : Fin 1) r k))) (fun k => gated (x1 (ix3 (0 : Fin 1) r k)) (x3 (ix3 (0 : Fin 1) r k)))
    (fun k j => x6 (ix2 k j)) (fun j => x4 (ix3 (0 : Fin 1) r j)) (fun j => x5 (ix3 (0 : Fin 1) (0 : Fin 1) j))) (fun j => x7 (ix2 (0 : Fin 1) j)) d

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

theorem ldU_apply (k : Fin 512) (d : Fin 1024) : View.ld x6 r0_1 (ix2 k d) = x6 (ix2 (upper k) d) := by
  refine congrArg x6 (funext fun a => Fin.ext ?_)
  match a with
  | ⟨0, _⟩ => show 0 + 1 * k.val = k.val; omega
  | ⟨1, _⟩ => show 0 + 1 * d.val = d.val; omega
theorem ldL_apply (k : Fin 512) (d : Fin 1024) : View.ld x6 r0_2 (ix2 k d) = x6 (ix2 (lower k) d) := by
  refine congrArg x6 (funext fun a => Fin.ext ?_)
  match a with
  | ⟨0, _⟩ => show 512 + 1 * k.val = 512 + k.val; omega
  | ⟨1, _⟩ => show 0 + 1 * d.val = d.val; omega

theorem out8_apply (r : Fin 512) (d : Fin 1024) : out0_8 x0 x1 x2 x3 x4 x5 x6 x7 (ix3 (0 : Fin 1) r d) = outBlk x0 x1 x2 x3 x4 x5 x6 x7 r d := by
  unfold out0_8
  rw [View.canon_unit_zero zero3, pay1_apply, View.ld_unit_zero zero3, View.ld_unit_zero zero3, View.ld_unit_zero zero3, View.ld_unit_zero zero3, View.ld_unit_zero zero3, View.ld_unit_zero zero3, View.ld_unit_zero zero2]
  unfold outBlk
  refine congrArg (fun z => norm z (fun j => x7 (ix2 (0 : Fin 1) j)) d) (funext fun j => ?_)
  rw [pay2_apply]
  unfold resid
  exact congrArg (fun z => x4 (ix3 (0 : Fin 1) r j) + x5 (ix3 (0 : Fin 1) (0 : Fin 1) j) * z)
    (congrArg₂ (· + ·) (Finset.sum_congr rfl fun k _ => congrArg (_ * ·) (ldU_apply x6 k j)) (Finset.sum_congr rfl fun k _ => congrArg (_ * ·) (ldL_apply x6 k j)))

end Out

end Cert.Op

end
-- ==== Proof.OutArray.lean ====
/-
  The array that the gated output projection kernel leaves, as one function of its arguments.
-/
module

public import proofs.«01_k».proof.Proof.OutBlock
public import Idealize.ShloMosaic.Lib.StableHlo.RunRead

public section

set_option maxRecDepth 16384

noncomputable section

namespace Cert.Op

open Cert.Rms Cert.OutIdeal Cert.OutIdeal.Gen Idealize.ShloMosaic Idealize.ShloMosaic.TcCoe Idealize.ShloMosaic.ValueIdx Idealize.SL.Sem
open Finset

/-- The layer's output for a token, at one feature. -/
@[expose] def outG (a0 a1 a2 a3 : S8x4096x512.Idx → EReal) (a4 : S8x4096x1024.Idx → EReal) (a5 : S8x1x1024.Idx → EReal) (a6 : S1024x1024.Idx → EReal) (a7 : S1024.Idx → EReal) (b : Fin 8) (i : Fin 4096) (d : Fin 1024) : EReal :=
  norm (resid (fun k => gated (a0 (ix3 b i k)) (a2 (ix3 b i k))) (fun k => gated (a1 (ix3 b i k)) (a3 (ix3 b i k)))
    (fun k j => a6 (ix2 k j)) (fun j => a4 (ix3 b i j)) (fun j => a5 (ix3 b (0 : Fin 1) j))) (fun j => a7 (ix1 j)) d

/-- The blocks of the windows at a grid point. -/
theorem origin0 : ∀ t : Fin grid0.N, win0_0.index t 0 * win0_0.size 0 = t.val / 8 ∧ win0_0.index t 1 * win0_0.size 1 = 512 * (t.val % 8) ∧ win0_0.index t 2 * win0_0.size 2 = 0 := by decide +kernel
theorem origin1 : ∀ t : Fin grid0.N, win0_1.index t 0 * win0_1.size 0 = t.val / 8 ∧ win0_1.index t 1 * win0_1.size 1 = 512 * (t.val % 8) ∧ win0_1.index t 2 * win0_1.size 2 = 0 := by decide +kernel
theorem origin2 : ∀ t : Fin grid0.N, win0_2.index t 0 * win0_2.size 0 = t.val / 8 ∧ win0_2.index t 1 * win0_2.size 1 = 512 * (t.val % 8) ∧ win0_2.index t 2 * win0_2.size 2 = 0 := by decide +kernel
theorem origin3 : ∀ t : Fin grid0.N, win0_3.index t 0 * win0_3.size 0 = t.val / 8 ∧ win0_3.index t 1 * win0_3.size 1 = 512 * (t.val % 8) ∧ win0_3.index t 2 * win0_3.size 2 = 0 := by decide +kernel
theorem origin4 : ∀ t : Fin grid0.N, win0_4.index t 0 * win0_4.size 0 = t.val / 8 ∧ win0_4.index t 1 * win0_4.size 1 = 512 * (t.val % 8) ∧ win0_4.index t 2 * win0_4.size 2 = 0 := by decide +kernel
theorem origin8 : ∀ t : Fin grid0.N, win0_8.index t 0 * win0_8.size 0 = t.val / 8 ∧ win0_8.index t 1 * win0_8.size 1 = 512 * (t.val % 8) ∧ win0_8.index t 2 * win0_8.size 2 = 0 := by decide +kernel
theorem origin5 : ∀ t : Fin grid0.N, win0_5.index t 0 * win0_5.size 0 = t.val / 8 ∧ win0_5.index t 1 * win0_5.size 1 = 0 ∧ win0_5.index t 2 * win0_5.size 2 = 0 := by decide +kernel
theorem origin6 : ∀ t : Fin grid0.N, win0_6.index t 0 * win0_6.size 0 = 0 ∧ win0_6.index t 1 * win0_6.size 1 = 0 := by decide +kernel
theorem origin7 : ∀ t : Fin grid0.N, win0_7.index t 0 * win0_7.size 0 = 0 ∧ win0_7.index t 1 * win0_7.size 1 = 0 := by decide +kernel
theorem extent8 : ∀ t : Fin grid0.N, win0_8.xsize (grid0.coords t) 0 = 1 ∧ win0_8.xsize (grid0.coords t) 1 = 512 ∧ win0_8.xsize (grid0.coords t) 2 = 1024 := by decide +kernel

section Point

variable (m : (ℓ : Loc nD τ sig) → Buf (Elt Ideal) ℓ) (c : Dev nD) (t : Fin cfg0.N)

theorem t_lt : t.val < 64 := lt_of_lt_of_eq t.isLt N_0

/-- The batch element of a grid point, and the tokens of its rows. -/
@[expose] def ptB : Fin 8 := ⟨t.val / 8, by have := t_lt t; omega⟩
@[expose] def ptRow (r : Fin 512) : Fin 4096 := ⟨512 * (t.val % 8) + r.val, by have := r.isLt; omega⟩

abbrev arg0 : S8x4096x512.Idx → EReal := m ((c : Thread nD τ).loc main_arg0)
abbrev arg1 : S8x4096x512.Idx → EReal := m ((c : Thread nD τ).loc main_arg1)
abbrev arg2 : S8x4096x512.Idx → EReal := m ((c : Thread nD τ).loc main_arg2)
abbrev arg3 : S8x4096x512.Idx → EReal := m ((c : Thread nD τ).loc main_arg3)
abbrev arg4 : S8x4096x1024.Idx → EReal := m ((c : Thread nD τ).loc main_arg4)
abbrev arg5 : S8x1x1024.Idx → EReal := m ((c : Thread nD τ).loc main_arg5)
abbrev arg6 : S1024x1024.Idx → EReal := m ((c : Thread nD τ).loc main_arg6)
abbrev arg7 : S1024.Idx → EReal := m ((c : Thread nD τ).loc main_arg7)

theorem V_v0 : (V m c main_v0 : S1024x1024.Idx → EReal) = arg6 m c := by
  unfold V hostOps0
  after_results_simp
  rfl

theorem V_v1 : V m c main_v1 = shapeCast S1x1024 (arg7 m c) shapeCasts_S1024_S1x1024 := by
  unfold V hostOps0
  after_results_simp
  rfl

theorem gain_apply (d : Fin 1024) : (V m c main_v1 : S1x1024.Idx → EReal) (ix2 (0 : Fin 1) d) = arg7 m c (ix1 d) := by
  rw [V_v1]
  refine shapeCast_apply _ _ _ _ ?_
  refine (Shape.rowMajor_val_one _).trans (Eq.trans ?_ (Shape.rowMajor_val_two _).symm)
  show d.val = 0 * 1024 + d.val
  omega

theorem iblk0_apply (r : Fin 512) (d : Fin 512) : iblk m c 0 t (ix3 (0 : Fin 1) r d) = arg0 m c (ix3 (ptB t) (ptRow t r) d) := by
  unfold iblk
  show V m c main_arg0 _ = _
  rw [V_main_arg0]
  refine congrArg (m ((c : Thread nD τ).loc main_arg0)) (funext fun a => Fin.ext ?_)
  obtain ⟨h0, h1, h2⟩ := origin0 t
  match a with
  | ⟨0, _⟩ => show win0_0.index t 0 * win0_0.size 0 + 1 * 0 = t.val / 8; rw [h0, mul_zero, add_zero]
  | ⟨1, _⟩ => show win0_0.index t 1 * win0_0.size 1 + 1 * r.val = 512 * (t.val % 8) + r.val; rw [h1, one_mul]
  | ⟨2, _⟩ => show win0_0.index t 2 * win0_0.size 2 + 1 * d.val = d.val; rw [h2, one_mul, zero_add]
theorem iblk1_apply (r : Fin 512) (d : Fin 512) : iblk m c 1 t (ix3 (0 : Fin 1) r d) = arg1 m c (ix3 (ptB t) (ptRow t r) d) := by
  unfold iblk
  show V m c main_arg1 _ = _
  rw [V_main_arg1]
  refine congrArg (m ((c : Thread nD τ).loc main_arg1)) (funext fun a => Fin.ext ?_)
  obtain ⟨h0, h1, h2⟩ := origin1 t
  match a with
  | ⟨0, _⟩ => show win0_1.index t 0 * win0_1.size 0 + 1 * 0 = t.val / 8; rw [h0, mul_zero, add_zero]
  | ⟨1, _⟩ => show win0_1.index t 1 * win0_1.size 1 + 1 * r.val = 512 * (t.val % 8) + r.val; rw [h1, one_mul]
  | ⟨2, _⟩ => show win0_1.index t 2 * win0_1.size 2 + 1 * d.val = d.val; rw [h2, one_mul, zero_add]
theorem iblk2_apply (r : Fin 512) (d : Fin 512) : iblk m c 2 t (ix3 (0 : Fin 1) r d) = arg2 m c (ix3 (ptB t) (ptRow t r) d) := by
  unfold iblk
  show V m c main_arg2 _ = _
  rw [V_main_arg2]
  refine congrArg (m ((c : Thread nD τ).loc main_arg2)) (funext fun a => Fin.ext ?_)
  obtain ⟨h0, h1, h2⟩ := origin2 t
  match a with
  | ⟨0, _⟩ => show win0_2.index t 0 * win0_2.size 0 + 1 * 0 = t.val / 8; rw [h0, mul_zero, add_zero]
  | ⟨1, _⟩ => show win0_2.index t 1 * win0_2.size 1 + 1 * r.val = 512 * (t.val % 8) + r.val; rw [h1, one_mul]
  | ⟨2, _⟩ => show win0_2.index t 2 * win0_2.size 2 + 1 * d.val = d.val; rw [h2, one_mul, zero_add]
theorem iblk3_apply (r : Fin 512) (d : Fin 512) : iblk m c 3 t (ix3 (0 : Fin 1) r d) = arg3 m c (ix3 (ptB t) (ptRow t r) d) := by
  unfold iblk
  show V m c main_arg3 _ = _
  rw [V_main_arg3]
  refine congrArg (m ((c : Thread nD τ).loc main_arg3)) (funext fun a => Fin.ext ?_)
  obtain ⟨h0, h1, h2⟩ := origin3 t
  match a with
  | ⟨0, _⟩ => show win0_3.index t 0 * win0_3.size 0 + 1 * 0 = t.val / 8; rw [h0, mul_zero, add_zero]
  | ⟨1, _⟩ => show win0_3.index t 1 * win0_3.size 1 + 1 * r.val = 512 * (t.val % 8) + r.val; rw [h1, one_mul]
  | ⟨2, _⟩ => show win0_3.index t 2 * win0_3.size 2 + 1 * d.val = d.val; rw [h2, one_mul, zero_add]
theorem iblk4_apply (r : Fin 512) (d : Fin 1024) : iblk m c 4 t (ix3 (0 : Fin 1) r d) = arg4 m c (ix3 (ptB t) (ptRow t r) d) := by
  unfold iblk
  show V m c main_arg4 _ = _
  rw [V_main_arg4]
  refine congrArg (m ((c : Thread nD τ).loc main_arg4)) (funext fun a => Fin.ext ?_)
  obtain ⟨h0, h1, h2⟩ := origin4 t
  match a with
  | ⟨0, _⟩ => show win0_4.index t 0 * win0_4.size 0 + 1 * 0 = t.val / 8; rw [h0, mul_zero, add_zero]
  | ⟨1, _⟩ => show win0_4.index t 1 * win0_4.size 1 + 1 * r.val = 512 * (t.val % 8) + r.val; rw [h1, one_mul]
  | ⟨2, _⟩ => show win0_4.index t 2 * win0_4.size 2 + 1 * d.val = d.val; rw [h2, one_mul, zero_add]
theorem iblk5_apply (d : Fin 1024) : iblk m c 5 t (ix3 (0 : Fin 1) (0 : Fin 1) d) = arg5 m c (ix3 (ptB t) (0 : Fin 1) d) := by
  unfold iblk
  show V m c main_arg5 _ = _
  rw [V_main_arg5]
  refine congrArg (m ((c : Thread nD τ).loc main_arg5)) (funext fun a => Fin.ext ?_)
  obtain ⟨h0, h1, h2⟩ := origin5 t
  match a with
  | ⟨0, _⟩ => show win0_5.index t 0 * win0_5.size 0 + 1 * 0 = t.val / 8; rw [h0, mul_zero, add_zero]
  | ⟨1, _⟩ => show win0_5.index t 1 * win0_5.size 1 + 1 * 0 = 0; rw [h1]
  | ⟨2, _⟩ => show win0_5.index t 2 * win0_5.size 2 + 1 * d.val = d.val; rw [h2, one_mul, zero_add]
theorem iblk6_apply (k d : Fin 1024) : iblk m c 6 t (ix2 k d) = arg6 m c (ix2 k d) := by
  unfold iblk
  refine Eq.trans ?_ (congrFun (V_v0 m c) (ix2 k d))
  show V m c main_v0 _ = _
  refine congrArg (V m c main_v0) (funext fun a => Fin.ext ?_)
  obtain ⟨h0, h1⟩ := origin6 t
  match a with
  | ⟨0, _⟩ => show win0_6.index t 0 * win0_6.size 0 + 1 * k.val = k.val; rw [h0, one_mul, zero_add]
  | ⟨1, _⟩ => show win0_6.index t 1 * win0_6.size 1 + 1 * d.val = d.val; rw [h1, one_mul, zero_add]
theorem iblk7_apply (d : Fin 1024) : iblk m c 7 t (ix2 (0 : Fin 1) d) = arg7 m c (ix1 d) := by
  unfold iblk
  refine Eq.trans ?_ (gain_apply m c d)
  show V m c main_v1 _ = _
  refine congrArg (V m c main_v1) (funext fun a => Fin.ext ?_)
  obtain ⟨h0, h1⟩ := origin7 t
  match a with
  | ⟨0, _⟩ => show win0_7.index t 0 * win0_7.size 0 + 1 * 0 = 0; rw [h0]
  | ⟨1, _⟩ => show win0_7.index t 1 * win0_7.size 1 + 1 * d.val = d.val; rw [h1, one_mul, zero_add]

theorem outBlk_eq (r : Fin 512) (d : Fin 1024) : outBlk (iblk m c 0 t) (iblk m c 1 t) (iblk m c 2 t) (iblk m c 3 t) (iblk m c 4 t) (iblk m c 5 t) (iblk m c 6 t) (iblk m c 7 t) r d
    = outG (arg0 m c) (arg1 m c) (arg2 m c) (arg3 m c) (arg4 m c) (arg5 m c) (arg6 m c) (arg7 m c) (ptB t) (ptRow t r) d := by
  unfold outBlk outG
  congr 1
  · congr 1
    · exact funext fun k => congrArg₂ gated (iblk0_apply m c t r k) (iblk2_apply m c t r k)
    · exact funext fun k => congrArg₂ gated (iblk1_apply m c t r k) (iblk3_apply m c t r k)
    · exact funext fun k => funext fun j => iblk6_apply m c t k j
    · exact funext fun j => iblk4_apply m c t r j
    · exact funext fun j => iblk5_apply m c t j
  · exact funext fun j => iblk7_apply m c t j

@[expose] def outBuf : S8x4096x1024.Idx → EReal := fun i =>
  outG (arg0 m c) (arg1 m c) (arg2 m c) (arg3 m c) (arg4 m c) (arg5 m c) (arg6 m c) (arg7 m c) ⟨(i 0).val, (i 0).isLt⟩ ⟨(i 1).val, (i 1).isLt⟩ ⟨(i 2).val, (i 2).isLt⟩

/-- What a grid point writes back, which elements it writes, and the array. -/
theorem flushed8_eq : (dats m 0 c).flushed 8 t = ((cfg0.win 8).blk t).view.read (Elt Ideal) (outBuf m c) := by
  rw [Cert.OutIdeal.Value.flushed8]
  funext j
  obtain ⟨h0, h1, h2⟩ := origin8 t
  obtain ⟨x0, x1, x2⟩ := extent8 t
  have j0 : (j 0).val < 1 := lt_of_lt_of_eq (j 0).isLt x0
  have j1 : (j 1).val < 512 := lt_of_lt_of_eq (j 1).isLt x1
  have j2 : (j 2).val < 1024 := lt_of_lt_of_eq (j 2).isLt x2
  have hcut : ∀ X : Vec Ideal S1x512x1024 .f32, (cfg0.win 8).cut (grid0.coords t) X j = X (ix3 (0 : Fin 1) ⟨(j 1).val, j1⟩ ⟨(j 2).val, j2⟩) := by
    intro X
    refine congrArg X (funext fun a => Fin.ext ?_)
    match a with
    | ⟨0, _⟩ => show (j 0).val = 0; omega
    | ⟨1, _⟩ => rfl
    | ⟨2, _⟩ => rfl
  rw [hcut, out8_apply, outBlk_eq]
  show _ = outG (arg0 m c) (arg1 m c) (arg2 m c) (arg3 m c) (arg4 m c) (arg5 m c) (arg6 m c) (arg7 m c) _ _ _
  congr 1
  · exact Fin.ext (by show t.val / 8 = win0_8.index t 0 * win0_8.size 0 + 1 * (j 0).val; rw [h0]; omega)
  · exact Fin.ext (by show 512 * (t.val % 8) + (j 1).val = win0_8.index t 1 * win0_8.size 1 + 1 * (j 1).val; rw [h1, one_mul])
  · exact Fin.ext (by show (j 2).val = win0_8.index t 2 * win0_8.size 2 + 1 * (j 2).val; rw [h2, one_mul, zero_add])
theorem mem_blk8 (i : S8x4096x1024.Idx) : i ∈ ((cfg0.win 8).blk t).view.set
    ↔ (i 0).val = t.val / 8 ∧ 512 * (t.val % 8) ≤ (i 1).val ∧ (i 1).val < 512 * (t.val % 8) + 512 := by
  show i ∈ ((View.whole main_v2).slice (win0_8.rect t)).set ↔ _
  rw [View.set_slice_whole, Rect.mem_set_unit]
  obtain ⟨h0, h1, h2⟩ := origin8 t
  obtain ⟨x0, x1, x2⟩ := extent8 t
  have i2 : (i 2).val < 1024 := (i 2).isLt
  refine ⟨fun h => ?_, fun h a => ?_⟩
  · have e0 : win0_8.index t 0 * win0_8.size 0 ≤ (i 0 : Nat) ∧ (i 0 : Nat) < win0_8.index t 0 * win0_8.size 0 + win0_8.xsize (grid0.coords t) 0 := h 0
    have e1 : win0_8.index t 1 * win0_8.size 1 ≤ (i 1 : Nat) ∧ (i 1 : Nat) < win0_8.index t 1 * win0_8.size 1 + win0_8.xsize (grid0.coords t) 1 := h 1
    rw [h0, x0] at e0
    rw [h1, x1] at e1
    exact ⟨by omega, e1⟩
  · match a with
    | ⟨0, _⟩ =>
      show win0_8.index t 0 * win0_8.size 0 ≤ (i 0 : Nat) ∧ (i 0 : Nat) < win0_8.index t 0 * win0_8.size 0 + win0_8.xsize (grid0.coords t) 0
      rw [h0, x0]; have := h.1; omega
    | ⟨1, _⟩ =>
      show win0_8.index t 1 * win0_8.size 1 ≤ (i 1 : Nat) ∧ (i 1 : Nat) < win0_8.index t 1 * win0_8.size 1 + win0_8.xsize (grid0.coords t) 1
      rw [h1, x1]; exact h.2
    | ⟨2, _⟩ =>
      show win0_8.index t 2 * win0_8.size 2 ≤ (i 2 : Nat) ∧ (i 2 : Nat) < win0_8.index t 2 * win0_8.size 2 + win0_8.xsize (grid0.coords t) 2
      rw [h2, x2]; omega
theorem cover8 (i : S8x4096x1024.Idx) : ∃ t : Fin cfg0.N, (cfg0.win 8).flush t = true ∧ i ∈ ((cfg0.win 8).blk t).view.set := by
  have i0 : (i 0).val < 8 := (i 0).isLt
  have i1 : (i 1).val < 4096 := (i 1).isLt
  refine ⟨⟨8 * (i 0).val + (i 1).val / 512, lt_of_lt_of_eq (by omega) N_0.symm⟩, flush0_8 _, ?_⟩
  rw [mem_blk8]
  dsimp only
  omega
theorem final8 : (dats m 0 c).arrAt 8 cfg0.N = outBuf m c := (dats m 0 c).arrAt_eq_of_cover 8 (outBuf m c) (fun t _ => flushed8_eq m c t) cover8

end Point

end Cert.Op

end
-- ==== Proof.OutRef.lean ====
/-
  The gated output projection reference's result, as the same function of its arguments.
-/
module

public import proofs.«01_k».proof.Proof.OutArray
public import proofs.«01_k».proof.Proof.Gen.OutReferenceIdeal.Read

public section

set_option maxRecDepth 16384

noncomputable section

namespace Cert.OpRef

open Cert.Rms Cert.Op Cert.OutReferenceIdeal Cert.OutReferenceIdeal.Gen Cert.OutReferenceIdeal.Read Idealize.ShloMosaic Idealize.ShloMosaic.TcCoe Idealize.ShloMosaic.ValueIdx Idealize.SL.Sem
open Finset

variable (x0 x1 x2 x3 : S8x4096x512.Idx → EReal) (x4 : S8x4096x1024.Idx → EReal) (x5 : S8x1x1024.Idx → EReal) (x6 : S1024x1024.Idx → EReal) (x7 : S1024.Idx → EReal)

theorem v3_apply (i : S8x4096x512.Idx) : val_main_v3 (F := Ideal) x0 x2 i = gated (x0 i) (x2 i) := by
  rw [val_main_v3_apply, val_main_v2_apply, val_main_call0_v5_apply, val_main_call0_v4_apply, val_main_call0_v3_apply, val_main_call0_v2_apply, val_main_call0_v1_apply, val_main_call0_v0_apply]
  rfl
theorem v7_apply (i : S8x4096x512.Idx) : val_main_v7 (F := Ideal) x1 x3 i = gated (x1 i) (x3 i) := by
  rw [val_main_v7_apply, val_main_v6_apply, val_main_call1_v5_apply, val_main_call1_v4_apply, val_main_call1_v3_apply, val_main_call1_v2_apply, val_main_call1_v1_apply, val_main_call1_v0_apply]
  rfl

theorem left_apply (b : Fin 8) (i : Fin 4096) (k : Fin 512) : val_main_v8 (F := Ideal) x0 x1 x2 x3 (ix3 b i (upper k)) = gated (x0 (ix3 b i k)) (x2 (ix3 b i k)) := by
  unfold val_main_v8
  refine (concatenate_pair_apply_left (s₁ := S8x4096x512) (s₂ := S8x4096x512) 2 _ _ concatenates_S8x4096x512_S8x4096x512_S8x4096x1024_d2 (ix3 b i (upper k)) rfl (ix3 b i k) fun a => ?_).trans (v3_apply x0 x2 _)
  match a with
  | ⟨0, _⟩ => rfl
  | ⟨1, _⟩ => rfl
  | ⟨2, _⟩ => rfl
theorem right_apply (b : Fin 8) (i : Fin 4096) (k : Fin 512) : val_main_v8 (F := Ideal) x0 x1 x2 x3 (ix3 b i (lower k)) = gated (x1 (ix3 b i k)) (x3 (ix3 b i k)) := by
  unfold val_main_v8
  refine (concatenate_pair_apply_right (s₁ := S8x4096x512) (s₂ := S8x4096x512) 2 _ _ concatenates_S8x4096x512_S8x4096x512_S8x4096x1024_d2 (ix3 b i (lower k)) rfl rfl (ix3 b i k) (fun a ha => ?_) ?_).trans (v7_apply x1 x3 _)
  · match a with
    | ⟨0, _⟩ => rfl
    | ⟨1, _⟩ => rfl
    | ⟨2, _⟩ => exact absurd rfl ha
  · show k.val + 512 = 512 + k.val
    omega

/-- A sum over 1024 as the sums over its two halves. -/
theorem sum_halves (f : Fin 1024 → EReal) : (∑ k : Fin 1024, f k) = (∑ k : Fin 512, f (upper k)) + ∑ k : Fin 512, f (lower k) :=
  (Fin.sum_univ_add (a := 512) (b := 512) f).trans rfl

theorem resid_apply (b : Fin 8) (i : Fin 4096) (d : Fin 1024) : val_main_v12 (F := Ideal) x0 x1 x2 x3 x4 x5 x6 (ix3 b i d)
    = resid (fun k => gated (x0 (ix3 b i k)) (x2 (ix3 b i k))) (fun k => gated (x1 (ix3 b i k)) (x3 (ix3 b i k)))
    (fun k j => x6 (ix2 k j)) (fun j => x4 (ix3 b i j)) (fun j => x5 (ix3 b (0 : Fin 1) j)) d := by
  rw [val_main_v12_apply, val_main_v11_apply, val_main_v10_apply, val_main_v9_apply, sum_halves]
  have e5 : idx_main_v10 (ix3 b i d) = ix3 b (0 : Fin 1) d := funext fun a => Fin.ext (by match a with | ⟨0, _⟩ => rfl | ⟨1, _⟩ => rfl | ⟨2, _⟩ => rfl)
  have el : ∀ k : Fin 1024, lidx_main_v9 (ix3 b i d) k = ix3 b i k := fun k => funext fun a => Fin.ext (by match a with | ⟨0, _⟩ => rfl | ⟨1, _⟩ => rfl | ⟨2, _⟩ => rfl)
  have er : ∀ k : Fin 1024, ridx_main_v9 (ix3 b i d) k = ix2 k d := fun k => funext fun a => Fin.ext (by match a with | ⟨0, _⟩ => rfl | ⟨1, _⟩ => rfl)
  rw [e5]
  simp only [el, er, left_apply, right_apply]
  rfl

theorem factor_apply' (b : Fin 8) (i : Fin 4096) (d : Fin 1024) :
    val_main_v21 (F := Ideal) x0 x1 x2 x3 x4 x5 x6 (ix3 b i d) = factor (∑ j : Fin 1024, val_main_v12 (F := Ideal) x0 x1 x2 x3 x4 x5 x6 (ix3 b i j) * val_main_v12 (F := Ideal) x0 x1 x2 x3 x4 x5 x6 (ix3 b i j)) := by
  rw [val_main_v21_apply, val_main_v20_apply, val_main_v19_apply, val_main_v17_apply, val_main_v15_apply, val_main_v16_apply, val_main_v18_apply, val_main_v14_apply]
  show Ideal.rsqrt (Ideal.div (Ideal.ofBits .f32 0x00000000#32 + _) (Ideal.ofBits .f32 0x44800000#32) + Ideal.ofBits .f32 0x358637BD#32) = _
  rw [Ideal.ofBits_zero_f32, zero_add]
  unfold factor
  congr 3
  refine Finset.sum_congr rfl fun j _ => ?_
  have hi : idx_main_v14 (idx_main_v15 (idx_main_v21 (ix3 b i d))) j = ix3 b i j := funext fun a => Fin.ext (by match a with | ⟨0, _⟩ => rfl | ⟨1, _⟩ => rfl | ⟨2, _⟩ => rfl)
  rw [hi, val_main_v13_apply]
  rfl

theorem v25_apply (b : Fin 8) (i : Fin 4096) (d : Fin 1024) : val_main_v25 (F := Ideal) x0 x1 x2 x3 x4 x5 x6 x7 (ix3 b i d) = outG x0 x1 x2 x3 x4 x5 x6 x7 b i d := by
  rw [val_main_v25_apply, val_main_v22_apply, factor_apply', val_main_v24_apply, val_main_v23_apply]
  have e1 : idx_main_v23 (idx_main_v24 (ix3 b i d)) = ix1 d := funext fun a => Fin.ext (by match a with | ⟨0, _⟩ => rfl)
  rw [e1]
  simp only [resid_apply]
  rfl

theorem out_apply (i : S8x4096x1024.Idx) : val_main_v25 (F := Ideal) x0 x1 x2 x3 x4 x5 x6 x7 i
    = outG x0 x1 x2 x3 x4 x5 x6 x7 ⟨(i 0).val, (i 0).isLt⟩ ⟨(i 1).val, (i 1).isLt⟩ ⟨(i 2).val, (i 2).isLt⟩ := by
  have hi : i = ix3 ⟨(i 0).val, (i 0).isLt⟩ ⟨(i 1).val, (i 1).isLt⟩ ⟨(i 2).val, (i 2).isLt⟩ := funext fun a => Fin.ext (by match a with | ⟨0, _⟩ => rfl | ⟨1, _⟩ => rfl | ⟨2, _⟩ => rfl)
  exact (congrArg _ hi).trans (v25_apply x0 x1 x2 x3 x4 x5 x6 x7 _ _ _)

end Cert.OpRef

end
-- ==== Proof.DiffReal.lean ====
/-
  The arithmetic of a softmax taken tile by tile. The carried maximum only has to be some real number: shifting it
  scales the carried sum and the carried weighted sum by the same factor, so their ratio does not depend on it.
-/
module

public import Idealize.ShloMosaic.Lib.ValueIdx
public import Idealize.ShloMosaic.Lib.KernelVsHost
public import Idealize.ShloMosaic.Lib.IdealHost

public section

set_option maxRecDepth 16384

noncomputable section

namespace Cert.Da

open Idealize.ShloMosaic
open Finset

/-- The largest of a list of extended reals. -/
@[expose] def listMax {ι : Type} (l : List ι) (g : ι → EReal) : EReal := l.foldl (fun a i => max a (g i)) ⊥

theorem foldl_max_bounds {ι : Type} (g : ι → EReal) : ∀ (l : List ι) (a : EReal), a ≠ ⊤ → (∀ i ∈ l, g i ≠ ⊤) →
    l.foldl (fun a i => max a (g i)) a ≠ ⊤ ∧ a ≤ l.foldl (fun a i => max a (g i)) a ∧ ∀ i ∈ l, g i ≤ l.foldl (fun a i => max a (g i)) a
  | [], a, ha, _ => ⟨ha, le_rfl, fun i hi => absurd hi List.not_mem_nil⟩
  | j :: l, a, ha, h => by
    have hj : max a (g j) ≠ ⊤ := by
      rcases max_choice a (g j) with e | e <;> rw [e]
      · exact ha
      · exact h j List.mem_cons_self
    obtain ⟨h1, h2, h3⟩ := foldl_max_bounds g l (max a (g j)) hj fun i hi => h i (List.mem_cons_of_mem _ hi)
    refine ⟨h1, (le_max_left _ _).trans h2, fun i hi => ?_⟩
    rcases List.mem_cons.mp hi with rfl | hi'
    · exact (le_max_right _ _).trans h2
    · exact h3 i hi'

theorem foldl_max_le_iff {ι : Type} (g : ι → EReal) (c : EReal) : ∀ (l : List ι) (a : EReal),
    l.foldl (fun a i => max a (g i)) a ≤ c ↔ a ≤ c ∧ ∀ i ∈ l, g i ≤ c
  | [], a => by simp
  | j :: l, a => by
    rw [List.foldl_cons, foldl_max_le_iff g c l, max_le_iff, and_assoc, List.forall_mem_cons]

theorem listMax_le_iff {ι : Type} (l : List ι) (g : ι → EReal) (c : EReal) : listMax l g ≤ c ↔ ∀ i ∈ l, g i ≤ c :=
  (foldl_max_le_iff g c l ⊥).trans ⟨fun h => h.2, fun h => ⟨bot_le, h⟩⟩

theorem le_listMax {ι : Type} (l : List ι) (g : ι → EReal) (i : ι) (hi : i ∈ l) : g i ≤ listMax l g :=
  (listMax_le_iff l g _).mp le_rfl i hi

/-- A list whose greatest element is `⊤` holds `⊤`. -/
theorem exists_top {ι : Type} (l : List ι) (g : ι → EReal) (h : listMax l g = ⊤) : ∃ i ∈ l, g i = ⊤ := by
  by_contra hn
  push Not at hn
  exact (foldl_max_bounds g l ⊥ bot_ne_top hn).1 h

/-- A list whose greatest element is not `⊥` holds something else than `⊥`. -/
theorem exists_ne_bot {ι : Type} (l : List ι) (g : ι → EReal) (h : listMax l g ≠ ⊥) : ∃ i ∈ l, g i ≠ ⊥ := by
  by_contra hn
  push Not at hn
  exact h (le_bot_iff.mp ((listMax_le_iff l g ⊥).mpr fun i hi => (hn i hi).le))

/-- The exponential of a score less a number: zero where the score is `⊥`. -/
theorem exp_sub_real (z : EReal) (hz : z ≠ ⊤) (x : ℝ) :
    Ideal.exp (z - (x : EReal)) = ((if z = ⊥ then 0 else Real.exp (z.toReal - x) : ℝ) : EReal) := by
  by_cases h : z = ⊥
  · rw [if_pos h, h, EReal.bot_sub]; rfl
  · rw [if_neg h]
    conv_lhs => rw [← EReal.coe_toReal hz h, ← EReal.coe_sub]
    rfl

/-- The exponential of a score less `⊤` is zero. -/
theorem exp_sub_top (z : EReal) : Ideal.exp (z - ⊤) = 0 := by
  rw [sub_eq_add_neg, EReal.neg_top, EReal.add_bot]; rfl

/-- The exponential of `⊥` less anything is zero. -/
theorem exp_bot_sub (x : EReal) : Ideal.exp (⊥ - x) = 0 := by
  rw [EReal.bot_sub]; rfl

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The quotient of two reals, the divisor positive. -/
theorem div_real (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

/-- Nothing divided by nothing. -/
theorem div_zero_zero : Ideal.div 0 0 = ⊥ := by
  unfold Ideal.div
  rw [if_pos rfl, if_neg (lt_irrefl _)]

section Softmax

variable (z : ℕ → Fin 256 → EReal) (v : ℕ → Fin 256 → ℝ)

/-- The weight of a key, relative to the carried maximum `x`: zero where the score is `⊥`, as it is where the key is masked. -/
@[expose] def wt (x : ℝ) (n : ℕ) (p : Fin 256) : ℝ := if z n p = ⊥ then 0 else Real.exp ((z n p).toReal - x)

/-- The sum of the weights of the first `N` blocks, each multiplied by `v`. -/
@[expose] def wsum (N : ℕ) (x : ℝ) : ℝ := ∑ n ∈ range N, ∑ p : Fin 256, v n p * wt z x n p

/-- The scores of the first `N` blocks have a softmax: none is `⊤`, and not all are `⊥`. -/
@[expose] def Good (N : ℕ) : Prop := (∀ n < N, ∀ p, z n p ≠ ⊤) ∧ ∃ n < N, ∃ p, z n p ≠ ⊥

/-- The carried maximum, the carried sum and one feature's carried weighted sum after `N` blocks. -/
@[expose] def Inv (N : ℕ) (m l a : EReal) : Prop :=
  (m = ⊥ ∧ l = 0 ∧ a = 0 ∧ ∀ n < N, ∀ p, z n p = ⊥) ∨ (m = ⊤ ∧ l = 0 ∧ a = 0 ∧ ∃ n < N, ∃ p, z n p = ⊤)
    ∨ ∃ x : ℝ, m = (x : EReal) ∧ l = ((wsum z (fun _ _ => 1) N x : ℝ) : EReal) ∧ a = ((wsum z v N x : ℝ) : EReal) ∧ Good z N

theorem wt_shift (x y : ℝ) (n : ℕ) (p : Fin 256) : wt z y n p = Real.exp (x - y) * wt z x n p := by
  unfold wt
  split
  · rw [mul_zero]
  · rw [← Real.exp_add]; congr 1; ring

theorem wsum_shift (N : ℕ) (x y : ℝ) : wsum z v N y = Real.exp (x - y) * wsum z v N x := by
  unfold wsum
  rw [Finset.mul_sum]
  refine Finset.sum_congr rfl fun n _ => ?_
  rw [Finset.mul_sum]
  refine Finset.sum_congr rfl fun p _ => ?_
  rw [wt_shift z x y]; ring

theorem wsum_succ (N : ℕ) (x : ℝ) : wsum z v (N + 1) x = wsum z v N x + ∑ p : Fin 256, v N p * wt z x N p := by
  unfold wsum
  rw [Finset.sum_range_succ]

theorem wsum_bot (N : ℕ) (x : ℝ) (h : ∀ n < N, ∀ p, z n p = ⊥) : wsum z v N x = 0 := by
  unfold wsum
  refine Finset.sum_eq_zero fun n hn => Finset.sum_eq_zero fun p _ => ?_
  unfold wt
  rw [if_pos (h n (Finset.mem_range.mp hn) p), mul_zero]

theorem wt_nonneg (x : ℝ) (n : ℕ) (p : Fin 256) : 0 ≤ wt z x n p := by
  unfold wt
  split
  · exact le_rfl
  · exact (Real.exp_pos _).le

theorem wsum_pos (N : ℕ) (x : ℝ) (h : Good z N) : 0 < wsum z (fun _ _ => 1) N x := by
  obtain ⟨-, n, hn, p, hp⟩ := h
  unfold wsum
  have h0 : ∀ n p, 0 ≤ (fun _ _ => (1 : ℝ)) n p * wt z x n p := fun n p => by
    rw [one_mul]; exact wt_nonneg z x n p
  refine Finset.sum_pos' (fun n _ => Finset.sum_nonneg fun p _ => h0 n p) ⟨n, Finset.mem_range.mpr hn, ?_⟩
  refine Finset.sum_pos' (fun p _ => h0 n p) ⟨p, Finset.mem_univ _, ?_⟩
  show 0 < 1 * wt z x n p
  unfold wt
  rw [if_neg hp, one_mul]
  exact Real.exp_pos _

/-- The softmax-weighted mean of `v` over the first `N` blocks. -/
@[expose] def mean (N : ℕ) : ℝ := wsum z v N 0 / wsum z (fun _ _ => 1) N 0

theorem mean_eq (N : ℕ) (x : ℝ) : wsum z v N x / wsum z (fun _ _ => 1) N x = mean z v N := by
  unfold mean
  rw [wsum_shift z v N 0 x, wsum_shift z (fun _ _ => 1) N 0 x]
  exact mul_div_mul_left _ _ (Real.exp_pos _).ne'

/-- One more block whose greatest score, and that of the blocks before, is a number. -/
theorem Inv.next_real {N : ℕ} {m l a : EReal} (h : Inv z v N m l a) (u : Fin 256 → EReal) (hu : ∀ p, u p = (v N p : EReal)) (y : ℝ)
    (hy : max m (listMax (List.finRange 256) (z N)) = (y : EReal)) :
    Inv z v (N + 1) (y : EReal) (Ideal.exp (m - (y : EReal)) * l + ∑ p : Fin 256, Ideal.exp (z N p - (y : EReal)))
      (Ideal.exp (m - (y : EReal)) * a + ∑ p : Fin 256, u p * Ideal.exp (z N p - (y : EReal))) := by
  have ht : ∀ p, z N p ≠ ⊤ := fun p e => by
    have h1 := (le_listMax _ (z N) p (List.mem_finRange p)).trans (le_max_right m _)
    rw [hy, e] at h1
    exact EReal.coe_ne_top y (top_le_iff.mp h1)
  have e1 : ∀ p, Ideal.exp (z N p - (y : EReal)) = ((wt z y N p : ℝ) : EReal) := fun p => exp_sub_real _ (ht p) y
  have s1 : ∑ p : Fin 256, Ideal.exp (z N p - (y : EReal)) = ((∑ p : Fin 256, (1 : ℝ) * wt z y N p : ℝ) : EReal) := by
    rw [coe_sum]; exact Finset.sum_congr rfl fun p _ => by rw [e1, one_mul]
  have s2 : ∑ p : Fin 256, u p * Ideal.exp (z N p - (y : EReal)) = ((∑ p : Fin 256, v N p * wt z y N p : ℝ) : EReal) := by
    rw [coe_sum]; exact Finset.sum_congr rfl fun p _ => by rw [e1, hu, EReal.coe_mul]
  refine Or.inr (Or.inr ⟨y, rfl, ?_, ?_, ?_⟩)
  · rw [s1, wsum_succ, EReal.coe_add]
    congr 1
    rcases h with ⟨-, el, -, e0⟩ | ⟨em, -, -, -⟩ | ⟨x, em, el, -, -⟩
    · rw [el, mul_zero, wsum_bot _ _ _ _ e0]; rfl
    · exact absurd hy (by rw [em, max_eq_left le_top]; exact (EReal.coe_ne_top y).symm)
    · rw [el, em, ← EReal.coe_sub]
      show ((Real.exp (x - y) : ℝ) : EReal) * _ = _
      rw [← EReal.coe_mul, ← wsum_shift]
  · rw [s2, wsum_succ, EReal.coe_add]
    congr 1
    rcases h with ⟨-, -, ea, e0⟩ | ⟨em, -, -, -⟩ | ⟨x, em, -, ea, -⟩
    · rw [ea, mul_zero, wsum_bot _ _ _ _ e0]; rfl
    · exact absurd hy (by rw [em, max_eq_left le_top]; exact (EReal.coe_ne_top y).symm)
    · rw [ea, em, ← EReal.coe_sub]
      show ((Real.exp (x - y) : ℝ) : EReal) * _ = _
      rw [← EReal.coe_mul, ← wsum_shift]
  · rcases h with ⟨em, -, -, e0⟩ | ⟨em, -⟩ | ⟨x, -, -, -, hg, n, hn, p, hp⟩
    · refine ⟨fun n hn p => ?_, N, N.lt_succ_self, ?_⟩
      · rcases Nat.lt_succ_iff_lt_or_eq.mp hn with h | rfl
        · rw [e0 n h p]; exact bot_ne_top
        · exact ht p
      · obtain ⟨p, -, hp⟩ := exists_ne_bot (List.finRange 256) (z N) (fun e => by
          rw [em, e, max_self] at hy
          exact EReal.coe_ne_bot y hy.symm)
        exact ⟨p, hp⟩
    · exact absurd hy (by rw [em, max_eq_left le_top]; exact (EReal.coe_ne_top y).symm)
    · refine ⟨fun n hn p => ?_, n, by omega, p, hp⟩
      rcases Nat.lt_succ_iff_lt_or_eq.mp hn with h | rfl
      · exact hg n h p
      · exact ht p

/-- One more block. -/
theorem Inv.next {N : ℕ} {m l a : EReal} (h : Inv z v N m l a) (u : Fin 256 → EReal) (hu : ∀ p, u p = (v N p : EReal)) (m' : EReal)
    (hm' : m' = max m (listMax (List.finRange 256) (z N))) :
    Inv z v (N + 1) m' (Ideal.exp (m - m') * l + ∑ p : Fin 256, Ideal.exp (z N p - m')) (Ideal.exp (m - m') * a + ∑ p : Fin 256, u p * Ideal.exp (z N p - m')) := by
  have zero : (∀ p, Ideal.exp (z N p - m') = 0) → Ideal.exp (m - m') = 0 → Ideal.exp (m - m') * l + ∑ p : Fin 256, Ideal.exp (z N p - m') = 0 ∧
      Ideal.exp (m - m') * a + ∑ p : Fin 256, u p * Ideal.exp (z N p - m') = 0 := fun h1 h2 => by
    rw [h2, zero_mul, zero_mul, zero_add, zero_add]
    exact ⟨Finset.sum_eq_zero fun p _ => h1 p, Finset.sum_eq_zero fun p _ => by rw [h1, mul_zero]⟩
  induction m' using EReal.rec with
  | coe y => exact h.next_real z v u hu y hm'.symm
  | bot =>
    have hm : m = ⊥ := le_bot_iff.mp (hm' ▸ le_max_left _ _)
    have hz : ∀ p, z N p = ⊥ := fun p => le_bot_iff.mp ((le_listMax _ (z N) p (List.mem_finRange p)).trans (hm' ▸ le_max_right _ _))
    obtain ⟨e1, e2⟩ := zero (fun p => by rw [hz]; exact exp_bot_sub _) (by rw [hm]; exact exp_bot_sub _)
    rw [e1, e2]
    refine Or.inl ⟨rfl, rfl, rfl, fun n hn p => ?_⟩
    rcases Nat.lt_succ_iff_lt_or_eq.mp hn with h' | rfl
    · rcases h with ⟨-, -, -, e0⟩ | ⟨em, -⟩ | ⟨x, em, -⟩
      · exact e0 n h' p
      · exact absurd (hm.symm.trans em) bot_ne_top
      · exact absurd (em.symm.trans hm) (EReal.coe_ne_bot x)
    · exact hz p
  | top =>
    obtain ⟨e1, e2⟩ := zero (fun p => exp_sub_top _) (exp_sub_top _)
    rw [e1, e2]
    refine Or.inr (Or.inl ⟨rfl, rfl, rfl, ?_⟩)
    rcases max_choice m (listMax (List.finRange 256) (z N)) with e | e
    · rcases h with ⟨em, -⟩ | ⟨-, -, -, n, hn, hp⟩ | ⟨x, em, -⟩
      · exact absurd (hm'.trans (e.trans em)) bot_ne_top.symm
      · exact ⟨n, by omega, hp⟩
      · exact absurd ((hm'.trans (e.trans em)).symm) (EReal.coe_ne_top x)
    · obtain ⟨p, -, hp⟩ := exists_top _ _ (hm'.trans e).symm
      exact ⟨N, N.lt_succ_self, p, hp⟩

open Classical in
/-- What one map makes of the values: their softmax mean, or `⊥` where there is no softmax. -/
@[expose] def meanE (N : ℕ) : EReal := if Good z N then ((mean z v N : ℝ) : EReal) else ⊥

/-- The quotient of the two carried sums at the end. -/
theorem Inv.quot {N : ℕ} {m l a : EReal} (h : Inv z v N m l a) : Ideal.div a l = meanE z v N := by
  unfold meanE
  rcases h with ⟨-, el, ea, e0⟩ | ⟨-, el, ea, n, hn, p, hp⟩ | ⟨x, -, el, ea, hg⟩
  · rw [el, ea, div_zero_zero, if_neg]
    rintro ⟨-, n, hn, p, hp⟩
    exact hp (e0 n hn p)
  · rw [el, ea, div_zero_zero, if_neg]
    rintro ⟨hg, -⟩
    exact hg n hn p hp
  · rw [el, ea, div_real _ _ (wsum_pos z N x hg), mean_eq, if_pos hg]

/-- Blocks in which every key is masked add nothing. -/
theorem mean_extend (N N' : ℕ) (h : N ≤ N') (hb : ∀ n p, N ≤ n → z n p = ⊥) : mean z v N' = mean z v N := by
  have e : ∀ u : ℕ → Fin 256 → ℝ, wsum z u N' 0 = wsum z u N 0 := fun u => by
    unfold wsum
    rw [range_eq_Ico, ← sum_Ico_consecutive _ (Nat.zero_le N) h, Finset.sum_eq_zero (s := Ico N N'), add_zero, range_eq_Ico]
    intro n hn
    refine Finset.sum_eq_zero fun p _ => ?_
    unfold wt
    rw [if_pos (hb n p (Finset.mem_Ico.mp hn).1), mul_zero]
  unfold mean
  rw [e, e]

theorem good_extend (N N' : ℕ) (h : N ≤ N') (hb : ∀ n p, N ≤ n → z n p = ⊥) : Good z N' ↔ Good z N := by
  constructor
  · rintro ⟨h1, n, hn, p, hp⟩
    refine ⟨fun n hn p => h1 n (by omega) p, n, ?_, p, hp⟩
    by_contra hN
    exact hp (hb n p (by omega))
  · rintro ⟨h1, n, hn, p, hp⟩
    refine ⟨fun n hn p => ?_, n, by omega, p, hp⟩
    rcases Nat.lt_or_ge n N with h2 | h2
    · exact h1 n h2 p
    · rw [hb n p h2]; exact bot_ne_top

theorem meanE_extend (N N' : ℕ) (h : N ≤ N') (hb : ∀ n p, N ≤ n → z n p = ⊥) : meanE z v N' = meanE z v N := by
  unfold meanE
  rw [mean_extend z v N N' h hb]
  have e := good_extend z N N' h hb
  by_cases hg : Good z N
  · rw [if_pos hg, if_pos (e.mpr hg)]
  · rw [if_neg hg, if_neg fun h' => hg (e.mp h')]

end Softmax

end Cert.Da

end
-- ==== Proof.DiffTile.lean ====
/-
  One tile of the differential attention kernel, written as functions of whole arrays: the score of every key of a
  block against every query of a block, with and without bias and causal mask, and what a tile does to one map's running
  maximum, running sum and accumulator. Everything here holds for any float arithmetic; what the functions are at the
  ideal values is in the modules that import this one.
-/
module

public import proofs.«01_k».proof.Proof.Gen.DiffIdeal.Value

@[expose] public section

set_option maxRecDepth 16384

noncomputable section

namespace Cert.Da

open Cert.DiffIdeal Cert.DiffIdeal.Gen Idealize.ShloMosaic Idealize.ShloMosaic.TcCoe Idealize.SL.Sem

variable {F : FTy → Type} [FloatOps F] [Named F]

/-- The constant array at a 32-bit float word. -/
abbrev fill (s : Shape) (w : BitVec 32) : FVec F s .f32 := broadcast s (Scalar.ofBits .f32 w)

/-- The scores of a block of keys against a block of queries. -/
def score (kb : FVec F S256x128 .bf16) (q : FVec F S128x256 .bf16) : FVec F S256x256 .f32 :=
  matmul dot_S256x128_S128x256_S256x256_1_0_0_1_n_n none kb q (constant S256x256 .f32 0x00000000#32)

/-- The scores with a tile of the bias added. -/
def scoreNear (kb : FVec F S256x128 .bf16) (q : FVec F S128x256 .bf16) (b : Vec F S1x1x256x256 .f32) : FVec F S256x256 .f32 :=
  addf (score kb q) (shapeCast S256x256 b shapeCasts_S1x1x256x256_S256x256)

/-- The scores of the diagonal block: bias added, and the keys after the query masked. -/
def scoreDiag (ok : IVec S256x256 1) (kb : FVec F S256x128 .bf16) (q : FVec F S128x256 .bf16) (b : Vec F S1x1x256x256 .f32) : FVec F S256x256 .f32 :=
  select ok (scoreNear kb q b) (broadcast S256x256 (Named.named κ "mask" 0xF149F2CA#32))

/-- The running maximum of every query after a tile. -/
def rowMax (z : FVec F S256x256 .f32) (m : Vec F S1x1x256 .f32) : FVec F S1x256 .f32 :=
  maximumf (shapeCast S1x256 m shapeCasts_S1x1x256_S1x256)
    (shapeCast S1x256 (multiReduction .maximumf [0] S256 z 0xFF800000#32 reduces_S256x256_S256 (.inl rfl) rfl) shapeCasts_S256_S1x256)

/-- The factor that carries the sums so far over to the new maximum. -/
def rescale (z : FVec F S256x256 .f32) (m : Vec F S1x1x256 .f32) : FVec F S1x256 .f32 :=
  exp (subf (shapeCast S1x256 m shapeCasts_S1x1x256_S1x256) (rowMax z m))

/-- The weights of a tile against the new maximum. -/
def weight (z : FVec F S256x256 .f32) (m : Vec F S1x1x256 .f32) : FVec F S256x256 .f32 :=
  exp (subf z (broadcastTo S256x256 (rowMax z m) broadcasts_S1x256_S256x256))

/-- The running maximum after a tile. -/
def maxStep (z : FVec F S256x256 .f32) (m : Vec F S1x1x256 .f32) : FVec F S1x1x256 .f32 :=
  shapeCast S1x1x256 (rowMax z m) shapeCasts_S1x256_S1x1x256

/-- The running sum of the weights after a tile. -/
def sumStep (z : FVec F S256x256 .f32) (m l : Vec F S1x1x256 .f32) : FVec F S1x1x256 .f32 :=
  shapeCast S1x1x256 (addf (mulf (rescale z m) (shapeCast S1x256 l shapeCasts_S1x1x256_S1x256))
    (shapeCast S1x256 (multiReduction .add [0] S256 (weight z m) 0x00000000#32 reduces_S256x256_S256 (.inl rfl) rfl) shapeCasts_S256_S1x256))
    shapeCasts_S1x256_S1x1x256

/-- The accumulator after a tile. -/
def accStep (z : FVec F S256x256 .f32) (vb : FVec F S128x256 .bf16) (m : Vec F S1x1x256 .f32) (a : Vec F S1x128x256 .f32) : FVec F S1x128x256 .f32 :=
  shapeCast S1x128x256 (addf (mulf (broadcastTo S128x256 (rescale z m) broadcasts_S1x256_S128x256) (shapeCast S128x256 a shapeCasts_S1x128x256_S128x256))
    (matmul dot_S128x256_S256x256_S128x256_1_0_0_1_n_n none vb (truncf .bf16 (weight z m) bitsLt_bf16_f32) (constant S128x256 .f32 0x00000000#32)))
    shapeCasts_S128x256_S1x128x256

/-- One map's running maximum, running sum and accumulator. -/
structure St (F : FTy → Type) where
  /-- The running maximum of every query. -/
  m : Vec F S1x1x256 .f32
  /-- The running sum of every query's weights. -/
  l : Vec F S1x1x256 .f32
  /-- The accumulator. -/
  a : Vec F S1x128x256 .f32

/-- What a tile does to one map. -/
def St.next (z : FVec F S256x256 .f32) (vb : FVec F S128x256 .bf16) (s : St F) : St F :=
  ⟨maxStep z s.m, sumStep z s.m s.l, accStep z vb s.m s.a⟩

/-- One map before the first tile. -/
def St.zero : St F :=
  ⟨broadcast S1x1x256 (Named.named κ "mask" 0xF149F2CA#32), fill S1x1x256 0x00000000#32, fill S1x128x256 0x00000000#32⟩

/-- One map after the tiles `0` to `n - 1`. -/
def chain (z : ℕ → FVec F S256x256 .f32) (vb : ℕ → FVec F S128x256 .bf16) : ℕ → St F
  | 0 => St.zero
  | n + 1 => (chain z vb n).next (z n) (vb n)

/-- Which keys of the diagonal block lie at or before which queries. -/
abbrev okDiag : IVec S256x256 1 :=
  k0_pay77 kernelRun0_A.sl.r_2 (k0_pay73 kernelRun0_A.sl.v33) (k0_pay74 kernelRun0_A.sl.v33) (k0_pay75 kernelRun0_A.sl.v33)

/-- The queries with the rows of the second map set to zero. -/
abbrev query0 (q : Vec F S1x1x128x256 .bf16) : FVec F S128x256 .bf16 := k0_pay59 q
/-- The queries with the rows of the first map set to zero. -/
abbrev query1 (q : Vec F S1x1x128x256 .bf16) : FVec F S128x256 .bf16 := k0_pay60 q

end Cert.Da

end
-- ==== Proof.DiffChain.lean ====
/-
  The run of one grid point of the differential attention kernel, read as a chain of tiles: the three scratch arrays
  after the loop over the blocks far to the left, after the block just before the diagonal and after the diagonal block
  are the tile functions of `DiffTile`, applied one after another, for each of the two maps.
-/
module

public import Idealize.ShloMosaic.Lib.WritesUnit
public import Idealize.ShloMosaic.Lib.ValueIdx
public import proofs.«01_k».proof.Proof.DiffTile

public section

set_option maxRecDepth 65536

noncomputable section

namespace Cert.Da

open Cert.DiffIdeal Cert.DiffIdeal.Gen Idealize.ShloMosaic Idealize.ShloMosaic.TcCoe Idealize.ShloMosaic.ValueIdx Idealize.SL.Sem

variable {F : FTy → Type} [FloatOps F] [Named F]

/-! ## Loads from a scratch array after a list of stores -/

/-- The part of the accumulator scratch that belongs to the first map. -/
abbrev accR0 : Rect S2x128x256 := Rect.unit ![0, 0, 0] S1x128x256.size inb_S2x128x256_S1x128x256_0_0_0
/-- The part of the accumulator scratch that belongs to the second map. -/
abbrev accR1 : Rect S2x128x256 := Rect.unit ![1, 0, 0] S1x128x256.size inb_S2x128x256_S1x128x256_1_0_0
/-- The part of a row scratch that belongs to the first map. -/
abbrev rowR0 : Rect S2x1x256 := Rect.unit ![0, 0, 0] S1x1x256.size inb_S2x1x256_S1x1x256_0_0_0
/-- The part of a row scratch that belongs to the second map. -/
abbrev rowR1 : Rect S2x1x256 := Rect.unit ![1, 0, 0] S1x1x256.size inb_S2x1x256_S1x1x256_1_0_0

/-- A load just after a store through the same rectangle finds the stored array. -/
theorem load_hit {s : Shape} {e : EltTy} (v : View sig .tc .vmem s e) (f : v.ty.Contents (Elt F)) (off size : Fin s.rank → ℕ)
    (inb : ∀ a, off a + size a ≤ s.size a) (w : (Rect.unit off size inb).shape.Idx → Elt F e) (L : List (View.Piece (Elt F) s e)) :
    v.readAt (Elt F) (Rect.unit off size inb).toLoadRect (v.writes (Elt F) f (⟨Rect.unit off size inb, w⟩ :: L)) = w := by
  funext x
  rw [View.readAt_apply]
  exact View.read_writes_cons_unit_of_mem v f inb w L _ x rfl fun a => by
    show off a + 1 * (x a).val = _; rw [Nat.one_mul]

/-- A load from a rectangle that a store does not meet finds what was there before it. -/
theorem load_miss {s : Shape} {e : EltTy} (v : View sig .tc .vmem s e) (f : v.ty.Contents (Elt F)) (off size off' size' : Fin s.rank → ℕ)
    (inb : ∀ a, off a + size a ≤ s.size a) (inb' : ∀ a, off' a + size' a ≤ s.size a)
    (w : (Rect.unit off' size' inb').shape.Idx → Elt F e) (L : List (View.Piece (Elt F) s e)) (a : Fin s.rank)
    (h : off a + size a ≤ off' a ∨ off' a + size' a ≤ off a) :
    v.readAt (Elt F) (Rect.unit off size inb).toLoadRect (v.writes (Elt F) f (⟨Rect.unit off' size' inb', w⟩ :: L))
      = v.readAt (Elt F) (Rect.unit off size inb).toLoadRect (v.writes (Elt F) f L) := by
  funext x
  rw [View.readAt_apply, View.readAt_apply]
  refine View.read_writes_cons_unit_of_not_mem v f inb' w L _ rfl a ?_
  have hx : (x a).val < size a := (x a).isLt
  show off a + 1 * (x a).val < off' a ∨ off' a + size' a ≤ off a + 1 * (x a).val
  omega

/-- A load after one store of the whole array reads that array. -/
theorem load_whole {s : Shape} {e : EltTy} (v : View sig .tc .vmem s e) (f : v.ty.Contents (Elt F)) (off : Fin s.rank → ℕ)
    (inb : ∀ a, off a + s.size a ≤ s.size a) (w : s.Idx → Elt F e) (r : LoadRect s) :
    v.readAt (Elt F) r (v.writes (Elt F) f [⟨Rect.unit off s.size inb, w⟩]) = fun x => w (r.idx x) := by
  funext x
  rw [View.readAt_apply]
  exact View.read_writes_cons_unit_of_mem v f inb w [] _ (r.idx x) rfl fun a => by have := inb a; omega

/-! ## The two maps' states in the three scratch arrays -/

section Scratch

variable (arg10 : Memref sig .tc .vmem S2x128x256 .f32) (arg11 arg12 : Memref sig .tc .vmem S2x1x256 .f32)

/-- The three scratch arrays hold the two maps' states. -/
structure Holds (X10 : BufTy.Contents (Elt F) arg10.view.ty) (X11 : BufTy.Contents (Elt F) arg11.view.ty) (X12 : BufTy.Contents (Elt F) arg12.view.ty)
    (s0 s1 : St F) : Prop where
  m0 : arg11.view.readAt (Elt F) rowR0.toLoadRect X11 = s0.m
  l0 : arg12.view.readAt (Elt F) rowR0.toLoadRect X12 = s0.l
  a0 : arg10.view.readAt (Elt F) accR0.toLoadRect X10 = s0.a
  m1 : arg11.view.readAt (Elt F) rowR1.toLoadRect X11 = s1.m
  l1 : arg12.view.readAt (Elt F) rowR1.toLoadRect X12 = s1.l
  a1 : arg10.view.readAt (Elt F) accR1.toLoadRect X10 = s1.a

variable {arg10 arg11 arg12}
variable {f10 : BufTy.Contents (Elt F) arg10.view.ty} {f11 : BufTy.Contents (Elt F) arg11.view.ty} {f12 : BufTy.Contents (Elt F) arg12.view.ty}
  {L10 : List (View.Piece (Elt F) S2x128x256 .f32)} {L11 L12 : List (View.Piece (Elt F) S2x1x256 .f32)} {s0 s1 : St F}

/-- The stores of one tile for the first map. -/
theorem Holds.next0 (h : Holds arg10 arg11 arg12 (arg10.view.writes (Elt F) f10 L10) (arg11.view.writes (Elt F) f11 L11) (arg12.view.writes (Elt F) f12 L12) s0 s1)
    (z : FVec F S256x256 .f32) (vb : FVec F S128x256 .bf16) :
    Holds arg10 arg11 arg12
      (arg10.view.writes (Elt F) f10 (⟨accR0, accStep z vb s0.m s0.a⟩ :: L10))
      (arg11.view.writes (Elt F) f11 (⟨rowR0, maxStep z s0.m⟩ :: L11))
      (arg12.view.writes (Elt F) f12 (⟨rowR0, sumStep z s0.m s0.l⟩ :: L12)) (s0.next z vb) s1 where
  m0 := load_hit _ _ _ _ _ _ _
  l0 := load_hit _ _ _ _ _ _ _
  a0 := load_hit _ _ _ _ _ _ _
  m1 := (load_miss arg11.view _ _ _ _ _ _ _ _ _ 0 (Or.inr (by decide))).trans h.m1
  l1 := (load_miss arg12.view _ _ _ _ _ _ _ _ _ 0 (Or.inr (by decide))).trans h.l1
  a1 := (load_miss arg10.view _ _ _ _ _ _ _ _ _ 0 (Or.inr (by decide))).trans h.a1

/-- The stores of one tile for the second map. -/
theorem Holds.next1 (h : Holds arg10 arg11 arg12 (arg10.view.writes (Elt F) f10 L10) (arg11.view.writes (Elt F) f11 L11) (arg12.view.writes (Elt F) f12 L12) s0 s1)
    (z : FVec F S256x256 .f32) (vb : FVec F S128x256 .bf16) :
    Holds arg10 arg11 arg12
      (arg10.view.writes (Elt F) f10 (⟨accR1, accStep z vb s1.m s1.a⟩ :: L10))
      (arg11.view.writes (Elt F) f11 (⟨rowR1, maxStep z s1.m⟩ :: L11))
      (arg12.view.writes (Elt F) f12 (⟨rowR1, sumStep z s1.m s1.l⟩ :: L12)) s0 (s1.next z vb) where
  m0 := (load_miss arg11.view _ _ _ _ _ _ _ _ _ 0 (Or.inl (by decide))).trans h.m0
  l0 := (load_miss arg12.view _ _ _ _ _ _ _ _ _ 0 (Or.inl (by decide))).trans h.l0
  a0 := (load_miss arg10.view _ _ _ _ _ _ _ _ _ 0 (Or.inl (by decide))).trans h.a0
  m1 := load_hit _ _ _ _ _ _ _
  l1 := load_hit _ _ _ _ _ _ _
  a1 := load_hit _ _ _ _ _ _ _

end Scratch

/-! ## The blocks a grid point loads -/

/-- Block `n` of the keys. -/
@[expose] def keyBlk (x2 : Vec F S1x4096x128 .bf16) (n : ℕ) : FVec F S256x128 .bf16 :=
  shapeCast S256x128 (fun j : S1x256x128.Idx => x2 (ix3 (0 : Fin 1) ⟨(256 * n + (j 1).val) % 4096, Nat.mod_lt _ (by decide)⟩ (⟨(j 2).val, (j 2).isLt⟩ : Fin 128)))
    shapeCasts_S1x256x128_S256x128

/-- Block `n` of the values. -/
@[expose] def valBlk (x3 : Vec F S1x16x128x256 .bf16) (n : ℕ) : FVec F S128x256 .bf16 :=
  shapeCast S128x256 (fun j : S1x1x128x256.Idx => x3 (ix4 (0 : Fin 1) ⟨n % 16, Nat.mod_lt _ (by decide)⟩ (⟨(j 2).val, (j 2).isLt⟩ : Fin 128) (⟨(j 3).val, (j 3).isLt⟩ : Fin 256)))
    shapeCasts_S1x1x128x256_S128x256

/-- Tile `n` of the bias. -/
@[expose] def biasBlk (x4 : Vec F S1x2x256x256 .f32) (n : Fin 2) : Vec F S1x1x256x256 .f32 :=
  fun j : S1x1x256x256.Idx => x4 (ix4 (0 : Fin 1) n (⟨(j 2).val, (j 2).isLt⟩ : Fin 256) (⟨(j 3).val, (j 3).isLt⟩ : Fin 256))

/-- The block of keys loaded at an offset. -/
abbrev keysAt (arg5 : Memref sig .tc .vmem S1x4096x128 .bf16) (X5 : BufTy.Contents (Elt F) arg5.view.ty) (off : Fin 3 → ℕ)
    (inb : ∀ a, off a + S1x256x128.size a ≤ S1x4096x128.size a) : FVec F S256x128 .bf16 :=
  shapeCast S256x128 (arg5.view.readAt (Elt F) (Rect.unit (s := S1x4096x128) off S1x256x128.size inb).toLoadRect X5) shapeCasts_S1x256x128_S256x128

/-- The block of values loaded at an offset. -/
abbrev valsAt (arg6 : Memref sig .tc .vmem S1x16x128x256 .bf16) (X6 : BufTy.Contents (Elt F) arg6.view.ty) (off : Fin 4 → ℕ)
    (inb : ∀ a, off a + S1x1x128x256.size a ≤ S1x16x128x256.size a) : FVec F S128x256 .bf16 :=
  shapeCast S128x256 (arg6.view.readAt (Elt F) (Rect.unit (s := S1x16x128x256) off S1x1x128x256.size inb).toLoadRect X6) shapeCasts_S1x1x128x256_S128x256

theorem keysAt_eq (arg5 : Memref sig .tc .vmem S1x4096x128 .bf16) (harg5 : arg5.IsWhole) (x2 : Vec F S1x4096x128 .bf16) (off : Fin 3 → ℕ)
    (inb : ∀ a, off a + S1x256x128.size a ≤ S1x4096x128.size a) (n : ℕ) (hn : n < 16) (h : off = ![0, 256 * n, 0]) :
    keysAt arg5 (harg5.unread x2) off inb = keyBlk x2 n := by
  subst h
  unfold keyBlk
  refine congrArg (fun w => shapeCast S256x128 w shapeCasts_S1x256x128_S256x128) (funext fun j => ?_)
  rw [View.readAt_apply, harg5.read_unread]
  congr 1
  have hj : (j 1).val < 256 := (j 1).isLt
  funext a
  apply Fin.ext
  match a with
  | ⟨0, _⟩ => show 0 + 1 * (j 0).val = 0; have : (j 0).val < 1 := (j 0).isLt; omega
  | ⟨1, _⟩ => show 256 * n + 1 * (j 1).val = (256 * n + (j 1).val) % 4096; omega
  | ⟨2, _⟩ => show 0 + 1 * (j 2).val = (j 2).val; omega

theorem valsAt_eq (arg6 : Memref sig .tc .vmem S1x16x128x256 .bf16) (harg6 : arg6.IsWhole) (x3 : Vec F S1x16x128x256 .bf16) (off : Fin 4 → ℕ)
    (inb : ∀ a, off a + S1x1x128x256.size a ≤ S1x16x128x256.size a) (n : ℕ) (hn : n < 16) (h : off = ![0, n, 0, 0]) :
    valsAt arg6 (harg6.unread x3) off inb = valBlk x3 n := by
  subst h
  unfold valBlk
  refine congrArg (fun w => shapeCast S128x256 w shapeCasts_S1x1x128x256_S128x256) (funext fun j => ?_)
  rw [View.readAt_apply, harg6.read_unread]
  congr 1
  have hj : (j 1).val < 1 := (j 1).isLt
  funext a
  apply Fin.ext
  match a with
  | ⟨0, _⟩ => show 0 + 1 * (j 0).val = 0; have : (j 0).val < 1 := (j 0).isLt; omega
  | ⟨1, _⟩ => show n + 1 * (j 1).val = n % 16; omega
  | ⟨2, _⟩ => show 0 + 1 * (j 2).val = (j 2).val; omega
  | ⟨3, _⟩ => show 0 + 1 * (j 3).val = (j 3).val; omega

theorem biasAt_eq (arg7 : Memref sig .tc .vmem S1x2x256x256 .f32) (harg7 : arg7.IsWhole) (x4 : Vec F S1x2x256x256 .f32) (n : Fin 2)
    (inb : ∀ a, (![0, n.val, 0, 0] : Fin 4 → ℕ) a + S1x1x256x256.size a ≤ S1x2x256x256.size a) :
    arg7.view.readAt (Elt F) (Rect.unit (s := S1x2x256x256) ![0, n.val, 0, 0] S1x1x256x256.size inb).toLoadRect (harg7.unread x4) = biasBlk x4 n := by
  unfold biasBlk
  funext j
  rw [View.readAt_apply, harg7.read_unread]
  congr 1
  funext a
  apply Fin.ext
  match a with
  | ⟨0, _⟩ => show 0 + 1 * (j 0).val = 0; have : (j 0).val < 1 := (j 0).isLt; omega
  | ⟨1, _⟩ => show n.val + 1 * (j 1).val = n.val; have : (j 1).val < 1 := (j 1).isLt; omega
  | ⟨2, _⟩ => show 0 + 1 * (j 2).val = (j 2).val; omega
  | ⟨3, _⟩ => show 0 + 1 * (j 3).val = (j 3).val; omega

/-! ### The offsets, by the number of the query block -/

/-- The number of a grid point's query block. -/
abbrev qblk (i : grid0.Coords) : Fin 16 := i 2

theorem word_trips : ∀ a : Fin 16, Scf.trips (0#32) (Scalar.addi 0#32 (Scalar.muli (Scalar.divsi (Scalar.subi (Scalar.maxsi (Scalar.subi (BitVec.ofNat 32 a.val) 1#32) 0#32) 0#32) 1#32) 1#32)) 1#32 = a.val - 1 := by
  decide +kernel
theorem word_loop_keys : ∀ k : Fin 16, (Scalar.indexCast (Scalar.muli (Scf.iv 0#32 1#32 k.val) 256#32)).toNat = 256 * k.val := by
  decide +kernel
theorem word_loop_vals : ∀ k : Fin 16, (Scalar.indexCast (Scf.iv 0#32 1#32 k.val)).toNat = k.val := by
  decide +kernel
theorem word_near_keys : ∀ a : Fin 16, 1 ≤ a.val → (Scalar.indexCast (Scalar.muli (Scalar.subi (BitVec.ofNat 32 a.val) 1#32) 256#32)).toNat = 256 * (a.val - 1) := by
  decide +kernel
theorem word_near_vals : ∀ a : Fin 16, 1 ≤ a.val → (Scalar.indexCast (Scalar.subi (BitVec.ofNat 32 a.val) 1#32)).toNat = a.val - 1 := by
  decide +kernel
theorem word_diag_keys : ∀ a : Fin 16, (Scalar.indexCast (Scalar.muli (BitVec.ofNat 32 a.val) 256#32)).toNat = 256 * a.val := by
  decide +kernel
theorem word_diag_vals : ∀ a : Fin 16, (Scalar.indexCast (BitVec.ofNat 32 a.val)).toNat = a.val := by
  decide +kernel

/-- The loop makes as many trips as there are blocks to the left of the one before the diagonal. -/
theorem trips_eq (i : grid0.Coords) : Scf.trips (k0_t1_loop i).lb (k0_t1_loop i).ub (k0_t1_loop i).st = (qblk i).val - 1 := word_trips (qblk i)
/-- The remainder loop makes no trip. -/
theorem rest_eq (i : grid0.Coords) : Scf.trips (k0_t2_loop i).lb (k0_t2_loop i).ub (k0_t2_loop i).st = 0 := Nat.le_zero.mp (k0_t2_abs i).2.1

theorem trip_lt (i : grid0.Coords) (k : Fin (k0_t1_loop i).trips) : k.val < 16 := by
  have h : k.val < (qblk i).val - 1 := lt_of_lt_of_eq k.isLt (trips_eq i)
  have := (qblk i).isLt
  omega

theorem off1_eq (i : grid0.Coords) (k : Fin (k0_t1_loop i).trips) : k0_off1 i k = ![0, 256 * k.val, 0] :=
  congrArg (fun n => (![0, n, 0] : Fin 3 → ℕ)) (word_loop_keys ⟨k.val, trip_lt i k⟩)
theorem off2_eq (i : grid0.Coords) (k : Fin (k0_t1_loop i).trips) : k0_off2 i k = ![0, k.val, 0, 0] :=
  congrArg (fun n => (![0, n, 0, 0] : Fin 4 → ℕ)) (word_loop_vals ⟨k.val, trip_lt i k⟩)
theorem off5_eq (i : grid0.Coords) (h : 1 ≤ (qblk i).val) : k0_off5 i = ![0, 256 * ((qblk i).val - 1), 0] :=
  congrArg (fun n => (![0, n, 0] : Fin 3 → ℕ)) (word_near_keys (qblk i) h)
theorem off6_eq (i : grid0.Coords) (h : 1 ≤ (qblk i).val) : k0_off6 i = ![0, (qblk i).val - 1, 0, 0] :=
  congrArg (fun n => (![0, n, 0, 0] : Fin 4 → ℕ)) (word_near_vals (qblk i) h)
theorem off7_eq (i : grid0.Coords) : k0_off7 i = ![0, 256 * (qblk i).val, 0] :=
  congrArg (fun n => (![0, n, 0] : Fin 3 → ℕ)) (word_diag_keys (qblk i))
theorem off8_eq (i : grid0.Coords) : k0_off8 i = ![0, (qblk i).val, 0, 0] :=
  congrArg (fun n => (![0, n, 0, 0] : Fin 4 → ℕ)) (word_diag_vals (qblk i))

/-! ## The scores of every block of a grid point -/

/-- The scores of block `n` against query block `qn`. -/
@[expose] def scores (x2 : Vec F S1x4096x128 .bf16) (x4 : Vec F S1x2x256x256 .f32) (q : FVec F S128x256 .bf16) (qn n : ℕ) : FVec F S256x256 .f32 :=
  if n = qn then scoreDiag okDiag (keyBlk x2 n) q (biasBlk x4 0)
  else if n + 1 = qn then scoreNear (keyBlk x2 n) q (biasBlk x4 1) else score (keyBlk x2 n) q

/-- One map's state at the end of query block `qn`. -/
@[expose] def mapState (x2 : Vec F S1x4096x128 .bf16) (x3 : Vec F S1x16x128x256 .bf16) (x4 : Vec F S1x2x256x256 .f32) (q : FVec F S128x256 .bf16) (qn : ℕ) : St F :=
  chain (scores x2 x4 q qn) (valBlk x3) (qn + 1)

/-- The output block of a grid point, from the two maps' states. -/
@[expose] def outBlk (lam : F .f32) (s0 s1 : St F) (g : Vec F S1x128 .f32) : Vec F S1x256x128 .bf16 :=
  k0_pay1 (k0_pay98 lam s0.a s0.l s1.a s1.l) g

section Run

variable (c : Dev nD) (i : grid0.Coords) (arg3 : Memref sig .tc .smem S1x1 .f32) (harg3 : arg3.IsWhole) (arg4 : Memref sig .tc .vmem S1x1x128x256 .bf16) (harg4 : arg4.IsWhole)
  (arg5 : Memref sig .tc .vmem S1x4096x128 .bf16) (harg5 : arg5.IsWhole) (arg6 : Memref sig .tc .vmem S1x16x128x256 .bf16) (harg6 : arg6.IsWhole)
  (arg7 : Memref sig .tc .vmem S1x2x256x256 .f32) (harg7 : arg7.IsWhole) (arg8 : Memref sig .tc .vmem S1x128 .f32) (harg8 : arg8.IsWhole)
  (arg9 : Memref sig .tc .vmem S1x256x128 .bf16) (harg9 : arg9.IsWhole) (arg10 : Memref sig .tc .vmem S2x128x256 .f32) (harg10 : arg10.IsWhole)
  (arg11 : Memref sig .tc .vmem S2x1x256 .f32) (harg11 : arg11.IsWhole) (arg12 : Memref sig .tc .vmem S2x1x256 .f32) (harg12 : arg12.IsWhole)

/-! ### The loop -/

section Trip

variable (arg2 : BitVec 32) (v6 v9 : FVec F S128x256 .bf16) (w0 w1 w2 : BitVec 32) (X5 : BufTy.Contents (Elt F) arg5.view.ty) (X6 : BufTy.Contents (Elt F) arg6.view.ty)
  (k : Fin (k0_t1_loop i).trips)
  (f10 : BufTy.Contents (Elt F) arg10.view.ty) (f11 : BufTy.Contents (Elt F) arg11.view.ty) (f12 : BufTy.Contents (Elt F) arg12.view.ty)

/-- What a trip stores into the accumulator scratch. -/
theorem trip_acc :
    (trip_k0_t1 (F := F) Variants.none c none i arg3 harg3 arg4 harg4 arg5 harg5 arg6 harg6 arg7 harg7 arg8 harg8 arg9 harg9 arg10 harg10 arg11 harg11 arg12 harg12 arg2 v6 v9 w0 w1 w2 X5 X6 k).1 f10 f11 f12
      = [⟨accR1, accStep (score (keysAt arg5 X5 (k0_off1 i k) (k0_off1_inb i k)) v9) (valsAt arg6 X6 (k0_off2 i k) (k0_off2_inb i k))
            (arg11.view.readAt (Elt F) rowR1.toLoadRect f11) (arg10.view.readAt (Elt F) accR1.toLoadRect f10)⟩,
         ⟨accR0, accStep (score (keysAt arg5 X5 (k0_off1 i k) (k0_off1_inb i k)) v6) (valsAt arg6 X6 (k0_off2 i k) (k0_off2_inb i k))
            (arg11.view.readAt (Elt F) rowR0.toLoadRect f11) (arg10.view.readAt (Elt F) accR0.toLoadRect f10)⟩] := by
  unfold trip_k0_t1
  with_unfolding_all rfl

/-- What a trip stores into the scratch of running maxima. -/
theorem trip_max :
    (trip_k0_t1 (F := F) Variants.none c none i arg3 harg3 arg4 harg4 arg5 harg5 arg6 harg6 arg7 harg7 arg8 harg8 arg9 harg9 arg10 harg10 arg11 harg11 arg12 harg12 arg2 v6 v9 w0 w1 w2 X5 X6 k).2.1 f10 f11 f12
      = [⟨rowR1, maxStep (score (keysAt arg5 X5 (k0_off1 i k) (k0_off1_inb i k)) v9) (arg11.view.readAt (Elt F) rowR1.toLoadRect f11)⟩,
         ⟨rowR0, maxStep (score (keysAt arg5 X5 (k0_off1 i k) (k0_off1_inb i k)) v6) (arg11.view.readAt (Elt F) rowR0.toLoadRect f11)⟩] := by
  unfold trip_k0_t1
  with_unfolding_all rfl

/-- What a trip stores into the scratch of running sums. -/
theorem trip_sum :
    (trip_k0_t1 (F := F) Variants.none c none i arg3 harg3 arg4 harg4 arg5 harg5 arg6 harg6 arg7 harg7 arg8 harg8 arg9 harg9 arg10 harg10 arg11 harg11 arg12 harg12 arg2 v6 v9 w0 w1 w2 X5 X6 k).2.2.1 f10 f11 f12
      = [⟨rowR1, sumStep (score (keysAt arg5 X5 (k0_off1 i k) (k0_off1_inb i k)) v9) (arg11.view.readAt (Elt F) rowR1.toLoadRect f11) (arg12.view.readAt (Elt F) rowR1.toLoadRect f12)⟩,
         ⟨rowR0, sumStep (score (keysAt arg5 X5 (k0_off1 i k) (k0_off1_inb i k)) v6) (arg11.view.readAt (Elt F) rowR0.toLoadRect f11) (arg12.view.readAt (Elt F) rowR0.toLoadRect f12)⟩] := by
  unfold trip_k0_t1
  with_unfolding_all rfl

end Trip

section Loop

variable (arg2 : BitVec 32) (v6 v9 : FVec F S128x256 .bf16) (w0 w1 w2 : BitVec 32)
  (x2 : Vec F S1x4096x128 .bf16) (x3 : Vec F S1x16x128x256 .bf16) (x4 : Vec F S1x2x256x256 .f32)

/-- Trip after trip, the scratch arrays hold the chains of the two maps. -/
theorem loop_holds (G10 : BufTy.Contents (Elt F) arg10.view.ty) (G11 : BufTy.Contents (Elt F) arg11.view.ty) (G12 : BufTy.Contents (Elt F) arg12.view.ty)
    (hG : Holds arg10 arg11 arg12 G10 G11 G12 St.zero St.zero) :
    ∀ k ≤ (qblk i).val - 1, Holds arg10 arg11 arg12
      (arg10.view.writes (Elt F) G10 (pb_k0_t1 (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) G10 G11 G12 k).1)
      (arg11.view.writes (Elt F) G11 (pb_k0_t1 (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) G10 G11 G12 k).2.1)
      (arg12.view.writes (Elt F) G12 (pb_k0_t1 (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) G10 G11 G12 k).2.2)
      (chain (scores x2 x4 v6 (qblk i).val) (valBlk x3) k) (chain (scores x2 x4 v9 (qblk i).val) (valBlk x3) k) := by
  intro k
  induction k with
  | zero => intro _; rw [pb_k0_t1.eq_1]; exact hG
  | succ k ih =>
    intro hk
    have ih := ih (by omega)
    have hk' : k < (k0_t1_loop i).trips := lt_of_lt_of_eq (show k < (qblk i).val - 1 by omega) (trips_eq i).symm
    have hs : ∀ v : FVec F S128x256 .bf16, scores x2 x4 v (qblk i).val k = score (keyBlk x2 k) v := fun v => by
      unfold scores; rw [if_neg (by omega), if_neg (by omega)]
    have hk16 : k < 16 := by have := (qblk i).isLt; omega
    have hkeys : keysAt arg5 (harg5.unread x2) (k0_off1 i ⟨k, hk'⟩) (k0_off1_inb i ⟨k, hk'⟩) = keyBlk x2 k := keysAt_eq arg5 harg5 x2 _ _ k hk16 (off1_eq i ⟨k, hk'⟩)
    have hvals : valsAt arg6 (harg6.unread x3) (k0_off2 i ⟨k, hk'⟩) (k0_off2_inb i ⟨k, hk'⟩) = valBlk x3 k := valsAt_eq arg6 harg6 x3 _ _ k hk16 (off2_eq i ⟨k, hk'⟩)
    have e := pb_k0_t1_succ (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) G10 G11 G12 ⟨k, hk'⟩
    have e0 := congrArg Prod.fst e
    have e1 := congrArg (fun p => p.2.1) e
    have e2 := congrArg (fun p => p.2.2) e
    dsimp only at e0 e1 e2
    rw [trip_acc, hkeys, hvals, ih.m0, ih.a0, ih.m1, ih.a1] at e0
    rw [trip_max, hkeys, ih.m0, ih.m1] at e1
    rw [trip_sum, hkeys, ih.m0, ih.l0, ih.m1, ih.l1] at e2
    rw [e0, e1, e2]
    have h := (ih.next0 (score (keyBlk x2 k) v6) (valBlk x3 k)).next1 (score (keyBlk x2 k) v9) (valBlk x3 k)
    show Holds arg10 arg11 arg12 _ _ _ ((chain _ _ k).next (scores x2 x4 v6 (qblk i).val k) (valBlk x3 k)) ((chain _ _ k).next (scores x2 x4 v9 (qblk i).val k) (valBlk x3 k))
    rw [hs, hs]
    exact h

/-- The scratch arrays before the first tile. -/
theorem init_holds : Holds (F := F) arg10 arg11 arg12
    (arg10.view.writes (Elt F) arg10.view.junk kernelRun0_A.sl.HS0_1)
    (arg11.view.writes (Elt F) arg11.view.junk kernelRun0_A.sl.HS1_1)
    (arg12.view.writes (Elt F) arg12.view.junk kernelRun0_A.sl.HS2_1) St.zero St.zero where
  m0 := load_whole arg11.view arg11.view.junk ![0, 0, 0] inb_S2x1x256_S2x1x256_0_0_0 k0_pay62 rowR0.toLoadRect
  l0 := load_whole arg12.view arg12.view.junk ![0, 0, 0] inb_S2x1x256_S2x1x256_0_0_0 k0_pay63 rowR0.toLoadRect
  a0 := load_whole arg10.view arg10.view.junk ![0, 0, 0] inb_S2x128x256_S2x128x256_0_0_0 k0_pay61 accR0.toLoadRect
  m1 := load_whole arg11.view arg11.view.junk ![0, 0, 0] inb_S2x1x256_S2x1x256_0_0_0 k0_pay62 rowR1.toLoadRect
  l1 := load_whole arg12.view arg12.view.junk ![0, 0, 0] inb_S2x1x256_S2x1x256_0_0_0 k0_pay63 rowR1.toLoadRect
  a1 := load_whole arg10.view arg10.view.junk ![0, 0, 0] inb_S2x128x256_S2x128x256_0_0_0 k0_pay61 accR1.toLoadRect

/-- The scratch arrays after both loops: the chains over all blocks but the last two. -/
theorem loops_hold (H10 : BufTy.Contents (Elt F) arg10.view.ty) (H11 : BufTy.Contents (Elt F) arg11.view.ty) (H12 : BufTy.Contents (Elt F) arg12.view.ty) :
    Holds arg10 arg11 arg12
      (arg10.view.writes (Elt F) arg10.view.junk ((pb_k0_t2 (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) H10 H11 H12 (Scf.trips (k0_t2_loop i).lb (k0_t2_loop i).ub (k0_t2_loop i).st)).1 ++ ((pb_k0_t1 (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) (arg10.view.writes (Elt F) arg10.view.junk kernelRun0_A.sl.HS0_1) (arg11.view.writes (Elt F) arg11.view.junk kernelRun0_A.sl.HS1_1) (arg12.view.writes (Elt F) arg12.view.junk kernelRun0_A.sl.HS2_1) (Scf.trips (k0_t1_loop i).lb (k0_t1_loop i).ub (k0_t1_loop i).st)).1 ++ kernelRun0_A.sl.HS0_1)))
      (arg11.view.writes (Elt F) arg11.view.junk ((pb_k0_t2 (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) H10 H11 H12 (Scf.trips (k0_t2_loop i).lb (k0_t2_loop i).ub (k0_t2_loop i).st)).2.1 ++ ((pb_k0_t1 (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) (arg10.view.writes (Elt F) arg10.view.junk kernelRun0_A.sl.HS0_1) (arg11.view.writes (Elt F) arg11.view.junk kernelRun0_A.sl.HS1_1) (arg12.view.writes (Elt F) arg12.view.junk kernelRun0_A.sl.HS2_1) (Scf.trips (k0_t1_loop i).lb (k0_t1_loop i).ub (k0_t1_loop i).st)).2.1 ++ kernelRun0_A.sl.HS1_1)))
      (arg12.view.writes (Elt F) arg12.view.junk ((pb_k0_t2 (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) H10 H11 H12 (Scf.trips (k0_t2_loop i).lb (k0_t2_loop i).ub (k0_t2_loop i).st)).2.2 ++ ((pb_k0_t1 (F := F) Variants.none c none i arg3 harg3 arg4 harg4 arg5 harg5 arg6 harg6 arg7 harg7 arg8 harg8 arg9 harg9 arg10 harg10 arg11 harg11 arg12 harg12 arg2 v6 v9 w0 w1 w2 (harg5.unread x2) (harg6.unread x3) (arg10.view.writes (Elt F) arg10.view.junk kernelRun0_A.sl.HS0_1) (arg11.view.writes (Elt F) arg11.view.junk kernelRun0_A.sl.HS1_1) (arg12.view.writes (Elt F) arg12.view.junk kernelRun0_A.sl.HS2_1) (Scf.trips (k0_t1_loop i).lb (k0_t1_loop i).ub (k0_t1_loop i).st)).2.2 ++ kernelRun0_A.sl.HS2_1)))
      (chain (scores x2 x4 v6 (qblk i).val) (valBlk x3) ((qblk i).val - 1)) (chain (scores x2 x4 v9 (qblk i).val) (valBlk x3) ((qblk i).val - 1)) := by
  rw [rest_eq, trips_eq, pb_k0_t2.eq_1]
  simp only [List.nil_append]
  rw [View.writes_append, View.writes_append, View.writes_append]
  exact loop_holds c i arg3 harg3 arg4 harg4 arg5 harg5 arg6 harg6 arg7 harg7 arg8 harg8 arg9 harg9 arg10 harg10 arg11 harg11 arg12 harg12 arg2 v6 v9 w0 w1 w2 x2 x3 x4 _ _ _ (init_holds arg10 arg11 arg12) _ le_rfl

end Loop

/-! ### The two cases -/

section Cases

variable (x0 : Vec F S1x1 .f32) (x1 : Vec F S1x1x128x256 .bf16) (x2 : Vec F S1x4096x128 .bf16) (x3 : Vec F S1x16x128x256 .bf16) (x4 : Vec F S1x2x256x256 .f32) (x5 : Vec F S1x128 .f32)

/-- The queries of a grid point, as they are loaded. -/
theorem load_query : arg4.view.readAt (Elt F) (Rect.unit (s := S1x1x128x256) ![0, 0, 0, 0] S1x1x128x256.size inb_S1x1x128x256_S1x1x128x256_0_0_0_0).toLoadRect (harg4.unread x1) = x1 := by
  funext j
  rw [View.readAt_apply, harg4.read_unread]
  refine congrArg x1 (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 0 + 1 * (j 3).val = (j 3).val; omega

theorem biasInb : ∀ a, (![0, 1, 0, 0] : Fin 4 → ℕ) a + S1x1x256x256.size a ≤ S1x2x256x256.size a := by decide

/-- The scratch arrays after the loops, in case A. -/
theorem loopsA : Holds arg10 arg11 arg12 (arg10.view.writes (Elt F) arg10.view.junk (kernelRun0_A.sl.HS0_1_1 c i arg3 harg3 arg4 harg4 arg5 harg5 arg6 harg6 arg7 harg7 arg8 harg8 arg9 harg9 arg10 harg10 arg11 harg11 arg12 harg12 x1 x2 x3 x4).tail) (arg11.view.writes (Elt F) arg11.view.junk (kernelRun0_A.sl.HS1_1_1 c i arg3 harg3 arg4 harg4 arg5 harg5 arg6 harg6 arg7 harg7 arg8 harg8 arg9 harg9 arg10 harg10 arg11 harg11 arg12 harg12 x1 x2 x3 x4).tail) (arg12.view.writes (Elt F) arg12.view.junk (kernelRun0_A.sl.HS2_1_1 c i arg3 harg3 arg4 harg4 arg5 harg5 arg6 harg6 arg7 harg7 arg8 harg8 arg9 harg9 arg10 harg10 arg11 harg11 arg12 harg12 x1 x2 x3 x4).tail) (chain (scores x2 x4 (kernelRun0_A.sl.r c arg4 harg4 x1) (qblk i).val) (valBlk x3) ((qblk i).val - 1)) (chain (scores x2 x4 (kernelRun0_A.sl.r_1 c arg4 harg4 x1) (qblk i).val) (valBlk x3) ((qblk i).val - 1)) := by
  have h := loops_hold c i arg3 harg3 arg4 harg4 arg5 harg5 arg6 harg6 arg7 harg7 arg8 harg8 arg9 harg9 arg10 harg10 arg11 harg11 arg12 harg12 (BitVec.ofNat 32 ↑(i 2)) (kernelRun0_A.sl.r c arg4 harg4 x1) (kernelRun0_A.sl.r_1 c arg4 harg4 x1) 0#32 (kernelRun0_A.sl.v28 i) 1#32 x2 x3 x4
  with_unfolding_all exact h _ _ _

/-- The scratch arrays after the loops, in case B. -/
theorem loopsB (hc0 : cond0_0 i) : Holds arg10 arg11 arg12 (arg10.view.writes (Elt F) arg10.view.junk (kernelRun0_B.sl.HS0_1_1 c i arg3 harg3 arg4 harg4 arg5 harg5 arg6 harg6 arg7 harg7 arg8 harg8 arg9 harg9 arg10 harg10 arg11 harg11 arg12 harg12 hc0 x1 x2 x3 x4).tail) (arg11.view.writes (Elt F) arg11.view.junk (kernelRun0_B.sl.HS1_1_1 c i arg3 harg3 arg4 harg4 arg5 harg5 arg6 harg6 arg7 harg7 arg8 harg8 arg9 harg9 arg10 harg10 arg11 harg11 arg12 harg12 hc0 x1 x2 x3 x4).tail) (arg12.view.writes (Elt F) arg12.view.junk (kernelRun0_B.sl.HS2_1_1 c i arg3 harg3 arg4 harg4 arg5 harg5 arg6 harg6 arg7 harg7 arg8 harg8 arg9 harg9 arg10 harg10 arg11 harg11 arg12 harg12 hc0 x1 x2 x3 x4).tail) (chain (scores x2 x4 (kernelRun0_B.sl.r c arg4 harg4 x1) (qblk i).val) (valBlk x3) ((qblk i).val - 1)) (chain (scores x2 x4 (kernelRun0_B.sl.r_1 c arg4 harg4 x1) (qblk i).val) (valBlk x3) ((qblk i).val - 1)) := by
  have h := loops_hold c i arg3 harg3 arg4 harg4 arg5 harg5 arg6 harg6 arg7 harg7 arg8 harg8 arg9 harg9 arg10 harg10 arg11 harg11 arg12 harg12 (BitVec.ofNat 32 ↑(i 2)) (kernelRun0_B.sl.r c arg4 harg4 x1) (kernelRun0_B.sl.r_1 c arg4 harg4 x1) 0#32 (kernelRun0_B.sl.v28 i) 1#32 x2 x3 x4
  with_unfolding_all exact h _ _ _

/-- What the diagonal tile stores for the first map, when it is the only tile. -/
theorem diagA0_acc (s0 s1 : St F) (h : Holds arg10 arg11 arg12 (arg10.view.writes (Elt F) arg10.view.junk (kernelRun0_A.sl.HS0_1_1 c i arg3 harg3 arg4 harg4 arg5 harg5 arg6 harg6 arg7 harg7 arg8 harg8 arg9 harg9 arg10 harg10 arg11 harg11 arg12 harg12 x1 x2 x3 x4).tail) (arg11.view.writes (Elt F) arg11.view.junk (kernelRun0_A.sl.HS1_1_1 c i arg3 harg3 arg4 harg4 arg5 harg5 arg6 harg6 arg7 harg7 arg8 harg8 arg9 harg9 arg10 harg10 arg11 harg11 arg12 harg12 x1 x2 x3 x4).tail) (arg12.view.writes (Elt F) arg12.view.junk (kernelRun0_A.sl.HS2_1_1 c i arg3 harg3 arg4 harg4 arg5 harg5 arg6 harg6 arg7 harg7 arg8 harg8 arg9 harg9 arg10 harg10 arg11 harg11 arg12 harg12 x1 x2 x3 x4).tail) s0 s1) : (kernelRun0_A.sl.HS0_1_1 c i arg3 harg3 arg4 harg4 arg5 harg5 arg6 harg6 arg7 harg7 arg8 harg8 arg9 harg9 arg10 harg10 arg11 harg11 arg12 harg12 x1 x2 x3 x4) = ⟨accR0, accStep (scoreDiag okDiag (keysAt arg5 (harg5.unread x2) (k0_off7 i) (k0_off7_inb i)) (kernelRun0_A.sl.r c arg4 harg4 x1) (arg7.view.readAt (Elt F) (Rect.unit (s := S1x2x256x256) ![0, 0, 0, 0] S1x1x256x256.size inb_S1x2x256x256_S1x1x256x256_0_0_0_0).toLoadRect (harg7.unread x4))) (valsAt arg6 (harg6.unread x3) (k0_off8 i) (k0_off8_inb i)) s0.m s0.a⟩ :: (kernelRun0_A.sl.HS0_1_1 c i arg3 harg3 arg4 harg4 arg5 harg5 arg6 harg6 arg7 harg7 arg8 harg8 arg9 harg9 arg10 harg10 arg11 harg11 arg12 harg12 x1 x2 x3 x4).tail := by
  rw [← h.m0, ← h.a0]; with_unfolding_all rfl

/-- What the diagonal tile stores for the first map, when it is the only tile. -/
theorem diagA0_max (s0 s1 : St F) (h : Holds arg10 arg11 arg12 (arg10.view.writes (Elt F) arg10.view.junk (kernelRun0_A.sl.HS0_1_1 c i arg3 harg3 arg4 harg4 arg5 harg5 arg6 harg6 arg7 harg7 arg8 harg8 arg9 harg9 arg10 harg10 arg11 harg11 arg12 harg12 x1 x2 x3 x4).tail) (arg11.view.writes (Elt F) arg11.view.junk (kernelRun0_A.sl.HS1_1_1 c i arg3 harg3 arg4 harg4 arg5 harg5 arg6 harg6 arg7 harg7 arg8 harg8 arg9 harg9 arg10 harg10 arg11 harg11 arg12 harg12 x1 x2 x3 x4).tail) (arg12.view.writes (Elt F) arg12.view.junk (kernelRun0_A.sl.HS2_1_1 c i arg3 harg3 arg4 harg4 arg5 harg5 arg6 harg6 arg7 harg7 arg8 harg8 arg9 harg9 arg10 harg10 arg11 harg11 arg12 harg12 x1 x2 x3 x4).tail) s0 s1) : (kernelRun0_A.sl.HS1_1_1 c i arg3 harg3 arg4 harg4 arg5 harg5 arg6 harg6 arg7 harg7 arg8 harg8 arg9 harg9 arg10 harg10 arg11 harg11 arg12 harg12 x1 x2 x3 x4) = ⟨rowR0, maxStep (scoreDiag okDiag (keysAt arg5 (harg5.unread x2) (k0_off7 i) (k0_off7_inb i)) (kernelRun0_A.sl.r c arg4 harg4 x1) (arg7.view.readAt (Elt F) (Rect.unit (s := S1x2x256x256) ![0, 0, 0, 0] S1x1x256x256.size inb_S1x2x256x256_S1x1x256x256_0_0_0_0).toLoadRect (harg7.unread x4))) s0.m⟩ :: (kernelRun0_A.sl.HS1_1_1 c i arg3 harg3 arg4 harg4 arg5 harg5 arg6 harg6 arg7 harg7 arg8 harg8 arg9 harg9 arg10 harg10 arg11 harg11 arg12 harg12 x1 x2 x3 x4).tail := by
  rw [← h.m0]; with_unfolding_all rfl

/-- What the diagonal tile stores for the first map, when it is the only tile. -/
theorem diagA0_sum (s0 s1 : St F) (h : Holds arg10 arg11 arg12 (arg10.view.writes (Elt F) arg10.view.junk (kernelRun0_A.sl.HS0_1_1 c i arg3 harg3 arg4 harg4 arg5 harg5 arg6 harg6 arg7 harg7 arg8 harg8 arg9 harg9 arg10 harg10 arg11 harg11 arg12 harg12 x1 x2 x3 x4).tail) (arg11.view.writes (Elt F) arg11.view.junk (kernelRun0_A.sl.HS1_1_1 c i arg3 harg3 arg4 harg4 arg5 harg5 arg6 harg6 arg7 harg7 arg8 harg8 arg9 harg9 arg10 harg10 arg11 harg11 arg12 harg12 x1 x2 x3 x4).tail) (arg12.view.writes (Elt F) arg12.view.junk (kernelRun0_A.sl.HS2_1_1 c i arg3 harg3 arg4 harg4 arg5 harg5 arg6 harg6 arg7 harg7 arg8 harg8 arg9 harg9 arg10 harg10 arg11 harg11 arg12 harg12 x1 x2 x3 x4).tail) s0 s1) : (kernelRun0_A.sl.HS2_1_1 c i arg3 harg3 arg4 harg4 arg5 harg5 arg6 harg6 arg7 harg7 arg8 harg8 arg9 harg9 arg10 harg10 arg11 harg11 arg12 harg12 x1 x2 x3 x4) = ⟨rowR0, sumStep (scoreDiag okDiag (keysAt arg5 (harg5.unread x2) (k0_off7 i) (k0_off7_inb i)) (kernelRun0_A.sl.r c arg4 harg4 x1) (arg7.view.readAt (Elt F) (Rect.unit (s := S1x2x256x256) ![0, 0, 0, 0] S1x1x256x256.size inb_S1x2x256x256_S1x1x256x256_0_0_0_0).toLoadRect (harg7.unread x4))) s0.m s0.l⟩ :: (kernelRun0_A.sl.HS2_1_1 c i arg3 harg3 arg4 harg4 arg5 harg5 arg6 harg6 arg7 harg7 arg8 harg8 arg9 harg9 arg10 harg10 arg11 harg11 arg12 harg12 x1 x2 x3 x4).tail := by
  rw [← h.m0, ← h.l0]; with_unfolding_all rfl

/-- What the diagonal tile stores for the second map, when it is the only tile. -/
theorem diagA1_acc (s0 s1 : St F) (h : Holds arg10 arg11 arg12 (arg10.view.writes (Elt F) arg10.view.junk (kernelRun0_A.sl.HS0_1_1 c i arg3 harg3 arg4 harg4 arg5 harg5 arg6 harg6 arg7 harg7 arg8 harg8 arg9 harg9 arg10 harg10 arg11 harg11 arg12 harg12 x1 x2 x3 x4)) (arg11.view.writes (Elt F) arg11.view.junk (kernelRun0_A.sl.HS1_1_1 c i arg3 harg3 arg4 harg4 arg5 harg5 arg6 harg6 arg7 harg7 arg8 harg8 arg9 harg9 arg10 harg10 arg11 harg11 arg12 harg12 x1 x2 x3 x4)) (arg12.view.writes (Elt F) arg12.view.junk (kernelRun0_A.sl.HS2_1_1 c i arg3 harg3 arg4 harg4 arg5 harg5 arg6 harg6 arg7 harg7 arg8 harg8 arg9 harg9 arg10 harg10 arg11 harg11 arg12 harg12 x1 x2 x3 x4)) s0 s1) : (kernelRun0_A.sl.HS0_2 c i arg3 harg3 arg4 harg4 arg5 harg5 arg6 harg6 arg7 harg7 arg8 harg8 arg9 harg9 arg10 harg10 arg11 harg11 arg12 harg12 x1 x2 x3 x4) = ⟨accR1, accStep (scoreDiag okDiag (keysAt arg5 (harg5.unread x2) (k0_off7 i) (k0_off7_inb i)) (kernelRun0_A.sl.r_1 c arg4 harg4 x1) (arg7.view.readAt (Elt F) (Rect.unit (s := S1x2x256x256) ![0, 0, 0, 0] S1x1x256x256.size inb_S1x2x256x256_S1x1x256x256_0_0_0_0).toLoadRect (harg7.unread x4))) (valsAt arg6 (harg6.unread x3) (k0_off8 i) (k0_off8_inb i)) s1.m s1.a⟩ :: (kernelRun0_A.sl.HS0_1_1 c i arg3 harg3 arg4 harg4 arg5 harg5 arg6 harg6 arg7 harg7 arg8 harg8 arg9 harg9 arg10 harg10 arg11 harg11 arg12 harg12 x1 x2 x3 x4) := by
  rw [← h.m1, ← h.a1]; with_unfolding_all rfl

/-- What the diagonal tile stores for the second map, when it is the only tile. -/
theorem diagA1_sum (s0 s1 : St F) (h : Holds arg10 arg11 arg12 (arg10.view.writes (Elt F) arg10.view.junk (kernelRun0_A.sl.HS0_1_1 c i arg3 harg3 arg4 harg4 arg5 harg5 arg6 harg6 arg7 harg7 arg8 harg8 arg9 harg9 arg10 harg10 arg11 harg11 arg12 harg12 x1 x2 x3 x4)) (arg11.view.writes (Elt F) arg11.view.junk (kernelRun0_A.sl.HS1_1_1 c i arg3 harg3 arg4 harg4 arg5 harg5 arg6 harg6 arg7 harg7 arg8 harg8 arg9 harg9 arg10 harg10 arg11 harg11 arg12 harg12 x1 x2 x3 x4)) (arg12.view.writes (Elt F) arg12.view.junk (kernelRun0_A.sl.HS2_1_1 c i arg3 harg3 arg4 harg4 arg5 harg5 arg6 harg6 arg7 harg7 arg8 harg8 arg9 harg9 arg10 harg10 arg11 harg11 arg12 harg12 x1 x2 x3 x4)) s0 s1) : (kernelRun0_A.sl.HS2_2 c i arg3 harg3 arg4 harg4 arg5 harg5 arg6 harg6 arg7 harg7 arg8 harg8 arg9 harg9 arg10 harg10 arg11 harg11 arg12 harg12 x1 x2 x3 x4) = ⟨rowR1, sumStep (scoreDiag okDiag (keysAt arg5 (harg5.unread x2) (k0_off7 i) (k0_off7_inb i)) (kernelRun0_A.sl.r_1 c arg4 harg4 x1) (arg7.view.readAt (Elt F) (Rect.unit (s := S1x2x256x256) ![0, 0, 0, 0] S1x1x256x256.size inb_S1x2x256x256_S1x1x256x256_0_0_0_0).toLoadRect (harg7.unread x4))) s1.m s1.l⟩ :: (kernelRun0_A.sl.HS2_1_1 c i arg3 harg3 arg4 harg4 arg5 harg5 arg6 harg6 arg7 harg7 arg8 harg8 arg9 harg9 arg10 harg10 arg11 harg11 arg12 harg12 x1 x2 x3 x4) := by
  rw [← h.m1, ← h.l1]; with_unfolding_all rfl

/-- What the tile before the diagonal stores for the first map. -/
theorem nearB0_acc (hc0 : cond0_0 i) (s0 s1 : St F) (h : Holds arg10 arg11 arg12 (arg10.view.writes (Elt F) arg10.view.junk (kernelRun0_B.sl.HS0_1_1 c i arg3 harg3 arg4 harg4 arg5 harg5 arg6 harg6 arg7 harg7 arg8 harg8 arg9 harg9 arg10 harg10 arg11 harg11 arg12 harg12 hc0 x1 x2 x3 x4).tail) (arg11.view.writes (Elt F) arg11.view.junk (kernelRun0_B.sl.HS1_1_1 c i arg3 harg3 arg4 harg4 arg5 harg5 arg6 harg6 arg7 harg7 arg8 harg8 arg9 harg9 arg10 harg10 arg11 harg11 arg12 harg12 hc0 x1 x2 x3 x4).tail) (arg12.view.writes (Elt F) arg12.view.junk (kernelRun0_B.sl.HS2_1_1 c i arg3 harg3 arg4 harg4 arg5 harg5 arg6 harg6 arg7 harg7 arg8 harg8 arg9 harg9 arg10 harg10 arg11 harg11 arg12 harg12 hc0 x1 x2 x3 x4).tail) s0 s1) : (kernelRun0_B.sl.HS0_1_1 c i arg3 harg3 arg4 harg4 arg5 harg5 arg6 harg6 arg7 harg7 arg8 harg8 arg9 harg9 arg10 harg10 arg11 harg11 arg12 harg12 hc0 x1 x2 x3 x4) = ⟨accR0, accStep (scoreNear (keysAt arg5 (harg5.unread x2) (k0_off5 i) (k0_off5_inb i hc0)) (kernelRun0_B.sl.r c arg4 harg4 x1) (arg7.view.readAt (Elt F) (Rect.unit (s := S1x2x256x256) ![0, 1, 0, 0] S1x1x256x256.size biasInb).toLoadRect (harg7.unread x4))) (valsAt arg6 (harg6.unread x3) (k0_off6 i) (k0_off6_inb i hc0)) s0.m s0.a⟩ :: (kernelRun0_B.sl.HS0_1_1 c i arg3 harg3 arg4 harg4 arg5 harg5 arg6 harg6 arg7 harg7 arg8 harg8 arg9 harg9 arg10 harg10 arg11 harg11 arg12 harg12 hc0 x1 x2 x3 x4).tail := by
  rw [← h.m0, ← h.a0]; with_unfolding_all rfl

/-- What the tile before the diagonal stores for the first map. -/
theorem nearB0_max (hc0 : cond0_0 i) (s0 s1 : St F) (h : Holds arg10 arg11 arg12 (arg10.view.writes (Elt F) arg10.view.junk (kernelRun0_B.sl.HS0_1_1 c i arg3 harg3 arg4 harg4 arg5 harg5 arg6 harg6 arg7 harg7 arg8 harg8 arg9 harg9 arg10 harg10 arg11 harg11 arg12 harg12 hc0 x1 x2 x3 x4).tail) (arg11.view.writes (Elt F) arg11.view.junk (kernelRun0_B.sl.HS1_1_1 c i arg3 harg3 arg4 harg4 arg5 harg5 arg6 harg6 arg7 harg7 arg8 harg8 arg9 harg9 arg10 harg10 arg11 harg11 arg12 harg12 hc0 x1 x2 x3 x4).tail) (arg12.view.writes (Elt F) arg12.view.junk (kernelRun0_B.sl.HS2_1_1 c i arg3 harg3 arg4 harg4 arg5 harg5 arg6 harg6 arg7 harg7 arg8 harg8 arg9 harg9 arg10 harg10 arg11 harg11 arg12 harg12 hc0 x1 x2 x3 x4).tail) s0 s1) : (kernelRun0_B.sl.HS1_1_1 c i arg3 harg3 arg4 harg4 arg5 harg5 arg6 harg6 arg7 harg7 arg8 harg8 arg9 harg9 arg10 harg10 arg11 harg11 arg12 harg12 hc0 x1 x2 x3 x4) = ⟨rowR0, maxStep (scoreNear (keysAt arg5 (harg5.unread x2) (k0_off5 i) (k0_off5_inb i hc0)) (kernelRun0_B.sl.r c arg4 harg4 x1) (arg7.view.readAt (Elt F) (Rect.unit (s := S1x2x256x256) ![0, 1, 0, 0] S1x1x256x256.size biasInb).toLoadRect (harg7.unread x4))) s0.m⟩ :: (kernelRun0_B.sl.HS1_1_1 c i arg3 harg3 arg4 harg4 arg5 harg5 arg6 harg6 arg7 harg7 arg8 harg8 arg9 harg9 arg10 harg10 arg11 harg11 arg12 harg12 hc0 x1 x2 x3 x4).tail := by
  rw [← h.m0]; with_unfolding_all rfl

/-- What the tile before the diagonal stores for the first map. -/
theorem nearB0_sum (hc0 : cond0_0 i) (s0 s1 : St F) (h : Holds arg10 arg11 arg12 (arg10.view.writes (Elt F) arg10.view.junk (kernelRun0_B.sl.HS0_1_1 c i arg3 harg3 arg4 harg4 arg5 harg5 arg6 harg6 arg7 harg7 arg8 harg8 arg9 harg9 arg10 harg10 arg11 harg11 arg12 harg12 hc0 x1 x2 x3 x4).tail) (arg11.view.writes (Elt F) arg11.view.junk (kernelRun0_B.sl.HS1_1_1 c i arg3 harg3 arg4 harg4 arg5 harg5 arg6 harg6 arg7 harg7 arg8 harg8 arg9 harg9 arg10 harg10 arg11 harg11 arg12 harg12 hc0 x1 x2 x3 x4).tail) (arg12.view.writes (Elt F) arg12.view.junk (kernelRun0_B.sl.HS2_1_1 c i arg3 harg3 arg4 harg4 arg5 harg5 arg6 harg6 arg7 harg7 arg8 harg8 arg9 harg9 arg10 harg10 arg11 harg11 arg12 harg12 hc0 x1 x2 x3 x4).tail) s0 s1) : (kernelRun0_B.sl.HS2_1_1 c i arg3 harg3 arg4 harg4 arg5 harg5 arg6 harg6 arg7 harg7 arg8 harg8 arg9 harg9 arg10 harg10 arg11 harg11 arg12 harg12 hc0 x1 x2 x3 x4) = ⟨rowR0, sumStep (scoreNear (keysAt arg5 (harg5.unread x2) (k0_off5 i) (k0_off5_inb i hc0)) (kernelRun0_B.sl.r c arg4 harg4 x1) (arg7.view.readAt (Elt F) (Rect.unit (s := S1x2x256x256) ![0, 1, 0, 0] S1x1x256x256.size biasInb).toLoadRect (harg7.unread x4))) s0.m s0.l⟩ :: (kernelRun0_B.sl.HS2_1_1 c i arg3 harg3 arg4 harg4 arg5 harg5 arg6 harg6 arg7 harg7 arg8 harg8 arg9 harg9 arg10 harg10 arg11 harg11 arg12 harg12 hc0 x1 x2 x3 x4).tail := by
  rw [← h.m0, ← h.l0]; with_unfolding_all rfl

/-- What the tile before the diagonal stores for the second map. -/
theorem nearB1_acc (hc0 : cond0_0 i) (s0 s1 : St F) (h : Holds arg10 arg11 arg12 (arg10.view.writes (Elt F) arg10.view.junk (kernelRun0_B.sl.HS0_1_1 c i arg3 harg3 arg4 harg4 arg5 harg5 arg6 harg6 arg7 harg7 arg8 harg8 arg9 harg9 arg10 harg10 arg11 harg11 arg12 harg12 hc0 x1 x2 x3 x4)) (arg11.view.writes (Elt F) arg11.view.junk (kernelRun0_B.sl.HS1_1_1 c i arg3 harg3 arg4 harg4 arg5 harg5 arg6 harg6 arg7 harg7 arg8 harg8 arg9 harg9 arg10 harg10 arg11 harg11 arg12 harg12 hc0 x1 x2 x3 x4)) (arg12.view.writes (Elt F) arg12.view.junk (kernelRun0_B.sl.HS2_1_1 c i arg3 harg3 arg4 harg4 arg5 harg5 arg6 harg6 arg7 harg7 arg8 harg8 arg9 harg9 arg10 harg10 arg11 harg11 arg12 harg12 hc0 x1 x2 x3 x4)) s0 s1) : (kernelRun0_B.sl.HS0_2 c i arg3 harg3 arg4 harg4 arg5 harg5 arg6 harg6 arg7 harg7 arg8 harg8 arg9 harg9 arg10 harg10 arg11 harg11 arg12 harg12 hc0 x1 x2 x3 x4) = ⟨accR1, accStep (scoreNear (keysAt arg5 (harg5.unread x2) (k0_off5 i) (k0_off5_inb i hc0)) (kernelRun0_B.sl.r_1 c arg4 harg4 x1) (arg7.view.readAt (Elt F) (Rect.unit (s := S1x2x256x256) ![0, 1, 0, 0] S1x1x256x256.size biasInb).toLoadRect (harg7.unread x4))) (valsAt arg6 (harg6.unread x3) (k0_off6 i) (k0_off6_inb i hc0)) s1.m s1.a⟩ :: (kernelRun0_B.sl.HS0_1_1 c i arg3 harg3 arg4 harg4 arg5 harg5 arg6 harg6 arg7 harg7 arg8 harg8 arg9 harg9 arg10 harg10 arg11 harg11 arg12 harg12 hc0 x1 x2 x3 x4) := by
  rw [← h.m1, ← h.a1]; with_unfolding_all rfl

/-- What the tile before the diagonal stores for the second map. -/
theorem nearB1_max (hc0 : cond0_0 i) (s0 s1 : St F) (h : Holds arg10 arg11 arg12 (arg10.view.writes (Elt F) arg10.view.junk (kernelRun0_B.sl.HS0_1_1 c i arg3 harg3 arg4 harg4 arg5 harg5 arg6 harg6 arg7 harg7 arg8 harg8 arg9 harg9 arg10 harg10 arg11 harg11 arg12 harg12 hc0 x1 x2 x3 x4)) (arg11.view.writes (Elt F) arg11.view.junk (kernelRun0_B.sl.HS1_1_1 c i arg3 harg3 arg4 harg4 arg5 harg5 arg6 harg6 arg7 harg7 arg8 harg8 arg9 harg9 arg10 harg10 arg11 harg11 arg12 harg12 hc0 x1 x2 x3 x4)) (arg12.view.writes (Elt F) arg12.view.junk (kernelRun0_B.sl.HS2_1_1 c i arg3 harg3 arg4 harg4 arg5 harg5 arg6 harg6 arg7 harg7 arg8 harg8 arg9 harg9 arg10 harg10 arg11 harg11 arg12 harg12 hc0 x1 x2 x3 x4)) s0 s1) : (kernelRun0_B.sl.HS1_2 c i arg3 harg3 arg4 harg4 arg5 harg5 arg6 harg6 arg7 harg7 arg8 harg8 arg9 harg9 arg10 harg10 arg11 harg11 arg12 harg12 hc0 x1 x2 x3 x4) = ⟨rowR1, maxStep (scoreNear (keysAt arg5 (harg5.unread x2) (k0_off5 i) (k0_off5_inb i hc0)) (kernelRun0_B.sl.r_1 c arg4 harg4 x1) (arg7.view.readAt (Elt F) (Rect.unit (s := S1x2x256x256) ![0, 1, 0, 0] S1x1x256x256.size biasInb).toLoadRect (harg7.unread x4))) s1.m⟩ :: (kernelRun0_B.sl.HS1_1_1 c i arg3 harg3 arg4 harg4 arg5 harg5 arg6 harg6 arg7 harg7 arg8 harg8 arg9 harg9 arg10 harg10 arg11 harg11 arg12 harg12 hc0 x1 x2 x3 x4) := by
  rw [← h.m1]; with_unfolding_all rfl

/-- What the tile before the diagonal stores for the second map. -/
theorem nearB1_sum (hc0 : cond0_0 i) (s0 s1 : St F) (h : Holds arg10 arg11 arg12 (arg10.view.writes (Elt F) arg10.view.junk (kernelRun0_B.sl.HS0_1_1 c i arg3 harg3 arg4 harg4 arg5 harg5 arg6 harg6 arg7 harg7 arg8 harg8 arg9 harg9 arg10 harg10 arg11 harg11 arg12 harg12 hc0 x1 x2 x3 x4)) (arg11.view.writes (Elt F) arg11.view.junk (kernelRun0_B.sl.HS1_1_1 c i arg3 harg3 arg4 harg4 arg5 harg5 arg6 harg6 arg7 harg7 arg8 harg8 arg9 harg9 arg10 harg10 arg11 harg11 arg12 harg12 hc0 x1 x2 x3 x4)) (arg12.view.writes (Elt F) arg12.view.junk (kernelRun0_B.sl.HS2_1_1 c i arg3 harg3 arg4 harg4 arg5 harg5 arg6 harg6 arg7 harg7 arg8 harg8 arg9 harg9 arg10 harg10 arg11 harg11 arg12 harg12 hc0 x1 x2 x3 x4)) s0 s1) : (kernelRun0_B.sl.HS2_2 c i arg3 harg3 arg4 harg4 arg5 harg5 arg6 harg6 arg7 harg7 arg8 harg8 arg9 harg9 arg10 harg10 arg11 harg11 arg12 harg12 hc0 x1 x2 x3 x4) = ⟨rowR1, sumStep (scoreNear (keysAt arg5 (harg5.unread x2) (k0_off5 i) (k0_off5_inb i hc0)) (kernelRun0_B.sl.r_1 c arg4 harg4 x1) (arg7.view.readAt (Elt F) (Rect.unit (s := S1x2x256x256) ![0, 1, 0, 0] S1x1x256x256.size biasInb).toLoadRect (harg7.unread x4))) s1.m s1.l⟩ :: (kernelRun0_B.sl.HS2_1_1 c i arg3 harg3 arg4 harg4 arg5 harg5 arg6 harg6 arg7 harg7 arg8 harg8 arg9 harg9 arg10 harg10 arg11 harg11 arg12 harg12 hc0 x1 x2 x3 x4) := by
  rw [← h.m1, ← h.l1]; with_unfolding_all rfl

/-- What the diagonal tile stores for the first map, after others. -/
theorem diagB0_acc (hc0 : cond0_0 i) (s0 s1 : St F) (h : Holds arg10 arg11 arg12 (arg10.view.writes (Elt F) arg10.view.junk (kernelRun0_B.sl.HS0_2 c i arg3 harg3 arg4 harg4 arg5 harg5 arg6 harg6 arg7 harg7 arg8 harg8 arg9 harg9 arg10 harg10 arg11 harg11 arg12 harg12 hc0 x1 x2 x3 x4)) (arg11.view.writes (Elt F) arg11.view.junk (kernelRun0_B.sl.HS1_2 c i arg3 harg3 arg4 harg4 arg5 harg5 arg6 harg6 arg7 harg7 arg8 harg8 arg9 harg9 arg10 harg10 arg11 harg11 arg12 harg12 hc0 x1 x2 x3 x4)) (arg12.view.writes (Elt F) arg12.view.junk (kernelRun0_B.sl.HS2_2 c i arg3 harg3 arg4 harg4 arg5 harg5 arg6 harg6 arg7 harg7 arg8 harg8 arg9 harg9 arg10 harg10 arg11 harg11 arg12 harg12 hc0 x1 x2 x3 x4)) s0 s1) : (kernelRun0_B.sl.HS0_3 c i arg3 harg3 arg4 harg4 arg5 harg5 arg6 harg6 arg7 harg7 arg8 harg8 arg9 harg9 arg10 harg10 arg11 harg11 arg12 harg12 hc0 x1 x2 x3 x4) = ⟨accR0, accStep (scoreDiag okDiag (keysAt arg5 (harg5.unread x2) (k0_off7 i) (k0_off7_inb i)) (kernelRun0_B.sl.r c arg4 harg4 x1) (arg7.view.readAt (Elt F) (Rect.unit (s := S1x2x256x256) ![0, 0, 0, 0] S1x1x256x256.size inb_S1x2x256x256_S1x1x256x256_0_0_0_0).toLoadRect (harg7.unread x4))) (valsAt arg6 (harg6.unread x3) (k0_off8 i) (k0_off8_inb i)) s0.m s0.a⟩ :: (kernelRun0_B.sl.HS0_2 c i arg3 harg3 arg4 harg4 arg5 harg5 arg6 harg6 arg7 harg7 arg8 harg8 arg9 harg9 arg10 harg10 arg11 harg11 arg12 harg12 hc0 x1 x2 x3 x4) := by
  rw [← h.m0, ← h.a0]; with_unfolding_all rfl

/-- What the diagonal tile stores for the first map, after others. -/
theorem diagB0_max (hc0 : cond0_0 i) (s0 s1 : St F) (h : Holds arg10 arg11 arg12 (arg10.view.writes (Elt F) arg10.view.junk (kernelRun0_B.sl.HS0_2 c i arg3 harg3 arg4 harg4 arg5 harg5 arg6 harg6 arg7 harg7 arg8 harg8 arg9 harg9 arg10 harg10 arg11 harg11 arg12 harg12 hc0 x1 x2 x3 x4)) (arg11.view.writes (Elt F) arg11.view.junk (kernelRun0_B.sl.HS1_2 c i arg3 harg3 arg4 harg4 arg5 harg5 arg6 harg6 arg7 harg7 arg8 harg8 arg9 harg9 arg10 harg10 arg11 harg11 arg12 harg12 hc0 x1 x2 x3 x4)) (arg12.view.writes (Elt F) arg12.view.junk (kernelRun0_B.sl.HS2_2 c i arg3 harg3 arg4 harg4 arg5 harg5 arg6 harg6 arg7 harg7 arg8 harg8 arg9 harg9 arg10 harg10 arg11 harg11 arg12 harg12 hc0 x1 x2 x3 x4)) s0 s1) : (kernelRun0_B.sl.HS1_3 c i arg3 harg3 arg4 harg4 arg5 harg5 arg6 harg6 arg7 harg7 arg8 harg8 arg9 harg9 arg10 harg10 arg11 harg11 arg12 harg12 hc0 x1 x2 x3 x4) = ⟨rowR0, maxStep (scoreDiag okDiag (keysAt arg5 (harg5.unread x2) (k0_off7 i) (k0_off7_inb i)) (kernelRun0_B.sl.r c arg4 harg4 x1) (arg7.view.readAt (Elt F) (Rect.unit (s := S1x2x256x256) ![0, 0, 0, 0] S1x1x256x256.size inb_S1x2x256x256_S1x1x256x256_0_0_0_0).toLoadRect (harg7.unread x4))) s0.m⟩ :: (kernelRun0_B.sl.HS1_2 c i arg3 harg3 arg4 harg4 arg5 harg5 arg6 harg6 arg7 harg7 arg8 harg8 arg9 harg9 arg10 harg10 arg11 harg11 arg12 harg12 hc0 x1 x2 x3 x4) := by
  rw [← h.m0]; with_unfolding_all rfl

/-- What the diagonal tile stores for the first map, after others. -/
theorem diagB0_sum (hc0 : cond0_0 i) (s0 s1 : St F) (h : Holds arg10 arg11 arg12 (arg10.view.writes (Elt F) arg10.view.junk (kernelRun0_B.sl.HS0_2 c i arg3 harg3 arg4 harg4 arg5 harg5 arg6 harg6 arg7 harg7 arg8 harg8 arg9 harg9 arg10 harg10 arg11 harg11 arg12 harg12 hc0 x1 x2 x3 x4)) (arg11.view.writes (Elt F) arg11.view.junk (kernelRun0_B.sl.HS1_2 c i arg3 harg3 arg4 harg4 arg5 harg5 arg6 harg6 arg7 harg7 arg8 harg8 arg9 harg9 arg10 harg10 arg11 harg11 arg12 harg12 hc0 x1 x2 x3 x4)) (arg12.view.writes (Elt F) arg12.view.junk (kernelRun0_B.sl.HS2_2 c i arg3 harg3 arg4 harg4 arg5 harg5 arg6 harg6 arg7 harg7 arg8 harg8 arg9 harg9 arg10 harg10 arg11 harg11 arg12 harg12 hc0 x1 x2 x3 x4)) s0 s1) : (kernelRun0_B.sl.HS2_3 c i arg3 harg3 arg4 harg4 arg5 harg5 arg6 harg6 arg7 harg7 arg8 harg8 arg9 harg9 arg10 harg10 arg11 harg11 arg12 harg12 hc0 x1 x2 x3 x4) = ⟨rowR0, sumStep (scoreDiag okDiag (keysAt arg5 (harg5.unread x2) (k0_off7 i) (k0_off7_inb i)) (kernelRun0_B.sl.r c arg4 harg4 x1) (arg7.view.readAt (Elt F) (Rect.unit (s := S1x2x256x256) ![0, 0, 0, 0] S1x1x256x256.size inb_S1x2x256x256_S1x1x256x256_0_0_0_0).toLoadRect (harg7.unread x4))) s0.m s0.l⟩ :: (kernelRun0_B.sl.HS2_2 c i arg3 harg3 arg4 harg4 arg5 harg5 arg6 harg6 arg7 harg7 arg8 harg8 arg9 harg9 arg10 harg10 arg11 harg11 arg12 harg12 hc0 x1 x2 x3 x4) := by
  rw [← h.m0, ← h.l0]; with_unfolding_all rfl

/-- What the diagonal tile stores for the second map, after others. -/
theorem diagB1_acc (hc0 : cond0_0 i) (s0 s1 : St F) (h : Holds arg10 arg11 arg12 (arg10.view.writes (Elt F) arg10.view.junk (kernelRun0_B.sl.HS0_3 c i arg3 harg3 arg4 harg4 arg5 harg5 arg6 harg6 arg7 harg7 arg8 harg8 arg9 harg9 arg10 harg10 arg11 harg11 arg12 harg12 hc0 x1 x2 x3 x4)) (arg11.view.writes (Elt F) arg11.view.junk (kernelRun0_B.sl.HS1_3 c i arg3 harg3 arg4 harg4 arg5 harg5 arg6 harg6 arg7 harg7 arg8 harg8 arg9 harg9 arg10 harg10 arg11 harg11 arg12 harg12 hc0 x1 x2 x3 x4)) (arg12.view.writes (Elt F) arg12.view.junk (kernelRun0_B.sl.HS2_3 c i arg3 harg3 arg4 harg4 arg5 harg5 arg6 harg6 arg7 harg7 arg8 harg8 arg9 harg9 arg10 harg10 arg11 harg11 arg12 harg12 hc0 x1 x2 x3 x4)) s0 s1) : (kernelRun0_B.sl.HS0_4 c i arg3 harg3 arg4 harg4 arg5 harg5 arg6 harg6 arg7 harg7 arg8 harg8 arg9 harg9 arg10 harg10 arg11 harg11 arg12 harg12 hc0 x1 x2 x3 x4) = ⟨accR1, accStep (scoreDiag okDiag (keysAt arg5 (harg5.unread x2) (k0_off7 i) (k0_off7_inb i)) (kernelRun0_B.sl.r_1 c arg4 harg4 x1) (arg7.view.readAt (Elt F) (Rect.unit (s := S1x2x256x256) ![0, 0, 0, 0] S1x1x256x256.size inb_S1x2x256x256_S1x1x256x256_0_0_0_0).toLoadRect (harg7.unread x4))) (valsAt arg6 (harg6.unread x3) (k0_off8 i) (k0_off8_inb i)) s1.m s1.a⟩ :: (kernelRun0_B.sl.HS0_3 c i arg3 harg3 arg4 harg4 arg5 harg5 arg6 harg6 arg7 harg7 arg8 harg8 arg9 harg9 arg10 harg10 arg11 harg11 arg12 harg12 hc0 x1 x2 x3 x4) := by
  rw [← h.m1, ← h.a1]; with_unfolding_all rfl

/-- What the diagonal tile stores for the second map, after others. -/
theorem diagB1_sum (hc0 : cond0_0 i) (s0 s1 : St F) (h : Holds arg10 arg11 arg12 (arg10.view.writes (Elt F) arg10.view.junk (kernelRun0_B.sl.HS0_3 c i arg3 harg3 arg4 harg4 arg5 harg5 arg6 harg6 arg7 harg7 arg8 harg8 arg9 harg9 arg10 harg10 arg11 harg11 arg12 harg12 hc0 x1 x2 x3 x4)) (arg11.view.writes (Elt F) arg11.view.junk (kernelRun0_B.sl.HS1_3 c i arg3 harg3 arg4 harg4 arg5 harg5 arg6 harg6 arg7 harg7 arg8 harg8 arg9 harg9 arg10 harg10 arg11 harg11 arg12 harg12 hc0 x1 x2 x3 x4)) (arg12.view.writes (Elt F) arg12.view.junk (kernelRun0_B.sl.HS2_3 c i arg3 harg3 arg4 harg4 arg5 harg5 arg6 harg6 arg7 harg7 arg8 harg8 arg9 harg9 arg10 harg10 arg11 harg11 arg12 harg12 hc0 x1 x2 x3 x4)) s0 s1) : (kernelRun0_B.sl.HS2_4 c i arg3 harg3 arg4 harg4 arg5 harg5 arg6 harg6 arg7 harg7 arg8 harg8 arg9 harg9 arg10 harg10 arg11 harg11 arg12 harg12 hc0 x1 x2 x3 x4) = ⟨rowR1, sumStep (scoreDiag okDiag (keysAt arg5 (harg5.unread x2) (k0_off7 i) (k0_off7_inb i)) (kernelRun0_B.sl.r_1 c arg4 harg4 x1) (arg7.view.readAt (Elt F) (Rect.unit (s := S1x2x256x256) ![0, 0, 0, 0] S1x1x256x256.size inb_S1x2x256x256_S1x1x256x256_0_0_0_0).toLoadRect (harg7.unread x4))) s1.m s1.l⟩ :: (kernelRun0_B.sl.HS2_3 c i arg3 harg3 arg4 harg4 arg5 harg5 arg6 harg6 arg7 harg7 arg8 harg8 arg9 harg9 arg10 harg10 arg11 harg11 arg12 harg12 hc0 x1 x2 x3 x4) := by
  rw [← h.m1, ← h.l1]; with_unfolding_all rfl

/-- What a grid point reads back at its end, in case A. -/
theorem endsA (hq : (qblk i).val = 0) :
    (kernelRun0_A.sl.v204 c i arg3 harg3 arg4 harg4 arg5 harg5 arg6 harg6 arg7 harg7 arg8 harg8 arg9 harg9 arg10 harg10 arg11 harg11 arg12 harg12 x1 x2 x3 x4) = (mapState x2 x3 x4 (query0 x1) (qblk i).val).a ∧ (kernelRun0_A.sl.v206 c i arg3 harg3 arg4 harg4 arg5 harg5 arg6 harg6 arg7 harg7 arg8 harg8 arg9 harg9 arg10 harg10 arg11 harg11 arg12 harg12 x1 x2 x3 x4) = (mapState x2 x3 x4 (query0 x1) (qblk i).val).l
    ∧ (kernelRun0_A.sl.v210 c i arg3 harg3 arg4 harg4 arg5 harg5 arg6 harg6 arg7 harg7 arg8 harg8 arg9 harg9 arg10 harg10 arg11 harg11 arg12 harg12 x1 x2 x3 x4) = (mapState x2 x3 x4 (query1 x1) (qblk i).val).a ∧ (kernelRun0_A.sl.v212 c i arg3 harg3 arg4 harg4 arg5 harg5 arg6 harg6 arg7 harg7 arg8 harg8 arg9 harg9 arg10 harg10 arg11 harg11 arg12 harg12 x1 x2 x3 x4) = (mapState x2 x3 x4 (query1 x1) (qblk i).val).l := by
  have q0 : (kernelRun0_A.sl.r c arg4 harg4 x1) = query0 x1 := congrArg k0_pay59 (load_query arg4 harg4 x1)
  have q1 : (kernelRun0_A.sl.r_1 c arg4 harg4 x1) = query1 x1 := congrArg k0_pay60 (load_query arg4 harg4 x1)
  have hlt := (qblk i).isLt
  have hdk : (keysAt arg5 (harg5.unread x2) (k0_off7 i) (k0_off7_inb i)) = keyBlk x2 (qblk i).val := keysAt_eq arg5 harg5 x2 _ _ _ hlt (off7_eq i)
  have hdv : (valsAt arg6 (harg6.unread x3) (k0_off8 i) (k0_off8_inb i)) = valBlk x3 (qblk i).val := valsAt_eq arg6 harg6 x3 _ _ _ hlt (off8_eq i)
  have hb0 : (arg7.view.readAt (Elt F) (Rect.unit (s := S1x2x256x256) ![0, 0, 0, 0] S1x1x256x256.size inb_S1x2x256x256_S1x1x256x256_0_0_0_0).toLoadRect (harg7.unread x4)) = biasBlk x4 0 := biasAt_eq arg7 harg7 x4 0 _
  have hzd : ∀ q, scoreDiag okDiag (keysAt arg5 (harg5.unread x2) (k0_off7 i) (k0_off7_inb i)) q (arg7.view.readAt (Elt F) (Rect.unit (s := S1x2x256x256) ![0, 0, 0, 0] S1x1x256x256.size inb_S1x2x256x256_S1x1x256x256_0_0_0_0).toLoadRect (harg7.unread x4)) = scores x2 x4 q (qblk i).val (qblk i).val := fun q => by
    rw [hdk, hb0]; unfold scores; rw [if_pos rfl]
  have h0 := loopsA c i arg3 harg3 arg4 harg4 arg5 harg5 arg6 harg6 arg7 harg7 arg8 harg8 arg9 harg9 arg10 harg10 arg11 harg11 arg12 harg12 x1 x2 x3 x4
  have diagA0 := h0.next0 (scoreDiag okDiag (keysAt arg5 (harg5.unread x2) (k0_off7 i) (k0_off7_inb i)) (kernelRun0_A.sl.r c arg4 harg4 x1) (arg7.view.readAt (Elt F) (Rect.unit (s := S1x2x256x256) ![0, 0, 0, 0] S1x1x256x256.size inb_S1x2x256x256_S1x1x256x256_0_0_0_0).toLoadRect (harg7.unread x4))) (valsAt arg6 (harg6.unread x3) (k0_off8 i) (k0_off8_inb i))
  rw [← diagA0_acc c i arg3 harg3 arg4 harg4 arg5 harg5 arg6 harg6 arg7 harg7 arg8 harg8 arg9 harg9 arg10 harg10 arg11 harg11 arg12 harg12 x1 x2 x3 x4 _ _ h0, ← diagA0_max c i arg3 harg3 arg4 harg4 arg5 harg5 arg6 harg6 arg7 harg7 arg8 harg8 arg9 harg9 arg10 harg10 arg11 harg11 arg12 harg12 x1 x2 x3 x4 _ _ h0, ← diagA0_sum c i arg3 harg3 arg4 harg4 arg5 harg5 arg6 harg6 arg7 harg7 arg8 harg8 arg9 harg9 arg10 harg10 arg11 harg11 arg12 harg12 x1 x2 x3 x4 _ _ h0] at diagA0
  have e0 := diagA1_acc c i arg3 harg3 arg4 harg4 arg5 harg5 arg6 harg6 arg7 harg7 arg8 harg8 arg9 harg9 arg10 harg10 arg11 harg11 arg12 harg12 x1 x2 x3 x4 _ _ diagA0
  have e2 := diagA1_sum c i arg3 harg3 arg4 harg4 arg5 harg5 arg6 harg6 arg7 harg7 arg8 harg8 arg9 harg9 arg10 harg10 arg11 harg11 arg12 harg12 x1 x2 x3 x4 _ _ diagA0
  have hf := diagA0.next1 (scoreDiag okDiag (keysAt arg5 (harg5.unread x2) (k0_off7 i) (k0_off7_inb i)) (kernelRun0_A.sl.r_1 c arg4 harg4 x1) (arg7.view.readAt (Elt F) (Rect.unit (s := S1x2x256x256) ![0, 0, 0, 0] S1x1x256x256.size inb_S1x2x256x256_S1x1x256x256_0_0_0_0).toLoadRect (harg7.unread x4))) (valsAt arg6 (harg6.unread x3) (k0_off8 i) (k0_off8_inb i))
  rw [← e0, ← e2] at hf
  rw [hzd, hzd, hdv, q0, q1] at hf
  have s0 : (chain (scores x2 x4 (query0 x1) (qblk i).val) (valBlk x3) ((qblk i).val - 1)).next (scores x2 x4 (query0 x1) (qblk i).val (qblk i).val) (valBlk x3 (qblk i).val) = (mapState x2 x3 x4 (query0 x1) (qblk i).val) := by
    rw [mapState, hq]; rfl
  have s1 : (chain (scores x2 x4 (query1 x1) (qblk i).val) (valBlk x3) ((qblk i).val - 1)).next (scores x2 x4 (query1 x1) (qblk i).val (qblk i).val) (valBlk x3 (qblk i).val) = (mapState x2 x3 x4 (query1 x1) (qblk i).val) := by
    rw [mapState, hq]; rfl
  rw [s0, s1] at hf
  exact ⟨hf.a0, hf.l0, hf.a1, hf.l1⟩

/-- What a grid point reads back at its end, in case B. -/
theorem endsB (hc0 : cond0_0 i) (hq : 1 ≤ (qblk i).val) :
    (kernelRun0_B.sl.v204 c i arg3 harg3 arg4 harg4 arg5 harg5 arg6 harg6 arg7 harg7 arg8 harg8 arg9 harg9 arg10 harg10 arg11 harg11 arg12 harg12 hc0 x1 x2 x3 x4) = (mapState x2 x3 x4 (query0 x1) (qblk i).val).a ∧ (kernelRun0_B.sl.v206 c i arg3 harg3 arg4 harg4 arg5 harg5 arg6 harg6 arg7 harg7 arg8 harg8 arg9 harg9 arg10 harg10 arg11 harg11 arg12 harg12 hc0 x1 x2 x3 x4) = (mapState x2 x3 x4 (query0 x1) (qblk i).val).l
    ∧ (kernelRun0_B.sl.v210 c i arg3 harg3 arg4 harg4 arg5 harg5 arg6 harg6 arg7 harg7 arg8 harg8 arg9 harg9 arg10 harg10 arg11 harg11 arg12 harg12 hc0 x1 x2 x3 x4) = (mapState x2 x3 x4 (query1 x1) (qblk i).val).a ∧ (kernelRun0_B.sl.v212 c i arg3 harg3 arg4 harg4 arg5 harg5 arg6 harg6 arg7 harg7 arg8 harg8 arg9 harg9 arg10 harg10 arg11 harg11 arg12 harg12 hc0 x1 x2 x3 x4) = (mapState x2 x3 x4 (query1 x1) (qblk i).val).l := by
  have q0 : (kernelRun0_B.sl.r c arg4 harg4 x1) = query0 x1 := congrArg k0_pay59 (load_query arg4 harg4 x1)
  have q1 : (kernelRun0_B.sl.r_1 c arg4 harg4 x1) = query1 x1 := congrArg k0_pay60 (load_query arg4 harg4 x1)
  have hlt := (qblk i).isLt
  have hdk : (keysAt arg5 (harg5.unread x2) (k0_off7 i) (k0_off7_inb i)) = keyBlk x2 (qblk i).val := keysAt_eq arg5 harg5 x2 _ _ _ hlt (off7_eq i)
  have hdv : (valsAt arg6 (harg6.unread x3) (k0_off8 i) (k0_off8_inb i)) = valBlk x3 (qblk i).val := valsAt_eq arg6 harg6 x3 _ _ _ hlt (off8_eq i)
  have hb0 : (arg7.view.readAt (Elt F) (Rect.unit (s := S1x2x256x256) ![0, 0, 0, 0] S1x1x256x256.size inb_S1x2x256x256_S1x1x256x256_0_0_0_0).toLoadRect (harg7.unread x4)) = biasBlk x4 0 := biasAt_eq arg7 harg7 x4 0 _
  have hzd : ∀ q, scoreDiag okDiag (keysAt arg5 (harg5.unread x2) (k0_off7 i) (k0_off7_inb i)) q (arg7.view.readAt (Elt F) (Rect.unit (s := S1x2x256x256) ![0, 0, 0, 0] S1x1x256x256.size inb_S1x2x256x256_S1x1x256x256_0_0_0_0).toLoadRect (harg7.unread x4)) = scores x2 x4 q (qblk i).val (qblk i).val := fun q => by
    rw [hdk, hb0]; unfold scores; rw [if_pos rfl]
  have hnk : (keysAt arg5 (harg5.unread x2) (k0_off5 i) (k0_off5_inb i hc0)) = keyBlk x2 ((qblk i).val - 1) := keysAt_eq arg5 harg5 x2 _ _ _ (by omega) (off5_eq i hq)
  have hnv : (valsAt arg6 (harg6.unread x3) (k0_off6 i) (k0_off6_inb i hc0)) = valBlk x3 ((qblk i).val - 1) := valsAt_eq arg6 harg6 x3 _ _ _ (by omega) (off6_eq i hq)
  have hb1 : (arg7.view.readAt (Elt F) (Rect.unit (s := S1x2x256x256) ![0, 1, 0, 0] S1x1x256x256.size biasInb).toLoadRect (harg7.unread x4)) = biasBlk x4 1 := biasAt_eq arg7 harg7 x4 1 _
  have hzn : ∀ q, scoreNear (keysAt arg5 (harg5.unread x2) (k0_off5 i) (k0_off5_inb i hc0)) q (arg7.view.readAt (Elt F) (Rect.unit (s := S1x2x256x256) ![0, 1, 0, 0] S1x1x256x256.size biasInb).toLoadRect (harg7.unread x4)) = scores x2 x4 q (qblk i).val ((qblk i).val - 1) := fun q => by
    rw [hnk, hb1]; unfold scores; rw [if_neg (by omega), if_pos (by omega)]
  have h0 := loopsB c i arg3 harg3 arg4 harg4 arg5 harg5 arg6 harg6 arg7 harg7 arg8 harg8 arg9 harg9 arg10 harg10 arg11 harg11 arg12 harg12 x1 x2 x3 x4 hc0
  have nearB0 := h0.next0 (scoreNear (keysAt arg5 (harg5.unread x2) (k0_off5 i) (k0_off5_inb i hc0)) (kernelRun0_B.sl.r c arg4 harg4 x1) (arg7.view.readAt (Elt F) (Rect.unit (s := S1x2x256x256) ![0, 1, 0, 0] S1x1x256x256.size biasInb).toLoadRect (harg7.unread x4))) (valsAt arg6 (harg6.unread x3) (k0_off6 i) (k0_off6_inb i hc0))
  rw [← nearB0_acc c i arg3 harg3 arg4 harg4 arg5 harg5 arg6 harg6 arg7 harg7 arg8 harg8 arg9 harg9 arg10 harg10 arg11 harg11 arg12 harg12 x1 x2 x3 x4 hc0 _ _ h0, ← nearB0_max c i arg3 harg3 arg4 harg4 arg5 harg5 arg6 harg6 arg7 harg7 arg8 harg8 arg9 harg9 arg10 harg10 arg11 harg11 arg12 harg12 x1 x2 x3 x4 hc0 _ _ h0, ← nearB0_sum c i arg3 harg3 arg4 harg4 arg5 harg5 arg6 harg6 arg7 harg7 arg8 harg8 arg9 harg9 arg10 harg10 arg11 harg11 arg12 harg12 x1 x2 x3 x4 hc0 _ _ h0] at nearB0
  have nearB1 := nearB0.next1 (scoreNear (keysAt arg5 (harg5.unread x2) (k0_off5 i) (k0_off5_inb i hc0)) (kernelRun0_B.sl.r_1 c arg4 harg4 x1) (arg7.view.readAt (Elt F) (Rect.unit (s := S1x2x256x256) ![0, 1, 0, 0] S1x1x256x256.size biasInb).toLoadRect (harg7.unread x4))) (valsAt arg6 (harg6.unread x3) (k0_off6 i) (k0_off6_inb i hc0))
  rw [← nearB1_acc c i arg3 harg3 arg4 harg4 arg5 harg5 arg6 harg6 arg7 harg7 arg8 harg8 arg9 harg9 arg10 harg10 arg11 harg11 arg12 harg12 x1 x2 x3 x4 hc0 _ _ nearB0, ← nearB1_max c i arg3 harg3 arg4 harg4 arg5 harg5 arg6 harg6 arg7 harg7 arg8 harg8 arg9 harg9 arg10 harg10 arg11 harg11 arg12 harg12 x1 x2 x3 x4 hc0 _ _ nearB0, ← nearB1_sum c i arg3 harg3 arg4 harg4 arg5 harg5 arg6 harg6 arg7 harg7 arg8 harg8 arg9 harg9 arg10 harg10 arg11 harg11 arg12 harg12 x1 x2 x3 x4 hc0 _ _ nearB0] at nearB1
  have diagB0 := nearB1.next0 (scoreDiag okDiag (keysAt arg5 (harg5.unread x2) (k0_off7 i) (k0_off7_inb i)) (kernelRun0_B.sl.r c arg4 harg4 x1) (arg7.view.readAt (Elt F) (Rect.unit (s := S1x2x256x256) ![0, 0, 0, 0] S1x1x256x256.size inb_S1x2x256x256_S1x1x256x256_0_0_0_0).toLoadRect (harg7.unread x4))) (valsAt arg6 (harg6.unread x3) (k0_off8 i) (k0_off8_inb i))
  rw [← diagB0_acc c i arg3 harg3 arg4 harg4 arg5 harg5 arg6 harg6 arg7 harg7 arg8 harg8 arg9 harg9 arg10 harg10 arg11 harg11 arg12 harg12 x1 x2 x3 x4 hc0 _ _ nearB1, ← diagB0_max c i arg3 harg3 arg4 harg4 arg5 harg5 arg6 harg6 arg7 harg7 arg8 harg8 arg9 harg9 arg10 harg10 arg11 harg11 arg12 harg12 x1 x2 x3 x4 hc0 _ _ nearB1, ← diagB0_sum c i arg3 harg3 arg4 harg4 arg5 harg5 arg6 harg6 arg7 harg7 arg8 harg8 arg9 harg9 arg10 harg10 arg11 harg11 arg12 harg12 x1 x2 x3 x4 hc0 _ _ nearB1] at diagB0
  have e0 := diagB1_acc c i arg3 harg3 arg4 harg4 arg5 harg5 arg6 harg6 arg7 harg7 arg8 harg8 arg9 harg9 arg10 harg10 arg11 harg11 arg12 harg12 x1 x2 x3 x4 hc0 _ _ diagB0
  have e2 := diagB1_sum c i arg3 harg3 arg4 harg4 arg5 harg5 arg6 harg6 arg7 harg7 arg8 harg8 arg9 harg9 arg10 harg10 arg11 harg11 arg12 harg12 x1 x2 x3 x4 hc0 _ _ diagB0
  have hf := diagB0.next1 (scoreDiag okDiag (keysAt arg5 (harg5.unread x2) (k0_off7 i) (k0_off7_inb i)) (kernelRun0_B.sl.r_1 c arg4 harg4 x1) (arg7.view.readAt (Elt F) (Rect.unit (s := S1x2x256x256) ![0, 0, 0, 0] S1x1x256x256.size inb_S1x2x256x256_S1x1x256x256_0_0_0_0).toLoadRect (harg7.unread x4))) (valsAt arg6 (harg6.unread x3) (k0_off8 i) (k0_off8_inb i))
  rw [← e0, ← e2] at hf
  rw [hzn, hzn, hnv, hzd, hzd, hdv, q0, q1] at hf
  have s0 : ((chain (scores x2 x4 (query0 x1) (qblk i).val) (valBlk x3) ((qblk i).val - 1)).next (scores x2 x4 (query0 x1) (qblk i).val ((qblk i).val - 1)) (valBlk x3 ((qblk i).val - 1))).next (scores x2 x4 (query0 x1) (qblk i).val (qblk i).val) (valBlk x3 (qblk i).val) = (mapState x2 x3 x4 (query0 x1) (qblk i).val) := by
    obtain ⟨p, hp⟩ : ∃ p, (qblk i).val = p + 1 := ⟨(qblk i).val - 1, by omega⟩
    rw [mapState, hp]; rfl
  have s1 : ((chain (scores x2 x4 (query1 x1) (qblk i).val) (valBlk x3) ((qblk i).val - 1)).next (scores x2 x4 (query1 x1) (qblk i).val ((qblk i).val - 1)) (valBlk x3 ((qblk i).val - 1))).next (scores x2 x4 (query1 x1) (qblk i).val (qblk i).val) (valBlk x3 (qblk i).val) = (mapState x2 x3 x4 (query1 x1) (qblk i).val) := by
    obtain ⟨p, hp⟩ : ∃ p, (qblk i).val = p + 1 := ⟨(qblk i).val - 1, by omega⟩
    rw [mapState, hp]; rfl
  rw [s0, s1] at hf
  exact ⟨hf.a0, hf.l0, hf.a1, hf.l1⟩

end Cases

end Run

end Cert.Da

end
-- ==== Proof.DiffValue.lean ====
/-
  The block that one grid point of the differential attention kernel writes, at one element and at the ideal values: the
  difference of two softmax means over the keys up to the query, normalized over the features of the head.
-/
module

public import Idealize.ShloMosaic.Lib.KernelVsHost
public import proofs.«01_k».proof.Proof.Rms
public import proofs.«01_k».proof.Proof.BlockValue
public import proofs.«01_k».proof.Proof.DiffReal
public import proofs.«01_k».proof.Proof.DiffChain

public section

set_option maxRecDepth 16384

noncomputable section

namespace Cert.Da

open Cert.DiffIdeal Cert.DiffIdeal.Gen Idealize.ShloMosaic Idealize.ShloMosaic.TcCoe Idealize.ShloMosaic.ValueIdx Idealize.SL.Sem
open Finset
open Cert.Sb (tok tok_lt tokWord tokWord_eq feat select_ofBool word_lt word_ge sum_lo sum_hi)

/-! ## The layout of rows -/

section Layout

variable {α : Type}

theorem toRow_apply (x : S256.Idx → α) (r : Fin 256) : shapeCast S1x256 x shapeCasts_S256_S1x256 (ix2 (0 : Fin 1) r) = x (ix1 r) := by
  refine shapeCast_apply x _ _ _ ?_
  refine (Shape.rowMajor_val_one _).trans (Eq.trans ?_ (Shape.rowMajor_val_two _).symm)
  show r.val = 0 * 256 + r.val
  omega

theorem rowsDown_apply (x : S1x256.Idx → α) (p r : Fin 256) : broadcastTo S256x256 x broadcasts_S1x256_S256x256 (ix2 p r) = x (ix2 (0 : Fin 1) r) := by
  refine broadcastTo_apply x _ _ _ fun a => ?_
  match a with
  | ⟨0, _⟩ => rfl
  | ⟨1, _⟩ => rfl

theorem featsDown_apply (x : S1x256.Idx → α) (f : Fin 128) (r : Fin 256) : broadcastTo S128x256 x broadcasts_S1x256_S128x256 (ix2 f r) = x (ix2 (0 : Fin 1) r) := by
  refine broadcastTo_apply x _ _ _ fun a => ?_
  match a with
  | ⟨0, _⟩ => rfl
  | ⟨1, _⟩ => rfl

theorem castTile_apply (x : S1x1x256x256.Idx → α) (p r : Fin 256) :
    shapeCast S256x256 x shapeCasts_S1x1x256x256_S256x256 (ix2 p r) = x (ix4 (0 : Fin 1) (0 : Fin 1) p r) := by
  refine shapeCast_apply x _ _ _ ?_
  refine (Shape.rowMajor_val_four _).trans (Eq.trans ?_ (Shape.rowMajor_val_two _).symm)
  show (((0 * 1 + 0) * 256 + p.val) * 256 + r.val) = p.val * 256 + r.val
  omega

theorem castFeats_apply (x : S1x1x128x256.Idx → α) (f : Fin 128) (r : Fin 256) :
    shapeCast S128x256 x shapeCasts_S1x1x128x256_S128x256 (ix2 f r) = x (ix4 (0 : Fin 1) (0 : Fin 1) f r) := by
  refine shapeCast_apply x _ _ _ ?_
  refine (Shape.rowMajor_val_four _).trans (Eq.trans ?_ (Shape.rowMajor_val_two _).symm)
  show (((0 * 1 + 0) * 128 + f.val) * 256 + r.val) = f.val * 256 + r.val
  omega

end Layout

theorem word_bot : Ideal.ofBits .f32 0xFF800000#32 = ⊥ := by simp [Ideal.ofBits, Ideal.ieee]

/-! ## A tile at one query -/

section Tile

variable (z : FVec Ideal S256x256 .f32) (vb : FVec Ideal S128x256 .bf16) (m l : Vec Ideal S1x1x256 .f32) (a : Vec Ideal S1x128x256 .f32) (r : Fin 256) (f : Fin 128)

/-- The largest of a column's elements. -/
theorem colMax_apply : multiReduction .maximumf [0] S256 z 0xFF800000#32 reduces_S256x256_S256 (.inl rfl) rfl (ix1 r)
    = listMax (List.finRange 256) fun p => z (ix2 p r) := by
  show reduceFold reduces_S256x256_S256 FloatOps.maximumf (FloatOps.ofBits .f32 0xFF800000#32) z (ix1 r) = _
  rw [reduceFold_rows]
  unfold listMax
  rw [show (FloatOps.ofBits .f32 0xFF800000#32 : Ideal .f32) = ⊥ from word_bot]
  refine congrArg (fun g => List.foldl g (⊥ : EReal) (List.finRange 256)) (funext fun acc => funext fun p => ?_)
  show max acc _ = max acc _
  refine congrArg (fun i => max acc (z i)) (funext fun b => Fin.ext ?_)
  match b with
  | ⟨0, _⟩ => rfl
  | ⟨1, _⟩ => rfl

/-- The sum of a column's elements. -/
theorem colSum_apply (w : FVec Ideal S256x256 .f32) : multiReduction .add [0] S256 w 0x00000000#32 reduces_S256x256_S256 (.inl rfl) rfl (ix1 r)
    = ∑ p : Fin 256, w (ix2 p r) := by
  refine (Ideal.multiReduction_add_single w _ reduces_S256x256_S256 (.inl rfl) rfl (ix1 r)).trans ?_
  refine Finset.sum_congr rfl fun p _ => congrArg w (funext fun b => Fin.ext ?_)
  match b with
  | ⟨0, _⟩ => rfl
  | ⟨1, _⟩ => rfl

theorem rowMax_apply : rowMax z m (ix2 (0 : Fin 1) r) = max (m (ix3 (0 : Fin 1) (0 : Fin 1) r)) (listMax (List.finRange 256) fun p => z (ix2 p r)) := by
  show max (shapeCast S1x256 m shapeCasts_S1x1x256_S1x256 (ix2 (0 : Fin 1) r)) (shapeCast S1x256 _ shapeCasts_S256_S1x256 (ix2 (0 : Fin 1) r)) = _
  rw [Cert.Rms.dropBlock_apply, toRow_apply, colMax_apply]

theorem rescale_apply : rescale z m (ix2 (0 : Fin 1) r) = Ideal.exp (m (ix3 (0 : Fin 1) (0 : Fin 1) r) - rowMax z m (ix2 (0 : Fin 1) r)) := by
  show Ideal.exp (shapeCast S1x256 m shapeCasts_S1x1x256_S1x256 (ix2 (0 : Fin 1) r) - _) = _
  rw [Cert.Rms.dropBlock_apply]

theorem weight_apply (p : Fin 256) : weight z m (ix2 p r) = Ideal.exp (z (ix2 p r) - rowMax z m (ix2 (0 : Fin 1) r)) := by
  show Ideal.exp (z (ix2 p r) - broadcastTo S256x256 (rowMax z m) broadcasts_S1x256_S256x256 (ix2 p r)) = _
  rw [rowsDown_apply]

theorem maxStep_apply : maxStep z m (ix3 (0 : Fin 1) (0 : Fin 1) r) = rowMax z m (ix2 (0 : Fin 1) r) :=
  Cert.Rms.addBlock_apply _ _ _ _

theorem sumStep_apply : sumStep z m l (ix3 (0 : Fin 1) (0 : Fin 1) r)
    = Ideal.exp (m (ix3 (0 : Fin 1) (0 : Fin 1) r) - rowMax z m (ix2 (0 : Fin 1) r)) * l (ix3 (0 : Fin 1) (0 : Fin 1) r)
      + ∑ p : Fin 256, Ideal.exp (z (ix2 p r) - rowMax z m (ix2 (0 : Fin 1) r)) := by
  refine (Cert.Rms.addBlock_apply _ _ _ _).trans ?_
  show rescale z m (ix2 (0 : Fin 1) r) * shapeCast S1x256 l shapeCasts_S1x1x256_S1x256 (ix2 (0 : Fin 1) r) + shapeCast S1x256 _ shapeCasts_S256_S1x256 (ix2 (0 : Fin 1) r) = _
  rw [Cert.Rms.dropBlock_apply, toRow_apply, colSum_apply, rescale_apply]
  exact congrArg₂ (· + ·) rfl (Finset.sum_congr rfl fun p _ => weight_apply z m r p)

theorem accStep_apply : accStep z vb m a (ix3 (0 : Fin 1) f r)
    = Ideal.exp (m (ix3 (0 : Fin 1) (0 : Fin 1) r) - rowMax z m (ix2 (0 : Fin 1) r)) * a (ix3 (0 : Fin 1) f r)
      + ∑ p : Fin 256, vb (ix2 f p) * Ideal.exp (z (ix2 p r) - rowMax z m (ix2 (0 : Fin 1) r)) := by
  refine (Cert.Rms.addBlock_apply _ _ _ _).trans ?_
  show broadcastTo S128x256 (rescale z m) broadcasts_S1x256_S128x256 (ix2 f r) * shapeCast S128x256 a shapeCasts_S1x128x256_S128x256 (ix2 f r) + _ = _
  rw [Cert.Rms.dropBlock_apply, featsDown_apply, rescale_apply]
  refine congrArg₂ (· + ·) rfl ?_
  refine (Ideal.matmul_plain_apply (M := 128) (K := 256) (N := 256) none vb (truncf .bf16 (weight z m) bitsLt_bf16_f32) (constant S128x256 .f32 0x00000000#32) f r).trans ?_
  show Ideal.ofBits .f32 0x00000000#32 + _ = _
  rw [Ideal.ofBits_zero_f32, zero_add]
  exact Finset.sum_congr rfl fun p _ => congrArg (fun w : EReal => vb (ix2 f p) * w) (weight_apply z m r p)

end Tile

/-! ## The chain of tiles at one query and one feature -/

/-- The carried sums are those of the softmax. -/
theorem chain_inv (w : ℕ → Fin 256 → EReal) (v : ℕ → Fin 256 → ℝ) (z : ℕ → FVec Ideal S256x256 .f32) (vb : ℕ → FVec Ideal S128x256 .bf16)
    (r : Fin 256) (f : Fin 128) (E : ℕ) (hz : ∀ n < E, ∀ p, z n (ix2 p r) = w n p) (hv : ∀ n < E, ∀ p, vb n (ix2 f p) = ((v n p : ℝ) : EReal)) :
    ∀ N ≤ E, Inv w v N ((chain z vb N).m (ix3 (0 : Fin 1) (0 : Fin 1) r)) ((chain z vb N).l (ix3 (0 : Fin 1) (0 : Fin 1) r)) ((chain z vb N).a (ix3 (0 : Fin 1) f r)) := by
  intro N
  induction N with
  | zero => exact fun _ => Or.inl ⟨rfl, Ideal.ofBits_zero_f32, Ideal.ofBits_zero_f32, fun n hn => absurd hn (Nat.not_lt_zero n)⟩
  | succ N ih =>
    intro hN
    have ez : w N = fun p => z N (ix2 p r) := funext fun p => (hz N (by omega) p).symm
    have h := (ih (by omega)).next _ _ (fun p => vb N (ix2 f p)) (fun p => hv N (by omega) p)
      (rowMax (z N) (chain z vb N).m (ix2 (0 : Fin 1) r)) (by rw [ez]; exact rowMax_apply _ _ _)
    rw [ez] at h
    have em : (chain z vb (N + 1)).m (ix3 (0 : Fin 1) (0 : Fin 1) r) = rowMax (z N) (chain z vb N).m (ix2 (0 : Fin 1) r) := maxStep_apply _ _ _
    have el := sumStep_apply (z N) (chain z vb N).m (chain z vb N).l r
    have ea := accStep_apply (z N) (vb N) (chain z vb N).m (chain z vb N).a r f
    rw [← el, ← ea, ← em] at h
    exact h

/-! ## The scores -/

theorem sle_small (a b : ℕ) (ha : a < 256) (hb : b < 256) : IntOp.cmpi .sle (BitVec.ofNat 32 a) (BitVec.ofNat 32 b) = BitVec.ofBool (decide (a ≤ b)) := by
  show BitVec.ofBool (BitVec.sle _ _) = _
  congr 1
  unfold BitVec.sle
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- The diagonal mask compares tokens. -/
theorem okDiag_apply (p r : Fin 256) : okDiag (ix2 p r) = BitVec.ofBool (decide (tok p.val ≤ tok r.val)) := by
  have h : okDiag (ix2 p r) = IntOp.cmpi .sle (tokWord (BitVec.ofNat 32 (0 * 256 + p.val))) (tokWord (BitVec.ofNat 32 (0 * 256 + r.val))) := by
    with_unfolding_all rfl
  rw [h, Nat.zero_mul, Nat.zero_add, Nat.zero_add, tokWord_eq, tokWord_eq, sle_small _ _ (tok_lt p) (tok_lt r)]

theorem query0_apply (x1 : Vec Ideal S1x1x128x256 .bf16) (f : Fin 128) (r : Fin 256) :
    query0 x1 (ix2 f r) = if f.val < 64 then x1 (ix4 (0 : Fin 1) (0 : Fin 1) f r) else 0 := by
  have h : query0 x1 (ix2 f r) = Scalar.select (IntOp.cmpi .slt (BitVec.ofNat 32 (0 * 128 + f.val)) 64#32)
      (shapeCast S128x256 x1 shapeCasts_S1x1x128x256_S128x256 (ix2 f r)) (Ideal.ofBits .bf16 0x0000#16) := by with_unfolding_all rfl
  rw [h, word_lt, select_ofBool, Cert.Sb.bf16_zero, castFeats_apply]
  simp only [decide_eq_true_eq]

theorem query1_apply (x1 : Vec Ideal S1x1x128x256 .bf16) (f : Fin 128) (r : Fin 256) :
    query1 x1 (ix2 f r) = if 64 ≤ f.val then x1 (ix4 (0 : Fin 1) (0 : Fin 1) f r) else 0 := by
  have h : query1 x1 (ix2 f r) = Scalar.select (IntOp.cmpi .sge (BitVec.ofNat 32 (0 * 128 + f.val)) 64#32)
      (shapeCast S128x256 x1 shapeCasts_S1x1x128x256_S128x256 (ix2 f r)) (Ideal.ofBits .bf16 0x0000#16) := by with_unfolding_all rfl
  rw [h, word_ge, select_ofBool, Cert.Sb.bf16_zero, castFeats_apply]
  simp only [decide_eq_true_eq]

theorem score_apply (kb : FVec Ideal S256x128 .bf16) (q : FVec Ideal S128x256 .bf16) (p r : Fin 256) :
    score kb q (ix2 p r) = ∑ f : Fin 128, kb (ix2 p f) * q (ix2 f r) := by
  unfold score
  refine (Ideal.matmul_plain_apply (M := 256) (K := 128) (N := 256) none kb q (constant S256x256 .f32 0x00000000#32) p r).trans ?_
  show Ideal.ofBits .f32 0x00000000#32 + _ = _
  rw [Ideal.ofBits_zero_f32, zero_add]

theorem keyBlk_apply (x2 : Vec Ideal S1x4096x128 .bf16) (n : ℕ) (p : Fin 256) (f : Fin 128) :
    keyBlk x2 n (ix2 p f) = x2 (ix3 (0 : Fin 1) ⟨(256 * n + p.val) % 4096, Nat.mod_lt _ (by decide)⟩ f) :=
  Cert.Rms.dropBlock_apply _ _ _ _

theorem valBlk_apply (x3 : Vec Ideal S1x16x128x256 .bf16) (n : ℕ) (f : Fin 128) (p : Fin 256) :
    valBlk x3 n (ix2 f p) = x3 (ix4 (0 : Fin 1) ⟨n % 16, Nat.mod_lt _ (by decide)⟩ f p) :=
  castFeats_apply _ _ _

/-- Which keys a query sees: those of its own token and before. -/
@[expose] def sees (qn : ℕ) (r : Fin 256) (n : ℕ) (p : Fin 256) : Prop := 256 * n + tok p.val ≤ 256 * qn + tok r.val

instance (qn : ℕ) (r : Fin 256) (n : ℕ) (p : Fin 256) : Decidable (sees qn r n p) := inferInstanceAs (Decidable (_ ≤ _))

section Scores

variable (X1 : Fin 128 → Fin 256 → EReal) (X2 : Fin 4096 → Fin 128 → EReal) (X3 : Fin 16 → Fin 128 → Fin 256 → ℝ) (X4 : Fin 2 → Fin 256 → Fin 256 → EReal)

/-- The score of a key against a query in one map: the product of the map's half of the features, and the bias of the
    tile the key lies in. -/
@[expose] def logit (h : Fin 2) (qn : ℕ) (r : Fin 256) (n : ℕ) (p : Fin 256) : EReal :=
  ∑ e : Fin 64, X2 ⟨(256 * n + p.val) % 4096, Nat.mod_lt _ (by decide)⟩ (feat h e) * X1 (feat h e) r
    + (if n = qn then X4 0 p r else if n + 1 = qn then X4 1 p r else 0)

/-- The score that enters the softmax: `⊥` where the query does not see the key. -/
@[expose] def seen (h : Fin 2) (qn : ℕ) (r : Fin 256) (n : ℕ) (p : Fin 256) : EReal := if sees qn r n p then logit X1 X2 X4 h qn r n p else ⊥

/-- A query sees no key of a later block. -/
theorem seen_later (h : Fin 2) (qn : ℕ) (r : Fin 256) (n : ℕ) (p : Fin 256) (hn : qn + 1 ≤ n) : seen X1 X2 X4 h qn r n p = ⊥ := by
  have h1 := tok_lt r
  have hs : ¬ sees qn r n p := by unfold sees; omega
  unfold seen
  rw [if_neg hs]

/-- The value of a key in one feature. -/
@[expose] def val (f : Fin 128) (n : ℕ) (p : Fin 256) : ℝ := X3 ⟨n % 16, Nat.mod_lt _ (by decide)⟩ f p

variable (x1 : Vec Ideal S1x1x128x256 .bf16) (x2 : Vec Ideal S1x4096x128 .bf16) (x3 : Vec Ideal S1x16x128x256 .bf16) (x4 : Vec Ideal S1x2x256x256 .f32)

/-- The queries of one map. -/
@[expose] def query (x1 : Vec Ideal S1x1x128x256 .bf16) (h : Fin 2) : FVec Ideal S128x256 .bf16 := if h = 0 then query0 x1 else query1 x1

variable (h1 : ∀ f r, x1 (ix4 (0 : Fin 1) (0 : Fin 1) f r) = X1 f r) (h2 : ∀ t f, x2 (ix3 (0 : Fin 1) t f) = X2 t f)
  (h3 : ∀ n f p, x3 (ix4 (0 : Fin 1) n f p) = ((X3 n f p : ℝ) : EReal)) (h4 : ∀ n p r, x4 (ix4 (0 : Fin 1) n p r) = X4 n p r)

include h1 h2 in
theorem score_sum (h : Fin 2) (n : ℕ) (p r : Fin 256) : score (keyBlk x2 n) (query x1 h) (ix2 p r)
    = ∑ e : Fin 64, X2 ⟨(256 * n + p.val) % 4096, Nat.mod_lt _ (by decide)⟩ (feat h e) * X1 (feat h e) r := by
  have key : ∀ e : Fin 64, ∀ h : Fin 2, x2 (ix3 (0 : Fin 1) ⟨(256 * n + p.val) % 4096, Nat.mod_lt _ (by decide)⟩ (feat h e)) * x1 (ix4 (0 : Fin 1) (0 : Fin 1) (feat h e) r)
      = X2 ⟨(256 * n + p.val) % 4096, Nat.mod_lt _ (by decide)⟩ (feat h e) * X1 (feat h e) r := fun e h => by rw [h1, h2]
  rw [score_apply]
  match h with
  | ⟨0, _⟩ =>
    rw [show query x1 ⟨0, by decide⟩ = query0 x1 from rfl, sum_lo]
    · refine Finset.sum_congr rfl fun e _ => ?_
      have he : (feat 0 e).val < 64 := by show 64 * 0 + e.val < 64; have := e.isLt; omega
      rw [keyBlk_apply, query0_apply, if_pos he]
      exact key e 0
    · intro f hf
      rw [query0_apply, if_neg (by omega), mul_zero]
  | ⟨1, _⟩ =>
    rw [show query x1 ⟨1, by decide⟩ = query1 x1 from rfl, sum_hi]
    · refine Finset.sum_congr rfl fun e _ => ?_
      have he : 64 ≤ (feat 1 e).val := by show 64 ≤ 64 * 1 + e.val; omega
      rw [keyBlk_apply, query1_apply, if_pos he]
      exact key e 1
    · intro f hf
      rw [query1_apply, if_neg (by omega), mul_zero]

include h1 h2 h4 in
theorem near_sum (h : Fin 2) (n : ℕ) (b : Fin 2) (p r : Fin 256) : scoreNear (keyBlk x2 n) (query x1 h) (biasBlk x4 b) (ix2 p r)
    = ∑ e : Fin 64, X2 ⟨(256 * n + p.val) % 4096, Nat.mod_lt _ (by decide)⟩ (feat h e) * X1 (feat h e) r + X4 b p r := by
  show score (keyBlk x2 n) (query x1 h) (ix2 p r) + shapeCast S256x256 (biasBlk x4 b) shapeCasts_S1x1x256x256_S256x256 (ix2 p r) = _
  rw [score_sum X1 X2 x1 x2 h1 h2, castTile_apply]
  exact congrArg (fun w : EReal => _ + w) (h4 b p r)

include h1 h2 h4 in
/-- A tile's scores: the logits of the keys a query sees, and `⊥` elsewhere. -/
theorem scores_apply (h : Fin 2) (qn n : ℕ) (hn : n ≤ qn) (p r : Fin 256) :
    scores x2 x4 (query x1 h) qn n (ix2 p r) = seen X1 X2 X4 h qn r n p := by
  have hp := tok_lt p
  have hr := tok_lt r
  unfold scores seen logit
  by_cases e : n = qn
  · rw [if_pos e, if_pos e]
    show Scalar.select (okDiag (ix2 p r)) (scoreNear (keyBlk x2 n) (query x1 h) (biasBlk x4 0) (ix2 p r)) (⊥ : EReal) = _
    rw [okDiag_apply, select_ofBool, near_sum X1 X2 X4 x1 x2 x4 h1 h2 h4]
    refine if_congr ?_ rfl rfl
    unfold sees
    rw [decide_eq_true_eq, e]
    omega
  · have hs : sees qn r n p := by unfold sees; omega
    rw [if_neg e, if_neg e, if_pos hs]
    by_cases e1 : n + 1 = qn
    · rw [if_pos e1, if_pos e1, near_sum X1 X2 X4 x1 x2 x4 h1 h2 h4]
    · rw [if_neg e1, if_neg e1, score_sum X1 X2 x1 x2 h1 h2, add_zero]

include h1 h2 h3 h4 in
/-- One map's output at a query and a feature: the softmax mean of the values. -/
theorem map_apply (h : Fin 2) (qn : ℕ) (r : Fin 256) (f : Fin 128) :
    Ideal.div ((mapState x2 x3 x4 (query x1 h) qn).a (ix3 (0 : Fin 1) f r)) ((mapState x2 x3 x4 (query x1 h) qn).l (ix3 (0 : Fin 1) (0 : Fin 1) r))
      = meanE (seen X1 X2 X4 h qn r) (val X3 f) (qn + 1) :=
  (chain_inv (seen X1 X2 X4 h qn r) (val X3 f) (scores x2 x4 (query x1 h) qn) (valBlk x3) r f (qn + 1)
    (fun n hn p => scores_apply X1 X2 X4 x1 x2 x4 h1 h2 h4 h qn n (by omega) p r) (fun n _ p => by rw [valBlk_apply]; exact h3 _ f p) (qn + 1) le_rfl).quot

end Scores

/-! ## The block written -/

/-- The normalization of a query's features, with the gain and the constant factor at the end. -/
@[expose] def headNorm (x g : Fin 128 → EReal) (d : Fin 128) : EReal :=
  x d * Ideal.rsqrt (Ideal.div (∑ j : Fin 128, x j * x j) (Ideal.ofBits .f32 0x43000000#32) + Ideal.ofBits .f32 0x358637BD#32) * g d * Ideal.ofBits .f32 0x3F4CCCCD#32

/-- Zero or infinite. -/
@[expose] def NoReal (x : EReal) : Prop := x = 0 ∨ x = ⊥ ∨ x = ⊤

theorem NoReal.add {x y : EReal} (hx : NoReal x) (hy : NoReal y) : NoReal (x + y) := by
  rcases hx with rfl | rfl | rfl <;> rcases hy with rfl | rfl | rfl <;> simp [NoReal]

theorem NoReal.sum {ι : Type} (S : Finset ι) (f : ι → EReal) (h : ∀ i, NoReal (f i)) : NoReal (∑ i ∈ S, f i) := by
  classical
  induction S using Finset.induction_on with
  | empty => exact Or.inl Finset.sum_empty
  | insert a S ha ih => rw [Finset.sum_insert ha]; exact (h a).add ih

/-- An infinity times a number. -/
theorem NoReal.mul_coe {x : EReal} (hx : x = ⊥ ∨ x = ⊤) (y : ℝ) : NoReal (x * (y : EReal)) := by
  rcases lt_trichotomy y 0 with h | rfl | h
  · rcases hx with rfl | rfl
    · rw [EReal.bot_mul_coe_of_neg h]; exact Or.inr (Or.inr rfl)
    · rw [EReal.top_mul_coe_of_neg h]; exact Or.inr (Or.inl rfl)
  · exact Or.inl (by rw [EReal.coe_zero, mul_zero])
  · rcases hx with rfl | rfl
    · rw [EReal.bot_mul_coe_of_pos h]; exact Or.inr (Or.inl rfl)
    · rw [EReal.top_mul_coe_of_pos h]; exact Or.inr (Or.inr rfl)

theorem NoReal.sq {x : EReal} (hx : NoReal x) : 0 ≤ x * x ∧ (x ≠ 0 → x * x = ⊤) := by
  rcases hx with rfl | rfl | rfl
  · exact ⟨by rw [mul_zero], fun h => absurd rfl h⟩
  · exact ⟨by rw [EReal.bot_mul_bot]; exact le_top, fun _ => EReal.bot_mul_bot⟩
  · exact ⟨by rw [EReal.top_mul_top]; exact le_top, fun _ => EReal.top_mul_top⟩

theorem word_eps : ∃ x : ℝ, Ideal.ofBits .f32 0x358637BD#32 = (x : EReal) := by
  simp only [Ideal.ofBits, Ideal.ieee]
  norm_num
  exact ⟨_, (EReal.coe_mul _ _).symm⟩

theorem word_128 : Ideal.ofBits .f32 0x43000000#32 = ((128 : ℝ) : EReal) := by
  simp [Ideal.ofBits, Ideal.ieee]
  rw [← EReal.coe_mul]
  norm_num

/-- Features that are zero or infinite are zero after the norm: either all are zero, or the sum of squares is infinite. -/
theorem headNorm_noReal (x g : Fin 128 → EReal) (h : ∀ j, NoReal (x j)) (d : Fin 128) : headNorm x g d = 0 := by
  unfold headNorm
  by_cases hd : x d = 0
  · rw [hd, zero_mul, zero_mul, zero_mul]
  · have hs : ∑ j : Fin 128, x j * x j = ⊤ := by
      refine top_le_iff.mp ?_
      rw [← (h d).sq.2 hd]
      exact Finset.single_le_sum (f := fun j => x j * x j) (fun j _ => (h j).sq.1) (Finset.mem_univ d)
    obtain ⟨e, he⟩ := word_eps
    have hq : Ideal.div ⊤ ((128 : ℝ) : EReal) = ⊤ := by
      unfold Ideal.div
      rw [if_neg (by exact_mod_cast (by norm_num : (128 : ℝ) ≠ 0)), ← EReal.coe_inv]
      exact EReal.top_mul_coe_of_pos (by norm_num)
    rw [hs, word_128, hq, he, EReal.top_add_coe, show Ideal.rsqrt ⊤ = 0 from rfl, mul_zero, zero_mul, zero_mul]

theorem featSum_apply (x : FVec Ideal S256x128 .f32) (r : Fin 256) : multiReduction .add [1] S256 x 0x00000000#32 reduces_S256x128_S256 (.inl rfl) rfl (ix1 r)
    = ∑ j : Fin 128, x (ix2 r j) := by
  refine (Ideal.multiReduction_add_single x _ reduces_S256x128_S256 (.inl rfl) rfl (ix1 r)).trans ?_
  refine Finset.sum_congr rfl fun p _ => congrArg x (funext fun b => Fin.ext ?_)
  match b with
  | ⟨0, _⟩ => rfl
  | ⟨1, _⟩ => rfl

theorem toCol_apply {α : Type} (x : S256.Idx → α) (r : Fin 256) : shapeCast S256x1 x shapeCasts_S256_S256x1 (ix2 r (0 : Fin 1)) = x (ix1 r) := by
  refine shapeCast_apply x _ _ _ ?_
  refine (Shape.rowMajor_val_one _).trans (Eq.trans ?_ (Shape.rowMajor_val_two _).symm)
  show r.val = r.val * 1 + 0
  omega

theorem colAcross_apply {α : Type} (x : S256x1.Idx → α) (r : Fin 256) (d : Fin 128) : broadcastTo S256x128 x broadcasts_S256x1_S256x128 (ix2 r d) = x (ix2 r (0 : Fin 1)) := by
  refine broadcastTo_apply x _ _ _ fun a => ?_
  match a with
  | ⟨0, _⟩ => rfl
  | ⟨1, _⟩ => rfl

theorem gainDown_apply {α : Type} (x : S1x128.Idx → α) (r : Fin 256) (d : Fin 128) : broadcastTo S256x128 x broadcasts_S1x128_S256x128 (ix2 r d) = x (ix2 (0 : Fin 1) d) := by
  refine broadcastTo_apply x _ _ _ fun a => ?_
  match a with
  | ⟨0, _⟩ => rfl
  | ⟨1, _⟩ => rfl

theorem turned_apply {α : Type} (x : S128x256.Idx → α) (r : Fin 256) (d : Fin 128) : transpose S256x128 [1, 0] x transposes_S128x256_p1_0_S256x128 (ix2 r d) = x (ix2 d r) := by
  refine transpose_apply _ x _ _ _ fun a => ?_
  match a with
  | ⟨0, _⟩ => rfl
  | ⟨1, _⟩ => rfl

theorem normBlk_apply (x : FVec Ideal S128x256 .f32) (g : Vec Ideal S1x128 .f32) (r : Fin 256) (d : Fin 128) :
    k0_pay1 x g (ix3 (0 : Fin 1) r d) = headNorm (fun j => x (ix2 j r)) (fun j => g (ix2 (0 : Fin 1) j)) d := by
  have e1 : ∀ j : Fin 128, transpose S256x128 [1, 0] x transposes_S128x256_p1_0_S256x128 (ix2 r j) = x (ix2 j r) := fun j => turned_apply x r j
  have e2 : broadcastTo S256x128 (shapeCast S1x128 g shapeCasts_S1x128_S1x128) broadcasts_S1x128_S256x128 (ix2 r d) = g (ix2 (0 : Fin 1) d) :=
    (gainDown_apply _ r d).trans (Cert.Rms.castSame_apply g _ _)
  unfold k0_pay1 headNorm
  refine (Cert.Rms.addBlock_apply _ _ _ _).trans ?_
  show (transpose S256x128 [1, 0] x transposes_S128x256_p1_0_S256x128 (ix2 r d) * broadcastTo S256x128 _ broadcasts_S256x1_S256x128 (ix2 r d))
    * broadcastTo S256x128 (shapeCast S1x128 g shapeCasts_S1x128_S1x128) broadcasts_S1x128_S256x128 (ix2 r d) * Ideal.ofBits .f32 0x3F4CCCCD#32 = _
  rw [e1, e2, colAcross_apply]
  refine congrArg (fun w : EReal => x (ix2 d r) * Ideal.rsqrt (Ideal.div w (Ideal.ofBits .f32 0x43000000#32) + Ideal.ofBits .f32 0x358637BD#32) * g (ix2 (0 : Fin 1) d) * Ideal.ofBits .f32 0x3F4CCCCD#32) ?_
  refine (toCol_apply _ r).trans ((featSum_apply _ r).trans (Finset.sum_congr rfl fun j _ => ?_))
  exact congrArg₂ (fun a b : EReal => a * b) (e1 j) (e1 j)

theorem diffBlk_apply (lam : EReal) (s0 s1 : St Ideal) (f : Fin 128) (r : Fin 256) : k0_pay98 (F := Ideal) lam s0.a s0.l s1.a s1.l (ix2 f r)
    = Ideal.div (s0.a (ix3 (0 : Fin 1) f r)) (s0.l (ix3 (0 : Fin 1) (0 : Fin 1) r)) - lam * Ideal.div (s1.a (ix3 (0 : Fin 1) f r)) (s1.l (ix3 (0 : Fin 1) (0 : Fin 1) r)) := by
  have ea : ∀ a : Vec Ideal S1x128x256 .f32, shapeCast S128x256 a shapeCasts_S1x128x256_S128x256 (ix2 f r) = a (ix3 (0 : Fin 1) f r) := fun a => Cert.Rms.dropBlock_apply a _ f r
  have el : ∀ l : Vec Ideal S1x1x256 .f32, broadcastTo S128x256 (shapeCast S1x256 l shapeCasts_S1x1x256_S1x256) broadcasts_S1x256_S128x256 (ix2 f r) = l (ix3 (0 : Fin 1) (0 : Fin 1) r) :=
    fun l => (featsDown_apply _ f r).trans (Cert.Rms.dropBlock_apply l _ _ r)
  unfold k0_pay98
  show Ideal.div (shapeCast S128x256 s0.a shapeCasts_S1x128x256_S128x256 (ix2 f r)) (broadcastTo S128x256 (shapeCast S1x256 s0.l shapeCasts_S1x1x256_S1x256) broadcasts_S1x256_S128x256 (ix2 f r))
    - lam * Ideal.div (shapeCast S128x256 s1.a shapeCasts_S1x128x256_S128x256 (ix2 f r)) (broadcastTo S128x256 (shapeCast S1x256 s1.l shapeCasts_S1x1x256_S1x256) broadcasts_S1x256_S128x256 (ix2 f r)) = _
  rw [ea, ea, el, el]

end Cert.Da

end
-- ==== Proof.DiffArray.lean ====
/-
  The array that the differential attention kernel leaves, as one function of its arguments; values and lambda are numbers.
-/
module

public import proofs.«01_k».proof.Proof.DiffValue
public import proofs.«01_k».proof.Proof.ArrayValue

public section

set_option maxRecDepth 16384

noncomputable section

namespace Cert.Da

open Cert.DiffIdeal Cert.DiffIdeal.Gen Idealize.ShloMosaic Idealize.ShloMosaic.TcCoe Idealize.ShloMosaic.ValueIdx Idealize.SL.Sem
open Cert.Sb (tok tok_lt)

/-! ## The block of a grid point -/

/-- The block a grid point writes, from the blocks it reads. -/
@[expose] def pointBlk (x0 : Vec Ideal S1x1 .f32) (x1 : Vec Ideal S1x1x128x256 .bf16) (x2 : Vec Ideal S1x4096x128 .bf16) (x3 : Vec Ideal S1x16x128x256 .bf16)
    (x4 : Vec Ideal S1x2x256x256 .f32) (x5 : Vec Ideal S1x128 .f32) (qn : ℕ) : Vec Ideal S1x256x128 .bf16 :=
  outBlk (F := Ideal) (x0 (ix2 (0 : Fin 1) (0 : Fin 1))) (mapState x2 x3 x4 (query0 x1) qn) (mapState x2 x3 x4 (query1 x1) qn) x5

section Point

variable (c : Dev nD) (i : grid0.Coords) (arg3 : Memref sig .tc .smem S1x1 .f32) (harg3 : arg3.IsWhole) (arg4 : Memref sig .tc .vmem S1x1x128x256 .bf16) (harg4 : arg4.IsWhole)
  (arg5 : Memref sig .tc .vmem S1x4096x128 .bf16) (harg5 : arg5.IsWhole) (arg6 : Memref sig .tc .vmem S1x16x128x256 .bf16) (harg6 : arg6.IsWhole)
  (arg7 : Memref sig .tc .vmem S1x2x256x256 .f32) (harg7 : arg7.IsWhole) (arg8 : Memref sig .tc .vmem S1x128 .f32) (harg8 : arg8.IsWhole)
  (arg9 : Memref sig .tc .vmem S1x256x128 .bf16) (harg9 : arg9.IsWhole) (arg10 : Memref sig .tc .vmem S2x128x256 .f32) (harg10 : arg10.IsWhole)
  (arg11 : Memref sig .tc .vmem S2x1x256 .f32) (harg11 : arg11.IsWhole) (arg12 : Memref sig .tc .vmem S2x1x256 .f32) (harg12 : arg12.IsWhole)
  (x0 : Vec Ideal S1x1 .f32) (x1 : Vec Ideal S1x1x128x256 .bf16) (x2 : Vec Ideal S1x4096x128 .bf16) (x3 : Vec Ideal S1x16x128x256 .bf16) (x4 : Vec Ideal S1x2x256x256 .f32) (x5 : Vec Ideal S1x128 .f32)

theorem load_gain : arg8.view.readAt (Elt Ideal) (Rect.unit (s := S1x128) ![0, 0] S1x128.size inb_S1x128_S1x128_0_0).toLoadRect (harg8.unread x5) = x5 := by
  funext j
  rw [View.readAt_apply, harg8.read_unread]
  refine congrArg x5 (funext fun a => Fin.ext ?_)
  match a with
  | ⟨0, _⟩ => show 0 + 1 * (j 0).val = (j 0).val; omega
  | ⟨1, _⟩ => show 0 + 1 * (j 1).val = (j 1).val; omega

theorem load_lam (j : S1x1.Idx) : arg3.view.readAt (Elt Ideal) (Rect.unit (s := S1x1) ![0, 0] S1x1.size inb_S1x1_S1x1_0_0).toLoadRect (harg3.unread x0) j = x0 (ix2 (0 : Fin 1) (0 : Fin 1)) := by
  rw [View.readAt_apply, harg3.read_unread]
  refine congrArg x0 (funext fun a => ?_)
  match a with
  | ⟨0, _⟩ => exact Subsingleton.elim (α := Fin 1) _ _
  | ⟨1, _⟩ => exact Subsingleton.elim (α := Fin 1) _ _

theorem outA (hc0 : ¬cond0_0 i) (hq : (qblk i).val = 0) :
    out0_A_6 c i arg3 harg3 arg4 harg4 arg5 harg5 arg6 harg6 arg7 harg7 arg8 harg8 arg9 harg9 arg10 harg10 arg11 harg11 arg12 harg12 hc0 x0 x1 x2 x3 x4 x5 = pointBlk x0 x1 x2 x3 x4 x5 (qblk i).val := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  refine (View.canon_unit_zero (S := S1x256x128) (funext fun a => by match a with | ⟨0, _⟩ => rfl | ⟨1, _⟩ => rfl | ⟨2, _⟩ => rfl) inb_S1x256x128_S1x256x128_0_0_0 _).trans ?_
  obtain ⟨e0, e1, e2, e3⟩ := endsA c i arg3 harg3 arg4 harg4 arg5 harg5 arg6 harg6 arg7 harg7 arg8 harg8 arg9 harg9 arg10 harg10 arg11 harg11 arg12 harg12 x1 x2 x3 x4 hq
  unfold kernelRun0_A.sl.r_15
  rw [e0, e1, e2, e3, load_gain arg8 harg8 x5]
  have hl : kernelRun0_A.sl.r_14 c arg3 harg3 x0 = x0 (ix2 (0 : Fin 1) (0 : Fin 1)) := load_lam arg3 harg3 x0 _
  rw [hl]
  rfl

theorem outB (hc0 : cond0_0 i) (hq : 1 ≤ (qblk i).val) :
    out0_B_6 c i arg3 harg3 arg4 harg4 arg5 harg5 arg6 harg6 arg7 harg7 arg8 harg8 arg9 harg9 arg10 harg10 arg11 harg11 arg12 harg12 hc0 x0 x1 x2 x3 x4 x5 = pointBlk x0 x1 x2 x3 x4 x5 (qblk i).val := by
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 hc0 x0 x1 x2 x3 x4 x5)]
  unfold kernelRun0_B
  dsimp only
  refine (View.canon_unit_zero (S := S1x256x128) (funext fun a => by match a with | ⟨0, _⟩ => rfl | ⟨1, _⟩ => rfl | ⟨2, _⟩ => rfl) inb_S1x256x128_S1x256x128_0_0_0 _).trans ?_
  obtain ⟨e0, e1, e2, e3⟩ := endsB c i arg3 harg3 arg4 harg4 arg5 harg5 arg6 harg6 arg7 harg7 arg8 harg8 arg9 harg9 arg10 harg10 arg11 harg11 arg12 harg12 x1 x2 x3 x4 hc0 hq
  unfold kernelRun0_B.sl.r_15
  rw [e0, e1, e2, e3, load_gain arg8 harg8 x5]
  have hl : kernelRun0_B.sl.r_14 c arg3 harg3 x0 = x0 (ix2 (0 : Fin 1) (0 : Fin 1)) := load_lam arg3 harg3 x0 _
  rw [hl]
  rfl

end Point

/-! ## The block, by the arguments -/

section Block

variable (X1 : Fin 128 → Fin 256 → EReal) (X2 : Fin 4096 → Fin 128 → EReal) (X3 : Fin 16 → Fin 128 → Fin 256 → ℝ) (X4 : Fin 2 → Fin 256 → Fin 256 → EReal) (lam : ℝ)

/-- The difference of the two maps at a query and a feature. -/
@[expose] def headDiff (qn : ℕ) (r : Fin 256) (f : Fin 128) : EReal :=
  meanE (seen X1 X2 X4 0 qn r) (val X3 f) (qn + 1) - (lam : EReal) * meanE (seen X1 X2 X4 1 qn r) (val X3 f) (qn + 1)

variable (x0 : Vec Ideal S1x1 .f32) (x1 : Vec Ideal S1x1x128x256 .bf16) (x2 : Vec Ideal S1x4096x128 .bf16) (x3 : Vec Ideal S1x16x128x256 .bf16) (x4 : Vec Ideal S1x2x256x256 .f32) (x5 : Vec Ideal S1x128 .f32)
  (h0 : x0 (ix2 (0 : Fin 1) (0 : Fin 1)) = ((lam : ℝ) : EReal))
  (h1 : ∀ f r, x1 (ix4 (0 : Fin 1) (0 : Fin 1) f r) = X1 f r) (h2 : ∀ t f, x2 (ix3 (0 : Fin 1) t f) = X2 t f)
  (h3 : ∀ n f p, x3 (ix4 (0 : Fin 1) n f p) = ((X3 n f p : ℝ) : EReal)) (h4 : ∀ n p r, x4 (ix4 (0 : Fin 1) n p r) = X4 n p r)

include h0 h1 h2 h3 h4 in
theorem pointBlk_apply (qn : ℕ) (r : Fin 256) (d : Fin 128) : pointBlk x0 x1 x2 x3 x4 x5 qn (ix3 (0 : Fin 1) r d)
    = headNorm (headDiff X1 X2 X3 X4 lam qn r) (fun f => x5 (ix2 (0 : Fin 1) f)) d := by
  have e : ∀ f, k0_pay98 (F := Ideal) (x0 (ix2 (0 : Fin 1) (0 : Fin 1))) (mapState x2 x3 x4 (query0 x1) qn).a (mapState x2 x3 x4 (query0 x1) qn).l (mapState x2 x3 x4 (query1 x1) qn).a (mapState x2 x3 x4 (query1 x1) qn).l (ix2 f r)
      = headDiff X1 X2 X3 X4 lam qn r f := fun f => by
    rw [diffBlk_apply, h0]
    exact congrArg₂ (fun a b : EReal => a - (lam : EReal) * b) (map_apply X1 X2 X3 X4 x1 x2 x3 x4 h1 h2 h3 h4 0 qn r f) (map_apply X1 X2 X3 X4 x1 x2 x3 x4 h1 h2 h3 h4 1 qn r f)
  unfold pointBlk outBlk
  rw [normBlk_apply]
  exact congrArg (fun x => headNorm x (fun f => x5 (ix2 (0 : Fin 1) f)) d) (funext e)

end Block

/-! ## The array -/

/-- Feature `f` of head `g`. -/
@[expose] def hf (g : Fin 4) (f : Fin 128) : Fin 512 := ⟨128 * g.val + f.val, by have := g.isLt; have := f.isLt; omega⟩

/-- One head's difference of the two maps at a query, from the whole arguments. -/
@[expose] def diffG (Q : Fin 8 → Fin 16 → Fin 512 → Fin 256 → EReal) (K : Fin 8 → Fin 4096 → Fin 512 → EReal) (W : Fin 8 → Fin 16 → Fin 512 → Fin 256 → ℝ) (B : Fin 4 → Fin 2 → Fin 256 → Fin 256 → EReal)
    (lam : ℝ) (b : Fin 8) (g : Fin 4) (n : Fin 16) (r : Fin 256) (f : Fin 128) : EReal :=
  headDiff (fun f r => Q b n (hf g f) r) (fun t f => K b t (hf g f)) (fun n f p => W b n (hf g f) p) (B g) lam n.val r f

/-- The kernel's result at row `i` and feature `f`. -/
@[expose] def outG (Q : Fin 8 → Fin 16 → Fin 512 → Fin 256 → EReal) (K : Fin 8 → Fin 4096 → Fin 512 → EReal) (W : Fin 8 → Fin 16 → Fin 512 → Fin 256 → ℝ) (B : Fin 4 → Fin 2 → Fin 256 → Fin 256 → EReal)
    (lam : ℝ) (gain : Fin 128 → EReal) (b : Fin 8) (i : Fin 4096) (f : Fin 512) : EReal :=
  headNorm (fun j => diffG Q K W B lam b ⟨f.val / 128, by have := f.isLt; omega⟩ ⟨i.val / 256, by have := i.isLt; omega⟩ ⟨i.val % 256, Nat.mod_lt _ (by decide)⟩ j)
    gain ⟨f.val % 128, Nat.mod_lt _ (by decide)⟩

/-- The blocks of the windows at a grid point. -/
theorem origin0 : ∀ t : Fin grid0.N, win0_0.index t 0 * win0_0.size 0 = 0 ∧ win0_0.index t 1 * win0_0.size 1 = 0 := by decide +kernel
theorem origin1 : ∀ t : Fin grid0.N, win0_1.index t 0 * win0_1.size 0 = t.val / 64 ∧ win0_1.index t 1 * win0_1.size 1 = t.val % 16 ∧ win0_1.index t 2 * win0_1.size 2 = 128 * (t.val / 16 % 4) ∧ win0_1.index t 3 * win0_1.size 3 = 0 := by decide +kernel
theorem origin2 : ∀ t : Fin grid0.N, win0_2.index t 0 * win0_2.size 0 = t.val / 64 ∧ win0_2.index t 1 * win0_2.size 1 = 0 ∧ win0_2.index t 2 * win0_2.size 2 = 128 * (t.val / 16 % 4) := by decide +kernel
theorem origin3 : ∀ t : Fin grid0.N, win0_3.index t 0 * win0_3.size 0 = t.val / 64 ∧ win0_3.index t 1 * win0_3.size 1 = 0 ∧ win0_3.index t 2 * win0_3.size 2 = 128 * (t.val / 16 % 4) ∧ win0_3.index t 3 * win0_3.size 3 = 0 := by decide +kernel
theorem origin4 : ∀ t : Fin grid0.N, win0_4.index t 0 * win0_4.size 0 = t.val / 16 % 4 ∧ win0_4.index t 1 * win0_4.size 1 = 0 ∧ win0_4.index t 2 * win0_4.size 2 = 0 ∧ win0_4.index t 3 * win0_4.size 3 = 0 := by decide +kernel
theorem origin5 : ∀ t : Fin grid0.N, win0_5.index t 0 * win0_5.size 0 = 0 ∧ win0_5.index t 1 * win0_5.size 1 = 0 := by decide +kernel
theorem origin6 : ∀ t : Fin grid0.N, win0_6.index t 0 * win0_6.size 0 = t.val / 64 ∧ win0_6.index t 1 * win0_6.size 1 = 256 * (t.val % 16) ∧ win0_6.index t 2 * win0_6.size 2 = 128 * (t.val / 16 % 4) := by decide +kernel
theorem extent6 : ∀ t : Fin grid0.N, win0_6.xsize (grid0.coords t) 0 = 1 ∧ win0_6.xsize (grid0.coords t) 1 = 256 ∧ win0_6.xsize (grid0.coords t) 2 = 128 := by decide +kernel
theorem coord2 : ∀ t : Fin grid0.N, (qblk (grid0.coords t)).val = t.val % 16 := by decide +kernel

section Array

variable (m : (ℓ : Loc nD τ sig) → Buf (Elt Ideal) ℓ) (c : Dev nD) (t : Fin cfg0.N)

theorem t_lt : t.val < 512 := lt_of_lt_of_eq t.isLt N_0

/-- The batch element, the head and the query block of a grid point. -/
@[expose] def ptB : Fin 8 := ⟨t.val / 64, by have := t_lt t; omega⟩
@[expose] def ptG : Fin 4 := ⟨t.val / 16 % 4, Nat.mod_lt _ (by decide)⟩
@[expose] def ptQ : Fin 16 := ⟨t.val % 16, Nat.mod_lt _ (by decide)⟩

/-- The argument arrays. -/
abbrev arg0 : S8x16x512x256.Idx → EReal := m ((c : Thread nD τ).loc main_arg0)
abbrev arg1 : S8x4096x512.Idx → EReal := m ((c : Thread nD τ).loc main_arg1)
abbrev arg2 : S8x16x512x256.Idx → EReal := m ((c : Thread nD τ).loc main_arg2)
abbrev arg3 : S4x2x256x256.Idx → EReal := m ((c : Thread nD τ).loc main_arg3)
abbrev arg4 : S1x1.Idx → EReal := m ((c : Thread nD τ).loc main_arg4)
abbrev arg5 : S128.Idx → EReal := m ((c : Thread nD τ).loc main_arg5)

theorem V_v0 : V m c main_v0 = shapeCast S1x128 (arg5 m c) shapeCasts_S128_S1x128 := by
  unfold V hostOps0
  after_results_simp
  rfl

theorem gain_apply (d : Fin 128) : (V m c main_v0 : S1x128.Idx → EReal) (ix2 (0 : Fin 1) d) = arg5 m c (ix1 d) := by
  rw [V_v0]
  refine shapeCast_apply _ _ _ _ ?_
  refine (Shape.rowMajor_val_one _).trans (Eq.trans ?_ (Shape.rowMajor_val_two _).symm)
  show d.val = 0 * 128 + d.val
  omega

theorem iblk0_apply : iblk m c 0 t (ix2 (0 : Fin 1) (0 : Fin 1)) = arg4 m c (ix2 (0 : Fin 1) (0 : Fin 1)) := by
  unfold iblk
  show V m c main_arg4 _ = _
  rw [V_main_arg4]
  refine congrArg (m ((c : Thread nD τ).loc main_arg4)) (funext fun a => Fin.ext ?_)
  obtain ⟨h0, h1⟩ := origin0 t
  match a with
  | ⟨0, _⟩ => show win0_0.index t 0 * win0_0.size 0 + 1 * 0 = 0; rw [h0]
  | ⟨1, _⟩ => show win0_0.index t 1 * win0_0.size 1 + 1 * 0 = 0; rw [h1]
theorem iblk1_apply (f : Fin 128) (r : Fin 256) : iblk m c 1 t (ix4 (0 : Fin 1) (0 : Fin 1) f r) = arg0 m c (ix4 (ptB t) (ptQ t) (hf (ptG t) f) r) := by
  unfold iblk
  show V m c main_arg0 _ = _
  rw [V_main_arg0]
  refine congrArg (m ((c : Thread nD τ).loc main_arg0)) (funext fun a => Fin.ext ?_)
  obtain ⟨h0, h1, h2, h3⟩ := origin1 t
  match a with
  | ⟨0, _⟩ => show win0_1.index t 0 * win0_1.size 0 + 1 * 0 = t.val / 64; rw [h0]; omega
  | ⟨1, _⟩ => show win0_1.index t 1 * win0_1.size 1 + 1 * 0 = t.val % 16; rw [h1]; omega
  | ⟨2, _⟩ => show win0_1.index t 2 * win0_1.size 2 + 1 * f.val = 128 * (t.val / 16 % 4) + f.val; rw [h2]; omega
  | ⟨3, _⟩ => show win0_1.index t 3 * win0_1.size 3 + 1 * r.val = r.val; rw [h3]; omega
theorem iblk2_apply (k : Fin 4096) (f : Fin 128) : iblk m c 2 t (ix3 (0 : Fin 1) k f) = arg1 m c (ix3 (ptB t) k (hf (ptG t) f)) := by
  unfold iblk
  show V m c main_arg1 _ = _
  rw [V_main_arg1]
  refine congrArg (m ((c : Thread nD τ).loc main_arg1)) (funext fun a => Fin.ext ?_)
  obtain ⟨h0, h1, h2⟩ := origin2 t
  match a with
  | ⟨0, _⟩ => show win0_2.index t 0 * win0_2.size 0 + 1 * 0 = t.val / 64; rw [h0]; omega
  | ⟨1, _⟩ => show win0_2.index t 1 * win0_2.size 1 + 1 * k.val = k.val; rw [h1]; omega
  | ⟨2, _⟩ => show win0_2.index t 2 * win0_2.size 2 + 1 * f.val = 128 * (t.val / 16 % 4) + f.val; rw [h2]; omega
theorem iblk3_apply (n : Fin 16) (f : Fin 128) (p : Fin 256) : iblk m c 3 t (ix4 (0 : Fin 1) n f p) = arg2 m c (ix4 (ptB t) n (hf (ptG t) f) p) := by
  unfold iblk
  show V m c main_arg2 _ = _
  rw [V_main_arg2]
  refine congrArg (m ((c : Thread nD τ).loc main_arg2)) (funext fun a => Fin.ext ?_)
  obtain ⟨h0, h1, h2, h3⟩ := origin3 t
  match a with
  | ⟨0, _⟩ => show win0_3.index t 0 * win0_3.size 0 + 1 * 0 = t.val / 64; rw [h0]; omega
  | ⟨1, _⟩ => show win0_3.index t 1 * win0_3.size 1 + 1 * n.val = n.val; rw [h1]; omega
  | ⟨2, _⟩ => show win0_3.index t 2 * win0_3.size 2 + 1 * f.val = 128 * (t.val / 16 % 4) + f.val; rw [h2]; omega
  | ⟨3, _⟩ => show win0_3.index t 3 * win0_3.size 3 + 1 * p.val = p.val; rw [h3]; omega
theorem iblk4_apply (n : Fin 2) (p r : Fin 256) : iblk m c 4 t (ix4 (0 : Fin 1) n p r) = arg3 m c (ix4 (ptG t) n p r) := by
  unfold iblk
  show V m c main_arg3 _ = _
  rw [V_main_arg3]
  refine congrArg (m ((c : Thread nD τ).loc main_arg3)) (funext fun a => Fin.ext ?_)
  obtain ⟨h0, h1, h2, h3⟩ := origin4 t
  match a with
  | ⟨0, _⟩ => show win0_4.index t 0 * win0_4.size 0 + 1 * 0 = t.val / 16 % 4; rw [h0]; omega
  | ⟨1, _⟩ => show win0_4.index t 1 * win0_4.size 1 + 1 * n.val = n.val; rw [h1]; omega
  | ⟨2, _⟩ => show win0_4.index t 2 * win0_4.size 2 + 1 * p.val = p.val; rw [h2]; omega
  | ⟨3, _⟩ => show win0_4.index t 3 * win0_4.size 3 + 1 * r.val = r.val; rw [h3]; omega
theorem iblk5_apply (d : Fin 128) : iblk m c 5 t (ix2 (0 : Fin 1) d) = arg5 m c (ix1 d) := by
  unfold iblk
  refine Eq.trans ?_ (gain_apply m c d)
  show V m c main_v0 _ = _
  refine congrArg (V m c main_v0) (funext fun a => Fin.ext ?_)
  obtain ⟨h0, h1⟩ := origin5 t
  match a with
  | ⟨0, _⟩ => show win0_5.index t 0 * win0_5.size 0 + 1 * 0 = 0; rw [h0]
  | ⟨1, _⟩ => show win0_5.index t 1 * win0_5.size 1 + 1 * d.val = d.val; rw [h1, one_mul, zero_add]

variable (Q : Fin 8 → Fin 16 → Fin 512 → Fin 256 → EReal) (K : Fin 8 → Fin 4096 → Fin 512 → EReal) (W : Fin 8 → Fin 16 → Fin 512 → Fin 256 → ℝ) (B : Fin 4 → Fin 2 → Fin 256 → Fin 256 → EReal) (lam : ℝ)

/-- The result as a buffer's contents. -/
@[expose] def outBuf : Buf (Elt Ideal) ((c : Thread nD τ).loc main_v1) :=
  fun i : S8x4096x512.Idx => outG Q K W B lam (fun d => arg5 m c (ix1 d)) ⟨(i 0).val, (i 0).isLt⟩ ⟨(i 1).val, (i 1).isLt⟩ ⟨(i 2).val, (i 2).isLt⟩

variable (hQ : ∀ b n f r, arg0 m c (ix4 b n f r) = Q b n f r) (hK : ∀ b t f, arg1 m c (ix3 b t f) = K b t f)
  (hW : ∀ b n f p, arg2 m c (ix4 b n f p) = ((W b n f p : ℝ) : EReal)) (hB : ∀ g n p r, arg3 m c (ix4 g n p r) = B g n p r)
  (hL : arg4 m c (ix2 (0 : Fin 1) (0 : Fin 1)) = ((lam : ℝ) : EReal))

include hQ hK hW hB hL in
/-- The block of a grid point is the array's. -/
theorem point_eq (r : Fin 256) (d : Fin 128) :
    pointBlk (iblk m c 0 t) (iblk m c 1 t) (iblk m c 2 t) (iblk m c 3 t) (iblk m c 4 t) (iblk m c 5 t) (t.val % 16) (ix3 (0 : Fin 1) r d)
      = outG Q K W B lam (fun d => arg5 m c (ix1 d)) (ptB t) ⟨256 * (t.val % 16) + r.val, by have := r.isLt; omega⟩ (hf (ptG t) d) := by
  have hr := r.isLt
  have hd := d.isLt
  refine (pointBlk_apply (fun f r => Q (ptB t) (ptQ t) (hf (ptG t) f) r) (fun k f => K (ptB t) k (hf (ptG t) f)) (fun n f p => W (ptB t) n (hf (ptG t) f) p) (B (ptG t)) lam _ _ _ _ _ _
    ((iblk0_apply m c t).trans hL) (fun f r => (iblk1_apply m c t f r).trans (hQ _ _ _ _)) (fun k f => (iblk2_apply m c t k f).trans (hK _ _ _))
    (fun n f p => (iblk3_apply m c t n f p).trans (hW _ _ _ _)) (fun n p r => (iblk4_apply m c t n p r).trans (hB _ _ _ _)) (t.val % 16) r d).trans ?_
  unfold outG diffG
  have hg : (⟨(hf (ptG t) d).val / 128, by have := (hf (ptG t) d).isLt; omega⟩ : Fin 4) = ptG t := Fin.ext (by show (128 * (t.val / 16 % 4) + d.val) / 128 = t.val / 16 % 4; omega)
  have hd' : (⟨(hf (ptG t) d).val % 128, Nat.mod_lt _ (by decide)⟩ : Fin 128) = d := Fin.ext (by show (128 * (t.val / 16 % 4) + d.val) % 128 = d.val; omega)
  have hn : (⟨(256 * (t.val % 16) + r.val) / 256, by omega⟩ : Fin 16) = ptQ t := Fin.ext (by show (256 * (t.val % 16) + r.val) / 256 = t.val % 16; omega)
  have hr' : (⟨(256 * (t.val % 16) + r.val) % 256, Nat.mod_lt _ (by decide)⟩ : Fin 256) = r := Fin.ext (by show (256 * (t.val % 16) + r.val) % 256 = r.val; omega)
  rw [hg, hd']
  dsimp only
  rw [hn, hr', show (256 * (t.val % 16) + r.val) / 256 = t.val % 16 by omega]
  exact congrArg₂ (fun y x => headNorm y x d) rfl (funext fun f => iblk5_apply m c t f)

/-- What a grid point would write back, as its block. -/
theorem flushed_blk : (dats m 0 c).flushed 6 t
    = (cfg0.win 6).cut (grid0.coords t) (pointBlk (iblk m c 0 t) (iblk m c 1 t) (iblk m c 2 t) (iblk m c 3 t) (iblk m c 4 t) (iblk m c 5 t) (t.val % 16)) := by
  rcases Nat.eq_zero_or_pos (t.val % 16) with h | h
  · rw [Cert.DiffIdeal.Value.flushed6_A m c t (by omega), outA _ _ _ _ _ _ _ _ _ _ _ _ _ _ _ _ _ _ _ _ _ _ _ _ _ _ _ _ _ ((coord2 t).trans h), coord2]
  · rw [Cert.DiffIdeal.Value.flushed6_B m c t h, outB _ _ _ _ _ _ _ _ _ _ _ _ _ _ _ _ _ _ _ _ _ _ _ _ _ _ _ _ _ (by rw [coord2]; exact h), coord2]

include hQ hK hW hB hL in
/-- What a grid point writes back is the result, read through its block. -/
theorem flushed_eq : (dats m 0 c).flushed 6 t = ((cfg0.win 6).blk t).view.read (Elt Ideal) (outBuf m c Q K W B lam) := by
  rw [flushed_blk]
  funext j
  obtain ⟨h0, h1, h2⟩ := origin6 t
  obtain ⟨x0, x1, x2⟩ := extent6 t
  have j0 : (j 0).val < 1 := lt_of_lt_of_eq (j 0).isLt x0
  have j1 : (j 1).val < 256 := lt_of_lt_of_eq (j 1).isLt x1
  have j2 : (j 2).val < 128 := lt_of_lt_of_eq (j 2).isLt x2
  have hcut : ∀ X : Vec Ideal S1x256x128 .bf16, (cfg0.win 6).cut (grid0.coords t) X j = X (ix3 (0 : Fin 1) ⟨(j 1).val, j1⟩ (⟨(j 2).val, j2⟩ : Fin 128)) := by
    intro X
    refine congrArg X (funext fun a => Fin.ext ?_)
    match a with
    | ⟨0, _⟩ => show (j 0).val = 0; omega
    | ⟨1, _⟩ => rfl
    | ⟨2, _⟩ => rfl
  rw [hcut, point_eq m c t Q K W B lam hQ hK hW hB hL]
  show _ = outG Q K W B lam (fun d => arg5 m c (ix1 d)) _ _ _
  congr 1
  · exact Fin.ext (by show t.val / 64 = win0_6.index t 0 * win0_6.size 0 + 1 * (j 0).val; rw [h0]; omega)
  · exact Fin.ext (by show 256 * (t.val % 16) + (j 1).val = win0_6.index t 1 * win0_6.size 1 + 1 * (j 1).val; rw [h1, one_mul])
  · exact Fin.ext (by show 128 * (t.val / 16 % 4) + (j 2).val = win0_6.index t 2 * win0_6.size 2 + 1 * (j 2).val; rw [h2, one_mul])

/-- Which elements of the result a grid point writes. -/
theorem mem_blk (i : S8x4096x512.Idx) : i ∈ ((cfg0.win 6).blk t).view.set
    ↔ (i 0).val = t.val / 64 ∧ (256 * (t.val % 16) ≤ (i 1).val ∧ (i 1).val < 256 * (t.val % 16) + 256) ∧ 128 * (t.val / 16 % 4) ≤ (i 2).val ∧ (i 2).val < 128 * (t.val / 16 % 4) + 128 := by
  show i ∈ ((View.whole main_v1).slice (win0_6.rect t)).set ↔ _
  rw [View.set_slice_whole, Rect.mem_set_unit]
  obtain ⟨h0, h1, h2⟩ := origin6 t
  obtain ⟨x0, x1, x2⟩ := extent6 t
  refine ⟨fun h => ?_, fun h a => ?_⟩
  · have e0 : win0_6.index t 0 * win0_6.size 0 ≤ (i 0 : Nat) ∧ (i 0 : Nat) < win0_6.index t 0 * win0_6.size 0 + win0_6.xsize (grid0.coords t) 0 := h 0
    have e1 : win0_6.index t 1 * win0_6.size 1 ≤ (i 1 : Nat) ∧ (i 1 : Nat) < win0_6.index t 1 * win0_6.size 1 + win0_6.xsize (grid0.coords t) 1 := h 1
    have e2 : win0_6.index t 2 * win0_6.size 2 ≤ (i 2 : Nat) ∧ (i 2 : Nat) < win0_6.index t 2 * win0_6.size 2 + win0_6.xsize (grid0.coords t) 2 := h 2
    rw [h0, x0] at e0
    rw [h1, x1] at e1
    rw [h2, x2] at e2
    exact ⟨by omega, e1, e2⟩
  · match a with
    | ⟨0, _⟩ =>
      show win0_6.index t 0 * win0_6.size 0 ≤ (i 0 : Nat) ∧ (i 0 : Nat) < win0_6.index t 0 * win0_6.size 0 + win0_6.xsize (grid0.coords t) 0
      rw [h0, x0]; have := h.1; omega
    | ⟨1, _⟩ =>
      show win0_6.index t 1 * win0_6.size 1 ≤ (i 1 : Nat) ∧ (i 1 : Nat) < win0_6.index t 1 * win0_6.size 1 + win0_6.xsize (grid0.coords t) 1
      rw [h1, x1]; exact h.2.1
    | ⟨2, _⟩ =>
      show win0_6.index t 2 * win0_6.size 2 ≤ (i 2 : Nat) ∧ (i 2 : Nat) < win0_6.index t 2 * win0_6.size 2 + win0_6.xsize (grid0.coords t) 2
      rw [h2, x2]; exact h.2.2

/-- Every element of the result is written. -/
theorem cover (i : S8x4096x512.Idx) : ∃ t : Fin cfg0.N, (cfg0.win 6).flush t = true ∧ i ∈ ((cfg0.win 6).blk t).view.set := by
  have i0 : (i 0).val < 8 := (i 0).isLt
  have i1 : (i 1).val < 4096 := (i 1).isLt
  have i2 : (i 2).val < 512 := (i 2).isLt
  refine ⟨⟨64 * (i 0).val + 16 * ((i 2).val / 128) + (i 1).val / 256, lt_of_lt_of_eq (by omega) N_0.symm⟩, flush0_6 _, ?_⟩
  rw [mem_blk]
  show (i 0).val = (64 * (i 0).val + 16 * ((i 2).val / 128) + (i 1).val / 256) / 64 ∧ _
  dsimp only
  omega

include hQ hK hW hB hL in
/-- The kernel's result array. -/
theorem final_out : (dats m 0 c).arrAt 6 cfg0.N = outBuf m c Q K W B lam :=
  (dats m 0 c).arrAt_eq_of_cover 6 (outBuf m c Q K W B lam) (fun t _ => flushed_eq m c t Q K W B lam hQ hK hW hB hL) cover

end Array

end Cert.Da

end
-- ==== Proof.DiffLayout.lean ====
/-
  The layout operations of the differential attention's reference, read at an index: the rows of the blocks put in the
  order of the tokens, the features taken apart to heads and maps, and the bias tiles placed by block.
-/
module

public import proofs.«01_k».proof.Proof.DiffArray
public import proofs.«01_k».proof.Proof.Gen.DiffReferenceIdeal.Read
public import Idealize.ShloMosaic.Lib.ValueIdxRank6

public section

set_option maxRecDepth 16384

noncomputable section

namespace Cert.Da

open Cert.DiffReferenceIdeal Cert.DiffReferenceIdeal.Gen Cert.DiffReferenceIdeal.Read Idealize.ShloMosaic Idealize.ShloMosaic.TcCoe Idealize.ShloMosaic.ValueIdx Idealize.SL.Sem
open Cert.Sb (tok tok_lt feat)

/-- The token of row `p` of block `n`. -/
@[expose] def tk (n : Fin 16) (p : Fin 256) : Fin 4096 := ⟨256 * n.val + (32 * (p.val % 8) + p.val / 8), by have := n.isLt; have := p.isLt; omega⟩
/-- Row `p` of block `n`. -/
@[expose] def rw' (n : Fin 16) (p : Fin 256) : Fin 4096 := ⟨256 * n.val + p.val, by have := n.isLt; have := p.isLt; omega⟩
/-- The place and the group of row `p`. -/
@[expose] def plc (p : Fin 256) : Fin 8 := ⟨p.val % 8, Nat.mod_lt _ (by decide)⟩
@[expose] def grp (p : Fin 256) : Fin 32 := ⟨p.val / 8, by have := p.isLt; omega⟩
/-- The token of row `p` within its block. -/
@[expose] def tkIn (p : Fin 256) : Fin 256 := ⟨32 * (p.val % 8) + p.val / 8, by have := p.isLt; omega⟩

/-- Rows put in the order of the tokens. -/
theorem tokens_apply (y : S8x4096x512.Idx → EReal) (b : Fin 8) (n : Fin 16) (p : Fin 256) (d : Fin 512) :
    shapeCast S8x4096x512 (transpose S8x16x8x32x512 [0, 1, 3, 2, 4] (shapeCast S8x16x32x8x512 y shapeCasts_S8x4096x512_S8x16x32x8x512) transposes_S8x16x32x8x512_S8x16x8x32x512_0_1_3_2_4)
      shapeCasts_S8x16x8x32x512_S8x4096x512 (ix3 b (tk n p) d) = y (ix3 b (rw' n p) d) := by
  refine (shapeCast_apply _ _ _ (ix5 b n (plc p) (grp p) d) ?_).trans ?_
  · refine (Shape.rowMajor_val_five _).trans (Eq.trans ?_ (Shape.rowMajor_val_three _).symm)
    show (((b.val * 16 + n.val) * 8 + p.val % 8) * 32 + p.val / 8) * 512 + d.val = (b.val * 4096 + (256 * n.val + (32 * (p.val % 8) + p.val / 8))) * 512 + d.val
    omega
  refine (transpose_apply _ _ _ _ (ix5 b n (grp p) (plc p) d) fun a => ?_).trans ?_
  · match a with | ⟨0, _⟩ => rfl | ⟨1, _⟩ => rfl | ⟨2, _⟩ => rfl | ⟨3, _⟩ => rfl | ⟨4, _⟩ => rfl
  refine shapeCast_apply _ _ _ _ ?_
  refine (Shape.rowMajor_val_three _).trans (Eq.trans ?_ (Shape.rowMajor_val_five _).symm)
  show (b.val * 4096 + (256 * n.val + p.val)) * 512 + d.val = (((b.val * 16 + n.val) * 32 + p.val / 8) * 8 + p.val % 8) * 512 + d.val
  omega

/-- Tokens put back in the order of the rows. -/
theorem rows_apply (y : S8x4096x512.Idx → EReal) (b : Fin 8) (n : Fin 16) (p : Fin 256) (d : Fin 512) :
    shapeCast S8x4096x512 (transpose S8x16x32x8x512 [0, 1, 3, 2, 4] (shapeCast S8x16x8x32x512 y shapeCasts_S8x4096x512_S8x16x8x32x512) transposes_S8x16x8x32x512_S8x16x32x8x512_0_1_3_2_4)
      shapeCasts_S8x16x32x8x512_S8x4096x512 (ix3 b (rw' n p) d) = y (ix3 b (tk n p) d) := by
  refine (shapeCast_apply _ _ _ (ix5 b n (grp p) (plc p) d) ?_).trans ?_
  · refine (Shape.rowMajor_val_five _).trans (Eq.trans ?_ (Shape.rowMajor_val_three _).symm)
    show (((b.val * 16 + n.val) * 32 + p.val / 8) * 8 + p.val % 8) * 512 + d.val = (b.val * 4096 + (256 * n.val + p.val)) * 512 + d.val
    omega
  refine (transpose_apply _ _ _ _ (ix5 b n (plc p) (grp p) d) fun a => ?_).trans ?_
  · match a with | ⟨0, _⟩ => rfl | ⟨1, _⟩ => rfl | ⟨2, _⟩ => rfl | ⟨3, _⟩ => rfl | ⟨4, _⟩ => rfl
  refine shapeCast_apply _ _ _ _ ?_
  refine (Shape.rowMajor_val_three _).trans (Eq.trans ?_ (Shape.rowMajor_val_five _).symm)
  show (b.val * 4096 + (256 * n.val + (32 * (p.val % 8) + p.val / 8))) * 512 + d.val = (((b.val * 16 + n.val) * 8 + p.val % 8) * 32 + p.val / 8) * 512 + d.val
  omega

/-- The blocks of a feature-major array as rows. -/
theorem fromFeats_apply (y : S8x16x512x256.Idx → EReal) (b : Fin 8) (n : Fin 16) (p : Fin 256) (d : Fin 512) :
    shapeCast S8x4096x512 (transpose S8x16x256x512 [0, 1, 3, 2] y transposes_S8x16x512x256_S8x16x256x512_0_1_3_2) shapeCasts_S8x16x256x512_S8x4096x512 (ix3 b (rw' n p) d)
      = y (ix4 b n d p) := by
  refine (shapeCast_apply _ _ _ (ix4 b n p d) ?_).trans ?_
  · refine (Shape.rowMajor_val_four _).trans (Eq.trans ?_ (Shape.rowMajor_val_three _).symm)
    show ((b.val * 16 + n.val) * 256 + p.val) * 512 + d.val = (b.val * 4096 + (256 * n.val + p.val)) * 512 + d.val
    omega
  refine transpose_apply _ _ _ _ _ fun a => ?_
  match a with | ⟨0, _⟩ => rfl | ⟨1, _⟩ => rfl | ⟨2, _⟩ => rfl | ⟨3, _⟩ => rfl

/-- Features taken apart to heads and maps. -/
theorem toMaps_apply (y : S8x4096x512.Idx → EReal) (b : Fin 8) (g : Fin 4) (h : Fin 2) (T : Fin 4096) (e : Fin 64) :
    transpose S8x4x2x4096x64 [0, 2, 3, 1, 4] (shapeCast S8x4096x4x2x64 y shapeCasts_S8x4096x512_S8x4096x4x2x64) transposes_S8x4096x4x2x64_S8x4x2x4096x64_0_2_3_1_4 (ix5 b g h T e)
      = y (ix3 b T (hf g (feat h e))) := by
  refine (transpose_apply _ _ _ _ (ix5 b T g h e) fun a => ?_).trans ?_
  · match a with | ⟨0, _⟩ => rfl | ⟨1, _⟩ => rfl | ⟨2, _⟩ => rfl | ⟨3, _⟩ => rfl | ⟨4, _⟩ => rfl
  refine shapeCast_apply _ _ _ _ ?_
  refine (Shape.rowMajor_val_three _).trans (Eq.trans ?_ (Shape.rowMajor_val_five _).symm)
  show (b.val * 4096 + T.val) * 512 + (128 * g.val + (64 * h.val + e.val)) = (((b.val * 4096 + T.val) * 4 + g.val) * 2 + h.val) * 64 + e.val
  omega

/-- Features taken apart to heads. -/
theorem toHeads_apply (y : S8x4096x512.Idx → EReal) (b : Fin 8) (g : Fin 4) (T : Fin 4096) (f : Fin 128) :
    transpose S8x4x4096x128 [0, 2, 1, 3] (shapeCast S8x4096x4x128 y shapeCasts_S8x4096x512_S8x4096x4x128) transposes_S8x4096x4x128_S8x4x4096x128_0_2_1_3 (ix4 b g T f)
      = y (ix3 b T (hf g f)) := by
  refine (transpose_apply _ _ _ _ (ix4 b T g f) fun a => ?_).trans ?_
  · match a with | ⟨0, _⟩ => rfl | ⟨1, _⟩ => rfl | ⟨2, _⟩ => rfl | ⟨3, _⟩ => rfl
  refine shapeCast_apply _ _ _ _ ?_
  refine (Shape.rowMajor_val_three _).trans (Eq.trans ?_ (Shape.rowMajor_val_four _).symm)
  show (b.val * 4096 + T.val) * 512 + (128 * g.val + f.val) = ((b.val * 4096 + T.val) * 4 + g.val) * 128 + f.val
  omega

/-- Heads put together to features. -/
theorem fromHeads_apply (y : S8x4096x4x128.Idx → EReal) (b : Fin 8) (g : Fin 4) (T : Fin 4096) (f : Fin 128) :
    shapeCast S8x4096x512 y shapeCasts_S8x4096x4x128_S8x4096x512 (ix3 b T (hf g f)) = y (ix4 b T g f) := by
  refine shapeCast_apply _ _ _ _ ?_
  refine (Shape.rowMajor_val_four _).trans (Eq.trans ?_ (Shape.rowMajor_val_three _).symm)
  show ((b.val * 4096 + T.val) * 4 + g.val) * 128 + f.val = (b.val * 4096 + T.val) * 512 + (128 * g.val + f.val)
  omega

/-- A bias tile by tokens, the query first. -/
theorem tile_apply (y : S4x256x256.Idx → EReal) (g : Fin 4) (r p : Fin 256) :
    shapeCast S4x256x256 (transpose S4x8x32x8x32 [0, 4, 3, 2, 1] (shapeCast S4x32x8x32x8 y shapeCasts_S4x256x256_S4x32x8x32x8) transposes_S4x32x8x32x8_S4x8x32x8x32_0_4_3_2_1)
      shapeCasts_S4x8x32x8x32_S4x256x256 (ix3 g (tkIn r) (tkIn p)) = y (ix3 g p r) := by
  refine (shapeCast_apply _ _ _ (ix5 g (plc r) (grp r) (plc p) (grp p)) ?_).trans ?_
  · refine (Shape.rowMajor_val_five _).trans (Eq.trans ?_ (Shape.rowMajor_val_three _).symm)
    show (((g.val * 8 + r.val % 8) * 32 + r.val / 8) * 8 + p.val % 8) * 32 + p.val / 8 = (g.val * 256 + (32 * (r.val % 8) + r.val / 8)) * 256 + (32 * (p.val % 8) + p.val / 8)
    omega
  refine (transpose_apply _ _ _ _ (ix5 g (grp p) (plc p) (grp r) (plc r)) fun a => ?_).trans ?_
  · match a with | ⟨0, _⟩ => rfl | ⟨1, _⟩ => rfl | ⟨2, _⟩ => rfl | ⟨3, _⟩ => rfl | ⟨4, _⟩ => rfl
  refine shapeCast_apply _ _ _ _ ?_
  refine (Shape.rowMajor_val_three _).trans (Eq.trans ?_ (Shape.rowMajor_val_five _).symm)
  show (g.val * 256 + p.val) * 256 + r.val = (((g.val * 32 + p.val / 8) * 8 + p.val % 8) * 32 + r.val / 8) * 8 + r.val % 8
  omega

/-- One of the two tiles of every head. -/
theorem pick_apply (y : S4x2x256x256.Idx → EReal) (o : Fin 2) (hs : S4x2x256x256.Slices ![0, o.val, 0, 0] S4x1x256x256) (g : Fin 4) (p r : Fin 256) :
    shapeCast S4x256x256 (extractStridedSlice S4x1x256x256 ![0, o.val, 0, 0] y hs) shapeCasts_S4x1x256x256_S4x256x256 (ix3 g p r) = y (ix4 g o p r) := by
  refine (shapeCast_apply _ _ _ (ix4 g (0 : Fin 1) p r) ?_).trans ?_
  · refine (Shape.rowMajor_val_four _).trans (Eq.trans ?_ (Shape.rowMajor_val_three _).symm)
    show ((g.val * 1 + 0) * 256 + p.val) * 256 + r.val = (g.val * 256 + p.val) * 256 + r.val
    omega
  refine extractStridedSlice_apply _ _ _ _ _ fun a => ?_
  match a with
  | ⟨0, _⟩ => show g.val = 0 + g.val; omega
  | ⟨1, _⟩ => show o.val = o.val + 0; omega
  | ⟨2, _⟩ => show p.val = 0 + p.val; omega
  | ⟨3, _⟩ => show r.val = 0 + r.val; omega

section Values

variable (x0 : (⟨S8x16x512x256, .bf16⟩ : BufTy).Contents (Elt Ideal)) (x1 : (⟨S8x4096x512, .bf16⟩ : BufTy).Contents (Elt Ideal)) (x2 : (⟨S8x16x512x256, .bf16⟩ : BufTy).Contents (Elt Ideal))
  (x3 : (⟨S4x2x256x256, .f32⟩ : BufTy).Contents (Elt Ideal)) (x4 : (⟨S1x1, .f32⟩ : BufTy).Contents (Elt Ideal)) (x5 : (⟨S128, .f32⟩ : BufTy).Contents (Elt Ideal))

theorem v7_apply (b : Fin 8) (g : Fin 4) (h : Fin 2) (n : Fin 16) (p : Fin 256) (e : Fin 64) :
    val_main_v7 (F := Ideal) x0 (ix5 b g h (tk n p) e) = x0 (ix4 b n (hf g (feat h e)) p) := by
  unfold val_main_v7 val_main_v6
  refine (toMaps_apply _ b g h _ e).trans ?_
  unfold val_main_v5 val_main_v4 val_main_v3
  refine (tokens_apply _ b n p _).trans ?_
  unfold val_main_v2 val_main_v1
  exact fromFeats_apply _ b n p _

theorem v13_apply (b : Fin 8) (g : Fin 4) (h : Fin 2) (n : Fin 16) (p : Fin 256) (e : Fin 64) :
    val_main_v13 (F := Ideal) x1 (ix5 b g h (tk n p) e) = x1 (ix3 b (rw' n p) (hf g (feat h e))) := by
  unfold val_main_v13 val_main_v12
  refine (toMaps_apply _ b g h _ e).trans ?_
  unfold val_main_v11 val_main_v10 val_main_v9
  exact tokens_apply _ b n p _

theorem v21_apply (b : Fin 8) (g : Fin 4) (n : Fin 16) (p : Fin 256) (f : Fin 128) :
    val_main_v21 (F := Ideal) x2 (ix4 b g (tk n p) f) = x2 (ix4 b n (hf g f) p) := by
  unfold val_main_v21 val_main_v20
  refine (toHeads_apply _ b g _ f).trans ?_
  unfold val_main_v19 val_main_v18 val_main_v17
  refine (tokens_apply _ b n p _).trans ?_
  unfold val_main_v16 val_main_v15
  exact fromFeats_apply _ b n p _

theorem v105_apply (b : Fin 8) (g : Fin 4) (n : Fin 16) (p : Fin 256) (f : Fin 128) :
    val_main_v105 (F := Ideal) x0 x1 x2 x3 x4 x5 (ix3 b (rw' n p) (hf g f)) = val_main_v100 (F := Ideal) x0 x1 x2 x3 x4 x5 (ix4 b (tk n p) g f) := by
  rw [val_main_v105_apply]
  show val_main_v104 (F := Ideal) x0 x1 x2 x3 x4 x5 (ix3 b (rw' n p) (hf g f)) = _
  unfold val_main_v104 val_main_v103 val_main_v102
  refine (rows_apply _ b n p _).trans ?_
  unfold val_main_v101
  exact fromHeads_apply _ b g _ f

theorem v41_apply (g : Fin 4) (r p : Fin 256) : val_main_v41 (F := Ideal) x3 (ix3 g (tkIn r) (tkIn p)) = x3 (ix4 g (0 : Fin 2) p r) := by
  unfold val_main_v41 val_main_v40 val_main_v39
  refine (tile_apply _ g r p).trans ?_
  unfold val_main_v38 val_main_v37
  exact pick_apply x3 0 _ g p r
theorem v47_apply (g : Fin 4) (r p : Fin 256) : val_main_v47 (F := Ideal) x3 (ix3 g (tkIn r) (tkIn p)) = x3 (ix4 g (1 : Fin 2) p r) := by
  unfold val_main_v47 val_main_v46 val_main_v45
  refine (tile_apply _ g r p).trans ?_
  unfold val_main_v44 val_main_v43
  exact pick_apply x3 1 _ g p r

/-- The words of the block numbers. -/
theorem same_word : ∀ n n' : Fin 16, IntOp.cmpi .eq (BitVec.ofNat 32 n.val) (BitVec.ofNat 32 n'.val) = BitVec.ofBool (decide (n'.val = n.val)) := by decide +kernel
theorem left_word : ∀ n n' : Fin 16, IntOp.cmpi .eq (BitVec.ofNat 32 n.val) (IntOp.addi (BitVec.ofNat 32 n'.val) 1#32) = BitVec.ofBool (decide (n'.val + 1 = n.val)) := by decide +kernel

/-- The bias by tokens. -/
theorem v51_apply (g : Fin 4) (n n' : Fin 16) (r p : Fin 256) : val_main_v51 (F := Ideal) x3 (ix3 g (tk n r) (tk n' p))
    = if n'.val = n.val then x3 (ix4 g (0 : Fin 2) p r) else if n'.val + 1 = n.val then x3 (ix4 g (1 : Fin 2) p r) else 0 := by
  unfold val_main_v51
  refine (shapeCast_apply _ _ _ (ix5 g n (tkIn r) n' (tkIn p)) ?_).trans ?_
  · refine (Shape.rowMajor_val_five _).trans (Eq.trans ?_ (Shape.rowMajor_val_three _).symm)
    show (((g.val * 16 + n.val) * 256 + (32 * (r.val % 8) + r.val / 8)) * 16 + n'.val) * 256 + (32 * (p.val % 8) + p.val / 8)
      = (g.val * 4096 + (256 * n.val + (32 * (r.val % 8) + r.val / 8))) * 4096 + (256 * n'.val + (32 * (p.val % 8) + p.val / 8))
    omega
  have e1 : val_main_call1_v0 (F := Ideal) (ix5 g n (tkIn r) n' (tkIn p)) = BitVec.ofBool (decide (n'.val = n.val)) := by
    rw [val_main_call1_v0_apply, val_main_v28_apply, val_main_v27_apply, val_main_v25_apply, val_main_v26_apply, val_main_v23_apply, val_main_v24_apply, val_main_v22_apply, val_main_v22_apply]
    exact same_word n n'
  have e0 : val_main_call0_v1 (F := Ideal) (ix5 g n (tkIn r) n' (tkIn p)) = BitVec.ofBool (decide (n'.val + 1 = n.val)) := by
    rw [val_main_call0_v1_apply, val_main_v36_apply, val_main_v35_apply, val_main_v33_apply, val_main_v34_apply, val_main_v29_apply, val_main_v32_apply, val_main_v30_apply, val_main_v31_apply,
      val_main_c_apply, val_main_v22_apply, val_main_v22_apply]
    exact left_word n n'
  have hn : val_main_call1_v1 (F := Ideal) x3 (ix5 g n (tkIn r) n' (tkIn p)) = x3 (ix4 g (0 : Fin 2) p r) := by
    rw [val_main_call1_v1_apply, val_main_v42_apply]
    refine Eq.trans (congrArg (val_main_v41 (F := Ideal) x3) (funext fun a => ?_)) (v41_apply x3 g r p)
    match a with | ⟨0, _⟩ => rfl | ⟨1, _⟩ => rfl | ⟨2, _⟩ => rfl
  have hl : val_main_call0_v2 (F := Ideal) x3 (ix5 g n (tkIn r) n' (tkIn p)) = x3 (ix4 g (1 : Fin 2) p r) := by
    rw [val_main_call0_v2_apply, val_main_v48_apply]
    refine Eq.trans (congrArg (val_main_v47 (F := Ideal) x3) (funext fun a => ?_)) (v47_apply x3 g r p)
    match a with | ⟨0, _⟩ => rfl | ⟨1, _⟩ => rfl | ⟨2, _⟩ => rfl
  have hz : val_main_call0_v3 (F := Ideal) (ix5 g n (tkIn r) n' (tkIn p)) = (0 : EReal) := by
    rw [val_main_call0_v3_apply, val_main_call0_v0_apply, val_main_cst_apply]
    exact Ideal.ofBits_zero_f32
  rw [val_main_v50_apply, val_main_v49_apply, e1, e0, hn, hl, hz, Cert.Sb.select_ofBool, Cert.Sb.select_ofBool]
  simp only [decide_eq_true_eq]

end Values

end Cert.Da

end
-- ==== Proof.DiffRef.lean ====
/-
  The value of the differential attention's reference: the softmax of every map over all tokens, the difference of the
  two maps' means of the values, and its norm.
-/
module

public import proofs.«01_k».proof.Proof.DiffLayout

public section

set_option maxRecDepth 16384

noncomputable section

namespace Cert.Da

open Cert.DiffReferenceIdeal Cert.DiffReferenceIdeal.Gen Cert.DiffReferenceIdeal.Read Idealize.ShloMosaic Idealize.ShloMosaic.TcCoe Idealize.ShloMosaic.ValueIdx Idealize.SL.Sem
open Cert.Sb (tok tok_lt feat)
open Finset

theorem tk_bijective : Function.Bijective (fun x : Fin 16 × Fin 256 => tk x.1 x.2) := by
  refine (Fintype.bijective_iff_injective_and_card _).2 ⟨fun x y h => ?_, by simp⟩
  obtain ⟨⟨n, hn⟩, ⟨p, hp⟩⟩ := x
  obtain ⟨⟨n', hn'⟩, ⟨p', hp'⟩⟩ := y
  have e : 256 * n + (32 * (p % 8) + p / 8) = 256 * n' + (32 * (p' % 8) + p' / 8) := congrArg Fin.val h
  have e1 : n = n' := by omega
  have e2 : p = p' := by omega
  subst e1 e2
  rfl

/-- Every token is a row of a block. -/
theorem tk_cover (T : Fin 4096) : ∃ n p, T = tk n p := by
  obtain ⟨⟨n, p⟩, h⟩ := tk_bijective.2 T
  exact ⟨n, p, h.symm⟩

/-- A sum over the tokens by blocks. -/
theorem sum_tok (f : Fin 4096 → EReal) (z : ℕ → Fin 256 → ℝ) (h : ∀ (n : Fin 16) p, f (tk n p) = ((z n.val p : ℝ) : EReal)) :
    ∑ T : Fin 4096, f T = ((∑ n ∈ range 16, ∑ p : Fin 256, z n p : ℝ) : EReal) := by
  rw [← Fintype.sum_bijective _ tk_bijective (fun x => ((z x.1.val x.2 : ℝ) : EReal)) f (fun x => (h x.1 x.2).symm), Fintype.sum_prod_type, Finset.sum_range, coe_sum]
  exact sum_congr rfl fun n _ => (coe_sum _ _).symm

/-- The word of the causal mask. -/
theorem sge_word (a c : ℕ) (ha : a < 4096) (hc : c < 4096) :
    IntOp.cmpi .sge (IntOp.subi (BitVec.ofNat 32 a) (BitVec.ofNat 32 c)) 0#32 = BitVec.ofBool (decide (c ≤ a)) := by
  show BitVec.ofBool (BitVec.sle 0#32 (BitVec.ofNat 32 a - BitVec.ofNat 32 c)) = _
  congr 1
  unfold BitVec.sle
  have e : ∀ n, n < 4096 → (BitVec.ofNat 32 n).toInt = (n : ℤ) := fun n hn => by
    rw [BitVec.toInt_eq_toNat_of_lt (by rw [BitVec.toNat_ofNat]; omega), BitVec.toNat_ofNat, Nat.mod_eq_of_lt (by omega)]
  rw [BitVec.toInt_sub, e a ha, e c hc, Int.bmod_eq_of_le (by omega) (by omega)]
  simp

/-- The difference of two weighted means. -/
theorem diff_means (z w : ℕ → Fin 256 → EReal) (v : ℕ → Fin 256 → ℝ) (x y l k lam : ℝ) :
    ∑ n ∈ range 16, ∑ p : Fin 256, (wt z x n p / l - lam * (wt w y n p / k)) * v n p = wsum z v 16 x / l - lam * (wsum w v 16 y / k) := by
  unfold wsum
  simp only [Finset.sum_div, Finset.mul_sum, ← Finset.sum_sub_distrib]
  refine sum_congr rfl fun n _ => sum_congr rfl fun p _ => ?_
  ring

/-- A number less an infinity. -/
theorem sub_inf (x : ℝ) {y : EReal} (hy : y = ⊥ ∨ y = ⊤) : (x : EReal) - y = ⊥ ∨ (x : EReal) - y = ⊤ := by
  rcases hy with rfl | rfl
  · exact Or.inr (EReal.coe_sub_bot x)
  · exact Or.inl (by rw [sub_eq_add_neg, EReal.neg_top, EReal.add_bot])

/-- A number that is not zero times `⊥`. -/
theorem coe_mul_bot_inf (x : ℝ) (hx : x ≠ 0) : (x : EReal) * ⊥ = ⊥ ∨ (x : EReal) * ⊥ = ⊤ := by
  rcases lt_or_gt_of_ne hx with h | h
  · exact Or.inr (EReal.coe_mul_bot_of_neg h)
  · exact Or.inl (EReal.coe_mul_bot_of_pos h)

section Values

variable (x0 : (⟨S8x16x512x256, .bf16⟩ : BufTy).Contents (Elt Ideal)) (x1 : (⟨S8x4096x512, .bf16⟩ : BufTy).Contents (Elt Ideal)) (x2 : (⟨S8x16x512x256, .bf16⟩ : BufTy).Contents (Elt Ideal))
  (x3 : (⟨S4x2x256x256, .f32⟩ : BufTy).Contents (Elt Ideal)) (x4 : (⟨S1x1, .f32⟩ : BufTy).Contents (Elt Ideal)) (x5 : (⟨S128, .f32⟩ : BufTy).Contents (Elt Ideal))

variable (Q : Fin 8 → Fin 16 → Fin 512 → Fin 256 → EReal) (W : Fin 8 → Fin 16 → Fin 512 → Fin 256 → ℝ) (K : Fin 8 → Fin 4096 → Fin 512 → EReal) (B : Fin 4 → Fin 2 → Fin 256 → Fin 256 → EReal) (lam : ℝ)

variable (hQ : ∀ b n f r, x0 (ix4 b n f r) = Q b n f r) (hK : ∀ b t f, x1 (ix3 b t f) = K b t f)
  (hW : ∀ b n f p, x2 (ix4 b n f p) = ((W b n f p : ℝ) : EReal)) (hB : ∀ g n p r, x3 (ix4 g n p r) = B g n p r)
  (hL : x4 (ix2 (0 : Fin 1) (0 : Fin 1)) = ((lam : ℝ) : EReal))

/-- The scores of one query of one map. -/
@[expose] def lgt (b : Fin 8) (g : Fin 4) (h : Fin 2) (n : Fin 16) (r : Fin 256) : ℕ → Fin 256 → EReal :=
  seen (fun f r => Q b n (hf g f) r) (fun t f => K b t (hf g f)) (B g) h n.val r

theorem lgt_later (b : Fin 8) (g : Fin 4) (h : Fin 2) (n : Fin 16) (r : Fin 256) (n' : ℕ) (p : Fin 256) (hn : n.val + 1 ≤ n') : lgt Q K B b g h n r n' p = ⊥ :=
  seen_later _ _ _ _ _ _ _ _ hn

/-- The difference of the two maps' means, taken over all blocks. -/
theorem diffG_eq (b : Fin 8) (g : Fin 4) (n : Fin 16) (r : Fin 256) (f : Fin 128) : diffG Q K W B lam b g n r f
    = meanE (lgt Q K B b g 0 n r) (val (fun n f p => W b n (hf g f) p) f) 16 - (lam : EReal) * meanE (lgt Q K B b g 1 n r) (val (fun n f p => W b n (hf g f) p) f) 16 := by
  have hle : n.val + 1 ≤ 16 := n.isLt
  rw [meanE_extend _ _ (n.val + 1) 16 hle fun n' p => lgt_later Q K B b g 0 n r n' p, meanE_extend _ _ (n.val + 1) 16 hle fun n' p => lgt_later Q K B b g 1 n r n' p]
  rfl

include hQ hK in
theorem v60_eq (b : Fin 8) (g : Fin 4) (h : Fin 2) (n n' : Fin 16) (r p : Fin 256) : val_main_v60 (F := Ideal) x0 x1 (ix5 b g h (tk n r) (tk n' p))
    = ∑ e : Fin 64, K b ⟨(256 * n'.val + p.val) % 4096, Nat.mod_lt _ (by decide)⟩ (hf g (feat h e)) * Q b n (hf g (feat h e)) r := by
  rw [val_main_v60_apply]
  refine sum_congr rfl fun e _ => ?_
  have el : lidx_main_v60 (ix5 b g h (tk n r) (tk n' p)) e = ix5 b g h (tk n r) e := by
    funext a; match a with | ⟨0, _⟩ => rfl | ⟨1, _⟩ => rfl | ⟨2, _⟩ => rfl | ⟨3, _⟩ => rfl | ⟨4, _⟩ => rfl
  have er : ridx_main_v60 (ix5 b g h (tk n r) (tk n' p)) e = ix5 b g h (tk n' p) e := by
    funext a; match a with | ⟨0, _⟩ => rfl | ⟨1, _⟩ => rfl | ⟨2, _⟩ => rfl | ⟨3, _⟩ => rfl | ⟨4, _⟩ => rfl
  have ek : rw' n' p = ⟨(256 * n'.val + p.val) % 4096, Nat.mod_lt _ (by decide)⟩ :=
    Fin.ext (Nat.mod_eq_of_lt (rw' n' p).isLt).symm
  rw [el, er, v7_apply, v13_apply, hQ, hK, ek, mul_comm]

theorem mask_eq (b : Fin 8) (g : Fin 4) (h : Fin 2) (n n' : Fin 16) (r p : Fin 256) :
    val_main_call2_v1 (F := Ideal) (ix5 b g h (tk n r) (tk n' p)) = BitVec.ofBool (decide (sees n.val r n'.val p)) := by
  rw [val_main_call2_v1_apply, val_main_v59_apply, val_main_v57_apply, val_main_v58_apply, val_main_c_0_apply, val_main_v55_apply, val_main_v56_apply, val_main_v53_apply, val_main_v54_apply,
    val_main_v52_apply, val_main_v52_apply]
  refine (sge_word (tk n r).val (tk n' p).val (tk n r).isLt (tk n' p).isLt).trans (congrArg BitVec.ofBool ?_)
  refine decide_eq_decide.mpr ?_
  show 256 * n'.val + (32 * (p.val % 8) + p.val / 8) ≤ 256 * n.val + (32 * (r.val % 8) + r.val / 8) ↔ 256 * n'.val + (p.val % 8 * 32 + p.val / 8) ≤ 256 * n.val + (r.val % 8 * 32 + r.val / 8)
  omega

include hQ hK hB in
theorem v64_eq (b : Fin 8) (g : Fin 4) (h : Fin 2) (n n' : Fin 16) (r p : Fin 256) : val_main_v64 (F := Ideal) x0 x1 x3 (ix5 b g h (tk n r) (tk n' p))
    = lgt Q K B b g h n r n'.val p := by
  have eb : val_main_v62 (F := Ideal) x3 (ix5 b g h (tk n r) (tk n' p)) = if n'.val = n.val then B g 0 p r else if n'.val + 1 = n.val then B g 1 p r else 0 := by
    rw [val_main_v62_apply, val_main_v61_apply]
    refine Eq.trans (congrArg (val_main_v51 (F := Ideal) x3) (funext fun a => ?_)) ((v51_apply x3 g n n' r p).trans ?_)
    · match a with | ⟨0, _⟩ => rfl | ⟨1, _⟩ => rfl | ⟨2, _⟩ => rfl
    · rw [hB, hB]
  have ez : val_main_call2_v2 (F := Ideal) (ix5 b g h (tk n r) (tk n' p)) = (⊥ : EReal) := by
    rw [val_main_call2_v2_apply, val_main_call2_v0_apply, val_main_cst_1_apply]
    exact word_bot
  rw [val_main_v64_apply, mask_eq, Cert.Sb.select_ofBool, ez, val_main_v63_apply, eb, v60_eq x0 x1 Q K hQ hK]
  simp only [decide_eq_true_eq]
  rfl

/-- The greatest score of a query, as that of a list of its scores. -/
theorem v67_eq (b : Fin 8) (g : Fin 4) (h : Fin 2) (T : Fin 4096) : ∃ L : List S8x4x2x4096x4096.Idx,
    val_main_v67 (F := Ideal) x0 x1 x3 (ix4 b g h T) = listMax L (val_main_v64 (F := Ideal) x0 x1 x3) ∧ (∀ i ∈ L, ∃ n p, i = ix5 b g h T (tk n p)) ∧ ∀ n p, ix5 b g h T (tk n p) ∈ L := by
  have e65 : ∃ L : List S8x4x2x4096x4096.Idx, val_main_v65 (F := Ideal) x0 x1 x3 (ix4 b g h T) = L.foldl (fun a i => max a (val_main_v64 (F := Ideal) x0 x1 x3 i : EReal)) (Ideal.ofBits .f32 0xFF800000#32)
      ∧ (∀ i ∈ L, ∃ n p, i = ix5 b g h T (tk n p)) ∧ ∀ n p, ix5 b g h T (tk n p) ∈ L := by
    unfold val_main_v65
    rw [Host.reduce_eq_foldl]
    refine ⟨_, rfl, fun i hi => ?_, fun n p => ?_⟩
    · have e := of_decide_eq_true (List.mem_filter.mp hi).2
      obtain ⟨n, p, e'⟩ := tk_cover (i 4)
      refine ⟨n, p, ?_⟩
      funext a
      match a with
      | ⟨0, _⟩ => exact congrFun e 0
      | ⟨1, _⟩ => exact congrFun e 1
      | ⟨2, _⟩ => exact congrFun e 2
      | ⟨3, _⟩ => exact congrFun e 3
      | ⟨4, _⟩ => exact e'
    · rw [List.mem_filter]
      refine ⟨List.mem_map.2 ⟨Shape.rowMajor _ (ix5 b g h T (tk n p)), List.mem_finRange _, Equiv.symm_apply_apply _ _⟩, decide_eq_true ?_⟩
      funext a
      match a with | ⟨0, _⟩ => rfl | ⟨1, _⟩ => rfl | ⟨2, _⟩ => rfl | ⟨3, _⟩ => rfl
  obtain ⟨L, e, h1, h2⟩ := e65
  refine ⟨L, ?_, h1, h2⟩
  rw [val_main_v67_apply, e, val_main_v66_apply, val_main_cst_3_apply]
  show max (Ideal.ofBits .f32 0xFF800000#32) _ = _
  rw [word_bot]
  exact max_eq_right bot_le

include hQ hK hB in
/-- Where there is a softmax the greatest score is a number. -/
theorem v67_good (b : Fin 8) (g : Fin 4) (h : Fin 2) (n : Fin 16) (r : Fin 256) (hg : Good (lgt Q K B b g h n r) 16) :
    ∃ x : ℝ, val_main_v67 (F := Ideal) x0 x1 x3 (ix4 b g h (tk n r)) = (x : EReal) := by
  obtain ⟨L, e, h1, h2⟩ := v67_eq x0 x1 x3 b g h (tk n r)
  obtain ⟨ht, n', hn', p, hp⟩ := hg
  refine ⟨(listMax L (val_main_v64 (F := Ideal) x0 x1 x3)).toReal, e.trans (EReal.coe_toReal (fun e' => ?_) fun e' => ?_).symm⟩
  · obtain ⟨i, hi, hi'⟩ := exists_top L _ e'
    obtain ⟨n'', p', rfl⟩ := h1 i hi
    exact ht n''.val n''.isLt p' ((v64_eq x0 x1 x3 Q K B hQ hK hB b g h n n'' r p').symm.trans hi')
  · have hle := le_listMax L (val_main_v64 (F := Ideal) x0 x1 x3) _ (h2 ⟨n', hn'⟩ p)
    rw [e'] at hle
    exact hp ((v64_eq x0 x1 x3 Q K B hQ hK hB b g h n ⟨n', hn'⟩ r p).symm.trans (le_bot_iff.mp hle))

include hQ hK hB in
/-- Where there is no softmax every exponential is zero. -/
theorem v67_bad (b : Fin 8) (g : Fin 4) (h : Fin 2) (n : Fin 16) (r : Fin 256) (hg : ¬ Good (lgt Q K B b g h n r) 16) (n' : Fin 16) (p : Fin 256) :
    Ideal.exp (lgt Q K B b g h n r n'.val p - val_main_v67 (F := Ideal) x0 x1 x3 (ix4 b g h (tk n r))) = 0 := by
  obtain ⟨L, e, h1, h2⟩ := v67_eq x0 x1 x3 b g h (tk n r)
  rw [e]
  by_cases ht : ∀ k < 16, ∀ p, lgt Q K B b g h n r k p ≠ ⊤
  · have hz : lgt Q K B b g h n r n'.val p = ⊥ := by
      by_contra hz
      exact hg ⟨ht, n'.val, n'.isLt, p, hz⟩
    rw [hz]
    exact exp_bot_sub _
  · push Not at ht
    obtain ⟨k, hk, p', hp'⟩ := ht
    have hle := le_listMax L (val_main_v64 (F := Ideal) x0 x1 x3) _ (h2 ⟨k, hk⟩ p')
    rw [(v64_eq x0 x1 x3 Q K B hQ hK hB b g h n ⟨k, hk⟩ r p').trans hp'] at hle
    rw [top_le_iff.mp hle]
    exact exp_sub_top _

include hQ hK hB in
theorem v71_eq (b : Fin 8) (g : Fin 4) (h : Fin 2) (n n' : Fin 16) (r p : Fin 256) : val_main_v71 (F := Ideal) x0 x1 x3 (ix5 b g h (tk n r) (tk n' p))
    = Ideal.exp (lgt Q K B b g h n r n'.val p - val_main_v67 (F := Ideal) x0 x1 x3 (ix4 b g h (tk n r))) := by
  have em : val_main_v69 (F := Ideal) x0 x1 x3 (ix5 b g h (tk n r) (tk n' p)) = val_main_v67 (F := Ideal) x0 x1 x3 (ix4 b g h (tk n r)) := by
    rw [val_main_v69_apply, val_main_v68_apply]
    refine congrArg (val_main_v67 (F := Ideal) x0 x1 x3) (funext fun a => ?_)
    match a with | ⟨0, _⟩ => rfl | ⟨1, _⟩ => rfl | ⟨2, _⟩ => rfl | ⟨3, _⟩ => rfl
  rw [val_main_v71_apply, val_main_v70_apply, em, v64_eq x0 x1 x3 Q K B hQ hK hB]
  rfl

theorem v74_eq (b : Fin 8) (g : Fin 4) (h : Fin 2) (T T' : Fin 4096) : val_main_v74 (F := Ideal) x0 x1 x3 (ix5 b g h T T') = ∑ U : Fin 4096, val_main_v71 (F := Ideal) x0 x1 x3 (ix5 b g h T U) := by
  rw [val_main_v74_apply, val_main_v73_apply, val_main_v72_apply]
  have e0 : val_main_cst_4 (F := Ideal) (Shape.Idx.first h_S_) = (0 : EReal) := Ideal.ofBits_zero_f32
  rw [e0, zero_add]
  refine sum_congr rfl fun U _ => congrArg (val_main_v71 (F := Ideal) x0 x1 x3) (funext fun a => ?_)
  match a with | ⟨0, _⟩ => rfl | ⟨1, _⟩ => rfl | ⟨2, _⟩ => rfl | ⟨3, _⟩ => rfl | ⟨4, _⟩ => rfl

include hQ hK hB in
/-- The weights of one query of one map, where there is a softmax. -/
theorem v75_good (b : Fin 8) (g : Fin 4) (h : Fin 2) (n : Fin 16) (r : Fin 256) (hg : Good (lgt Q K B b g h n r) 16) : ∃ x : ℝ, ∀ (n' : Fin 16) p,
    val_main_v75 (F := Ideal) x0 x1 x3 (ix5 b g h (tk n r) (tk n' p)) = ((wt (lgt Q K B b g h n r) x n'.val p / wsum (lgt Q K B b g h n r) (fun _ _ => 1) 16 x : ℝ) : EReal) := by
  obtain ⟨x, hx⟩ := v67_good x0 x1 x3 Q K B hQ hK hB b g h n r hg
  refine ⟨x, fun n' p => ?_⟩
  have e71 : ∀ (n' : Fin 16) p, val_main_v71 (F := Ideal) x0 x1 x3 (ix5 b g h (tk n r) (tk n' p)) = ((wt (lgt Q K B b g h n r) x n'.val p : ℝ) : EReal) := fun n' p => by
    rw [v71_eq x0 x1 x3 Q K B hQ hK hB, hx]
    exact exp_sub_real _ (hg.1 n'.val n'.isLt p) x
  have e74 : val_main_v74 (F := Ideal) x0 x1 x3 (ix5 b g h (tk n r) (tk n' p)) = ((wsum (lgt Q K B b g h n r) (fun _ _ => 1) 16 x : ℝ) : EReal) := by
    rw [v74_eq]
    refine sum_tok _ _ fun n'' p' => ?_
    rw [one_mul]
    exact e71 n'' p'
  rw [val_main_v75_apply, e71, e74]
  exact div_real _ _ (wsum_pos _ 16 x hg)

include hQ hK hB in
/-- Where there is none, the reference divides nothing by nothing. -/
theorem v75_bad (b : Fin 8) (g : Fin 4) (h : Fin 2) (n : Fin 16) (r : Fin 256) (hg : ¬ Good (lgt Q K B b g h n r) 16) (T : Fin 4096) :
    val_main_v75 (F := Ideal) x0 x1 x3 (ix5 b g h (tk n r) T) = (⊥ : EReal) := by
  have e71 : ∀ T, val_main_v71 (F := Ideal) x0 x1 x3 (ix5 b g h (tk n r) T) = (0 : EReal) := fun T => by
    obtain ⟨n', p, rfl⟩ := tk_cover T
    rw [v71_eq x0 x1 x3 Q K B hQ hK hB]
    exact v67_bad x0 x1 x3 Q K B hQ hK hB b g h n r hg n' p
  rw [val_main_v75_apply, e71, v74_eq, sum_eq_zero fun U _ => e71 U]
  exact div_zero_zero

theorem v77_idx (b : Fin 8) (g : Fin 4) (T T' : Fin 4096) : idx_main_v76 (idx_main_v77 (ix4 b g T T')) = ix5 b g (0 : Fin 2) T T' := by
  have h0 := b.isLt
  have h1 := g.isLt
  have h2 := T.isLt
  have h3 := T'.isLt
  funext a
  match a with
  | ⟨0, _⟩ => exact Fin.ext (show (((b.val * 4 + g.val) * 4096 + T.val) * 4096 + T'.val) / 67108864 = b.val by omega)
  | ⟨1, _⟩ => exact Fin.ext (show (((b.val * 4 + g.val) * 4096 + T.val) * 4096 + T'.val) / 16777216 % 4 = g.val by omega)
  | ⟨2, _⟩ => rfl
  | ⟨3, _⟩ => exact Fin.ext (show (((b.val * 4 + g.val) * 4096 + T.val) * 4096 + T'.val) / 4096 % 4096 = T.val by omega)
  | ⟨4, _⟩ => exact Fin.ext (show (((b.val * 4 + g.val) * 4096 + T.val) * 4096 + T'.val) % 4096 = T'.val by omega)
theorem v80_idx (b : Fin 8) (g : Fin 4) (T T' : Fin 4096) : idx_main_v79 (idx_main_v80 (ix4 b g T T')) = ix5 b g (1 : Fin 2) T T' := by
  have h := v77_idx b g T T'
  funext a
  match a with
  | ⟨0, _⟩ => exact congrFun h 0
  | ⟨1, _⟩ => exact congrFun h 1
  | ⟨2, _⟩ => rfl
  | ⟨3, _⟩ => exact congrFun h 3
  | ⟨4, _⟩ => exact congrFun h 4

include hL in
theorem v81_eq (i : S8x4x4096x4096.Idx) : val_main_v81 (F := Ideal) x4 i = ((lam : ℝ) : EReal) := by
  rw [val_main_v81_apply]
  unfold val_main_v78
  refine (shapeCast_apply _ _ _ (ix2 (0 : Fin 1) (0 : Fin 1)) ?_).trans hL
  exact (Nat.lt_one_iff.mp (S1x1.rowMajor _).isLt).trans (Nat.lt_one_iff.mp (S_.rowMajor _).isLt).symm

include hL in
/-- The product with the values. -/
theorem v84_sum (b : Fin 8) (g : Fin 4) (T : Fin 4096) (f : Fin 128) : val_main_v84 (F := Ideal) x0 x1 x2 x3 x4 (ix4 b g T f)
    = ∑ U : Fin 4096, (val_main_v75 (F := Ideal) x0 x1 x3 (ix5 b g 0 T U) - (lam : EReal) * val_main_v75 (F := Ideal) x0 x1 x3 (ix5 b g 1 T U)) * val_main_v21 (F := Ideal) x2 (ix4 b g U f) := by
  rw [val_main_v84_apply]
  refine sum_congr rfl fun U _ => ?_
  have el : lidx_main_v84 (ix4 b g T f) U = ix4 b g T U := by
    funext a; match a with | ⟨0, _⟩ => rfl | ⟨1, _⟩ => rfl | ⟨2, _⟩ => rfl | ⟨3, _⟩ => rfl
  have er : ridx_main_v84 (ix4 b g T f) U = ix4 b g U f := by
    funext a; match a with | ⟨0, _⟩ => rfl | ⟨1, _⟩ => rfl | ⟨2, _⟩ => rfl | ⟨3, _⟩ => rfl
  rw [el, er, val_main_v83_apply, val_main_v82_apply, v81_eq x4 lam hL, val_main_v77_apply, val_main_v76_apply, v77_idx, val_main_v80_apply, val_main_v79_apply, v80_idx]
  rfl

include hW in
theorem value_eq (b : Fin 8) (g : Fin 4) (n : Fin 16) (p : Fin 256) (f : Fin 128) :
    val_main_v21 (F := Ideal) x2 (ix4 b g (tk n p) f) = ((val (fun n f p => W b n (hf g f) p) f n.val p : ℝ) : EReal) := by
  have en : n = ⟨n.val % 16, Nat.mod_lt _ (by decide)⟩ := Fin.ext (Nat.mod_eq_of_lt n.isLt).symm
  rw [v21_apply, hW]
  exact congrArg (fun m => ((W b m (hf g f) p : ℝ) : EReal)) en

include hQ hK hB hW hL in
/-- The difference of the two maps' means, where the first map has a softmax, and the second has one or lambda is zero. -/
theorem v84_eq (b : Fin 8) (g : Fin 4) (n : Fin 16) (r : Fin 256) (f : Fin 128) (h0 : Good (lgt Q K B b g 0 n r) 16) (h1 : Good (lgt Q K B b g 1 n r) 16 ∨ lam = 0) :
    val_main_v84 (F := Ideal) x0 x1 x2 x3 x4 (ix4 b g (tk n r) f) = diffG Q K W B lam b g n r f := by
  obtain ⟨x, hx⟩ := v75_good x0 x1 x3 Q K B hQ hK hB b g 0 n r h0
  have hy : ∃ y : ℝ, ∀ (n' : Fin 16) p, (lam : EReal) * val_main_v75 (F := Ideal) x0 x1 x3 (ix5 b g 1 (tk n r) (tk n' p))
      = ((lam * (wt (lgt Q K B b g 1 n r) y n'.val p / wsum (lgt Q K B b g 1 n r) (fun _ _ => 1) 16 y) : ℝ) : EReal) := by
    rcases h1 with h1 | rfl
    · obtain ⟨y, hy⟩ := v75_good x0 x1 x3 Q K B hQ hK hB b g 1 n r h1
      exact ⟨y, fun n' p => by rw [hy, EReal.coe_mul]⟩
    · exact ⟨0, fun n' p => by rw [zero_mul, EReal.coe_zero, zero_mul]⟩
  have hm : (lam : EReal) * meanE (lgt Q K B b g 1 n r) (val (fun n f p => W b n (hf g f) p) f) 16 = ((lam * mean (lgt Q K B b g 1 n r) (val (fun n f p => W b n (hf g f) p) f) 16 : ℝ) : EReal) := by
    rcases h1 with h1 | rfl
    · unfold meanE
      rw [if_pos h1, EReal.coe_mul]
    · rw [zero_mul, EReal.coe_zero, zero_mul]
  obtain ⟨y, hy⟩ := hy
  rw [v84_sum x0 x1 x2 x3 x4 lam hL, diffG_eq, hm]
  refine (sum_tok _ (fun n' p => (wt (lgt Q K B b g 0 n r) x n' p / wsum (lgt Q K B b g 0 n r) (fun _ _ => 1) 16 x
    - lam * (wt (lgt Q K B b g 1 n r) y n' p / wsum (lgt Q K B b g 1 n r) (fun _ _ => 1) 16 y)) * val (fun n f p => W b n (hf g f) p) f n' p)
    fun n' p => ?_).trans ?_
  · rw [hx, hy, value_eq x2 W hW, ← EReal.coe_sub, ← EReal.coe_mul]
  · unfold meanE
    rw [if_pos h0, diff_means, mean_eq, mean_eq, EReal.coe_sub]

include hQ hK hB hW hL in
/-- Everywhere else, on both sides, every feature of the head is zero or infinite. -/
theorem v84_noReal (b : Fin 8) (g : Fin 4) (n : Fin 16) (r : Fin 256) (f : Fin 128) (h : ¬ (Good (lgt Q K B b g 0 n r) 16 ∧ (Good (lgt Q K B b g 1 n r) 16 ∨ lam = 0))) :
    NoReal (val_main_v84 (F := Ideal) x0 x1 x2 x3 x4 (ix4 b g (tk n r) f)) ∧ NoReal (diffG Q K W B lam b g n r f) := by
  rw [v84_sum x0 x1 x2 x3 x4 lam hL, diffG_eq]
  by_cases h0 : Good (lgt Q K B b g 0 n r) 16
  · have h1 : ¬ Good (lgt Q K B b g 1 n r) 16 := fun h1 => h ⟨h0, Or.inl h1⟩
    have hl : lam ≠ 0 := fun hl => h ⟨h0, Or.inr hl⟩
    constructor
    · refine NoReal.sum _ _ fun U => ?_
      obtain ⟨n', p, rfl⟩ := tk_cover U
      obtain ⟨x, hx⟩ := v75_good x0 x1 x3 Q K B hQ hK hB b g 0 n r h0
      rw [v75_bad x0 x1 x3 Q K B hQ hK hB b g 1 n r h1, hx, value_eq x2 W hW]
      exact NoReal.mul_coe (sub_inf _ (coe_mul_bot_inf lam hl)) _
    · unfold meanE
      rw [if_pos h0, if_neg h1]
      exact Or.inr (sub_inf _ (coe_mul_bot_inf lam hl))
  · constructor
    · refine NoReal.sum _ _ fun U => ?_
      obtain ⟨n', p, rfl⟩ := tk_cover U
      rw [v75_bad x0 x1 x3 Q K B hQ hK hB b g 0 n r h0, value_eq x2 W hW, EReal.bot_sub]
      exact NoReal.mul_coe (Or.inl rfl) _
    · unfold meanE
      rw [if_neg h0, EReal.bot_sub]
      exact Or.inr (Or.inl rfl)

/-- The norm of a head's features. -/
theorem v100_eq (b : Fin 8) (T : Fin 4096) (g : Fin 4) (f : Fin 128) :
    val_main_v100 (F := Ideal) x0 x1 x2 x3 x4 x5 (ix4 b T g f) = headNorm (fun j => val_main_v84 (F := Ideal) x0 x1 x2 x3 x4 (ix4 b g T j)) (fun d => x5 (ix1 d)) f := by
  have e85 : ∀ j, val_main_v85 (F := Ideal) x0 x1 x2 x3 x4 (ix4 b T g j) = val_main_v84 (F := Ideal) x0 x1 x2 x3 x4 (ix4 b g T j) := fun j => by
    rw [val_main_v85_apply]
    refine congrArg (val_main_v84 (F := Ideal) x0 x1 x2 x3 x4) (funext fun a => ?_)
    match a with | ⟨0, _⟩ => rfl | ⟨1, _⟩ => rfl | ⟨2, _⟩ => rfl | ⟨3, _⟩ => rfl
  have e87 : val_main_v88 (F := Ideal) x0 x1 x2 x3 x4 (idx_main_v94 (ix4 b T g f))
      = ∑ j : Fin 128, val_main_v84 (F := Ideal) x0 x1 x2 x3 x4 (ix4 b g T j) * val_main_v84 (F := Ideal) x0 x1 x2 x3 x4 (ix4 b g T j) := by
    rw [val_main_v88_apply, val_main_v87_apply]
    have e0 : val_main_cst_5 (F := Ideal) (Shape.Idx.first h_S_) = (0 : EReal) := Ideal.ofBits_zero_f32
    rw [e0, zero_add]
    refine sum_congr rfl fun j _ => ?_
    have ei : idx_main_v87 (idx_main_v88 (idx_main_v94 (ix4 b T g f))) j = ix4 b T g j := by
      funext a; match a with | ⟨0, _⟩ => rfl | ⟨1, _⟩ => rfl | ⟨2, _⟩ => rfl | ⟨3, _⟩ => rfl
    rw [ei, val_main_v86_apply, e85]
    rfl
  have e96 : val_main_v97 (F := Ideal) x5 (ix4 b T g f) = x5 (ix1 f) := by
    rw [val_main_v97_apply, val_main_v96_apply]
    refine congrArg x5 (funext fun a => ?_)
    match a with | ⟨0, _⟩ => rfl
  rw [val_main_v100_apply, val_main_v98_apply, val_main_v95_apply, e85, e96, val_main_v94_apply, val_main_v93_apply, val_main_v92_apply, val_main_v90_apply, e87, val_main_v89_apply,
    val_main_v91_apply, val_main_v99_apply, val_main_cst_6_apply, val_main_cst_7_apply, val_main_cst_8_apply]
  rfl

include hQ hK hB hW hL in
/-- The reference's result. -/
theorem ref_out (b : Fin 8) (i : Fin 4096) (f : Fin 512) :
    val_main_v105 (F := Ideal) x0 x1 x2 x3 x4 x5 (ix3 b i f) = outG Q K W B lam (fun d => x5 (ix1 d)) b i f := by
  have hi := i.isLt
  have hf' := f.isLt
  have ei : i = rw' ⟨i.val / 256, by omega⟩ ⟨i.val % 256, by omega⟩ := Fin.ext (show i.val = 256 * (i.val / 256) + i.val % 256 by omega)
  have ef : f = hf ⟨f.val / 128, by omega⟩ ⟨f.val % 128, by omega⟩ := Fin.ext (show f.val = 128 * (f.val / 128) + f.val % 128 by omega)
  have e := v105_apply x0 x1 x2 x3 x4 x5 b ⟨f.val / 128, by omega⟩ ⟨i.val / 256, by omega⟩ ⟨i.val % 256, by omega⟩ ⟨f.val % 128, by omega⟩
  rw [← ei, ← ef] at e
  rw [e, v100_eq]
  unfold outG
  by_cases h : Good (lgt Q K B b ⟨f.val / 128, by omega⟩ 0 ⟨i.val / 256, by omega⟩ ⟨i.val % 256, by omega⟩) 16 ∧ (Good (lgt Q K B b ⟨f.val / 128, by omega⟩ 1 ⟨i.val / 256, by omega⟩ ⟨i.val % 256, by omega⟩) 16 ∨ lam = 0)
  · refine congrArg (fun y => headNorm y (fun d => x5 (ix1 d)) _) (funext fun j => ?_)
    exact v84_eq x0 x1 x2 x3 x4 Q W K B lam hQ hK hW hB hL b _ _ _ j h.1 h.2
  · refine (headNorm_noReal _ _ (fun j => ?_) _).trans (headNorm_noReal _ _ (fun j => ?_) _).symm
    · exact (v84_noReal x0 x1 x2 x3 x4 Q W K B lam hQ hK hW hB hL b _ _ _ j h).1
    · exact (v84_noReal x0 x1 x2 x3 x4 Q W K B lam hQ hK hW hB hL b _ _ _ j h).2

end Values

end Cert.Da

end
-- ==== Proof.DiffFinite.lean ====
/-
  What the precondition of the differential attention says over the extended reals, and the array that kernel and
  reference both leave under it.
-/
module

public import proofs.«01_k».proof.Proof.DiffRef
public import proofs.«01_k».proof.Proof.Finite

public section

noncomputable section

namespace Cert.Da

open Cert.DiffIdeal Cert.DiffIdeal.Gen Idealize.ShloMosaic Idealize.ShloMosaic.TcCoe Idealize.ShloMosaic.ValueIdx Idealize.SL.Sem

/-- The side conditions that the precondition's operations take. -/
theorem pre_facts : Cert.Pre_finite_values_and_lambda.Facts where
  bitsLt_bf16_f32 := by decide
  bcast_S_S8x16x512x256 := by decide
  bcast_S_S1x1 := by decide

/-- An extended real whose absolute value is below something is the real it is read as. -/
theorem toReal_of_abs_lt (x y : EReal) (h : Ideal.cmp .olt (max x (-x)) y = 1#1) : x = ((x.toReal : ℝ) : EReal) := by
  obtain ⟨r, hr⟩ := Cert.Sb.real_of_abs_lt x y h
  rw [hr, EReal.toReal_coe]

variable (m : (ℓ : Loc nD τ sig) → Buf (Elt Ideal) ℓ) (c : Dev nD)

/-- The array that the call leaves. -/
@[expose] def resBuf : Buf (Elt Ideal) ((c : Thread nD τ).loc main_v1) :=
  outBuf m c (fun b n f r => arg0 m c (ix4 b n f r)) (fun b t f => arg1 m c (ix3 b t f)) (fun b n f p => (arg2 m c (ix4 b n f p)).toReal)
    (fun g n p r => arg3 m c (ix4 g n p r)) (arg4 m c (ix2 (0 : Fin 1) (0 : Fin 1))).toReal

variable [hP : Cert.Pre_finite_values_and_lambda.Facts] (h : Cert.Pre_DiffIdeal_finite_values_and_lambda m)

include h in
/-- The kernel leaves it. -/
theorem kernel_eq : (dats m 0 c).arrAt 6 cfg0.N = resBuf m c :=
  final_out m c _ _ _ _ _ (fun _ _ _ _ => rfl) (fun _ _ _ => rfl) (fun _ _ _ _ => toReal_of_abs_lt _ _ (congrFun (h c).1 _)) (fun _ _ _ _ => rfl)
    (toReal_of_abs_lt _ _ (congrFun (h c).2 _))

include h in
/-- The reference leaves it from equal arguments. -/
theorem reference_eq {x0 x2 : S8x16x512x256.Idx → EReal} {x1 : S8x4096x512.Idx → EReal} {x3 : S4x2x256x256.Idx → EReal} {x4 : S1x1.Idx → EReal} {x5 : S128.Idx → EReal}
    (e : x0 = arg0 m c ∧ x1 = arg1 m c ∧ x2 = arg2 m c ∧ x3 = arg3 m c ∧ x4 = arg4 m c ∧ x5 = arg5 m c) :
    Cert.DiffReferenceIdeal.Read.val_main_v105 (F := Ideal) x0 x1 x2 x3 x4 x5 = resBuf m c := by
  obtain ⟨rfl, rfl, rfl, rfl, rfl, rfl⟩ := e
  funext i
  have e := ref_out (arg0 m c) (arg1 m c) (arg2 m c) (arg3 m c) (arg4 m c) (arg5 m c) _ _ _ _ _ (fun _ _ _ _ => rfl) (fun _ _ _ => rfl)
    (fun _ _ _ _ => toReal_of_abs_lt _ _ (congrFun (h c).1 _)) (fun _ _ _ _ => rfl) (toReal_of_abs_lt _ _ (congrFun (h c).2 _)) (i 0) (i 1) (i 2)
  refine (congrArg _ (eq_ix3 i)).trans (e.trans ?_)
  rfl

end Cert.Da

end
-- ==== Proof.ModArray.lean ====
/-
  The two arrays that the modulation kernel leaves, each as one function of its arguments.
-/
module

public import proofs.«01_k».proof.Proof.OutBlock
public import proofs.«01_k».proof.Proof.Gen.ModulationIdeal.Value
public import Idealize.ShloMosaic.Lib.StableHlo.RunRead

public section

set_option maxRecDepth 16384

noncomputable section

namespace Cert.Md

open Cert.Rms Cert.Op Cert.ModulationIdeal Cert.ModulationIdeal.Gen Idealize.ShloMosaic Idealize.ShloMosaic.TcCoe Idealize.ShloMosaic.ValueIdx Idealize.SL.Sem
open Finset

/-- A number times its sigmoid. -/
@[expose] def silu (x : EReal) : EReal := x * Ideal.div (Ideal.ofBits .f32 0x3F800000#32) (gateDen x)

/-- The kernel divides the number itself. -/
theorem silu_eq (x : EReal) : Ideal.div x (Ideal.ofBits .f32 0x3F800000#32 + Ideal.exp (Ideal.ofBits .f32 0x00000000#32 - x)) = silu x := by
  have h := gated_eq 1 x
  unfold gated at h
  rw [one_mul, one_mul] at h
  exact h

/-- The product of a row of sigmoid-weighted conditions with a column of the weights, plus the bias. -/
@[expose] def modRow (x w : Fin 1024 → EReal) (b : EReal) : EReal := (∑ k : Fin 1024, silu (x k) * w k) + b

/-- The difference of the exponentials of two scalar products, plus the first layer's constant. -/
@[expose] def lamOf (p q r s : Fin 64 → EReal) : EReal :=
  Ideal.exp (∑ k : Fin 64, p k * q k) - Ideal.exp (∑ k : Fin 64, r k * s k) + Ideal.ofBits .f32 0x3E4CCCCD#32

/-- What one grid point writes. -/
theorem dot_apply (h : FVec Ideal S8x1024 .f32) (w : FVec Ideal S1024x512 .f32) (r : Fin 8) (d : Fin 512) :
    matmul dot_S8x1024_S1024x512_S8x512_1_0_0_1_n_n (some .fp32) h w (constant S8x512 .f32 0x00000000#32) (ix2 r d) = ∑ k : Fin 1024, h (ix2 r k) * w (ix2 k d) := by
  refine (Ideal.matmul_plain_apply (M := 8) (K := 1024) (N := 512) (some .fp32) h w (constant S8x512 .f32 0x00000000#32) r d).trans ?_
  show Ideal.ofBits .f32 0x00000000#32 + _ = _
  rw [Ideal.ofBits_zero_f32, zero_add]

theorem bias_apply {α : Type} (x : S1x512.Idx → α) (r : Fin 8) (d : Fin 512) : broadcastTo S8x512 x broadcasts_S1x512_S8x512 (ix2 r d) = x (ix2 (0 : Fin 1) d) := by
  refine broadcastTo_apply x broadcasts_S1x512_S8x512 _ _ fun a => ?_
  match a with
  | ⟨0, _⟩ => rfl
  | ⟨1, _⟩ => rfl

theorem pay1_apply (x : Vec Ideal S8x1024 .f32) (w : Vec Ideal S1024x512 .f32) (b : Vec Ideal S1x512 .f32) (r : Fin 8) (d : Fin 512) :
    k0_pay1 x w b (ix2 r d) = modRow (fun k => x (ix2 r k)) (fun k => w (ix2 k d)) (b (ix2 (0 : Fin 1) d)) := by
  unfold k0_pay1
  exact congrArg₂ (· + ·) ((dot_apply _ _ r d).trans (Finset.sum_congr rfl fun k _ => congrArg (· * w (ix2 k d)) (silu_eq (x (ix2 r k)))))
    ((bias_apply _ r d).trans (castSame_apply b shapeCasts_S1x512_S1x512 _))

theorem scalar_apply (p q : Vec Ideal S1x64 .f32) (i : S1.Idx) :
    (multiReduction .add [1] S1 (mulf (shapeCast S1x64 p shapeCasts_S1x64_S1x64) (shapeCast S1x64 q shapeCasts_S1x64_S1x64)) 0x00000000#32 reduces_S1x64_S1 (.inl rfl) rfl : FVec Ideal S1 .f32) i
      = ∑ k : Fin 64, p (ix2 (0 : Fin 1) k) * q (ix2 (0 : Fin 1) k) := by
  refine (Ideal.multiReduction_add_single _ _ reduces_S1x64_S1 (.inl rfl) rfl i).trans ?_
  refine Finset.sum_congr rfl fun k _ => ?_
  refine congrArg₂ (· * ·) ((castSame_apply p shapeCasts_S1x64_S1x64 _).trans (congrArg p ?_)) ((castSame_apply q shapeCasts_S1x64_S1x64 _).trans (congrArg q ?_)) <;>
  · funext a
    refine Fin.ext ?_
    match a with
    | ⟨0, _⟩ =>
      have h := (i 0).isLt
      show (i 0).val = 0
      exact Nat.lt_one_iff.1 h
    | ⟨1, _⟩ => rfl

section Out

variable (x0 : Vec Ideal S8x1024 .f32) (x1 : Vec Ideal S1024x512 .f32) (x2 : Vec Ideal S1x512 .f32) (x3 x4 x5 x6 : Vec Ideal S1x64 .f32)

theorem out7_apply (r : Fin 8) (d : Fin 512) : out0_7 x0 x1 x2 x3 x4 x5 x6 (ix2 r d) = modRow (fun k => x0 (ix2 r k)) (fun k => x1 (ix2 k d)) (x2 (ix2 (0 : Fin 1) d)) := by
  unfold out0_7
  rw [View.canon_unit_zero zero2, pay1_apply, View.ld_unit_zero zero2, View.ld_unit_zero zero2, View.ld_unit_zero zero2]

theorem out8_apply (i : S1x128.Idx) : out0_8 x0 x1 x2 x3 x4 x5 x6 i
    = lamOf (fun k => x3 (ix2 (0 : Fin 1) k)) (fun k => x4 (ix2 (0 : Fin 1) k)) (fun k => x5 (ix2 (0 : Fin 1) k)) (fun k => x6 (ix2 (0 : Fin 1) k)) := by
  unfold out0_8
  rw [Cert.ModulationIdeal.Value.canon8_eq, View.ld_unit_zero zero2, View.ld_unit_zero zero2, View.ld_unit_zero zero2, View.ld_unit_zero zero2]
  exact congrArg₂ (fun y z => Ideal.exp y - Ideal.exp z + Ideal.ofBits .f32 0x3E4CCCCD#32) (scalar_apply x3 x4 _) (scalar_apply x5 x6 _)

end Out

/-- The blocks of the windows at a grid point. -/
theorem origin0 : ∀ t : Fin grid0.N, win0_0.index t 0 * win0_0.size 0 = 0 ∧ win0_0.index t 1 * win0_0.size 1 = 0 := by decide +kernel
theorem origin1 : ∀ t : Fin grid0.N, win0_1.index t 0 * win0_1.size 0 = 0 ∧ win0_1.index t 1 * win0_1.size 1 = 512 * t.val := by decide +kernel
theorem origin2 : ∀ t : Fin grid0.N, win0_2.index t 0 * win0_2.size 0 = 0 ∧ win0_2.index t 1 * win0_2.size 1 = 512 * t.val := by decide +kernel
theorem origin3 : ∀ t : Fin grid0.N, win0_3.index t 0 * win0_3.size 0 = 0 ∧ win0_3.index t 1 * win0_3.size 1 = 0 := by decide +kernel
theorem origin4 : ∀ t : Fin grid0.N, win0_4.index t 0 * win0_4.size 0 = 0 ∧ win0_4.index t 1 * win0_4.size 1 = 0 := by decide +kernel
theorem origin5 : ∀ t : Fin grid0.N, win0_5.index t 0 * win0_5.size 0 = 0 ∧ win0_5.index t 1 * win0_5.size 1 = 0 := by decide +kernel
theorem origin6 : ∀ t : Fin grid0.N, win0_6.index t 0 * win0_6.size 0 = 0 ∧ win0_6.index t 1 * win0_6.size 1 = 0 := by decide +kernel
theorem origin7 : ∀ t : Fin grid0.N, win0_7.index t 0 * win0_7.size 0 = 0 ∧ win0_7.index t 1 * win0_7.size 1 = 512 * t.val := by decide +kernel
theorem origin8 : ∀ t : Fin grid0.N, win0_8.index t 0 * win0_8.size 0 = 0 ∧ win0_8.index t 1 * win0_8.size 1 = 0 := by decide +kernel
theorem extent7 : ∀ t : Fin grid0.N, win0_7.xsize (grid0.coords t) 0 = 8 ∧ win0_7.xsize (grid0.coords t) 1 = 512 := by decide +kernel
theorem extent8 : ∀ t : Fin grid0.N, win0_8.xsize (grid0.coords t) 0 = 1 ∧ win0_8.xsize (grid0.coords t) 1 = 128 := by decide +kernel

section Point

variable (m : (ℓ : Loc nD τ sig) → Buf (Elt Ideal) ℓ) (c : Dev nD) (t : Fin cfg0.N)

theorem t_lt : t.val < 6 := lt_of_lt_of_eq t.isLt N_0

/-- The columns of a grid point. -/
@[expose] def ptCol (d : Fin 512) : Fin 3072 := ⟨512 * t.val + d.val, by have := d.isLt; have := t_lt t; omega⟩

abbrev arg0 : S8x1024.Idx → EReal := m ((c : Thread nD τ).loc main_arg0)
abbrev arg1 : S1024x3072.Idx → EReal := m ((c : Thread nD τ).loc main_arg1)
abbrev arg2 : S3072.Idx → EReal := m ((c : Thread nD τ).loc main_arg2)
abbrev arg3 : S64.Idx → EReal := m ((c : Thread nD τ).loc main_arg3)
abbrev arg4 : S64.Idx → EReal := m ((c : Thread nD τ).loc main_arg4)
abbrev arg5 : S64.Idx → EReal := m ((c : Thread nD τ).loc main_arg5)
abbrev arg6 : S64.Idx → EReal := m ((c : Thread nD τ).loc main_arg6)

/-- A vector that the call takes as a row. -/
theorem asRow_apply {α : Type} {n : ℕ} (x : (⟨1, ![n]⟩ : Shape).Idx → α) (h : Shape.ShapeCasts ⟨1, ![n]⟩ ⟨2, ![1, n]⟩) (d : Fin n) :
    shapeCast ⟨2, ![1, n]⟩ x h (ix2 (0 : Fin 1) d) = x (ix1 d) := by
  refine shapeCast_apply x h _ _ ?_
  refine (Shape.rowMajor_val_one _).trans (Eq.trans ?_ (Shape.rowMajor_val_two _).symm)
  show d.val = 0 * n + d.val
  rw [zero_mul, zero_add]

theorem V_v0 : V m c main_v0 = shapeCast S1x3072 (arg2 m c) shapeCasts_S3072_S1x3072 := by
  unfold V hostOps0
  after_results_simp
  rfl
theorem V_v1 : V m c main_v1 = shapeCast S1x64 (arg3 m c) shapeCasts_S64_S1x64 := by
  unfold V hostOps0
  after_results_simp
  rfl
theorem V_v2 : V m c main_v2 = shapeCast S1x64 (arg4 m c) shapeCasts_S64_S1x64 := by
  unfold V hostOps0
  after_results_simp
  rfl
theorem V_v3 : V m c main_v3 = shapeCast S1x64 (arg5 m c) shapeCasts_S64_S1x64 := by
  unfold V hostOps0
  after_results_simp
  rfl
theorem V_v4 : V m c main_v4 = shapeCast S1x64 (arg6 m c) shapeCasts_S64_S1x64 := by
  unfold V hostOps0
  after_results_simp
  rfl

theorem iblk0_apply (r : Fin 8) (k : Fin 1024) : iblk m c 0 t (ix2 r k) = arg0 m c (ix2 r k) := by
  unfold iblk
  show V m c main_arg0 _ = _
  rw [V_main_arg0]
  refine congrArg (m ((c : Thread nD τ).loc main_arg0)) (funext fun a => Fin.ext ?_)
  obtain ⟨h0, h1⟩ := origin0 t
  match a with
  | ⟨0, _⟩ => show win0_0.index t 0 * win0_0.size 0 + 1 * r.val = r.val; rw [h0, one_mul, zero_add]
  | ⟨1, _⟩ => show win0_0.index t 1 * win0_0.size 1 + 1 * k.val = k.val; rw [h1, one_mul, zero_add]
theorem iblk1_apply (k : Fin 1024) (d : Fin 512) : iblk m c 1 t (ix2 k d) = arg1 m c (ix2 k (ptCol t d)) := by
  unfold iblk
  show V m c main_arg1 _ = _
  rw [V_main_arg1]
  refine congrArg (m ((c : Thread nD τ).loc main_arg1)) (funext fun a => Fin.ext ?_)
  obtain ⟨h0, h1⟩ := origin1 t
  match a with
  | ⟨0, _⟩ => show win0_1.index t 0 * win0_1.size 0 + 1 * k.val = k.val; rw [h0, one_mul, zero_add]
  | ⟨1, _⟩ => show win0_1.index t 1 * win0_1.size 1 + 1 * d.val = 512 * t.val + d.val; rw [h1, one_mul]
theorem iblk2_apply (d : Fin 512) : iblk m c 2 t (ix2 (0 : Fin 1) d) = arg2 m c (ix1 (ptCol t d)) := by
  unfold iblk
  refine Eq.trans ?_ ((congrFun (V_v0 m c) (ix2 (0 : Fin 1) (ptCol t d))).trans (asRow_apply (arg2 m c) shapeCasts_S3072_S1x3072 (ptCol t d)))
  show V m c main_v0 _ = _
  refine congrArg (V m c main_v0) (funext fun a => Fin.ext ?_)
  obtain ⟨h0, h1⟩ := origin2 t
  match a with
  | ⟨0, _⟩ => show win0_2.index t 0 * win0_2.size 0 + 1 * 0 = 0; rw [h0]
  | ⟨1, _⟩ => show win0_2.index t 1 * win0_2.size 1 + 1 * d.val = 512 * t.val + d.val; rw [h1, one_mul]
theorem iblk3_apply (k : Fin 64) : iblk m c 3 t (ix2 (0 : Fin 1) k) = arg3 m c (ix1 k) := by
  unfold iblk
  refine Eq.trans ?_ ((congrFun (V_v1 m c) (ix2 (0 : Fin 1) k)).trans (asRow_apply (arg3 m c) shapeCasts_S64_S1x64 k))
  show V m c main_v1 _ = _
  refine congrArg (V m c main_v1) (funext fun a => Fin.ext ?_)
  obtain ⟨h0, h1⟩ := origin3 t
  match a with
  | ⟨0, _⟩ => show win0_3.index t 0 * win0_3.size 0 + 1 * 0 = 0; rw [h0]
  | ⟨1, _⟩ => show win0_3.index t 1 * win0_3.size 1 + 1 * k.val = k.val; rw [h1, one_mul, zero_add]
theorem iblk4_apply (k : Fin 64) : iblk m c 4 t (ix2 (0 : Fin 1) k) = arg4 m c (ix1 k) := by
  unfold iblk
  refine Eq.trans ?_ ((congrFun (V_v2 m c) (ix2 (0 : Fin 1) k)).trans (asRow_apply (arg4 m c) shapeCasts_S64_S1x64 k))
  show V m c main_v2 _ = _
  refine congrArg (V m c main_v2) (funext fun a => Fin.ext ?_)
  obtain ⟨h0, h1⟩ := origin4 t
  match a with
  | ⟨0, _⟩ => show win0_4.index t 0 * win0_4.size 0 + 1 * 0 = 0; rw [h0]
  | ⟨1, _⟩ => show win0_4.index t 1 * win0_4.size 1 + 1 * k.val = k.val; rw [h1, one_mul, zero_add]
theorem iblk5_apply (k : Fin 64) : iblk m c 5 t (ix2 (0 : Fin 1) k) = arg5 m c (ix1 k) := by
  unfold iblk
  refine Eq.trans ?_ ((congrFun (V_v3 m c) (ix2 (0 : Fin 1) k)).trans (asRow_apply (arg5 m c) shapeCasts_S64_S1x64 k))
  show V m c main_v3 _ = _
  refine congrArg (V m c main_v3) (funext fun a => Fin.ext ?_)
  obtain ⟨h0, h1⟩ := origin5 t
  match a with
  | ⟨0, _⟩ => show win0_5.index t 0 * win0_5.size 0 + 1 * 0 = 0; rw [h0]
  | ⟨1, _⟩ => show win0_5.index t 1 * win0_5.size 1 + 1 * k.val = k.val; rw [h1, one_mul, zero_add]
theorem iblk6_apply (k : Fin 64) : iblk m c 6 t (ix2 (0 : Fin 1) k) = arg6 m c (ix1 k) := by
  unfold iblk
  refine Eq.trans ?_ ((congrFun (V_v4 m c) (ix2 (0 : Fin 1) k)).trans (asRow_apply (arg6 m c) shapeCasts_S64_S1x64 k))
  show V m c main_v4 _ = _
  refine congrArg (V m c main_v4) (funext fun a => Fin.ext ?_)
  obtain ⟨h0, h1⟩ := origin6 t
  match a with
  | ⟨0, _⟩ => show win0_6.index t 0 * win0_6.size 0 + 1 * 0 = 0; rw [h0]
  | ⟨1, _⟩ => show win0_6.index t 1 * win0_6.size 1 + 1 * k.val = k.val; rw [h1, one_mul, zero_add]

/-- The modulation's element at a batch element and a column, and lambda, of the arguments. -/
@[expose] def modG (a0 : S8x1024.Idx → EReal) (a1 : S1024x3072.Idx → EReal) (a2 : S3072.Idx → EReal) (b : Fin 8) (d : Fin 3072) : EReal :=
  modRow (fun k => a0 (ix2 b k)) (fun k => a1 (ix2 k d)) (a2 (ix1 d))
@[expose] def lamG (a3 a4 a5 a6 : S64.Idx → EReal) : EReal :=
  lamOf (fun k => a3 (ix1 k)) (fun k => a4 (ix1 k)) (fun k => a5 (ix1 k)) (fun k => a6 (ix1 k))

@[expose] def modBuf : S8x3072.Idx → EReal := fun i => modG (arg0 m c) (arg1 m c) (arg2 m c) ⟨(i 0).val, (i 0).isLt⟩ ⟨(i 1).val, (i 1).isLt⟩
@[expose] def lamBuf : S1x128.Idx → EReal := fun _ => lamG (arg3 m c) (arg4 m c) (arg5 m c) (arg6 m c)

/-- What a grid point writes back, which elements it writes, and the arrays. -/
theorem flushed7_eq : (dats m 0 c).flushed 7 t = ((cfg0.win 7).blk t).view.read (Elt Ideal) (modBuf m c) := by
  rw [Cert.ModulationIdeal.Value.flushed7]
  funext j
  obtain ⟨h0, h1⟩ := origin7 t
  obtain ⟨x0, x1⟩ := extent7 t
  have j0 : (j 0).val < 8 := lt_of_lt_of_eq (j 0).isLt x0
  have j1 : (j 1).val < 512 := lt_of_lt_of_eq (j 1).isLt x1
  have hcut : ∀ X : Vec Ideal S8x512 .f32, (cfg0.win 7).cut (grid0.coords t) X j = X (ix2 ⟨(j 0).val, j0⟩ ⟨(j 1).val, j1⟩) := by
    intro X
    refine congrArg X (funext fun a => Fin.ext ?_)
    match a with
    | ⟨0, _⟩ => rfl
    | ⟨1, _⟩ => rfl
  rw [hcut, out7_apply]
  simp only [iblk0_apply, iblk1_apply, iblk2_apply]
  show modG (arg0 m c) (arg1 m c) (arg2 m c) _ _ = modG (arg0 m c) (arg1 m c) (arg2 m c) _ _
  congr 1
  · exact Fin.ext (by show (j 0).val = win0_7.index t 0 * win0_7.size 0 + 1 * (j 0).val; rw [h0, one_mul, zero_add])
  · exact Fin.ext (by show 512 * t.val + (j 1).val = win0_7.index t 1 * win0_7.size 1 + 1 * (j 1).val; rw [h1, one_mul])
theorem flushed8_eq : (dats m 0 c).flushed 8 t = ((cfg0.win 8).blk t).view.read (Elt Ideal) (lamBuf m c) := by
  rw [Cert.ModulationIdeal.Value.flushed8]
  funext j
  have h := fun i : S1x128.Idx => out8_apply (iblk m c 0 t) (iblk m c 1 t) (iblk m c 2 t) (iblk m c 3 t) (iblk m c 4 t) (iblk m c 5 t) (iblk m c 6 t) i
  simp only [iblk3_apply, iblk4_apply, iblk5_apply, iblk6_apply] at h
  exact h _

theorem mem_blk7 (i : S8x3072.Idx) : i ∈ ((cfg0.win 7).blk t).view.set ↔ 512 * t.val ≤ (i 1).val ∧ (i 1).val < 512 * t.val + 512 := by
  show i ∈ ((View.whole main_v5_0).slice (win0_7.rect t)).set ↔ _
  rw [View.set_slice_whole, Rect.mem_set_unit]
  obtain ⟨h0, h1⟩ := origin7 t
  obtain ⟨x0, x1⟩ := extent7 t
  have i0 : (i 0).val < 8 := (i 0).isLt
  refine ⟨fun h => ?_, fun h a => ?_⟩
  · have e1 : win0_7.index t 1 * win0_7.size 1 ≤ (i 1 : Nat) ∧ (i 1 : Nat) < win0_7.index t 1 * win0_7.size 1 + win0_7.xsize (grid0.coords t) 1 := h 1
    rw [h1, x1] at e1
    exact e1
  · match a with
    | ⟨0, _⟩ =>
      show win0_7.index t 0 * win0_7.size 0 ≤ (i 0 : Nat) ∧ (i 0 : Nat) < win0_7.index t 0 * win0_7.size 0 + win0_7.xsize (grid0.coords t) 0
      rw [h0, x0]; omega
    | ⟨1, _⟩ =>
      show win0_7.index t 1 * win0_7.size 1 ≤ (i 1 : Nat) ∧ (i 1 : Nat) < win0_7.index t 1 * win0_7.size 1 + win0_7.xsize (grid0.coords t) 1
      rw [h1, x1]; exact h
theorem cover7 (i : S8x3072.Idx) : ∃ t : Fin cfg0.N, (cfg0.win 7).flush t = true ∧ i ∈ ((cfg0.win 7).blk t).view.set := by
  have i1 : (i 1).val < 3072 := (i 1).isLt
  refine ⟨⟨(i 1).val / 512, lt_of_lt_of_eq (by omega) N_0.symm⟩, flush0_7 _, ?_⟩
  rw [mem_blk7]
  dsimp only
  omega
/-- The last grid point writes lambda's row back, the whole of it. -/
theorem cover8 (i : S1x128.Idx) : ∃ t : Fin cfg0.N, (cfg0.win 8).flush t = true ∧ i ∈ ((cfg0.win 8).blk t).view.set := by
  refine ⟨⟨5, lt_of_lt_of_eq (by omega) N_0.symm⟩, (flush0_8 _).2 rfl, ?_⟩
  generalize (⟨5, lt_of_lt_of_eq (by omega) N_0.symm⟩ : Fin cfg0.N) = t
  show i ∈ ((View.whole main_v5_1).slice (win0_8.rect t)).set
  rw [View.set_slice_whole, Rect.mem_set_unit]
  obtain ⟨h0, h1⟩ := origin8 t
  obtain ⟨x0, x1⟩ := extent8 t
  have i0 : (i 0).val < 1 := (i 0).isLt
  have i1 : (i 1).val < 128 := (i 1).isLt
  intro a
  match a with
  | ⟨0, _⟩ =>
    show win0_8.index t 0 * win0_8.size 0 ≤ (i 0 : Nat) ∧ (i 0 : Nat) < win0_8.index t 0 * win0_8.size 0 + win0_8.xsize (grid0.coords t) 0
    rw [h0, x0]; omega
  | ⟨1, _⟩ =>
    show win0_8.index t 1 * win0_8.size 1 ≤ (i 1 : Nat) ∧ (i 1 : Nat) < win0_8.index t 1 * win0_8.size 1 + win0_8.xsize (grid0.coords t) 1
    rw [h1, x1]; omega
theorem final7 : (dats m 0 c).arrAt 7 cfg0.N = modBuf m c := (dats m 0 c).arrAt_eq_of_cover 7 (modBuf m c) (fun t _ => flushed7_eq m c t) cover7
theorem final8 : (dats m 0 c).arrAt 8 cfg0.N = lamBuf m c := (dats m 0 c).arrAt_eq_of_cover 8 (lamBuf m c) (fun t _ => flushed8_eq m c t) cover8

end Point

end Cert.Md

end
-- ==== Proof.ModRef.lean ====
/-
  The modulation reference's two results, as the same functions of its arguments.
-/
module

public import proofs.«01_k».proof.Proof.ModArray
public import proofs.«01_k».proof.Proof.Gen.ModulationReferenceIdeal.Read

public section

set_option maxRecDepth 16384

noncomputable section

namespace Cert.MdRef

open Cert.Md Cert.ModulationReferenceIdeal Cert.ModulationReferenceIdeal.Gen Cert.ModulationReferenceIdeal.Read Idealize.ShloMosaic Idealize.ShloMosaic.TcCoe Idealize.ShloMosaic.ValueIdx Idealize.SL.Sem
open Finset

variable (x0 : S8x1024.Idx → EReal) (x1 : S1024x3072.Idx → EReal) (x2 : S3072.Idx → EReal) (x3 x4 x5 x6 : S64.Idx → EReal)

theorem v0_apply (i : S8x1024.Idx) : val_main_v0 (F := Ideal) x0 i = silu (x0 i) := by
  rw [val_main_v0_apply, val_main_call0_v5_apply, val_main_call0_v4_apply, val_main_call0_v3_apply, val_main_call0_v2_apply, val_main_call0_v1_apply, val_main_call0_v0_apply]
  rfl

theorem mod_apply (b : Fin 8) (d : Fin 3072) : val_main_v4 (F := Ideal) x0 x1 x2 (ix2 b d) = modG x0 x1 x2 b d := by
  rw [val_main_v4_apply, val_main_v3_apply, val_main_v2_apply, val_main_v1_apply]
  have eb : idx_main_v2 (idx_main_v3 (ix2 b d)) = ix1 d := funext fun a => Fin.ext (by match a with | ⟨0, _⟩ => rfl)
  have el : ∀ k : Fin 1024, lidx_main_v1 (ix2 b d) k = ix2 b k := fun k => funext fun a => Fin.ext (by match a with | ⟨0, _⟩ => rfl | ⟨1, _⟩ => rfl)
  have er : ∀ k : Fin 1024, ridx_main_v1 (ix2 b d) k = ix2 k d := fun k => funext fun a => Fin.ext (by match a with | ⟨0, _⟩ => rfl | ⟨1, _⟩ => rfl)
  rw [eb]
  simp only [el, er, v0_apply]
  rfl

/-- A sum over the indices of a vector, by position. -/
theorem sum_vec (f : S64.Idx → EReal) : (∑ j : S64.Idx, f j) = ∑ k : Fin 64, f (ix1 k) :=
  (Fintype.sum_equiv (⟨ix1, fun j => j 0, fun _ => rfl, fun j => funext fun a => Fin.ext (by match a with | ⟨0, _⟩ => rfl)⟩ : Fin 64 ≃ S64.Idx) (fun k => f (ix1 k)) f fun _ => rfl).symm

theorem lam_apply (i : S1x128.Idx) : val_main_v13 (F := Ideal) x3 x4 x5 x6 i = lamG x3 x4 x5 x6 := by
  rw [val_main_v13_apply, val_main_v12_apply, val_main_v11_apply, val_main_v10_apply, val_main_v9_apply, val_main_v7_apply, val_main_v6_apply, sum_vec, sum_vec]
  simp only [val_main_v5_apply, val_main_v8_apply]
  show Ideal.exp (Ideal.ofBits .f32 0x00000000#32 + _) - Ideal.exp (Ideal.ofBits .f32 0x00000000#32 + _) + _ = _
  rw [Ideal.ofBits_zero_f32, zero_add, zero_add]
  rfl

theorem modOut_apply (i : S8x3072.Idx) : val_main_v4 (F := Ideal) x0 x1 x2 i = modG x0 x1 x2 ⟨(i 0).val, (i 0).isLt⟩ ⟨(i 1).val, (i 1).isLt⟩ := by
  have hi : i = ix2 ⟨(i 0).val, (i 0).isLt⟩ ⟨(i 1).val, (i 1).isLt⟩ := funext fun a => Fin.ext (by match a with | ⟨0, _⟩ => rfl | ⟨1, _⟩ => rfl)
  exact (congrArg _ hi).trans (mod_apply x0 x1 x2 _ _)

/-- Equal arguments give the arrays that the kernel leaves. -/
theorem mod_eq (m : (ℓ : Loc Cert.ModulationIdeal.nD Cert.ModulationIdeal.τ Cert.ModulationIdeal.sig) → Buf (Elt Ideal) ℓ) (c : Dev Cert.ModulationIdeal.nD)
    (h0 : x0 = Cert.Md.arg0 m c) (h1 : x1 = Cert.Md.arg1 m c) (h2 : x2 = Cert.Md.arg2 m c) : val_main_v4 (F := Ideal) x0 x1 x2 = modBuf m c := by
  rw [h0, h1, h2]
  exact funext fun i => modOut_apply _ _ _ i
theorem lam_eq (m : (ℓ : Loc Cert.ModulationIdeal.nD Cert.ModulationIdeal.τ Cert.ModulationIdeal.sig) → Buf (Elt Ideal) ℓ) (c : Dev Cert.ModulationIdeal.nD)
    (h3 : x3 = Cert.Md.arg3 m c) (h4 : x4 = Cert.Md.arg4 m c) (h5 : x5 = Cert.Md.arg5 m c) (h6 : x6 = Cert.Md.arg6 m c) : val_main_v13 (F := Ideal) x3 x4 x5 x6 = lamBuf m c := by
  rw [h3, h4, h5, h6]
  exact funext fun i => lam_apply _ _ _ _ i

end Cert.MdRef

end
-- ==== Proof.lean ====
/-
  The claims of this certificate: the kernel, its idealization and the idealized reference run and keep their
  arguments, the idealization rewrites nothing but the named mask, and kernel and reference agree as extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Project
public import proofs.«01_k».proof.Proof.Gen.Project.Frame
public import proofs.«01_k».proof.Proof.Gen.Out
public import proofs.«01_k».proof.Proof.Gen.Out.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.OutIdeal
public import proofs.«01_k».proof.Proof.Gen.OutIdeal.Frame
public import proofs.«01_k».proof.Proof.Gen.ProjectReferenceIdeal
public import proofs.«01_k».proof.Proof.Gen.ProjectReferenceIdeal.Run
public import proofs.«01_k».proof.Proof.Gen.OutReferenceIdeal
public import proofs.«01_k».proof.Proof.Gen.OutReferenceIdeal.Run
public import proofs.«01_k».proof.Proof.Gen.ProjectReferenceIdeal.Read
public import proofs.«01_k».proof.Proof.Gen.OutIdeal.Value
public import proofs.«01_k».proof.Proof.Gen.OutReferenceIdeal.Read
public import proofs.«01_k».proof.Proof.Gen.Diff
public import proofs.«01_k».proof.Proof.Gen.Diff.Frame
public import proofs.«01_k».proof.Proof.Gen.DiffIdeal
public import proofs.«01_k».proof.Proof.Gen.DiffIdeal.Frame
public import proofs.«01_k».proof.Proof.Gen.DiffIdeal.Value
public import proofs.«01_k».proof.Proof.Gen.DiffReferenceIdeal
public import proofs.«01_k».proof.Proof.Gen.DiffReferenceIdeal.Run
public import proofs.«01_k».proof.Proof.Gen.DiffReferenceIdeal.Read
public import proofs.«01_k».proof.Proof.ArrayValue
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.ModulationReferenceIdeal.Read
public import proofs.«01_k».proof.Proof.RefValue
public import proofs.«01_k».proof.Proof.Finite
public import proofs.«01_k».proof.Proof.ProjectRef
public import proofs.«01_k».proof.Proof.OutRef
public import proofs.«01_k».proof.Proof.DiffFinite
public import proofs.«01_k».proof.Proof.ModRef
public import Idealize.ShloMosaic.Adequacy
public import Idealize.ShloMosaic.Init

@[expose] public section

noncomputable section

namespace Cert.Proof

open Idealize.ShloMosaic Idealize.ShloMosaic.ValueIdx Idealize.SL.Sem

/-- The idealized reference runs, keeps its arguments, and has no semaphore to leave off zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono (fun r h => ⟨fun c => (h c).2, sem_eq_zero_of_no_sems (by decide) r.2⟩)
    (Cert.ReferenceIdeal.Value.run (F := Ideal) m g)

/-- Over real queries and keys the reference's result array is the array that the kernel leaves. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    [Cert.Pre_finite_queries_and_keys.Facts] (hpre : Cert.Pre_KernelIdeal_finite_queries_and_keys m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v34 (F := Ideal) m' c = Cert.Sb.outBuf m c := by
  rw [Cert.ReferenceIdeal.Read.val_main_v34_eq, h0, h1, h2]
  funext i
  have e := Cert.Sb.ref_out (Cert.Sb.arg0 m c) (Cert.Sb.arg1 m c) (Cert.Sb.arg2 m c) (Cert.Sb.queries_real m hpre c) (Cert.Sb.keys_real m hpre c) (i 0) (i 1) (i 2)
  refine (congrArg _ (eq_ix3 i)).trans (e.trans ?_)
  rfl

/-- The projection's reference runs, keeps its arguments, and has no semaphore. -/
theorem project_reference_frame (m : (ℓ : Loc Cert.ProjectReferenceIdeal.nD Cert.ProjectReferenceIdeal.τ Cert.ProjectReferenceIdeal.sig) → Buf (Elt Ideal) ℓ) (g : Dev Cert.ProjectReferenceIdeal.nD → PrngReg) :
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0) :=
  (θ_run (Cert.ProjectReferenceIdeal.defs (F := Ideal)) _ _).mono (fun r h => ⟨fun c => (h c).2.2.2.2.2.2.2.2, sem_eq_zero_of_no_sems (by decide) r.2⟩)
    (Cert.ProjectReferenceIdeal.Value.run (F := Ideal) m g)

/-- The output projection's reference runs, keeps its arguments, and has no semaphore. -/
theorem out_reference_frame (m : (ℓ : Loc Cert.OutReferenceIdeal.nD Cert.OutReferenceIdeal.τ Cert.OutReferenceIdeal.sig) → Buf (Elt Ideal) ℓ) (g : Dev Cert.OutReferenceIdeal.nD → PrngReg) :
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0) :=
  (θ_run (Cert.OutReferenceIdeal.defs (F := Ideal)) _ _).mono (fun r h => ⟨fun c => (h c).2, sem_eq_zero_of_no_sems (by decide) r.2⟩)
    (Cert.OutReferenceIdeal.Value.run (F := Ideal) m g)

/-- Equal arguments give the projection's token-major arrays. -/
theorem tok_eq (m : (ℓ : Loc Cert.ProjectIdeal.nD Cert.ProjectIdeal.τ Cert.ProjectIdeal.sig) → Buf (Elt Ideal) ℓ) (c : Dev Cert.ProjectIdeal.nD) {k : Fin 8} {x0 : Cert.ProjectIdeal.S8x4096x1024.Idx → EReal} {x1 : Cert.ProjectIdeal.S1024.Idx → EReal} {x2 x3 : Cert.ProjectIdeal.S8x1x1024.Idx → EReal} {x4 : Cert.ProjectIdeal.S1024x4096.Idx → EReal}
    (h : x0 = Cert.Pj.arg0 m c ∧ x1 = Cert.Pj.arg1 m c ∧ x2 = Cert.Pj.arg2 m c ∧ x3 = Cert.Pj.arg3 m c ∧ x4 = Cert.Pj.mat m c) {f : Cert.ProjectIdeal.S8x4096x512.Idx → EReal}
    (hf : ∀ i, f i = Cert.Pj.tokG k x0 x1 x2 x3 x4 ⟨(i 0).val, (i 0).isLt⟩ ⟨(i 1).val, (i 1).isLt⟩ ⟨(i 2).val, (i 2).isLt⟩) : f = Cert.Pj.tokBuf m c k := by
  obtain ⟨rfl, rfl, rfl, rfl, rfl⟩ := h
  exact funext hf

/-- Equal arguments give the projection's feature-major arrays. -/
theorem feat_eq (m : (ℓ : Loc Cert.ProjectIdeal.nD Cert.ProjectIdeal.τ Cert.ProjectIdeal.sig) → Buf (Elt Ideal) ℓ) (c : Dev Cert.ProjectIdeal.nD) {k : Fin 8} {s : EReal} {x0 : Cert.ProjectIdeal.S8x4096x1024.Idx → EReal} {x1 : Cert.ProjectIdeal.S1024.Idx → EReal} {x2 x3 : Cert.ProjectIdeal.S8x1x1024.Idx → EReal} {x4 : Cert.ProjectIdeal.S1024x4096.Idx → EReal}
    (h : x0 = Cert.Pj.arg0 m c ∧ x1 = Cert.Pj.arg1 m c ∧ x2 = Cert.Pj.arg2 m c ∧ x3 = Cert.Pj.arg3 m c ∧ x4 = Cert.Pj.mat m c) {f : Cert.ProjectIdeal.S8x16x512x256.Idx → EReal}
    (hf : ∀ i, f i = Cert.Pj.featG k s x0 x1 x2 x3 x4 ⟨(i 0).val, (i 0).isLt⟩ ⟨(i 1).val, (i 1).isLt⟩ ⟨(i 2).val, (i 2).isLt⟩ ⟨(i 3).val, (i 3).isLt⟩) : f = Cert.Pj.featBuf m c k s := by
  obtain ⟨rfl, rfl, rfl, rfl, rfl⟩ := h
  exact funext hf

/-- The output projection's reference leaves the array that the kernel leaves. -/
theorem out_result_eq (m : (ℓ : Loc Cert.OutIdeal.nD Cert.OutIdeal.τ Cert.OutIdeal.sig) → Buf (Elt Ideal) ℓ)
    (m' : (ℓ : Loc Cert.OutReferenceIdeal.nD Cert.OutReferenceIdeal.τ Cert.OutReferenceIdeal.sig) → Buf (Elt Ideal) ℓ) (c : Dev Cert.OutIdeal.nD)
    (h : m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)) :
    Cert.OutReferenceIdeal.Value.res_main_v25 (F := Ideal) m' c = Cert.Op.outBuf m c := by
  obtain ⟨h0, h1, h2, h3, h4, h5, h6, h7⟩ := h
  rw [Cert.OutReferenceIdeal.Read.val_main_v25_eq, h0, h1, h2, h3, h4, h5, h6, h7]
  exact funext fun i => Cert.OpRef.out_apply _ _ _ _ _ _ _ _ i

/-- Projection kernel and reference leave the same eight arrays. -/
theorem project_algebraic (hp : Cert.ProjectIdeal.Facts) (hr : Cert.ProjectReferenceIdeal.Facts) :
    Cert.algebraic_ProjectIdeal_ProjectReferenceIdeal (hProjectIdeal := hp) (hProjectReferenceIdeal := hr) := by
  intro m ρ m' ρ' _ hagree
  refine ⟨fun c => Cert.Pj.tokBuf m c (Cert.Pj.tokGrp 0),
    fun c => Cert.Pj.tokBuf m c (Cert.Pj.tokGrp 1),
    fun c => Cert.Pj.tokBuf m c (Cert.Pj.tokGrp 2),
    fun c => Cert.Pj.tokBuf m c (Cert.Pj.tokGrp 3),
    fun c => Cert.Pj.featBuf m c (Cert.Pj.featGrp 0) (Cert.Pj.featMul 0),
    fun c => Cert.Pj.featBuf m c (Cert.Pj.featGrp 1) (Cert.Pj.featMul 1),
    fun c => Cert.Pj.featBuf m c (Cert.Pj.featGrp 2) (Cert.Pj.featMul 2),
    fun c => Cert.Pj.featBuf m c (Cert.Pj.featGrp 3) (Cert.Pj.featMul 3), ?_, ?_⟩
  · exact (θ_run (Cert.ProjectIdeal.defs (F := Ideal)) _ _).mono (fun _ h c => ⟨((h c).1).trans (Cert.Pj.final6 m c), ((h c).2.1).trans (Cert.Pj.final7 m c), ((h c).2.2.1).trans (Cert.Pj.final8 m c), ((h c).2.2.2.1).trans (Cert.Pj.final9 m c), ((h c).2.2.2.2.1).trans (Cert.Pj.final10 m c), ((h c).2.2.2.2.2.1).trans (Cert.Pj.final11 m c), ((h c).2.2.2.2.2.2.1).trans (Cert.Pj.final12 m c), ((h c).2.2.2.2.2.2.2.1).trans (Cert.Pj.final13 m c), (h c).2.2.2.2.2.2.2.2⟩)
      (Cert.ProjectIdeal.Value.run_blocks (F := Ideal) m ρ)
  · exact (θ_run (Cert.ProjectReferenceIdeal.defs (F := Ideal)) _ _).mono (fun _ h c => ⟨((h c).1).trans ((Cert.ProjectReferenceIdeal.Read.val_main_v28_eq _ _ _ _ _).trans (tok_eq m c (hagree c) (Cert.PjRef.v28_apply _ _ _ _ _))),
        ((h c).2.1).trans ((Cert.ProjectReferenceIdeal.Read.val_main_v29_eq _ _ _ _ _).trans (tok_eq m c (hagree c) (Cert.PjRef.v29_apply _ _ _ _ _))),
        ((h c).2.2.1).trans ((Cert.ProjectReferenceIdeal.Read.val_main_v30_eq _ _ _ _ _).trans (tok_eq m c (hagree c) (Cert.PjRef.v30_apply _ _ _ _ _))),
        ((h c).2.2.2.1).trans ((Cert.ProjectReferenceIdeal.Read.val_main_v31_eq _ _ _ _ _).trans (tok_eq m c (hagree c) (Cert.PjRef.v31_apply _ _ _ _ _))),
        ((h c).2.2.2.2.1).trans ((Cert.ProjectReferenceIdeal.Read.val_main_v36_eq _ _ _ _ _).trans (feat_eq m c (hagree c) (Cert.PjRef.v36_apply _ _ _ _ _))),
        ((h c).2.2.2.2.2.1).trans ((Cert.ProjectReferenceIdeal.Read.val_main_v39_eq _ _ _ _ _).trans (feat_eq m c (hagree c) (Cert.PjRef.v39_apply _ _ _ _ _))),
        ((h c).2.2.2.2.2.2.1).trans ((Cert.ProjectReferenceIdeal.Read.val_main_v44_eq _ _ _ _ _).trans (feat_eq m c (hagree c) (Cert.PjRef.v44_apply _ _ _ _ _))),
        ((h c).2.2.2.2.2.2.2.1).trans ((Cert.ProjectReferenceIdeal.Read.val_main_v47_eq _ _ _ _ _).trans (feat_eq m c (hagree c) (Cert.PjRef.v47_apply _ _ _ _ _))),
        (h c).2.2.2.2.2.2.2.2⟩) (Cert.ProjectReferenceIdeal.Value.run (F := Ideal) m' ρ')

/-- Output projection's kernel and reference leave the same array. -/
theorem out_algebraic (hp : Cert.OutIdeal.Facts) (hr : Cert.OutReferenceIdeal.Facts) :
    Cert.algebraic_OutIdeal_OutReferenceIdeal (hOutIdeal := hp) (hOutReferenceIdeal := hr) := by
  intro m ρ m' ρ' _ hagree
  refine ⟨fun c => Cert.Op.outBuf m c, ?_, ?_⟩
  · exact (θ_run (Cert.OutIdeal.defs (F := Ideal)) _ _).mono (fun _ h c => ⟨((h c).1).trans (Cert.Op.final8 m c), (h c).2⟩) (Cert.OutIdeal.Value.run_blocks (F := Ideal) m ρ)
  · exact (θ_run (Cert.OutReferenceIdeal.defs (F := Ideal)) _ _).mono (fun _ h c => ⟨((h c).1).trans (out_result_eq m m' c (hagree c)), (h c).2⟩)
      (Cert.OutReferenceIdeal.Value.run (F := Ideal) m' ρ')

/-- The differential attention's reference runs, keeps its arguments, and has no semaphore. -/
theorem diff_reference_frame (m : (ℓ : Loc Cert.DiffReferenceIdeal.nD Cert.DiffReferenceIdeal.τ Cert.DiffReferenceIdeal.sig) → Buf (Elt Ideal) ℓ) (g : Dev Cert.DiffReferenceIdeal.nD → PrngReg) :
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5))
      ∧ r.2.sem = fun _ => 0) :=
  (θ_run (Cert.DiffReferenceIdeal.defs (F := Ideal)) _ _).mono (fun r h => ⟨fun c => (h c).2, sem_eq_zero_of_no_sems (by decide) r.2⟩)
    (Cert.DiffReferenceIdeal.Value.run (F := Ideal) m g)

/-- The masks stand for minus infinity, as the kernel's text names them. -/
theorem diff_preserves : Cert.preserves_Diff_DiffIdeal :=
  IdealRules.named_const.statement Cert.DiffIdeal.κ "mask" .f32 0xF149F2CA#32 ⊥ rfl

/-- The differential attention's kernel and reference leave the same array. -/
theorem diff_algebraic (hp : Cert.DiffIdeal.Facts) (hr : Cert.DiffReferenceIdeal.Facts) (hf : Cert.Pre_finite_values_and_lambda.Facts) :
    Cert.algebraic_DiffIdeal_DiffReferenceIdeal_pre_finite_values_and_lambda (hDiffIdeal := hp) (hDiffReferenceIdeal := hr) (hPre_finite_values_and_lambda := hf) := by
  intro m ρ m' ρ' hpre hagree
  refine ⟨fun c => Cert.Da.resBuf m c, ?_, ?_⟩
  · exact (θ_run (Cert.DiffIdeal.defs (F := Ideal)) _ _).mono (fun _ h c => ⟨((h c).1).trans (Cert.Da.kernel_eq m c hpre), (h c).2⟩) (Cert.DiffIdeal.Value.run_blocks (F := Ideal) m ρ)
  · exact (θ_run (Cert.DiffReferenceIdeal.defs (F := Ideal)) _ _).mono
      (fun _ h c => ⟨((h c).1).trans ((Cert.DiffReferenceIdeal.Read.val_main_v105_eq _).trans (Cert.Da.reference_eq m c hpre (hagree c))), (h c).2⟩) (Cert.DiffReferenceIdeal.Value.run (F := Ideal) m' ρ')

/-- The modulation's reference runs, keeps its arguments, and has no semaphore. -/
theorem modulation_reference_frame (m : (ℓ : Loc Cert.ModulationReferenceIdeal.nD Cert.ModulationReferenceIdeal.τ Cert.ModulationReferenceIdeal.sig) → Buf (Elt Ideal) ℓ) (g : Dev Cert.ModulationReferenceIdeal.nD → PrngReg) :
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3)
      ∧ r.2.mem ((c.tc : Thread Cert.ModulationReferenceIdeal.nD Cert.ModulationReferenceIdeal.τ).loc Cert.ModulationReferenceIdeal.main_arg4) = m ((c.tc : Thread Cert.ModulationReferenceIdeal.nD Cert.ModulationReferenceIdeal.τ).loc Cert.ModulationReferenceIdeal.main_arg4)
      ∧ r.2.mem ((c.tc : Thread Cert.ModulationReferenceIdeal.nD Cert.ModulationReferenceIdeal.τ).loc Cert.ModulationReferenceIdeal.main_arg5) = m ((c.tc : Thread Cert.ModulationReferenceIdeal.nD Cert.ModulationReferenceIdeal.τ).loc Cert.ModulationReferenceIdeal.main_arg5)
      ∧ r.2.mem ((c.tc : Thread Cert.ModulationReferenceIdeal.nD Cert.ModulationReferenceIdeal.τ).loc Cert.ModulationReferenceIdeal.main_arg6) = m ((c.tc : Thread Cert.ModulationReferenceIdeal.nD Cert.ModulationReferenceIdeal.τ).loc Cert.ModulationReferenceIdeal.main_arg6))
      ∧ r.2.sem = fun _ => 0) :=
  (θ_run (Cert.ModulationReferenceIdeal.defs (F := Ideal)) _ _).mono (fun r h => ⟨fun c => (h c).2.2, sem_eq_zero_of_no_sems (by decide) r.2⟩)
    (Cert.ModulationReferenceIdeal.Value.run (F := Ideal) m g)

/-- The modulation's kernel and reference leave the same two arrays. -/
theorem modulation_algebraic (hp : Cert.ModulationIdeal.Facts) (hr : Cert.ModulationReferenceIdeal.Facts) :
    Cert.algebraic_ModulationIdeal_ModulationReferenceIdeal (hModulationIdeal := hp) (hModulationReferenceIdeal := hr) := by
  intro m ρ m' ρ' _ hagree
  refine ⟨fun c => Cert.Md.modBuf m c, fun c => Cert.Md.lamBuf m c, ?_, ?_⟩
  · exact (θ_run (Cert.ModulationIdeal.defs (F := Ideal)) _ _).mono (fun _ h c => ⟨((h c).1).trans (Cert.Md.final7 m c), ((h c).2.1).trans (Cert.Md.final8 m c), (h c).2.2⟩)
      (Cert.ModulationIdeal.Value.run_blocks (F := Ideal) m ρ)
  · refine (θ_run (Cert.ModulationReferenceIdeal.defs (F := Ideal)) _ _).mono (fun _ h c => ?_) (Cert.ModulationReferenceIdeal.Value.run (F := Ideal) m' ρ')
    obtain ⟨h0, h1, h2, h3, h4, h5, h6⟩ := hagree c
    exact ⟨((h c).1).trans ((Cert.ModulationReferenceIdeal.Read.val_main_v4_eq _ _ _).trans (Cert.MdRef.mod_eq _ _ _ m c h0 h1 h2)),
      ((h c).2.1).trans ((Cert.ModulationReferenceIdeal.Read.val_main_v13_eq _ _ _ _).trans (Cert.MdRef.lam_eq _ _ _ _ m c h3 h4 h5 h6)), (h c).2.2⟩

/-- Every claim of this certificate. -/
theorem claim : Cert.Claim := by
  refine ⟨Cert.Kernel.Gen.facts, Cert.KernelIdeal.Gen.facts, Cert.ReferenceIdeal.Gen.facts,
    Cert.Project.Gen.facts, Cert.ProjectIdeal.Gen.facts, Cert.ProjectReferenceIdeal.Gen.facts,
    Cert.Out.Gen.facts, Cert.OutIdeal.Gen.facts, Cert.OutReferenceIdeal.Gen.facts,
    Cert.Diff.Gen.facts, Cert.DiffIdeal.Gen.facts, Cert.DiffReferenceIdeal.Gen.facts,
    Cert.Modulation.Gen.facts, Cert.ModulationIdeal.Gen.facts, Cert.ModulationReferenceIdeal.Gen.facts, Cert.Sb.pre_facts, Cert.Da.pre_facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Project.Gen.frame m ρ, fun m ρ _ => Cert.ProjectIdeal.Gen.frame m ρ, fun m ρ _ => project_reference_frame m ρ,
    fun m ρ _ => Cert.Out.Gen.frame m ρ, fun m ρ _ => Cert.OutIdeal.Gen.frame m ρ, fun m ρ _ => out_reference_frame m ρ,
    fun m ρ _ => Cert.Diff.Gen.frame m ρ, fun m ρ _ => Cert.DiffIdeal.Gen.frame m ρ, fun m ρ _ => Cert.DiffIdeal.Gen.frame m ρ,
    fun m ρ _ => diff_reference_frame m ρ, fun m ρ _ => diff_reference_frame m ρ,
    fun m ρ _ => Cert.Modulation.Gen.frame m ρ, fun m ρ _ => Cert.ModulationIdeal.Gen.frame m ρ, fun m ρ _ => modulation_reference_frame m ρ,
    trivial, ?_, trivial, project_algebraic _ _, trivial, out_algebraic _ _,
    diff_preserves, diff_algebraic _ _ _, trivial, modulation_algebraic _ _⟩
  intro m ρ m' ρ' hpre hagree
  have := Cert.Sb.pre_facts
  refine ⟨fun c => Cert.Sb.outBuf m c, ?_, ?_⟩
  · exact (θ_run (Cert.KernelIdeal.defs (F := Ideal)) _ _).mono (fun _ h c => ⟨((h c).1).trans (Cert.Sb.final_out m c), (h c).2⟩) (Cert.KernelIdeal.Value.run_blocks (F := Ideal) m ρ)
  · exact (θ_run (Cert.ReferenceIdeal.defs (F := Ideal)) _ _).mono
      (fun _ h c => ⟨((h c).1).trans (result_eq m m' hpre c (hagree c).1 (hagree c).2.1 (hagree c).2.2), (h c).2⟩) (Cert.ReferenceIdeal.Value.run (F := Ideal) m' ρ')

end Cert.Proof

end
